-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths [hPre_lengths : Cert.Pre_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Project [hPre_offsets : Cert.Pre_offsets.Facts] (m : (ℓ : Loc Cert.Project.nD Cert.Project.τ Cert.Project.sig) → Buf (Elt Bits) ℓ) : Prop :=
  ∀ c : Dev Cert.Project.nD,
    (Cert.Pre_offsets.fn (F := Bits) (m ((c.tc : Thread Cert.Project.nD Cert.Project.τ).loc Cert.Project.main_arg0)) (m ((c.tc : Thread Cert.Project.nD Cert.Project.τ).loc Cert.Project.main_arg1)) (m ((c.tc : Thread Cert.Project.nD Cert.Project.τ).loc Cert.Project.main_arg2)) (m ((c.tc : Thread Cert.Project.nD Cert.Project.τ).loc Cert.Project.main_arg3)) (m ((c.tc : Thread Cert.Project.nD Cert.Project.τ).loc Cert.Project.main_arg4)) (m ((c.tc : Thread Cert.Project.nD Cert.Project.τ).loc Cert.Project.main_arg5))) = (fun _ => 1#1)

def Pre_ProjectIdeal [hPre_offsets : Cert.Pre_offsets.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_offsets.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_offsets [hPre_offsets : Cert.Pre_offsets.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_offsets.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4)) (m ((c.tc : Thread Cert.ProjectReferenceIdeal.nD Cert.ProjectReferenceIdeal.τ).loc Cert.ProjectReferenceIdeal.main_arg5))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_lengths [hReferenceIdeal : Cert.ReferenceIdeal.Facts] [hPre_lengths : Cert.Pre_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] [hPre_offsets : Cert.Pre_offsets.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] [hPre_offsets : Cert.Pre_offsets.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def quiescent_ProjectReferenceIdeal_pre_offsets [hProjectReferenceIdeal : Cert.ProjectReferenceIdeal.Facts] [hPre_offsets : Cert.Pre_offsets.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_offsets m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def preserves_Kernel_KernelIdeal : Prop :=
  True

def algebraic_KernelIdeal_ReferenceIdeal_on_packed_rows [hKernelIdeal : Cert.KernelIdeal.Facts] [hReferenceIdeal : Cert.ReferenceIdeal.Facts] [hPre_lengths : Cert.Pre_lengths.Facts] [hOn_packed_rows : Cert.On_packed_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 3072, 128]⟩ : Shape).Idx, (Cert.On_packed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v21) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 3072, 128]⟩ : Shape).Idx, (Cert.On_packed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v36) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] [hPre_offsets : Cert.Pre_offsets.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)) (v4 : (c : Dev Cert.ProjectIdeal.nD) → Buf (Elt Ideal) ((c.tc : Thread Cert.ProjectIdeal.nD Cert.ProjectIdeal.τ).loc Cert.ProjectIdeal.main_v0_4)) (v5 : (c : Dev Cert.ProjectIdeal.nD) → Buf (Elt Ideal) ((c.tc : Thread Cert.ProjectIdeal.nD Cert.ProjectIdeal.τ).loc Cert.ProjectIdeal.main_v0_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_v0_4) = v4 c
          ∧ r.2.mem ((c.tc : Thread Cert.ProjectIdeal.nD Cert.ProjectIdeal.τ).loc Cert.ProjectIdeal.main_v0_5) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v0_0) = v0 c
          ∧ r.2.mem ((c.tc : Thread Cert.ProjectReferenceIdeal.nD Cert.ProjectReferenceIdeal.τ).loc Cert.ProjectReferenceIdeal.main_v0_1) = v1 c
          ∧ r.2.mem ((c.tc : Thread Cert.ProjectReferenceIdeal.nD Cert.ProjectReferenceIdeal.τ).loc Cert.ProjectReferenceIdeal.main_v0_2) = v2 c
          ∧ r.2.mem ((c.tc : Thread Cert.ProjectReferenceIdeal.nD Cert.ProjectReferenceIdeal.τ).loc Cert.ProjectReferenceIdeal.main_v0_3) = v3 c
          ∧ r.2.mem ((c.tc : Thread Cert.ProjectReferenceIdeal.nD Cert.ProjectReferenceIdeal.τ).loc Cert.ProjectReferenceIdeal.main_v0_4) = v4 c
          ∧ r.2.mem ((c.tc : Thread Cert.ProjectReferenceIdeal.nD Cert.ProjectReferenceIdeal.τ).loc Cert.ProjectReferenceIdeal.main_v0_5) = v5 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hPre_lengths : Cert.Pre_lengths.Facts) (hPre_offsets : Cert.Pre_offsets.Facts) (hOn_packed_rows : Cert.On_packed_rows.Facts),
    quiescent_Kernel (hKernel := hKernel) (hPre_lengths := hPre_lengths)
    ∧ quiescent_KernelIdeal (hKernelIdeal := hKernelIdeal) (hPre_lengths := hPre_lengths)
    ∧ quiescent_ReferenceIdeal (hReferenceIdeal := hReferenceIdeal)
    ∧ quiescent_ReferenceIdeal_pre_lengths (hReferenceIdeal := hReferenceIdeal) (hPre_lengths := hPre_lengths)
    ∧ quiescent_Project (hProject := hProject) (hPre_offsets := hPre_offsets)
    ∧ quiescent_ProjectIdeal (hProjectIdeal := hProjectIdeal) (hPre_offsets := hPre_offsets)
    ∧ quiescent_ProjectReferenceIdeal (hProjectReferenceIdeal := hProjectReferenceIdeal)
    ∧ quiescent_ProjectReferenceIdeal_pre_offsets (hProjectReferenceIdeal := hProjectReferenceIdeal) (hPre_offsets := hPre_offsets)
    ∧ preserves_Kernel_KernelIdeal
    ∧ algebraic_KernelIdeal_ReferenceIdeal_on_packed_rows (hKernelIdeal := hKernelIdeal) (hReferenceIdeal := hReferenceIdeal) (hPre_lengths := hPre_lengths) (hOn_packed_rows := hOn_packed_rows)
    ∧ preserves_Project_ProjectIdeal
    ∧ algebraic_ProjectIdeal_ProjectReferenceIdeal (hProjectIdeal := hProjectIdeal) (hProjectReferenceIdeal := hProjectReferenceIdeal) (hPre_offsets := hPre_offsets)
-- ==== On_packed_rows.lean ====
abbrev S3072x128 : Shape := ⟨2, ![3072, 128]⟩
abbrev S2048x64x768 : Shape := ⟨3, ![2048, 64, 768]⟩
abbrev S2048x768 : Shape := ⟨2, ![2048, 768]⟩
abbrev S2048 : Shape := ⟨1, ![2048]⟩
abbrev S96 : Shape := ⟨1, ![96]⟩
abbrev S16x3072x128 : Shape := ⟨3, ![16, 3072, 128]⟩
abbrev S_ : Shape := ⟨0, ![]⟩

class Facts : Prop where
  reducesTo_S96_S_d0 : S96.ReducesTo [0] S_
  h_S_ : 0 < S_.numel
  bcast_S_S16x3072x128 : S_.BroadcastsInDim S16x3072x128 (![] : Fin 0 → Fin S16x3072x128.rank)

variable [Facts]

def fn {F : FTy → Type} [FloatOps F] (main_arg0 : FVec F S3072x128 .bf16) (main_arg1 : IVec S2048x64x768 8) (main_arg2 : FVec F S2048x768 .f32) (main_arg3 : IVec S2048 32) (main_arg4 : IVec S96 32) : IVec S16x3072x128 1 :=
  let main_v0 : IVec S16x3072x128 32 := iotaInDim S16x3072x128 32 1
  let main_c : IVec S_ 32 := constantI S_ 32 0#32
  let main_v1 : IVec S_ 32 := (fun x v => Host.reduce IntOp.addi x v reducesTo_S96_S_d0 h_S_) main_arg4 main_c
  let main_v2 : IVec S16x3072x128 32 := broadcastInDim S16x3072x128 ![] bcast_S_S16x3072x128 main_v1
  let main_v3 : IVec S16x3072x128 1 := cmpi .slt main_v0 main_v2
  main_v3
-- ==== Pre_lengths.lean ====
abbrev S3072x128 : Shape := ⟨2, ![3072, 128]⟩
abbrev S2048x64x768 : Shape := ⟨3, ![2048, 64, 768]⟩
abbrev S2048x768 : Shape := ⟨2, ![2048, 768]⟩
abbrev S2048 : Shape := ⟨1, ![2048]⟩
abbrev S96 : Shape := ⟨1, ![96]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S96 : S_.BroadcastsInDim S96 (![] : Fin 0 → Fin S96.rank)
  reducesTo_S96_S_d0 : S96.ReducesTo [0] S_

variable [Facts]

def fn {F : FTy → Type} [FloatOps F] (main_arg0 : FVec F S3072x128 .bf16) (main_arg1 : IVec S2048x64x768 8) (main_arg2 : FVec F S2048x768 .f32) (main_arg3 : IVec S2048 32) (main_arg4 : IVec S96 32) : IVec S_ 1 :=
  let main_c : IVec S_ 32 := constantI S_ 32 1#32
  let main_v0 : IVec S2048 32 := broadcastInDim S2048 ![] bcast_S_S2048 main_c
  let main_v1 : IVec S2048 1 := cmpi .sge main_arg3 main_v0
  let main_c_0 : IVec S_ 32 := constantI S_ 32 768#32
  let main_v2 : IVec S2048 32 := broadcastInDim S2048 ![] bcast_S_S2048 main_c_0
  let main_v3 : IVec S2048 1 := cmpi .sle main_arg3 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_c_2 : IVec S_ 32 := constantI S_ 32 0#32
  let main_v6 : IVec S96 32 := broadcastInDim S96 ![] bcast_S_S96 main_c_2
  let main_v7 : IVec S96 1 := cmpi .sge main_arg4 main_v6
  let main_c_3 : IVec S_ 32 := constantI S_ 32 32#32
  let main_v8 : IVec S96 32 := broadcastInDim S96 ![] bcast_S_S96 main_c_3
  let main_v9 : IVec S96 1 := cmpi .sle main_arg4 main_v8
  let main_v10 : IVec S96 1 := andi main_v7 main_v9
  let main_c_4 : IVec S_ 1 := constantI S_ 1 1#1
  let main_v11 : IVec S_ 1 := (fun x v => Host.reduce IntOp.andi x v reducesTo_S96_S_d0 h_S_) main_v10 main_c_4
  let main_v12 : IVec S_ 1 := andi main_v5 main_v11
  main_v12
-- ==== Pre_offsets.lean ====
abbrev S3072x3584 : Shape := ⟨2, ![3072, 3584]⟩
abbrev S1x3584 : Shape := ⟨2, ![1, 3584]⟩
abbrev S3584x128 : Shape := ⟨2, ![3584, 128]⟩
abbrev S1x128 : Shape := ⟨2, ![1, 128]⟩
abbrev S96 : Shape := ⟨1, ![96]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S3072x3584 .bf16) (main_arg1 : FVec F S1x3584 .f32) (main_arg2 : IVec S3584x128 8) (main_arg3 : FVec F S1x128 .f32) (main_arg4 : FVec F S1x128 .f32) (main_arg5 : IVec S96 32) : IVec S_ 1 :=
  let main_c : IVec S_ 32 := constantI S_ 32 0#32
  let main_v0 : IVec S96 32 := broadcastInDim S96 ![] bcast_S_S96 main_c
  let main_v1 : IVec S96 1 := cmpi .sge main_arg5 main_v0
  let main_c_0 : IVec S_ 32 := constantI S_ 32 3040#32
  let main_v2 : IVec S96 32 := broadcastInDim S96 ![] bcast_S_S96 main_c_0
  let main_v3 : IVec S96 1 := cmpi .sle main_arg5 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Kernel.lean ====
abbrev S3072x128 : Shape := ⟨2, ![3072, 128]⟩
abbrev S2048x64x768 : Shape := ⟨3, ![2048, 64, 768]⟩
abbrev S2048x768 : Shape := ⟨2, ![2048, 768]⟩
abbrev S2048 : Shape := ⟨1, ![2048]⟩
abbrev S96 : Shape := ⟨1, ![96]⟩
abbrev S_ : Shape := ⟨0, ![]⟩
abbrev S1 : Shape := ⟨1, ![1]⟩
abbrev S2048x1 : Shape := ⟨2, ![2048, 1]⟩
abbrev S512 : Shape := ⟨1, ![512]⟩
abbrev S2048x1x768 : Shape := ⟨3, ![2048, 1, 768]⟩
abbrev S16x3072x128 : Shape := ⟨3, ![16, 3072, 128]⟩
abbrev S1x64x768 : Shape := ⟨3, ![1, 64, 768]⟩
abbrev S1x1x768 : Shape := ⟨3, ![1, 1, 768]⟩
abbrev S6x128x512 : Shape := ⟨3, ![6, 128, 512]⟩
abbrev S6x1x512 : Shape := ⟨3, ![6, 1, 512]⟩
abbrev S1x128 : Shape := ⟨2, ![1, 128]⟩
abbrev S1x64x128 : Shape := ⟨3, ![1, 64, 128]⟩
abbrev S64x128 : Shape := ⟨2, ![64, 128]⟩
abbrev S16x128 : Shape := ⟨2, ![16, 128]⟩
abbrev S16x1 : Shape := ⟨2, ![16, 1]⟩
abbrev S1x1x128 : Shape := ⟨3, ![1, 1, 128]⟩
abbrev S1x1x1 : Shape := ⟨3, ![1, 1, 1]⟩
abbrev S1x1 : Shape := ⟨2, ![1, 1]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S1x1x512 : Shape := ⟨3, ![1, 1, 512]⟩
abbrev S1x512 : Shape := ⟨2, ![1, 512]⟩
abbrev S256 : Shape := ⟨1, ![256]⟩
abbrev S256x1 : Shape := ⟨2, ![256, 1]⟩
abbrev S1x256x128 : Shape := ⟨3, ![1, 256, 128]⟩

abbrev nBuf : Space → Nat
  | .hbm => 61
  | .vmem => 20
  | .smem => 4
  | _ => 0

abbrev bufTy : (tb : Table) → Fin (tcTables nBuf tb) → BufTy
  | .hbm, ⟨0, _⟩ => ⟨S3072x128, .bf16⟩
  | .hbm, ⟨1, _⟩ => ⟨S2048x64x768, .i8⟩
  | .hbm, ⟨2, _⟩ => ⟨S2048x768, .f32⟩
  | .hbm, ⟨3, _⟩ => ⟨S96, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S2048, .i32⟩
  | .hbm, ⟨59, _⟩ => ⟨S2048x1x768, .f32⟩
  | .hbm, ⟨60, _⟩ => ⟨S16x3072x128, .f32⟩
  | .local _ .vmem, ⟨0, _⟩ => ⟨S3072x128, .bf16⟩
  | .local _ .vmem, ⟨1, _⟩ => ⟨S1x64x768, .i8⟩
  | .local _ .vmem, ⟨2, _⟩ => ⟨S1x64x768, .i8⟩
  | .local _ .vmem, ⟨3, _⟩ => ⟨S1x64x768, .i8⟩
  | .local _ .vmem, ⟨4, _⟩ => ⟨S1x64x768, .i8⟩
  | .local _ .vmem, ⟨5, _⟩ => ⟨S1x64x768, .i8⟩
  | .local _ .vmem, ⟨6, _⟩ => ⟨S1x64x768, .i8⟩
  | .local _ .vmem, ⟨7, _⟩ => ⟨S1x64x768, .i8⟩
  | .local _ .vmem, ⟨8, _⟩ => ⟨S1x64x768, .i8⟩
  | .local _ .vmem, ⟨9, _⟩ => ⟨S1x1x768, .f32⟩
  | .local _ .vmem, ⟨10, _⟩ => ⟨S1x1x768, .f32⟩
  | .local _ .vmem, ⟨11, _⟩ => ⟨S1x1x768, .f32⟩
  | .local _ .vmem, ⟨12, _⟩ => ⟨S1x1x768, .f32⟩
  | .local _ .vmem, ⟨13, _⟩ => ⟨S1x1x768, .f32⟩
  | .local _ .vmem, ⟨14, _⟩ => ⟨S1x1x768, .f32⟩
  | .local _ .vmem, ⟨15, _⟩ => ⟨S1x1x768, .f32⟩
  | .local _ .vmem, ⟨16, _⟩ => ⟨S1x1x768, .f32⟩
  | .local _ .vmem, ⟨17, _⟩ => ⟨S16x3072x128, .f32⟩
  | .local _ .vmem, ⟨18, _⟩ => ⟨S6x128x512, .bf16⟩
  | .local _ .vmem, ⟨19, _⟩ => ⟨S6x1x512, .f32⟩
  | .local _ .smem, ⟨0, _⟩ => ⟨S2048, .i32⟩
  | .local _ .smem, ⟨1, _⟩ => ⟨S512, .i32⟩
  | .local _ .smem, ⟨2, _⟩ => ⟨S1, .i32⟩
  | .local _ .smem, ⟨3, _⟩ => ⟨S2048, .i32⟩
  | _, _ => ⟨S3072x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c : Ref sig .tc := ⟨.hbm, 17, rfl⟩
abbrev main_call0_v6 : Ref sig .tc := ⟨.hbm, 18, rfl⟩
abbrev main_call0_v7 : Ref sig .tc := ⟨.hbm, 19, rfl⟩
abbrev main_call0_c_0 : Ref sig .tc := ⟨.hbm, 20, rfl⟩
abbrev main_call0_v8 : Ref sig .tc := ⟨.hbm, 21, rfl⟩
abbrev main_v3 : Ref sig .tc := ⟨.hbm, 22, rfl⟩
abbrev main_c_3 : Ref sig .tc := ⟨.hbm, 23, rfl⟩
abbrev main_v5 : Ref sig .tc := ⟨.hbm, 24, rfl⟩
abbrev main_v6 : Ref sig .tc := ⟨.hbm, 25, rfl⟩
abbrev main_c_4 : Ref sig .tc := ⟨.hbm, 26, rfl⟩
abbrev main_v7 : Ref sig .tc := ⟨.hbm, 27, rfl⟩
abbrev main_v8 : Ref sig .tc := ⟨.hbm, 28, rfl⟩
abbrev main_c_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v9 : Ref sig .tc := ⟨.hbm, 46, rfl⟩
abbrev main_v10 : Ref sig .tc := ⟨.hbm, 47, rfl⟩
abbrev main_call2_v0 : Ref sig .tc := ⟨.hbm, 48, rfl⟩
abbrev main_call2_v1_0 : Ref sig .tc := ⟨.hbm, 49, rfl⟩
abbrev main_c_6 : Ref sig .tc := ⟨.hbm, 50, rfl⟩
abbrev main_v12 : Ref sig .tc := ⟨.hbm, 51, rfl⟩
abbrev main_v13 : Ref sig .tc := ⟨.hbm, 52, rfl⟩
abbrev main_c_7 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v20 : Ref sig .tc := ⟨.hbm, 59, rfl⟩
abbrev main_v21 : Ref sig .tc := ⟨.hbm, 60, rfl⟩
abbrev main_v11 : Ref sig .tc := ⟨.smem, 0, rfl⟩
abbrev main_v19 : Ref sig .tc := ⟨.smem, 1, rfl⟩
abbrev main_v4 : Ref sig .tc := ⟨.smem, 2, rfl⟩
abbrev main_arg3 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![512], ![false]⟩

abbrev pre0 : Pipeline.Prefetch sig := ⟨4, ![main_v11.idx, main_v19.idx, main_v4.idx, main_arg3.idx], fun | 0 => main_v11.names | 1 => main_v19.names | 2 => main_v4.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_off3 (i : grid0.Coords) : Fin 1 → Nat :=
  let arg0 : BitVec 32 := BitVec.ofNat 32 (i 0).val
  let c4_i32_17 : BitVec 32 := 4#32
  let v39 : BitVec 32 := Scalar.muli arg0 c4_i32_17
  let c0_i32_18 : BitVec 32 := 0#32
  let v40 : BitVec 32 := Scalar.addi v39 c0_i32_18
  let v41 : Index := Scalar.indexCast v40
  ![v41.toNat]
def k0_off4 (v42 : BitVec 32) : Fin 1 → Nat :=
  let v43 : Index := Scalar.indexCast v42
  ![v43.toNat]
def k0_cond1 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .ne v4 c0_i32_0
  v5

def k0_chk1 (v1 : BitVec 32) (v42 : BitVec 32) : Prop :=
  (∀ (k0_h1 : k0_cond1 v1 = 1#1), ∀ a, (k0_off4 v42) a + S1.size a ≤ S2048.size a)
theorem k0_off4_inb : ∀ (v1 : BitVec 32) (v42 : BitVec 32) (k0_hw1 : k0_chk1 v1 v42), ∀ (k0_h1 : k0_cond1 v1 = 1#1), ∀ a, (k0_off4 v42) a + S1.size a ≤ S2048.size a := fun v1 v42 k0_hw1 k0_h1 => k0_hw1 k0_h1

def k0_off5 (i : grid0.Coords) : Fin 1 → Nat :=
  let arg0 : BitVec 32 := BitVec.ofNat 32 (i 0).val
  let c4_i32_41 : BitVec 32 := 4#32
  let v87 : BitVec 32 := Scalar.muli arg0 c4_i32_41
  let c1_i32_42 : BitVec 32 := 1#32
  let v88 : BitVec 32 := Scalar.addi v87 c1_i32_42
  let v89 : Index := Scalar.indexCast v88
  ![v89.toNat]
def k0_off6 (v90 : BitVec 32) : Fin 1 → Nat :=
  let v91 : Index := Scalar.indexCast v90
  ![v91.toNat]

def k0_chk2 (v1 : BitVec 32) (v90 : BitVec 32) : Prop :=
  (∀ (k0_h1 : k0_cond1 v1 = 1#1), ∀ a, (k0_off6 v90) a + S1.size a ≤ S2048.size a)
theorem k0_off6_inb : ∀ (v1 : BitVec 32) (v90 : BitVec 32) (k0_hw2 : k0_chk2 v1 v90), ∀ (k0_h1 : k0_cond1 v1 = 1#1), ∀ a, (k0_off6 v90) a + S1.size a ≤ S2048.size a := fun v1 v90 k0_hw2 k0_h1 => k0_hw2 k0_h1

def k0_off7 (i : grid0.Coords) : Fin 1 → Nat :=
  let arg0 : BitVec 32 := BitVec.ofNat 32 (i 0).val
  let c4_i32_67 : BitVec 32 := 4#32
  let v135 : BitVec 32 := Scalar.muli arg0 c4_i32_67
  let c2_i32_68 : BitVec 32 := 2#32
  let v136 : BitVec 32 := Scalar.addi v135 c2_i32_68
  let v137 : Index := Scalar.indexCast v136
  ![v137.toNat]
def k0_off8 (v138 : BitVec 32) : Fin 1 → Nat :=
  let v139 : Index := Scalar.indexCast v138
  ![v139.toNat]

def k0_chk3 (v1 : BitVec 32) (v138 : BitVec 32) : Prop :=
  (∀ (k0_h1 : k0_cond1 v1 = 1#1), ∀ a, (k0_off8 v138) a + S1.size a ≤ S2048.size a)
theorem k0_off8_inb : ∀ (v1 : BitVec 32) (v138 : BitVec 32) (k0_hw3 : k0_chk3 v1 v138), ∀ (k0_h1 : k0_cond1 v1 = 1#1), ∀ a, (k0_off8 v138) a + S1.size a ≤ S2048.size a := fun v1 v138 k0_hw3 k0_h1 => k0_hw3 k0_h1

def k0_off9 (i : grid0.Coords) : Fin 1 → Nat :=
  let arg0 : BitVec 32 := BitVec.ofNat 32 (i 0).val
  let c4_i32_93 : BitVec 32 := 4#32
  let v183 : BitVec 32 := Scalar.muli arg0 c4_i32_93
  let c3_i32_94 : BitVec 32 := 3#32
  let v184 : BitVec 32 := Scalar.addi v183 c3_i32_94
  let v185 : Index := Scalar.indexCast v184
  ![v185.toNat]
def k0_off10 (v186 : BitVec 32) : Fin 1 → Nat :=
  let v187 : Index := Scalar.indexCast v186
  ![v187.toNat]

def k0_chk4 (v1 : BitVec 32) (v186 : BitVec 32) : Prop :=
  (∀ (k0_h1 : k0_cond1 v1 = 1#1), ∀ a, (k0_off10 v186) a + S1.size a ≤ S2048.size a)
theorem k0_off10_inb : ∀ (v1 : BitVec 32) (v186 : BitVec 32) (k0_hw4 : k0_chk4 v1 v186), ∀ (k0_h1 : k0_cond1 v1 = 1#1), ∀ a, (k0_off10 v186) a + S1.size a ≤ S2048.size a := fun v1 v186 k0_hw4 k0_h1 => k0_hw4 k0_h1

def k0_off11 (i : grid0.Coords) : Fin 1 → Nat :=
  let arg0 : BitVec 32 := BitVec.ofNat 32 (i 0).val
  let c4_i32_17 : BitVec 32 := 4#32
  let v39 : BitVec 32 := Scalar.muli arg0 c4_i32_17
  let c0_i32_18 : BitVec 32 := 0#32
  let v40 : BitVec 32 := Scalar.addi v39 c0_i32_18
  let v41 : Index := Scalar.indexCast v40
  ![v41.toNat]
def k0_off12 (v42 : BitVec 32) : Fin 1 → Nat :=
  let v43 : Index := Scalar.indexCast v42
  ![v43.toNat]
def k0_cond2 (v1 : BitVec 32) : BitVec 1 :=
  let c1_i32 : BitVec 32 := 1#32
  let v6 : BitVec 1 := Scalar.cmpi .sgt v1 c1_i32
  let v7 : BitVec 32 := Scalar.extui v6
  let c0_i32_1 : BitVec 32 := 0#32
  let v8 : BitVec 1 := Scalar.cmpi .ne v7 c0_i32_1
  v8

def k0_chk5 (v1 : BitVec 32) (v42 : BitVec 32) : Prop :=
  (∀ (k0_h2 : k0_cond2 v1 = 1#1), ∀ a, (k0_off12 v42) a + S1.size a ≤ S2048.size a)
theorem k0_off12_inb : ∀ (v1 : BitVec 32) (v42 : BitVec 32) (k0_hw5 : k0_chk5 v1 v42), ∀ (k0_h2 : k0_cond2 v1 = 1#1), ∀ a, (k0_off12 v42) a + S1.size a ≤ S2048.size a := fun v1 v42 k0_hw5 k0_h2 => k0_hw5 k0_h2

def k0_off13 (i : grid0.Coords) : Fin 1 → Nat :=
  let arg0 : BitVec 32 := BitVec.ofNat 32 (i 0).val
  let c4_i32_38 : BitVec 32 := 4#32
  let v87 : BitVec 32 := Scalar.muli arg0 c4_i32_38
  let c1_i32_39 : BitVec 32 := 1#32
  let v88 : BitVec 32 := Scalar.addi v87 c1_i32_39
  let v89 : Index := Scalar.indexCast v88
  ![v89.toNat]
def k0_off14 (v90 : BitVec 32) : Fin 1 → Nat :=
  let v91 : Index := Scalar.indexCast v90
  ![v91.toNat]

def k0_chk6 (v1 : BitVec 32) (v90 : BitVec 32) : Prop :=
  (∀ (k0_h2 : k0_cond2 v1 = 1#1), ∀ a, (k0_off14 v90) a + S1.size a ≤ S2048.size a)
theorem k0_off14_inb : ∀ (v1 : BitVec 32) (v90 : BitVec 32) (k0_hw6 : k0_chk6 v1 v90), ∀ (k0_h2 : k0_cond2 v1 = 1#1), ∀ a, (k0_off14 v90) a + S1.size a ≤ S2048.size a := fun v1 v90 k0_hw6 k0_h2 => k0_hw6 k0_h2

def k0_off15 (i : grid0.Coords) : Fin 1 → Nat :=
  let arg0 : BitVec 32 := BitVec.ofNat 32 (i 0).val
  let c4_i32_65 : BitVec 32 := 4#32
  let v135 : BitVec 32 := Scalar.muli arg0 c4_i32_65
  let c2_i32_66 : BitVec 32 := 2#32
  let v136 : BitVec 32 := Scalar.addi v135 c2_i32_66
  let v137 : Index := Scalar.indexCast v136
  ![v137.toNat]
def k0_off16 (v138 : BitVec 32) : Fin 1 → Nat :=
  let v139 : Index := Scalar.indexCast v138
  ![v139.toNat]

def k0_chk7 (v1 : BitVec 32) (v138 : BitVec 32) : Prop :=
  (∀ (k0_h2 : k0_cond2 v1 = 1#1), ∀ a, (k0_off16 v138) a + S1.size a ≤ S2048.size a)
theorem k0_off16_inb : ∀ (v1 : BitVec 32) (v138 : BitVec 32) (k0_hw7 : k0_chk7 v1 v138), ∀ (k0_h2 : k0_cond2 v1 = 1#1), ∀ a, (k0_off16 v138) a + S1.size a ≤ S2048.size a := fun v1 v138 k0_hw7 k0_h2 => k0_hw7 k0_h2

def k0_off17 (i : grid0.Coords) : Fin 1 → Nat :=
  let arg0 : BitVec 32 := BitVec.ofNat 32 (i 0).val
  let c4_i32_91 : BitVec 32 := 4#32
  let v183 : BitVec 32 := Scalar.muli arg0 c4_i32_91
  let c3_i32_92 : BitVec 32 := 3#32
  let v184 : BitVec 32 := Scalar.addi v183 c3_i32_92
  let v185 : Index := Scalar.indexCast v184
  ![v185.toNat]
def k0_off18 (v186 : BitVec 32) : Fin 1 → Nat :=
  let v187 : Index := Scalar.indexCast v186
  ![v187.toNat]

def k0_chk8 (v1 : BitVec 32) (v186 : BitVec 32) : Prop :=
  (∀ (k0_h2 : k0_cond2 v1 = 1#1), ∀ a, (k0_off18 v186) a + S1.size a ≤ S2048.size a)
theorem k0_off18_inb : ∀ (v1 : BitVec 32) (v186 : BitVec 32) (k0_hw8 : k0_chk8 v1 v186), ∀ (k0_h2 : k0_cond2 v1 = 1#1), ∀ a, (k0_off18 v186) a + S1.size a ≤ S2048.size a := fun v1 v186 k0_hw8 k0_h2 => k0_hw8 k0_h2

def k0_off19 (i : grid0.Coords) : Fin 1 → Nat :=
  let arg0 : BitVec 32 := BitVec.ofNat 32 (i 0).val
  let c4_i32_17 : BitVec 32 := 4#32
  let v39 : BitVec 32 := Scalar.muli arg0 c4_i32_17
  let c0_i32_18 : BitVec 32 := 0#32
  let v40 : BitVec 32 := Scalar.addi v39 c0_i32_18
  let v41 : Index := Scalar.indexCast v40
  ![v41.toNat]
def k0_off20 (v42 : BitVec 32) : Fin 1 → Nat :=
  let v43 : Index := Scalar.indexCast v42
  ![v43.toNat]
def k0_cond3 (v1 : BitVec 32) : BitVec 1 :=
  let c2_i32 : BitVec 32 := 2#32
  let v9 : BitVec 1 := Scalar.cmpi .sgt v1 c2_i32
  let v10 : BitVec 32 := Scalar.extui v9
  let c0_i32_2 : BitVec 32 := 0#32
  let v11 : BitVec 1 := Scalar.cmpi .ne v10 c0_i32_2
  v11

def k0_chk9 (v1 : BitVec 32) (v42 : BitVec 32) : Prop :=
  (∀ (k0_h3 : k0_cond3 v1 = 1#1), ∀ a, (k0_off20 v42) a + S1.size a ≤ S2048.size a)
theorem k0_off20_inb : ∀ (v1 : BitVec 32) (v42 : BitVec 32) (k0_hw9 : k0_chk9 v1 v42), ∀ (k0_h3 : k0_cond3 v1 = 1#1), ∀ a, (k0_off20 v42) a + S1.size a ≤ S2048.size a := fun v1 v42 k0_hw9 k0_h3 => k0_hw9 k0_h3

def k0_off21 (i : grid0.Coords) : Fin 1 → Nat :=
  let arg0 : BitVec 32 := BitVec.ofNat 32 (i 0).val
  let c4_i32_38 : BitVec 32 := 4#32
  let v87 : BitVec 32 := Scalar.muli arg0 c4_i32_38
  let c1_i32_39 : BitVec 32 := 1#32
  let v88 : BitVec 32 := Scalar.addi v87 c1_i32_39
  let v89 : Index := Scalar.indexCast v88
  ![v89.toNat]
def k0_off22 (v90 : BitVec 32) : Fin 1 → Nat :=
  let v91 : Index := Scalar.indexCast v90
  ![v91.toNat]

def k0_chk10 (v1 : BitVec 32) (v90 : BitVec 32) : Prop :=
  (∀ (k0_h3 : k0_cond3 v1 = 1#1), ∀ a, (k0_off22 v90) a + S1.size a ≤ S2048.size a)
theorem k0_off22_inb : ∀ (v1 : BitVec 32) (v90 : BitVec 32) (k0_hw10 : k0_chk10 v1 v90), ∀ (k0_h3 : k0_cond3 v1 = 1#1), ∀ a, (k0_off22 v90) a + S1.size a ≤ S2048.size a := fun v1 v90 k0_hw10 k0_h3 => k0_hw10 k0_h3

def k0_off23 (i : grid0.Coords) : Fin 1 → Nat :=
  let arg0 : BitVec 32 := BitVec.ofNat 32 (i 0).val
  let c4_i32_64 : BitVec 32 := 4#32
  let v135 : BitVec 32 := Scalar.muli arg0 c4_i32_64
  let c2_i32_65 : BitVec 32 := 2#32
  let v136 : BitVec 32 := Scalar.addi v135 c2_i32_65
  let v137 : Index := Scalar.indexCast v136
  ![v137.toNat]
def k0_off24 (v138 : BitVec 32) : Fin 1 → Nat :=
  let v139 : Index := Scalar.indexCast v138
  ![v139.toNat]

def k0_chk11 (v1 : BitVec 32) (v138 : BitVec 32) : Prop :=
  (∀ (k0_h3 : k0_cond3 v1 = 1#1), ∀ a, (k0_off24 v138) a + S1.size a ≤ S2048.size a)
theorem k0_off24_inb : ∀ (v1 : BitVec 32) (v138 : BitVec 32) (k0_hw11 : k0_chk11 v1 v138), ∀ (k0_h3 : k0_cond3 v1 = 1#1), ∀ a, (k0_off24 v138) a + S1.size a ≤ S2048.size a := fun v1 v138 k0_hw11 k0_h3 => k0_hw11 k0_h3

def k0_off25 (i : grid0.Coords) : Fin 1 → Nat :=
  let arg0 : BitVec 32 := BitVec.ofNat 32 (i 0).val
  let c4_i32_91 : BitVec 32 := 4#32
  let v183 : BitVec 32 := Scalar.muli arg0 c4_i32_91
  let c3_i32_92 : BitVec 32 := 3#32
  let v184 : BitVec 32 := Scalar.addi v183 c3_i32_92
  let v185 : Index := Scalar.indexCast v184
  ![v185.toNat]
def k0_off26 (v186 : BitVec 32) : Fin 1 → Nat :=
  let v187 : Index := Scalar.indexCast v186
  ![v187.toNat]

def k0_chk12 (v1 : BitVec 32) (v186 : BitVec 32) : Prop :=
  (∀ (k0_h3 : k0_cond3 v1 = 1#1), ∀ a, (k0_off26 v186) a + S1.size a ≤ S2048.size a)
theorem k0_off26_inb : ∀ (v1 : BitVec 32) (v186 : BitVec 32) (k0_hw12 : k0_chk12 v1 v186), ∀ (k0_h3 : k0_cond3 v1 = 1#1), ∀ a, (k0_off26 v186) a + S1.size a ≤ S2048.size a := fun v1 v186 k0_hw12 k0_h3 => k0_hw12 k0_h3

def k0_off27 (i : grid0.Coords) : Fin 1 → Nat :=
  let arg0 : BitVec 32 := BitVec.ofNat 32 (i 0).val
  let c4_i32_17 : BitVec 32 := 4#32
  let v39 : BitVec 32 := Scalar.muli arg0 c4_i32_17
  let c0_i32_18 : BitVec 32 := 0#32
  let v40 : BitVec 32 := Scalar.addi v39 c0_i32_18
  let v41 : Index := Scalar.indexCast v40
  ![v41.toNat]
def k0_off28 (v42 : BitVec 32) : Fin 1 → Nat :=
  let v43 : Index := Scalar.indexCast v42
  ![v43.toNat]
def k0_cond4 (v1 : BitVec 32) : BitVec 1 :=
  let c3_i32 : BitVec 32 := 3#32
  let v12 : BitVec 1 := Scalar.cmpi .sgt v1 c3_i32
  let v13 : BitVec 32 := Scalar.extui v12
  let c0_i32_3 : BitVec 32 := 0#32
  let v14 : BitVec 1 := Scalar.cmpi .ne v13 c0_i32_3
  v14

def k0_chk13 (v1 : BitVec 32) (v42 : BitVec 32) : Prop :=
  (∀ (k0_h4 : k0_cond4 v1 = 1#1), ∀ a, (k0_off28 v42) a + S1.size a ≤ S2048.size a)
theorem k0_off28_inb : ∀ (v1 : BitVec 32) (v42 : BitVec 32) (k0_hw13 : k0_chk13 v1 v42), ∀ (k0_h4 : k0_cond4 v1 = 1#1), ∀ a, (k0_off28 v42) a + S1.size a ≤ S2048.size a := fun v1 v42 k0_hw13 k0_h4 => k0_hw13 k0_h4

def k0_off29 (i : grid0.Coords) : Fin 1 → Nat :=
  let arg0 : BitVec 32 := BitVec.ofNat 32 (i 0).val
  let c4_i32_38 : BitVec 32 := 4#32
  let v87 : BitVec 32 := Scalar.muli arg0 c4_i32_38
  let c1_i32_39 : BitVec 32 := 1#32
  let v88 : BitVec 32 := Scalar.addi v87 c1_i32_39
  let v89 : Index := Scalar.indexCast v88
  ![v89.toNat]
def k0_off30 (v90 : BitVec 32) : Fin 1 → Nat :=
  let v91 : Index := Scalar.indexCast v90
  ![v91.toNat]

def k0_chk14 (v1 : BitVec 32) (v90 : BitVec 32) : Prop :=
  (∀ (k0_h4 : k0_cond4 v1 = 1#1), ∀ a, (k0_off30 v90) a + S1.size a ≤ S2048.size a)
theorem k0_off30_inb : ∀ (v1 : BitVec 32) (v90 : BitVec 32) (k0_hw14 : k0_chk14 v1 v90), ∀ (k0_h4 : k0_cond4 v1 = 1#1), ∀ a, (k0_off30 v90) a + S1.size a ≤ S2048.size a := fun v1 v90 k0_hw14 k0_h4 => k0_hw14 k0_h4

def k0_off31 (i : grid0.Coords) : Fin 1 → Nat :=
  let arg0 : BitVec 32 := BitVec.ofNat 32 (i 0).val
  let c4_i32_64 : BitVec 32 := 4#32
  let v135 : BitVec 32 := Scalar.muli arg0 c4_i32_64
  let c2_i32_65 : BitVec 32 := 2#32
  let v136 : BitVec 32 := Scalar.addi v135 c2_i32_65
  let v137 : Index := Scalar.indexCast v136
  ![v137.toNat]
def k0_off32 (v138 : BitVec 32) : Fin 1 → Nat :=
  let v139 : Index := Scalar.indexCast v138
  ![v139.toNat]

def k0_chk15 (v1 : BitVec 32) (v138 : BitVec 32) : Prop :=
  (∀ (k0_h4 : k0_cond4 v1 = 1#1), ∀ a, (k0_off32 v138) a + S1.size a ≤ S2048.size a)
theorem k0_off32_inb : ∀ (v1 : BitVec 32) (v138 : BitVec 32) (k0_hw15 : k0_chk15 v1 v138), ∀ (k0_h4 : k0_cond4 v1 = 1#1), ∀ a, (k0_off32 v138) a + S1.size a ≤ S2048.size a := fun v1 v138 k0_hw15 k0_h4 => k0_hw15 k0_h4

def k0_off33 (i : grid0.Coords) : Fin 1 → Nat :=
  let arg0 : BitVec 32 := BitVec.ofNat 32 (i 0).val
  let c4_i32_90 : BitVec 32 := 4#32
  let v183 : BitVec 32 := Scalar.muli arg0 c4_i32_90
  let c3_i32_91 : BitVec 32 := 3#32
  let v184 : BitVec 32 := Scalar.addi v183 c3_i32_91
  let v185 : Index := Scalar.indexCast v184
  ![v185.toNat]
def k0_off34 (v186 : BitVec 32) : Fin 1 → Nat :=
  let v187 : Index := Scalar.indexCast v186
  ![v187.toNat]

def k0_chk16 (v1 : BitVec 32) (v186 : BitVec 32) : Prop :=
  (∀ (k0_h4 : k0_cond4 v1 = 1#1), ∀ a, (k0_off34 v186) a + S1.size a ≤ S2048.size a)
theorem k0_off34_inb : ∀ (v1 : BitVec 32) (v186 : BitVec 32) (k0_hw16 : k0_chk16 v1 v186), ∀ (k0_h4 : k0_cond4 v1 = 1#1), ∀ a, (k0_off34 v186) a + S1.size a ≤ S2048.size a := fun v1 v186 k0_hw16 k0_h4 => k0_hw16 k0_h4

def k0_off35 (i : grid0.Coords) : Fin 1 → Nat :=
  let arg0 : BitVec 32 := BitVec.ofNat 32 (i 0).val
  let c4_i32_17 : BitVec 32 := 4#32
  let v39 : BitVec 32 := Scalar.muli arg0 c4_i32_17
  let c0_i32_18 : BitVec 32 := 0#32
  let v40 : BitVec 32 := Scalar.addi v39 c0_i32_18
  let v41 : Index := Scalar.indexCast v40
  ![v41.toNat]
def k0_off36 (v42 : BitVec 32) : Fin 1 → Nat :=
  let v43 : Index := Scalar.indexCast v42
  ![v43.toNat]
def k0_cond5 (v1 : BitVec 32) : BitVec 1 :=
  let c4_i32 : BitVec 32 := 4#32
  let v15 : BitVec 1 := Scalar.cmpi .sgt v1 c4_i32
  let v16 : BitVec 32 := Scalar.extui v15
  let c0_i32_4 : BitVec 32 := 0#32
  let v17 : BitVec 1 := Scalar.cmpi .ne v16 c0_i32_4
  v17

def k0_chk17 (v1 : BitVec 32) (v42 : BitVec 32) : Prop :=
  (∀ (k0_h5 : k0_cond5 v1 = 1#1), ∀ a, (k0_off36 v42) a + S1.size a ≤ S2048.size a)
theorem k0_off36_inb : ∀ (v1 : BitVec 32) (v42 : BitVec 32) (k0_hw17 : k0_chk17 v1 v42), ∀ (k0_h5 : k0_cond5 v1 = 1#1), ∀ a, (k0_off36 v42) a + S1.size a ≤ S2048.size a := fun v1 v42 k0_hw17 k0_h5 => k0_hw17 k0_h5

def k0_off37 (i : grid0.Coords) : Fin 1 → Nat :=
  let arg0 : BitVec 32 := BitVec.ofNat 32 (i 0).val
  let c4_i32_38 : BitVec 32 := 4#32
  let v87 : BitVec 32 := Scalar.muli arg0 c4_i32_38
  let c1_i32_39 : BitVec 32 := 1#32
  let v88 : BitVec 32 := Scalar.addi v87 c1_i32_39
  let v89 : Index := Scalar.indexCast v88
  ![v89.toNat]
def k0_off38 (v90 : BitVec 32) : Fin 1 → Nat :=
  let v91 : Index := Scalar.indexCast v90
  ![v91.toNat]

def k0_chk18 (v1 : BitVec 32) (v90 : BitVec 32) : Prop :=
  (∀ (k0_h5 : k0_cond5 v1 = 1#1), ∀ a, (k0_off38 v90) a + S1.size a ≤ S2048.size a)
theorem k0_off38_inb : ∀ (v1 : BitVec 32) (v90 : BitVec 32) (k0_hw18 : k0_chk18 v1 v90), ∀ (k0_h5 : k0_cond5 v1 = 1#1), ∀ a, (k0_off38 v90) a + S1.size a ≤ S2048.size a := fun v1 v90 k0_hw18 k0_h5 => k0_hw18 k0_h5

def k0_off39 (i : grid0.Coords) : Fin 1 → Nat :=
  let arg0 : BitVec 32 := BitVec.ofNat 32 (i 0).val
  let c4_i32_64 : BitVec 32 := 4#32
  let v135 : BitVec 32 := Scalar.muli arg0 c4_i32_64
  let c2_i32_65 : BitVec 32 := 2#32
  let v136 : BitVec 32 := Scalar.addi v135 c2_i32_65
  let v137 : Index := Scalar.indexCast v136
  ![v137.toNat]
def k0_off40 (v138 : BitVec 32) : Fin 1 → Nat :=
  let v139 : Index := Scalar.indexCast v138
  ![v139.toNat]

def k0_chk19 (v1 : BitVec 32) (v138 : BitVec 32) : Prop :=
  (∀ (k0_h5 : k0_cond5 v1 = 1#1), ∀ a, (k0_off40 v138) a + S1.size a ≤ S2048.size a)
theorem k0_off40_inb : ∀ (v1 : BitVec 32) (v138 : BitVec 32) (k0_hw19 : k0_chk19 v1 v138), ∀ (k0_h5 : k0_cond5 v1 = 1#1), ∀ a, (k0_off40 v138) a + S1.size a ≤ S2048.size a := fun v1 v138 k0_hw19 k0_h5 => k0_hw19 k0_h5

def k0_off41 (i : grid0.Coords) : Fin 1 → Nat :=
  let arg0 : BitVec 32 := BitVec.ofNat 32 (i 0).val
  let c4_i32_90 : BitVec 32 := 4#32
  let v183 : BitVec 32 := Scalar.muli arg0 c4_i32_90
  let c3_i32_91 : BitVec 32 := 3#32
  let v184 : BitVec 32 := Scalar.addi v183 c3_i32_91
  let v185 : Index := Scalar.indexCast v184
  ![v185.toNat]
def k0_off42 (v186 : BitVec 32) : Fin 1 → Nat :=
  let v187 : Index := Scalar.indexCast v186
  ![v187.toNat]

def k0_chk20 (v1 : BitVec 32) (v186 : BitVec 32) : Prop :=
  (∀ (k0_h5 : k0_cond5 v1 = 1#1), ∀ a, (k0_off42 v186) a + S1.size a ≤ S2048.size a)
theorem k0_off42_inb : ∀ (v1 : BitVec 32) (v186 : BitVec 32) (k0_hw20 : k0_chk20 v1 v186), ∀ (k0_h5 : k0_cond5 v1 = 1#1), ∀ a, (k0_off42 v186) a + S1.size a ≤ S2048.size a := fun v1 v186 k0_hw20 k0_h5 => k0_hw20 k0_h5

def k0_off43 (i : grid0.Coords) : Fin 1 → Nat :=
  let arg0 : BitVec 32 := BitVec.ofNat 32 (i 0).val
  let c4_i32_17 : BitVec 32 := 4#32
  let v39 : BitVec 32 := Scalar.muli arg0 c4_i32_17
  let c0_i32_18 : BitVec 32 := 0#32
  let v40 : BitVec 32 := Scalar.addi v39 c0_i32_18
  let v41 : Index := Scalar.indexCast v40
  ![v41.toNat]
def k0_off44 (v42 : BitVec 32) : Fin 1 → Nat :=
  let v43 : Index := Scalar.indexCast v42
  ![v43.toNat]
def k0_cond6 (v1 : BitVec 32) : BitVec 1 :=
  let c5_i32 : BitVec 32 := 5#32
  let v18 : BitVec 1 := Scalar.cmpi .sgt v1 c5_i32
  let v19 : BitVec 32 := Scalar.extui v18
  let c0_i32_5 : BitVec 32 := 0#32
  let v20 : BitVec 1 := Scalar.cmpi .ne v19 c0_i32_5
  v20

def k0_chk21 (v1 : BitVec 32) (v42 : BitVec 32) : Prop :=
  (∀ (k0_h6 : k0_cond6 v1 = 1#1), ∀ a, (k0_off44 v42) a + S1.size a ≤ S2048.size a)
theorem k0_off44_inb : ∀ (v1 : BitVec 32) (v42 : BitVec 32) (k0_hw21 : k0_chk21 v1 v42), ∀ (k0_h6 : k0_cond6 v1 = 1#1), ∀ a, (k0_off44 v42) a + S1.size a ≤ S2048.size a := fun v1 v42 k0_hw21 k0_h6 => k0_hw21 k0_h6

def k0_off45 (i : grid0.Coords) : Fin 1 → Nat :=
  let arg0 : BitVec 32 := BitVec.ofNat 32 (i 0).val
  let c4_i32_38 : BitVec 32 := 4#32
  let v87 : BitVec 32 := Scalar.muli arg0 c4_i32_38
  let c1_i32_39 : BitVec 32 := 1#32
  let v88 : BitVec 32 := Scalar.addi v87 c1_i32_39
  let v89 : Index := Scalar.indexCast v88
  ![v89.toNat]
def k0_off46 (v90 : BitVec 32) : Fin 1 → Nat :=
  let v91 : Index := Scalar.indexCast v90
  ![v91.toNat]

def k0_chk22 (v1 : BitVec 32) (v90 : BitVec 32) : Prop :=
  (∀ (k0_h6 : k0_cond6 v1 = 1#1), ∀ a, (k0_off46 v90) a + S1.size a ≤ S2048.size a)
theorem k0_off46_inb : ∀ (v1 : BitVec 32) (v90 : BitVec 32) (k0_hw22 : k0_chk22 v1 v90), ∀ (k0_h6 : k0_cond6 v1 = 1#1), ∀ a, (k0_off46 v90) a + S1.size a ≤ S2048.size a := fun v1 v90 k0_hw22 k0_h6 => k0_hw22 k0_h6

def k0_off47 (i : grid0.Coords) : Fin 1 → Nat :=
  let arg0 : BitVec 32 := BitVec.ofNat 32 (i 0).val
  let c4_i32_64 : BitVec 32 := 4#32
  let v135 : BitVec 32 := Scalar.muli arg0 c4_i32_64
  let c2_i32_65 : BitVec 32 := 2#32
  let v136 : BitVec 32 := Scalar.addi v135 c2_i32_65
  let v137 : Index := Scalar.indexCast v136
  ![v137.toNat]
def k0_off48 (v138 : BitVec 32) : Fin 1 → Nat :=
  let v139 : Index := Scalar.indexCast v138
  ![v139.toNat]

def k0_chk23 (v1 : BitVec 32) (v138 : BitVec 32) : Prop :=
  (∀ (k0_h6 : k0_cond6 v1 = 1#1), ∀ a, (k0_off48 v138) a + S1.size a ≤ S2048.size a)
theorem k0_off48_inb : ∀ (v1 : BitVec 32) (v138 : BitVec 32) (k0_hw23 : k0_chk23 v1 v138), ∀ (k0_h6 : k0_cond6 v1 = 1#1), ∀ a, (k0_off48 v138) a + S1.size a ≤ S2048.size a := fun v1 v138 k0_hw23 k0_h6 => k0_hw23 k0_h6

def k0_off49 (i : grid0.Coords) : Fin 1 → Nat :=
  let arg0 : BitVec 32 := BitVec.ofNat 32 (i 0).val
  let c4_i32_90 : BitVec 32 := 4#32
  let v183 : BitVec 32 := Scalar.muli arg0 c4_i32_90
  let c3_i32_91 : BitVec 32 := 3#32
  let v184 : BitVec 32 := Scalar.addi v183 c3_i32_91
  let v185 : Index := Scalar.indexCast v184
  ![v185.toNat]
def k0_off50 (v186 : BitVec 32) : Fin 1 → Nat :=
  let v187 : Index := Scalar.indexCast v186
  ![v187.toNat]

def k0_chk24 (v1 : BitVec 32) (v186 : BitVec 32) : Prop :=
  (∀ (k0_h6 : k0_cond6 v1 = 1#1), ∀ a, (k0_off50 v186) a + S1.size a ≤ S2048.size a)
theorem k0_off50_inb : ∀ (v1 : BitVec 32) (v186 : BitVec 32) (k0_hw24 : k0_chk24 v1 v186), ∀ (k0_h6 : k0_cond6 v1 = 1#1), ∀ a, (k0_off50 v186) a + S1.size a ≤ S2048.size a := fun v1 v186 k0_hw24 k0_h6 => k0_hw24 k0_h6

@[reducible] def k0_t1_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_20 : BitVec 32 := 1#32
  ⟨c0_i32_17, v44, c1_i32_20⟩
def k0_cond7 (v1 : BitVec 32) : BitVec 1 :=
  let c1_i32_6 : BitVec 32 := 1#32
  let v21 : BitVec 1 := Scalar.cmpi .eq v1 c1_i32_6
  let v22 : BitVec 32 := Scalar.extui v21
  let c0_i32_7 : BitVec 32 := 0#32
  let v23 : BitVec 1 := Scalar.cmpi .ne v22 c0_i32_7
  v23

def k0_mult1 (v39 : BitVec 32) (k0_t1 : Fin (k0_t1_loop v39).trips) : BitVec 32 :=
  let c0_i32_17 : BitVec 32 := 0#32
  let c1_i32_20 : BitVec 32 := 1#32
  let arg17 : BitVec 32 := Scf.iv c0_i32_17 c1_i32_20 k0_t1
  let c256_i32 : BitVec 32 := 256#32
  let v47 : BitVec 32 := Scalar.muli arg17 c256_i32
  v47
def k0_off51 (v39 : BitVec 32) (k0_t1 : Fin (k0_t1_loop v39).trips) : Fin 2 → Nat :=
  let c0_i32_17 : BitVec 32 := 0#32
  let c1_i32_20 : BitVec 32 := 1#32
  let arg17 : BitVec 32 := Scf.iv c0_i32_17 c1_i32_20 k0_t1
  let c256_i32 : BitVec 32 := 256#32
  let v47 : BitVec 32 := Scalar.muli arg17 c256_i32
  let v48 : BitVec 32 := v47
  let v49 : Index := Scalar.indexCast v48
  let c0_22 : Index := 0#32
  ![v49.toNat, 0]
def k0_off52 (i : grid0.Coords) : Fin 1 → Nat :=
  let arg0 : BitVec 32 := BitVec.ofNat 32 (i 0).val
  let c4_i32_29 : BitVec 32 := 4#32
  let v58 : BitVec 32 := Scalar.muli arg0 c4_i32_29
  let c0_i32_30 : BitVec 32 := 0#32
  let v59 : BitVec 32 := Scalar.addi v58 c0_i32_30
  let v60 : Index := Scalar.indexCast v59
  ![v60.toNat]
def k0_off53 (v39 : BitVec 32) (k0_t1 : Fin (k0_t1_loop v39).trips) (v61 : BitVec 32) : Fin 3 → Nat :=
  let c7_i32 : BitVec 32 := 7#32
  let v65 : BitVec 32 := Scalar.shrsi v61 c7_i32
  let v69 : Index := Scalar.indexCast v65
  let c0_i32_17 : BitVec 32 := 0#32
  let c1_i32_20 : BitVec 32 := 1#32
  let arg17 : BitVec 32 := Scf.iv c0_i32_17 c1_i32_20 k0_t1
  let c256_i32 : BitVec 32 := 256#32
  let v47 : BitVec 32 := Scalar.muli arg17 c256_i32
  let v48 : BitVec 32 := v47
  let v70 : Index := Scalar.indexCast v48
  let c0_32 : Index := 0#32
  ![v69.toNat, v70.toNat, 0]

def k0_chk26 (v1 : BitVec 32) (v39 : BitVec 32) (k0_t1 : Fin (k0_t1_loop v39).trips) (v61 : BitVec 32) : Prop :=
  (∀ (k0_h7 : k0_cond7 v1 = 1#1), ∀ a, (k0_off53 v39 k0_t1 v61) a + S1x256x128.size a ≤ S16x3072x128.size a)
theorem k0_off53_inb : ∀ (v1 : BitVec 32) (v39 : BitVec 32) (k0_t1 : Fin (k0_t1_loop v39).trips) (v61 : BitVec 32) (k0_hw26 : k0_chk26 v1 v39 k0_t1 v61), ∀ (k0_h7 : k0_cond7 v1 = 1#1), ∀ a, (k0_off53 v39 k0_t1 v61) a + S1x256x128.size a ≤ S16x3072x128.size a := fun v1 v39 k0_t1 v61 k0_hw26 k0_h7 => k0_hw26 k0_h7

def k0_off54 (i : grid0.Coords) : Fin 1 → Nat :=
  let arg0 : BitVec 32 := BitVec.ofNat 32 (i 0).val
  let c4_i32_34 : BitVec 32 := 4#32
  let v83 : BitVec 32 := Scalar.muli arg0 c4_i32_34
  let c1_i32_35 : BitVec 32 := 1#32
  let v84 : BitVec 32 := Scalar.addi v83 c1_i32_35
  let v85 : Index := Scalar.indexCast v84
  ![v85.toNat]
def k0_off55 (v39 : BitVec 32) (k0_t1 : Fin (k0_t1_loop v39).trips) (v86 : BitVec 32) : Fin 3 → Nat :=
  let c7_i32_37 : BitVec 32 := 7#32
  let v90 : BitVec 32 := Scalar.shrsi v86 c7_i32_37
  let v94 : Index := Scalar.indexCast v90
  let c0_i32_17 : BitVec 32 := 0#32
  let c1_i32_20 : BitVec 32 := 1#32
  let arg17 : BitVec 32 := Scf.iv c0_i32_17 c1_i32_20 k0_t1
  let c256_i32 : BitVec 32 := 256#32
  let v47 : BitVec 32 := Scalar.muli arg17 c256_i32
  let v48 : BitVec 32 := v47
  let v95 : Index := Scalar.indexCast v48
  let c0_39 : Index := 0#32
  ![v94.toNat, v95.toNat, 0]

def k0_chk27 (v1 : BitVec 32) (v39 : BitVec 32) (k0_t1 : Fin (k0_t1_loop v39).trips) (v86 : BitVec 32) : Prop :=
  (∀ (k0_h7 : k0_cond7 v1 = 1#1), ∀ a, (k0_off55 v39 k0_t1 v86) a + S1x256x128.size a ≤ S16x3072x128.size a)
theorem k0_off55_inb : ∀ (v1 : BitVec 32) (v39 : BitVec 32) (k0_t1 : Fin (k0_t1_loop v39).trips) (v86 : BitVec 32) (k0_hw27 : k0_chk27 v1 v39 k0_t1 v86), ∀ (k0_h7 : k0_cond7 v1 = 1#1), ∀ a, (k0_off55 v39 k0_t1 v86) a + S1x256x128.size a ≤ S16x3072x128.size a := fun v1 v39 k0_t1 v86 k0_hw27 k0_h7 => k0_hw27 k0_h7

def k0_off56 (i : grid0.Coords) : Fin 1 → Nat :=
  let arg0 : BitVec 32 := BitVec.ofNat 32 (i 0).val
  let c4_i32_41 : BitVec 32 := 4#32
  let v108 : BitVec 32 := Scalar.muli arg0 c4_i32_41
  let c2_i32_42 : BitVec 32 := 2#32
  let v109 : BitVec 32 := Scalar.addi v108 c2_i32_42
  let v110 : Index := Scalar.indexCast v109
  ![v110.toNat]
def k0_off57 (v39 : BitVec 32) (k0_t1 : Fin (k0_t1_loop v39).trips) (v111 : BitVec 32) : Fin 3 → Nat :=
  let c7_i32_44 : BitVec 32 := 7#32
  let v115 : BitVec 32 := Scalar.shrsi v111 c7_i32_44
  let v119 : Index := Scalar.indexCast v115
  let c0_i32_17 : BitVec 32 := 0#32
  let c1_i32_20 : BitVec 32 := 1#32
  let arg17 : BitVec 32 := Scf.iv c0_i32_17 c1_i32_20 k0_t1
  let c256_i32 : BitVec 32 := 256#32
  let v47 : BitVec 32 := Scalar.muli arg17 c256_i32
  let v48 : BitVec 32 := v47
  let v120 : Index := Scalar.indexCast v48
  let c0_46 : Index := 0#32
  ![v119.toNat, v120.toNat, 0]

def k0_chk28 (v1 : BitVec 32) (v39 : BitVec 32) (k0_t1 : Fin (k0_t1_loop v39).trips) (v111 : BitVec 32) : Prop :=
  (∀ (k0_h7 : k0_cond7 v1 = 1#1), ∀ a, (k0_off57 v39 k0_t1 v111) a + S1x256x128.size a ≤ S16x3072x128.size a)
theorem k0_off57_inb : ∀ (v1 : BitVec 32) (v39 : BitVec 32) (k0_t1 : Fin (k0_t1_loop v39).trips) (v111 : BitVec 32) (k0_hw28 : k0_chk28 v1 v39 k0_t1 v111), ∀ (k0_h7 : k0_cond7 v1 = 1#1), ∀ a, (k0_off57 v39 k0_t1 v111) a + S1x256x128.size a ≤ S16x3072x128.size a := fun v1 v39 k0_t1 v111 k0_hw28 k0_h7 => k0_hw28 k0_h7

def k0_off58 (i : grid0.Coords) : Fin 1 → Nat :=
  let arg0 : BitVec 32 := BitVec.ofNat 32 (i 0).val
  let c4_i32_48 : BitVec 32 := 4#32
  let v133 : BitVec 32 := Scalar.muli arg0 c4_i32_48
  let c3_i32_49 : BitVec 32 := 3#32
  let v134 : BitVec 32 := Scalar.addi v133 c3_i32_49
  let v135 : Index := Scalar.indexCast v134
  ![v135.toNat]
def k0_off59 (v39 : BitVec 32) (k0_t1 : Fin (k0_t1_loop v39).trips) (v136 : BitVec 32) : Fin 3 → Nat :=
  let c7_i32_51 : BitVec 32 := 7#32
  let v140 : BitVec 32 := Scalar.shrsi v136 c7_i32_51
  let v144 : Index := Scalar.indexCast v140
  let c0_i32_17 : BitVec 32 := 0#32
  let c1_i32_20 : BitVec 32 := 1#32
  let arg17 : BitVec 32 := Scf.iv c0_i32_17 c1_i32_20 k0_t1
  let c256_i32 : BitVec 32 := 256#32
  let v47 : BitVec 32 := Scalar.muli arg17 c256_i32
  let v48 : BitVec 32 := v47
  let v145 : Index := Scalar.indexCast v48
  let c0_53 : Index := 0#32
  ![v144.toNat, v145.toNat, 0]

def k0_chk29 (v1 : BitVec 32) (v39 : BitVec 32) (k0_t1 : Fin (k0_t1_loop v39).trips) (v136 : BitVec 32) : Prop :=
  (∀ (k0_h7 : k0_cond7 v1 = 1#1), ∀ a, (k0_off59 v39 k0_t1 v136) a + S1x256x128.size a ≤ S16x3072x128.size a)
theorem k0_off59_inb : ∀ (v1 : BitVec 32) (v39 : BitVec 32) (k0_t1 : Fin (k0_t1_loop v39).trips) (v136 : BitVec 32) (k0_hw29 : k0_chk29 v1 v39 k0_t1 v136), ∀ (k0_h7 : k0_cond7 v1 = 1#1), ∀ a, (k0_off59 v39 k0_t1 v136) a + S1x256x128.size a ≤ S16x3072x128.size a := fun v1 v39 k0_t1 v136 k0_hw29 k0_h7 => k0_hw29 k0_h7

@[reducible] def k0_t2_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let v41 : BitVec 32 := Scalar.addi c0_i32_17 v40
  let c1_i32_21 : BitVec 32 := 1#32
  ⟨v44, v41, c1_i32_21⟩
def k0_mult2 (v39 : BitVec 32) (k0_t2 : Fin (k0_t2_loop v39).trips) : BitVec 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t2
  let c256_i32 : BitVec 32 := 256#32
  let v47 : BitVec 32 := Scalar.muli arg17 c256_i32
  v47
def k0_off60 (v39 : BitVec 32) (k0_t2 : Fin (k0_t2_loop v39).trips) : Fin 2 → Nat :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t2
  let c256_i32 : BitVec 32 := 256#32
  let v47 : BitVec 32 := Scalar.muli arg17 c256_i32
  let v48 : BitVec 32 := v47
  let v49 : Index := Scalar.indexCast v48
  let c0_22 : Index := 0#32
  ![v49.toNat, 0]

def k0_chk25 (v1 : BitVec 32) (v39 : BitVec 32) : Prop :=
  (∀ (k0_h7 : k0_cond7 v1 = 1#1), (k0_t1_loop v39).OK) ∧
  (∀ k0_t1 : Fin (k0_t1_loop v39).trips, ∀ (k0_h7 : k0_cond7 v1 = 1#1), 256 ∣ (k0_mult1 v39 k0_t1).toNat) ∧
  (∀ k0_t1 : Fin (k0_t1_loop v39).trips, ∀ (k0_h7 : k0_cond7 v1 = 1#1), ∀ a, (k0_off51 v39 k0_t1) a + S256x128.size a ≤ S3072x128.size a) ∧
  (∀ (k0_h7 : k0_cond7 v1 = 1#1), (k0_t2_loop v39).OK) ∧
  (∀ k0_t2 : Fin (k0_t2_loop v39).trips, ∀ (k0_h7 : k0_cond7 v1 = 1#1), 256 ∣ (k0_mult2 v39 k0_t2).toNat) ∧
  (∀ k0_t2 : Fin (k0_t2_loop v39).trips, ∀ (k0_h7 : k0_cond7 v1 = 1#1), ∀ a, (k0_off60 v39 k0_t2) a + S256x128.size a ≤ S3072x128.size a)
theorem k0_t1_ok : ∀ (v1 : BitVec 32) (v39 : BitVec 32) (k0_hw25 : k0_chk25 v1 v39), ∀ (k0_h7 : k0_cond7 v1 = 1#1), (k0_t1_loop v39).OK := fun v1 v39 k0_hw25 k0_h7 => k0_hw25.1 k0_h7
theorem k0_mult1_dvd : ∀ (v1 : BitVec 32) (v39 : BitVec 32) (k0_hw25 : k0_chk25 v1 v39) (k0_t1 : Fin (k0_t1_loop v39).trips), ∀ (k0_h7 : k0_cond7 v1 = 1#1), 256 ∣ (k0_mult1 v39 k0_t1).toNat := fun v1 v39 k0_hw25 k0_t1 k0_h7 => k0_hw25.2.1 k0_t1 k0_h7
theorem k0_off51_inb : ∀ (v1 : BitVec 32) (v39 : BitVec 32) (k0_hw25 : k0_chk25 v1 v39) (k0_t1 : Fin (k0_t1_loop v39).trips), ∀ (k0_h7 : k0_cond7 v1 = 1#1), ∀ a, (k0_off51 v39 k0_t1) a + S256x128.size a ≤ S3072x128.size a := fun v1 v39 k0_hw25 k0_t1 k0_h7 => k0_hw25.2.2.1 k0_t1 k0_h7
theorem k0_t2_ok : ∀ (v1 : BitVec 32) (v39 : BitVec 32) (k0_hw25 : k0_chk25 v1 v39), ∀ (k0_h7 : k0_cond7 v1 = 1#1), (k0_t2_loop v39).OK := fun v1 v39 k0_hw25 k0_h7 => k0_hw25.2.2.2.1 k0_h7
theorem k0_mult2_dvd : ∀ (v1 : BitVec 32) (v39 : BitVec 32) (k0_hw25 : k0_chk25 v1 v39) (k0_t2 : Fin (k0_t2_loop v39).trips), ∀ (k0_h7 : k0_cond7 v1 = 1#1), 256 ∣ (k0_mult2 v39 k0_t2).toNat := fun v1 v39 k0_hw25 k0_t2 k0_h7 => k0_hw25.2.2.2.2.1 k0_t2 k0_h7
theorem k0_off60_inb : ∀ (v1 : BitVec 32) (v39 : BitVec 32) (k0_hw25 : k0_chk25 v1 v39) (k0_t2 : Fin (k0_t2_loop v39).trips), ∀ (k0_h7 : k0_cond7 v1 = 1#1), ∀ a, (k0_off60 v39 k0_t2) a + S256x128.size a ≤ S3072x128.size a := fun v1 v39 k0_hw25 k0_t2 k0_h7 => k0_hw25.2.2.2.2.2 k0_t2 k0_h7

def k0_off61 (i : grid0.Coords) : Fin 1 → Nat :=
  let arg0 : BitVec 32 := BitVec.ofNat 32 (i 0).val
  let c4_i32_29 : BitVec 32 := 4#32
  let v58 : BitVec 32 := Scalar.muli arg0 c4_i32_29
  let c0_i32_30 : BitVec 32 := 0#32
  let v59 : BitVec 32 := Scalar.addi v58 c0_i32_30
  let v60 : Index := Scalar.indexCast v59
  ![v60.toNat]
def k0_off62 (v39 : BitVec 32) (k0_t2 : Fin (k0_t2_loop v39).trips) (v61 : BitVec 32) : Fin 3 → Nat :=
  let c7_i32 : BitVec 32 := 7#32
  let v65 : BitVec 32 := Scalar.shrsi v61 c7_i32
  let v69 : Index := Scalar.indexCast v65
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t2
  let c256_i32 : BitVec 32 := 256#32
  let v47 : BitVec 32 := Scalar.muli arg17 c256_i32
  let v48 : BitVec 32 := v47
  let v70 : Index := Scalar.indexCast v48
  let c0_32 : Index := 0#32
  ![v69.toNat, v70.toNat, 0]

def k0_chk30 (v1 : BitVec 32) (v39 : BitVec 32) (k0_t2 : Fin (k0_t2_loop v39).trips) (v61 : BitVec 32) : Prop :=
  (∀ (k0_h7 : k0_cond7 v1 = 1#1), ∀ a, (k0_off62 v39 k0_t2 v61) a + S1x256x128.size a ≤ S16x3072x128.size a)
theorem k0_off62_inb : ∀ (v1 : BitVec 32) (v39 : BitVec 32) (k0_t2 : Fin (k0_t2_loop v39).trips) (v61 : BitVec 32) (k0_hw30 : k0_chk30 v1 v39 k0_t2 v61), ∀ (k0_h7 : k0_cond7 v1 = 1#1), ∀ a, (k0_off62 v39 k0_t2 v61) a + S1x256x128.size a ≤ S16x3072x128.size a := fun v1 v39 k0_t2 v61 k0_hw30 k0_h7 => k0_hw30 k0_h7

def k0_off63 (i : grid0.Coords) : Fin 1 → Nat :=
  let arg0 : BitVec 32 := BitVec.ofNat 32 (i 0).val
  let c4_i32_34 : BitVec 32 := 4#32
  let v83 : BitVec 32 := Scalar.muli arg0 c4_i32_34
  let c1_i32_35 : BitVec 32 := 1#32
  let v84 : BitVec 32 := Scalar.addi v83 c1_i32_35
  let v85 : Index := Scalar.indexCast v84
  ![v85.toNat]
def k0_off64 (v39 : BitVec 32) (k0_t2 : Fin (k0_t2_loop v39).trips) (v86 : BitVec 32) : Fin 3 → Nat :=
  let c7_i32_37 : BitVec 32 := 7#32
  let v90 : BitVec 32 := Scalar.shrsi v86 c7_i32_37
  let v94 : Index := Scalar.indexCast v90
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t2
  let c256_i32 : BitVec 32 := 256#32
  let v47 : BitVec 32 := Scalar.muli arg17 c256_i32
  let v48 : BitVec 32 := v47
  let v95 : Index := Scalar.indexCast v48
  let c0_39 : Index := 0#32
  ![v94.toNat, v95.toNat, 0]

def k0_chk31 (v1 : BitVec 32) (v39 : BitVec 32) (k0_t2 : Fin (k0_t2_loop v39).trips) (v86 : BitVec 32) : Prop :=
  (∀ (k0_h7 : k0_cond7 v1 = 1#1), ∀ a, (k0_off64 v39 k0_t2 v86) a + S1x256x128.size a ≤ S16x3072x128.size a)
theorem k0_off64_inb : ∀ (v1 : BitVec 32) (v39 : BitVec 32) (k0_t2 : Fin (k0_t2_loop v39).trips) (v86 : BitVec 32) (k0_hw31 : k0_chk31 v1 v39 k0_t2 v86), ∀ (k0_h7 : k0_cond7 v1 = 1#1), ∀ a, (k0_off64 v39 k0_t2 v86) a + S1x256x128.size a ≤ S16x3072x128.size a := fun v1 v39 k0_t2 v86 k0_hw31 k0_h7 => k0_hw31 k0_h7

def k0_off65 (i : grid0.Coords) : Fin 1 → Nat :=
  let arg0 : BitVec 32 := BitVec.ofNat 32 (i 0).val
  let c4_i32_41 : BitVec 32 := 4#32
  let v108 : BitVec 32 := Scalar.muli arg0 c4_i32_41
  let c2_i32_42 : BitVec 32 := 2#32
  let v109 : BitVec 32 := Scalar.addi v108 c2_i32_42
  let v110 : Index := Scalar.indexCast v109
  ![v110.toNat]
def k0_off66 (v39 : BitVec 32) (k0_t2 : Fin (k0_t2_loop v39).trips) (v111 : BitVec 32) : Fin 3 → Nat :=
  let c7_i32_44 : BitVec 32 := 7#32
  let v115 : BitVec 32 := Scalar.shrsi v111 c7_i32_44
  let v119 : Index := Scalar.indexCast v115
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t2
  let c256_i32 : BitVec 32 := 256#32
  let v47 : BitVec 32 := Scalar.muli arg17 c256_i32
  let v48 : BitVec 32 := v47
  let v120 : Index := Scalar.indexCast v48
  let c0_46 : Index := 0#32
  ![v119.toNat, v120.toNat, 0]

def k0_chk32 (v1 : BitVec 32) (v39 : BitVec 32) (k0_t2 : Fin (k0_t2_loop v39).trips) (v111 : BitVec 32) : Prop :=
  (∀ (k0_h7 : k0_cond7 v1 = 1#1), ∀ a, (k0_off66 v39 k0_t2 v111) a + S1x256x128.size a ≤ S16x3072x128.size a)
theorem k0_off66_inb : ∀ (v1 : BitVec 32) (v39 : BitVec 32) (k0_t2 : Fin (k0_t2_loop v39).trips) (v111 : BitVec 32) (k0_hw32 : k0_chk32 v1 v39 k0_t2 v111), ∀ (k0_h7 : k0_cond7 v1 = 1#1), ∀ a, (k0_off66 v39 k0_t2 v111) a + S1x256x128.size a ≤ S16x3072x128.size a := fun v1 v39 k0_t2 v111 k0_hw32 k0_h7 => k0_hw32 k0_h7

def k0_off67 (i : grid0.Coords) : Fin 1 → Nat :=
  let arg0 : BitVec 32 := BitVec.ofNat 32 (i 0).val
  let c4_i32_48 : BitVec 32 := 4#32
  let v133 : BitVec 32 := Scalar.muli arg0 c4_i32_48
  let c3_i32_49 : BitVec 32 := 3#32
  let v134 : BitVec 32 := Scalar.addi v133 c3_i32_49
  let v135 : Index := Scalar.indexCast v134
  ![v135.toNat]
def k0_off68 (v39 : BitVec 32) (k0_t2 : Fin (k0_t2_loop v39).trips) (v136 : BitVec 32) : Fin 3 → Nat :=
  let c7_i32_51 : BitVec 32 := 7#32
  let v140 : BitVec 32 := Scalar.shrsi v136 c7_i32_51
  let v144 : Index := Scalar.indexCast v140
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t2
  let c256_i32 : BitVec 32 := 256#32
  let v47 : BitVec 32 := Scalar.muli arg17 c256_i32
  let v48 : BitVec 32 := v47
  let v145 : Index := Scalar.indexCast v48
  let c0_53 : Index := 0#32
  ![v144.toNat, v145.toNat, 0]

def k0_chk33 (v1 : BitVec 32) (v39 : BitVec 32) (k0_t2 : Fin (k0_t2_loop v39).trips) (v136 : BitVec 32) : Prop :=
  (∀ (k0_h7 : k0_cond7 v1 = 1#1), ∀ a, (k0_off68 v39 k0_t2 v136) a + S1x256x128.size a ≤ S16x3072x128.size a)
theorem k0_off68_inb : ∀ (v1 : BitVec 32) (v39 : BitVec 32) (k0_t2 : Fin (k0_t2_loop v39).trips) (v136 : BitVec 32) (k0_hw33 : k0_chk33 v1 v39 k0_t2 v136), ∀ (k0_h7 : k0_cond7 v1 = 1#1), ∀ a, (k0_off68 v39 k0_t2 v136) a + S1x256x128.size a ≤ S16x3072x128.size a := fun v1 v39 k0_t2 v136 k0_hw33 k0_h7 => k0_hw33 k0_h7

@[reducible] def k0_t3_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_20 : BitVec 32 := 1#32
  ⟨c0_i32_17, v44, c1_i32_20⟩
def k0_cond8 (v1 : BitVec 32) : BitVec 1 :=
  let c2_i32_8 : BitVec 32 := 2#32
  let v24 : BitVec 1 := Scalar.cmpi .eq v1 c2_i32_8
  let v25 : BitVec 32 := Scalar.extui v24
  let c0_i32_9 : BitVec 32 := 0#32
  let v26 : BitVec 1 := Scalar.cmpi .ne v25 c0_i32_9
  v26

def k0_mult3 (v39 : BitVec 32) (k0_t3 : Fin (k0_t3_loop v39).trips) : BitVec 32 :=
  let c0_i32_17 : BitVec 32 := 0#32
  let c1_i32_20 : BitVec 32 := 1#32
  let arg17 : BitVec 32 := Scf.iv c0_i32_17 c1_i32_20 k0_t3
  let c256_i32 : BitVec 32 := 256#32
  let v47 : BitVec 32 := Scalar.muli arg17 c256_i32
  v47
def k0_off69 (v39 : BitVec 32) (k0_t3 : Fin (k0_t3_loop v39).trips) : Fin 2 → Nat :=
  let c0_i32_17 : BitVec 32 := 0#32
  let c1_i32_20 : BitVec 32 := 1#32
  let arg17 : BitVec 32 := Scf.iv c0_i32_17 c1_i32_20 k0_t3
  let c256_i32 : BitVec 32 := 256#32
  let v47 : BitVec 32 := Scalar.muli arg17 c256_i32
  let v48 : BitVec 32 := v47
  let v49 : Index := Scalar.indexCast v48
  let c0_22 : Index := 0#32
  ![v49.toNat, 0]
def k0_off70 (i : grid0.Coords) : Fin 1 → Nat :=
  let arg0 : BitVec 32 := BitVec.ofNat 32 (i 0).val
  let c4_i32_35 : BitVec 32 := 4#32
  let v66 : BitVec 32 := Scalar.muli arg0 c4_i32_35
  let c0_i32_36 : BitVec 32 := 0#32
  let v67 : BitVec 32 := Scalar.addi v66 c0_i32_36
  let v68 : Index := Scalar.indexCast v67
  ![v68.toNat]
def k0_off71 (v39 : BitVec 32) (k0_t3 : Fin (k0_t3_loop v39).trips) (v69 : BitVec 32) : Fin 3 → Nat :=
  let c7_i32 : BitVec 32 := 7#32
  let v73 : BitVec 32 := Scalar.shrsi v69 c7_i32
  let v77 : Index := Scalar.indexCast v73
  let c0_i32_17 : BitVec 32 := 0#32
  let c1_i32_20 : BitVec 32 := 1#32
  let arg17 : BitVec 32 := Scf.iv c0_i32_17 c1_i32_20 k0_t3
  let c256_i32 : BitVec 32 := 256#32
  let v47 : BitVec 32 := Scalar.muli arg17 c256_i32
  let v48 : BitVec 32 := v47
  let v78 : Index := Scalar.indexCast v48
  let c0_38 : Index := 0#32
  ![v77.toNat, v78.toNat, 0]

def k0_chk35 (v1 : BitVec 32) (v39 : BitVec 32) (k0_t3 : Fin (k0_t3_loop v39).trips) (v69 : BitVec 32) : Prop :=
  (∀ (k0_h8 : k0_cond8 v1 = 1#1), ∀ a, (k0_off71 v39 k0_t3 v69) a + S1x256x128.size a ≤ S16x3072x128.size a)
theorem k0_off71_inb : ∀ (v1 : BitVec 32) (v39 : BitVec 32) (k0_t3 : Fin (k0_t3_loop v39).trips) (v69 : BitVec 32) (k0_hw35 : k0_chk35 v1 v39 k0_t3 v69), ∀ (k0_h8 : k0_cond8 v1 = 1#1), ∀ a, (k0_off71 v39 k0_t3 v69) a + S1x256x128.size a ≤ S16x3072x128.size a := fun v1 v39 k0_t3 v69 k0_hw35 k0_h8 => k0_hw35 k0_h8

def k0_off72 (i : grid0.Coords) : Fin 1 → Nat :=
  let arg0 : BitVec 32 := BitVec.ofNat 32 (i 0).val
  let c4_i32_40 : BitVec 32 := 4#32
  let v91 : BitVec 32 := Scalar.muli arg0 c4_i32_40
  let c1_i32_41 : BitVec 32 := 1#32
  let v92 : BitVec 32 := Scalar.addi v91 c1_i32_41
  let v93 : Index := Scalar.indexCast v92
  ![v93.toNat]
def k0_off73 (v39 : BitVec 32) (k0_t3 : Fin (k0_t3_loop v39).trips) (v94 : BitVec 32) : Fin 3 → Nat :=
  let c7_i32_43 : BitVec 32 := 7#32
  let v98 : BitVec 32 := Scalar.shrsi v94 c7_i32_43
  let v102 : Index := Scalar.indexCast v98
  let c0_i32_17 : BitVec 32 := 0#32
  let c1_i32_20 : BitVec 32 := 1#32
  let arg17 : BitVec 32 := Scf.iv c0_i32_17 c1_i32_20 k0_t3
  let c256_i32 : BitVec 32 := 256#32
  let v47 : BitVec 32 := Scalar.muli arg17 c256_i32
  let v48 : BitVec 32 := v47
  let v103 : Index := Scalar.indexCast v48
  let c0_45 : Index := 0#32
  ![v102.toNat, v103.toNat, 0]

def k0_chk36 (v1 : BitVec 32) (v39 : BitVec 32) (k0_t3 : Fin (k0_t3_loop v39).trips) (v94 : BitVec 32) : Prop :=
  (∀ (k0_h8 : k0_cond8 v1 = 1#1), ∀ a, (k0_off73 v39 k0_t3 v94) a + S1x256x128.size a ≤ S16x3072x128.size a)
theorem k0_off73_inb : ∀ (v1 : BitVec 32) (v39 : BitVec 32) (k0_t3 : Fin (k0_t3_loop v39).trips) (v94 : BitVec 32) (k0_hw36 : k0_chk36 v1 v39 k0_t3 v94), ∀ (k0_h8 : k0_cond8 v1 = 1#1), ∀ a, (k0_off73 v39 k0_t3 v94) a + S1x256x128.size a ≤ S16x3072x128.size a := fun v1 v39 k0_t3 v94 k0_hw36 k0_h8 => k0_hw36 k0_h8

def k0_off74 (i : grid0.Coords) : Fin 1 → Nat :=
  let arg0 : BitVec 32 := BitVec.ofNat 32 (i 0).val
  let c4_i32_47 : BitVec 32 := 4#32
  let v116 : BitVec 32 := Scalar.muli arg0 c4_i32_47
  let c2_i32_48 : BitVec 32 := 2#32
  let v117 : BitVec 32 := Scalar.addi v116 c2_i32_48
  let v118 : Index := Scalar.indexCast v117
  ![v118.toNat]
def k0_off75 (v39 : BitVec 32) (k0_t3 : Fin (k0_t3_loop v39).trips) (v119 : BitVec 32) : Fin 3 → Nat :=
  let c7_i32_50 : BitVec 32 := 7#32
  let v123 : BitVec 32 := Scalar.shrsi v119 c7_i32_50
  let v127 : Index := Scalar.indexCast v123
  let c0_i32_17 : BitVec 32 := 0#32
  let c1_i32_20 : BitVec 32 := 1#32
  let arg17 : BitVec 32 := Scf.iv c0_i32_17 c1_i32_20 k0_t3
  let c256_i32 : BitVec 32 := 256#32
  let v47 : BitVec 32 := Scalar.muli arg17 c256_i32
  let v48 : BitVec 32 := v47
  let v128 : Index := Scalar.indexCast v48
  let c0_52 : Index := 0#32
  ![v127.toNat, v128.toNat, 0]

def k0_chk37 (v1 : BitVec 32) (v39 : BitVec 32) (k0_t3 : Fin (k0_t3_loop v39).trips) (v119 : BitVec 32) : Prop :=
  (∀ (k0_h8 : k0_cond8 v1 = 1#1), ∀ a, (k0_off75 v39 k0_t3 v119) a + S1x256x128.size a ≤ S16x3072x128.size a)
theorem k0_off75_inb : ∀ (v1 : BitVec 32) (v39 : BitVec 32) (k0_t3 : Fin (k0_t3_loop v39).trips) (v119 : BitVec 32) (k0_hw37 : k0_chk37 v1 v39 k0_t3 v119), ∀ (k0_h8 : k0_cond8 v1 = 1#1), ∀ a, (k0_off75 v39 k0_t3 v119) a + S1x256x128.size a ≤ S16x3072x128.size a := fun v1 v39 k0_t3 v119 k0_hw37 k0_h8 => k0_hw37 k0_h8

def k0_off76 (i : grid0.Coords) : Fin 1 → Nat :=
  let arg0 : BitVec 32 := BitVec.ofNat 32 (i 0).val
  let c4_i32_54 : BitVec 32 := 4#32
  let v141 : BitVec 32 := Scalar.muli arg0 c4_i32_54
  let c3_i32_55 : BitVec 32 := 3#32
  let v142 : BitVec 32 := Scalar.addi v141 c3_i32_55
  let v143 : Index := Scalar.indexCast v142
  ![v143.toNat]
def k0_off77 (v39 : BitVec 32) (k0_t3 : Fin (k0_t3_loop v39).trips) (v144 : BitVec 32) : Fin 3 → Nat :=
  let c7_i32_57 : BitVec 32 := 7#32
  let v148 : BitVec 32 := Scalar.shrsi v144 c7_i32_57
  let v152 : Index := Scalar.indexCast v148
  let c0_i32_17 : BitVec 32 := 0#32
  let c1_i32_20 : BitVec 32 := 1#32
  let arg17 : BitVec 32 := Scf.iv c0_i32_17 c1_i32_20 k0_t3
  let c256_i32 : BitVec 32 := 256#32
  let v47 : BitVec 32 := Scalar.muli arg17 c256_i32
  let v48 : BitVec 32 := v47
  let v153 : Index := Scalar.indexCast v48
  let c0_59 : Index := 0#32
  ![v152.toNat, v153.toNat, 0]

def k0_chk38 (v1 : BitVec 32) (v39 : BitVec 32) (k0_t3 : Fin (k0_t3_loop v39).trips) (v144 : BitVec 32) : Prop :=
  (∀ (k0_h8 : k0_cond8 v1 = 1#1), ∀ a, (k0_off77 v39 k0_t3 v144) a + S1x256x128.size a ≤ S16x3072x128.size a)
theorem k0_off77_inb : ∀ (v1 : BitVec 32) (v39 : BitVec 32) (k0_t3 : Fin (k0_t3_loop v39).trips) (v144 : BitVec 32) (k0_hw38 : k0_chk38 v1 v39 k0_t3 v144), ∀ (k0_h8 : k0_cond8 v1 = 1#1), ∀ a, (k0_off77 v39 k0_t3 v144) a + S1x256x128.size a ≤ S16x3072x128.size a := fun v1 v39 k0_t3 v144 k0_hw38 k0_h8 => k0_hw38 k0_h8

@[reducible] def k0_t4_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let v41 : BitVec 32 := Scalar.addi c0_i32_17 v40
  let c1_i32_21 : BitVec 32 := 1#32
  ⟨v44, v41, c1_i32_21⟩
def k0_mult4 (v39 : BitVec 32) (k0_t4 : Fin (k0_t4_loop v39).trips) : BitVec 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t4
  let c256_i32 : BitVec 32 := 256#32
  let v47 : BitVec 32 := Scalar.muli arg17 c256_i32
  v47
def k0_off78 (v39 : BitVec 32) (k0_t4 : Fin (k0_t4_loop v39).trips) : Fin 2 → Nat :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t4
  let c256_i32 : BitVec 32 := 256#32
  let v47 : BitVec 32 := Scalar.muli arg17 c256_i32
  let v48 : BitVec 32 := v47
  let v49 : Index := Scalar.indexCast v48
  let c0_22 : Index := 0#32
  ![v49.toNat, 0]

def k0_chk34 (v1 : BitVec 32) (v39 : BitVec 32) : Prop :=
  (∀ (k0_h8 : k0_cond8 v1 = 1#1), (k0_t3_loop v39).OK) ∧
  (∀ k0_t3 : Fin (k0_t3_loop v39).trips, ∀ (k0_h8 : k0_cond8 v1 = 1#1), 256 ∣ (k0_mult3 v39 k0_t3).toNat) ∧
  (∀ k0_t3 : Fin (k0_t3_loop v39).trips, ∀ (k0_h8 : k0_cond8 v1 = 1#1), ∀ a, (k0_off69 v39 k0_t3) a + S256x128.size a ≤ S3072x128.size a) ∧
  (∀ (k0_h8 : k0_cond8 v1 = 1#1), (k0_t4_loop v39).OK) ∧
  (∀ k0_t4 : Fin (k0_t4_loop v39).trips, ∀ (k0_h8 : k0_cond8 v1 = 1#1), 256 ∣ (k0_mult4 v39 k0_t4).toNat) ∧
  (∀ k0_t4 : Fin (k0_t4_loop v39).trips, ∀ (k0_h8 : k0_cond8 v1 = 1#1), ∀ a, (k0_off78 v39 k0_t4) a + S256x128.size a ≤ S3072x128.size a)
theorem k0_t3_ok : ∀ (v1 : BitVec 32) (v39 : BitVec 32) (k0_hw34 : k0_chk34 v1 v39), ∀ (k0_h8 : k0_cond8 v1 = 1#1), (k0_t3_loop v39).OK := fun v1 v39 k0_hw34 k0_h8 => k0_hw34.1 k0_h8
theorem k0_mult3_dvd : ∀ (v1 : BitVec 32) (v39 : BitVec 32) (k0_hw34 : k0_chk34 v1 v39) (k0_t3 : Fin (k0_t3_loop v39).trips), ∀ (k0_h8 : k0_cond8 v1 = 1#1), 256 ∣ (k0_mult3 v39 k0_t3).toNat := fun v1 v39 k0_hw34 k0_t3 k0_h8 => k0_hw34.2.1 k0_t3 k0_h8
theorem k0_off69_inb : ∀ (v1 : BitVec 32) (v39 : BitVec 32) (k0_hw34 : k0_chk34 v1 v39) (k0_t3 : Fin (k0_t3_loop v39).trips), ∀ (k0_h8 : k0_cond8 v1 = 1#1), ∀ a, (k0_off69 v39 k0_t3) a + S256x128.size a ≤ S3072x128.size a := fun v1 v39 k0_hw34 k0_t3 k0_h8 => k0_hw34.2.2.1 k0_t3 k0_h8
theorem k0_t4_ok : ∀ (v1 : BitVec 32) (v39 : BitVec 32) (k0_hw34 : k0_chk34 v1 v39), ∀ (k0_h8 : k0_cond8 v1 = 1#1), (k0_t4_loop v39).OK := fun v1 v39 k0_hw34 k0_h8 => k0_hw34.2.2.2.1 k0_h8
theorem k0_mult4_dvd : ∀ (v1 : BitVec 32) (v39 : BitVec 32) (k0_hw34 : k0_chk34 v1 v39) (k0_t4 : Fin (k0_t4_loop v39).trips), ∀ (k0_h8 : k0_cond8 v1 = 1#1), 256 ∣ (k0_mult4 v39 k0_t4).toNat := fun v1 v39 k0_hw34 k0_t4 k0_h8 => k0_hw34.2.2.2.2.1 k0_t4 k0_h8
theorem k0_off78_inb : ∀ (v1 : BitVec 32) (v39 : BitVec 32) (k0_hw34 : k0_chk34 v1 v39) (k0_t4 : Fin (k0_t4_loop v39).trips), ∀ (k0_h8 : k0_cond8 v1 = 1#1), ∀ a, (k0_off78 v39 k0_t4) a + S256x128.size a ≤ S3072x128.size a := fun v1 v39 k0_hw34 k0_t4 k0_h8 => k0_hw34.2.2.2.2.2 k0_t4 k0_h8

def k0_off79 (i : grid0.Coords) : Fin 1 → Nat :=
  let arg0 : BitVec 32 := BitVec.ofNat 32 (i 0).val
  let c4_i32_35 : BitVec 32 := 4#32
  let v66 : BitVec 32 := Scalar.muli arg0 c4_i32_35
  let c0_i32_36 : BitVec 32 := 0#32
  let v67 : BitVec 32 := Scalar.addi v66 c0_i32_36
  let v68 : Index := Scalar.indexCast v67
  ![v68.toNat]
def k0_off80 (v39 : BitVec 32) (k0_t4 : Fin (k0_t4_loop v39).trips) (v69 : BitVec 32) : Fin 3 → Nat :=
  let c7_i32 : BitVec 32 := 7#32
  let v73 : BitVec 32 := Scalar.shrsi v69 c7_i32
  let v77 : Index := Scalar.indexCast v73
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t4
  let c256_i32 : BitVec 32 := 256#32
  let v47 : BitVec 32 := Scalar.muli arg17 c256_i32
  let v48 : BitVec 32 := v47
  let v78 : Index := Scalar.indexCast v48
  let c0_38 : Index := 0#32
  ![v77.toNat, v78.toNat, 0]

def k0_chk39 (v1 : BitVec 32) (v39 : BitVec 32) (k0_t4 : Fin (k0_t4_loop v39).trips) (v69 : BitVec 32) : Prop :=
  (∀ (k0_h8 : k0_cond8 v1 = 1#1), ∀ a, (k0_off80 v39 k0_t4 v69) a + S1x256x128.size a ≤ S16x3072x128.size a)
theorem k0_off80_inb : ∀ (v1 : BitVec 32) (v39 : BitVec 32) (k0_t4 : Fin (k0_t4_loop v39).trips) (v69 : BitVec 32) (k0_hw39 : k0_chk39 v1 v39 k0_t4 v69), ∀ (k0_h8 : k0_cond8 v1 = 1#1), ∀ a, (k0_off80 v39 k0_t4 v69) a + S1x256x128.size a ≤ S16x3072x128.size a := fun v1 v39 k0_t4 v69 k0_hw39 k0_h8 => k0_hw39 k0_h8

def k0_off81 (i : grid0.Coords) : Fin 1 → Nat :=
  let arg0 : BitVec 32 := BitVec.ofNat 32 (i 0).val
  let c4_i32_40 : BitVec 32 := 4#32
  let v91 : BitVec 32 := Scalar.muli arg0 c4_i32_40
  let c1_i32_41 : BitVec 32 := 1#32
  let v92 : BitVec 32 := Scalar.addi v91 c1_i32_41
  let v93 : Index := Scalar.indexCast v92
  ![v93.toNat]
def k0_off82 (v39 : BitVec 32) (k0_t4 : Fin (k0_t4_loop v39).trips) (v94 : BitVec 32) : Fin 3 → Nat :=
  let c7_i32_43 : BitVec 32 := 7#32
  let v98 : BitVec 32 := Scalar.shrsi v94 c7_i32_43
  let v102 : Index := Scalar.indexCast v98
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t4
  let c256_i32 : BitVec 32 := 256#32
  let v47 : BitVec 32 := Scalar.muli arg17 c256_i32
  let v48 : BitVec 32 := v47
  let v103 : Index := Scalar.indexCast v48
  let c0_45 : Index := 0#32
  ![v102.toNat, v103.toNat, 0]

def k0_chk40 (v1 : BitVec 32) (v39 : BitVec 32) (k0_t4 : Fin (k0_t4_loop v39).trips) (v94 : BitVec 32) : Prop :=
  (∀ (k0_h8 : k0_cond8 v1 = 1#1), ∀ a, (k0_off82 v39 k0_t4 v94) a + S1x256x128.size a ≤ S16x3072x128.size a)
theorem k0_off82_inb : ∀ (v1 : BitVec 32) (v39 : BitVec 32) (k0_t4 : Fin (k0_t4_loop v39).trips) (v94 : BitVec 32) (k0_hw40 : k0_chk40 v1 v39 k0_t4 v94), ∀ (k0_h8 : k0_cond8 v1 = 1#1), ∀ a, (k0_off82 v39 k0_t4 v94) a + S1x256x128.size a ≤ S16x3072x128.size a := fun v1 v39 k0_t4 v94 k0_hw40 k0_h8 => k0_hw40 k0_h8

def k0_off83 (i : grid0.Coords) : Fin 1 → Nat :=
  let arg0 : BitVec 32 := BitVec.ofNat 32 (i 0).val
  let c4_i32_47 : BitVec 32 := 4#32
  let v116 : BitVec 32 := Scalar.muli arg0 c4_i32_47
  let c2_i32_48 : BitVec 32 := 2#32
  let v117 : BitVec 32 := Scalar.addi v116 c2_i32_48
  let v118 : Index := Scalar.indexCast v117
  ![v118.toNat]
def k0_off84 (v39 : BitVec 32) (k0_t4 : Fin (k0_t4_loop v39).trips) (v119 : BitVec 32) : Fin 3 → Nat :=
  let c7_i32_50 : BitVec 32 := 7#32
  let v123 : BitVec 32 := Scalar.shrsi v119 c7_i32_50
  let v127 : Index := Scalar.indexCast v123
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t4
  let c256_i32 : BitVec 32 := 256#32
  let v47 : BitVec 32 := Scalar.muli arg17 c256_i32
  let v48 : BitVec 32 := v47
  let v128 : Index := Scalar.indexCast v48
  let c0_52 : Index := 0#32
  ![v127.toNat, v128.toNat, 0]

def k0_chk41 (v1 : BitVec 32) (v39 : BitVec 32) (k0_t4 : Fin (k0_t4_loop v39).trips) (v119 : BitVec 32) : Prop :=
  (∀ (k0_h8 : k0_cond8 v1 = 1#1), ∀ a, (k0_off84 v39 k0_t4 v119) a + S1x256x128.size a ≤ S16x3072x128.size a)
theorem k0_off84_inb : ∀ (v1 : BitVec 32) (v39 : BitVec 32) (k0_t4 : Fin (k0_t4_loop v39).trips) (v119 : BitVec 32) (k0_hw41 : k0_chk41 v1 v39 k0_t4 v119), ∀ (k0_h8 : k0_cond8 v1 = 1#1), ∀ a, (k0_off84 v39 k0_t4 v119) a + S1x256x128.size a ≤ S16x3072x128.size a := fun v1 v39 k0_t4 v119 k0_hw41 k0_h8 => k0_hw41 k0_h8

def k0_off85 (i : grid0.Coords) : Fin 1 → Nat :=
  let arg0 : BitVec 32 := BitVec.ofNat 32 (i 0).val
  let c4_i32_54 : BitVec 32 := 4#32
  let v141 : BitVec 32 := Scalar.muli arg0 c4_i32_54
  let c3_i32_55 : BitVec 32 := 3#32
  let v142 : BitVec 32 := Scalar.addi v141 c3_i32_55
  let v143 : Index := Scalar.indexCast v142
  ![v143.toNat]
def k0_off86 (v39 : BitVec 32) (k0_t4 : Fin (k0_t4_loop v39).trips) (v144 : BitVec 32) : Fin 3 → Nat :=
  let c7_i32_57 : BitVec 32 := 7#32
  let v148 : BitVec 32 := Scalar.shrsi v144 c7_i32_57
  let v152 : Index := Scalar.indexCast v148
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t4
  let c256_i32 : BitVec 32 := 256#32
  let v47 : BitVec 32 := Scalar.muli arg17 c256_i32
  let v48 : BitVec 32 := v47
  let v153 : Index := Scalar.indexCast v48
  let c0_59 : Index := 0#32
  ![v152.toNat, v153.toNat, 0]

def k0_chk42 (v1 : BitVec 32) (v39 : BitVec 32) (k0_t4 : Fin (k0_t4_loop v39).trips) (v144 : BitVec 32) : Prop :=
  (∀ (k0_h8 : k0_cond8 v1 = 1#1), ∀ a, (k0_off86 v39 k0_t4 v144) a + S1x256x128.size a ≤ S16x3072x128.size a)
theorem k0_off86_inb : ∀ (v1 : BitVec 32) (v39 : BitVec 32) (k0_t4 : Fin (k0_t4_loop v39).trips) (v144 : BitVec 32) (k0_hw42 : k0_chk42 v1 v39 k0_t4 v144), ∀ (k0_h8 : k0_cond8 v1 = 1#1), ∀ a, (k0_off86 v39 k0_t4 v144) a + S1x256x128.size a ≤ S16x3072x128.size a := fun v1 v39 k0_t4 v144 k0_hw42 k0_h8 => k0_hw42 k0_h8

@[reducible] def k0_t5_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_20 : BitVec 32 := 1#32
  ⟨c0_i32_17, v44, c1_i32_20⟩
def k0_cond9 (v1 : BitVec 32) : BitVec 1 :=
  let c3_i32_10 : BitVec 32 := 3#32
  let v27 : BitVec 1 := Scalar.cmpi .eq v1 c3_i32_10
  let v28 : BitVec 32 := Scalar.extui v27
  let c0_i32_11 : BitVec 32 := 0#32
  let v29 : BitVec 1 := Scalar.cmpi .ne v28 c0_i32_11
  v29

def k0_mult5 (v39 : BitVec 32) (k0_t5 : Fin (k0_t5_loop v39).trips) : BitVec 32 :=
  let c0_i32_17 : BitVec 32 := 0#32
  let c1_i32_20 : BitVec 32 := 1#32
  let arg17 : BitVec 32 := Scf.iv c0_i32_17 c1_i32_20 k0_t5
  let c256_i32 : BitVec 32 := 256#32
  let v47 : BitVec 32 := Scalar.muli arg17 c256_i32
  v47
def k0_off87 (v39 : BitVec 32) (k0_t5 : Fin (k0_t5_loop v39).trips) : Fin 2 → Nat :=
  let c0_i32_17 : BitVec 32 := 0#32
  let c1_i32_20 : BitVec 32 := 1#32
  let arg17 : BitVec 32 := Scf.iv c0_i32_17 c1_i32_20 k0_t5
  let c256_i32 : BitVec 32 := 256#32
  let v47 : BitVec 32 := Scalar.muli arg17 c256_i32
  let v48 : BitVec 32 := v47
  let v49 : Index := Scalar.indexCast v48
  let c0_22 : Index := 0#32
  ![v49.toNat, 0]
def k0_off88 (i : grid0.Coords) : Fin 1 → Nat :=
  let arg0 : BitVec 32 := BitVec.ofNat 32 (i 0).val
  let c4_i32_41 : BitVec 32 := 4#32
  let v74 : BitVec 32 := Scalar.muli arg0 c4_i32_41
  let c0_i32_42 : BitVec 32 := 0#32
  let v75 : BitVec 32 := Scalar.addi v74 c0_i32_42
  let v76 : Index := Scalar.indexCast v75
  ![v76.toNat]
def k0_off89 (v39 : BitVec 32) (k0_t5 : Fin (k0_t5_loop v39).trips) (v77 : BitVec 32) : Fin 3 → Nat :=
  let c7_i32 : BitVec 32 := 7#32
  let v81 : BitVec 32 := Scalar.shrsi v77 c7_i32
  let v85 : Index := Scalar.indexCast v81
  let c0_i32_17 : BitVec 32 := 0#32
  let c1_i32_20 : BitVec 32 := 1#32
  let arg17 : BitVec 32 := Scf.iv c0_i32_17 c1_i32_20 k0_t5
  let c256_i32 : BitVec 32 := 256#32
  let v47 : BitVec 32 := Scalar.muli arg17 c256_i32
  let v48 : BitVec 32 := v47
  let v86 : Index := Scalar.indexCast v48
  let c0_44 : Index := 0#32
  ![v85.toNat, v86.toNat, 0]

def k0_chk44 (v1 : BitVec 32) (v39 : BitVec 32) (k0_t5 : Fin (k0_t5_loop v39).trips) (v77 : BitVec 32) : Prop :=
  (∀ (k0_h9 : k0_cond9 v1 = 1#1), ∀ a, (k0_off89 v39 k0_t5 v77) a + S1x256x128.size a ≤ S16x3072x128.size a)
theorem k0_off89_inb : ∀ (v1 : BitVec 32) (v39 : BitVec 32) (k0_t5 : Fin (k0_t5_loop v39).trips) (v77 : BitVec 32) (k0_hw44 : k0_chk44 v1 v39 k0_t5 v77), ∀ (k0_h9 : k0_cond9 v1 = 1#1), ∀ a, (k0_off89 v39 k0_t5 v77) a + S1x256x128.size a ≤ S16x3072x128.size a := fun v1 v39 k0_t5 v77 k0_hw44 k0_h9 => k0_hw44 k0_h9

def k0_off90 (i : grid0.Coords) : Fin 1 → Nat :=
  let arg0 : BitVec 32 := BitVec.ofNat 32 (i 0).val
  let c4_i32_46 : BitVec 32 := 4#32
  let v99 : BitVec 32 := Scalar.muli arg0 c4_i32_46
  let c1_i32_47 : BitVec 32 := 1#32
  let v100 : BitVec 32 := Scalar.addi v99 c1_i32_47
  let v101 : Index := Scalar.indexCast v100
  ![v101.toNat]
def k0_off91 (v39 : BitVec 32) (k0_t5 : Fin (k0_t5_loop v39).trips) (v102 : BitVec 32) : Fin 3 → Nat :=
  let c7_i32_49 : BitVec 32 := 7#32
  let v106 : BitVec 32 := Scalar.shrsi v102 c7_i32_49
  let v110 : Index := Scalar.indexCast v106
  let c0_i32_17 : BitVec 32 := 0#32
  let c1_i32_20 : BitVec 32 := 1#32
  let arg17 : BitVec 32 := Scf.iv c0_i32_17 c1_i32_20 k0_t5
  let c256_i32 : BitVec 32 := 256#32
  let v47 : BitVec 32 := Scalar.muli arg17 c256_i32
  let v48 : BitVec 32 := v47
  let v111 : Index := Scalar.indexCast v48
  let c0_51 : Index := 0#32
  ![v110.toNat, v111.toNat, 0]

def k0_chk45 (v1 : BitVec 32) (v39 : BitVec 32) (k0_t5 : Fin (k0_t5_loop v39).trips) (v102 : BitVec 32) : Prop :=
  (∀ (k0_h9 : k0_cond9 v1 = 1#1), ∀ a, (k0_off91 v39 k0_t5 v102) a + S1x256x128.size a ≤ S16x3072x128.size a)
theorem k0_off91_inb : ∀ (v1 : BitVec 32) (v39 : BitVec 32) (k0_t5 : Fin (k0_t5_loop v39).trips) (v102 : BitVec 32) (k0_hw45 : k0_chk45 v1 v39 k0_t5 v102), ∀ (k0_h9 : k0_cond9 v1 = 1#1), ∀ a, (k0_off91 v39 k0_t5 v102) a + S1x256x128.size a ≤ S16x3072x128.size a := fun v1 v39 k0_t5 v102 k0_hw45 k0_h9 => k0_hw45 k0_h9

def k0_off92 (i : grid0.Coords) : Fin 1 → Nat :=
  let arg0 : BitVec 32 := BitVec.ofNat 32 (i 0).val
  let c4_i32_53 : BitVec 32 := 4#32
  let v124 : BitVec 32 := Scalar.muli arg0 c4_i32_53
  let c2_i32_54 : BitVec 32 := 2#32
  let v125 : BitVec 32 := Scalar.addi v124 c2_i32_54
  let v126 : Index := Scalar.indexCast v125
  ![v126.toNat]
def k0_off93 (v39 : BitVec 32) (k0_t5 : Fin (k0_t5_loop v39).trips) (v127 : BitVec 32) : Fin 3 → Nat :=
  let c7_i32_56 : BitVec 32 := 7#32
  let v131 : BitVec 32 := Scalar.shrsi v127 c7_i32_56
  let v135 : Index := Scalar.indexCast v131
  let c0_i32_17 : BitVec 32 := 0#32
  let c1_i32_20 : BitVec 32 := 1#32
  let arg17 : BitVec 32 := Scf.iv c0_i32_17 c1_i32_20 k0_t5
  let c256_i32 : BitVec 32 := 256#32
  let v47 : BitVec 32 := Scalar.muli arg17 c256_i32
  let v48 : BitVec 32 := v47
  let v136 : Index := Scalar.indexCast v48
  let c0_58 : Index := 0#32
  ![v135.toNat, v136.toNat, 0]

def k0_chk46 (v1 : BitVec 32) (v39 : BitVec 32) (k0_t5 : Fin (k0_t5_loop v39).trips) (v127 : BitVec 32) : Prop :=
  (∀ (k0_h9 : k0_cond9 v1 = 1#1), ∀ a, (k0_off93 v39 k0_t5 v127) a + S1x256x128.size a ≤ S16x3072x128.size a)
theorem k0_off93_inb : ∀ (v1 : BitVec 32) (v39 : BitVec 32) (k0_t5 : Fin (k0_t5_loop v39).trips) (v127 : BitVec 32) (k0_hw46 : k0_chk46 v1 v39 k0_t5 v127), ∀ (k0_h9 : k0_cond9 v1 = 1#1), ∀ a, (k0_off93 v39 k0_t5 v127) a + S1x256x128.size a ≤ S16x3072x128.size a := fun v1 v39 k0_t5 v127 k0_hw46 k0_h9 => k0_hw46 k0_h9

def k0_off94 (i : grid0.Coords) : Fin 1 → Nat :=
  let arg0 : BitVec 32 := BitVec.ofNat 32 (i 0).val
  let c4_i32_60 : BitVec 32 := 4#32
  let v149 : BitVec 32 := Scalar.muli arg0 c4_i32_60
  let c3_i32_61 : BitVec 32 := 3#32
  let v150 : BitVec 32 := Scalar.addi v149 c3_i32_61
  let v151 : Index := Scalar.indexCast v150
  ![v151.toNat]
def k0_off95 (v39 : BitVec 32) (k0_t5 : Fin (k0_t5_loop v39).trips) (v152 : BitVec 32) : Fin 3 → Nat :=
  let c7_i32_63 : BitVec 32 := 7#32
  let v156 : BitVec 32 := Scalar.shrsi v152 c7_i32_63
  let v160 : Index := Scalar.indexCast v156
  let c0_i32_17 : BitVec 32 := 0#32
  let c1_i32_20 : BitVec 32 := 1#32
  let arg17 : BitVec 32 := Scf.iv c0_i32_17 c1_i32_20 k0_t5
  let c256_i32 : BitVec 32 := 256#32
  let v47 : BitVec 32 := Scalar.muli arg17 c256_i32
  let v48 : BitVec 32 := v47
  let v161 : Index := Scalar.indexCast v48
  let c0_65 : Index := 0#32
  ![v160.toNat, v161.toNat, 0]

def k0_chk47 (v1 : BitVec 32) (v39 : BitVec 32) (k0_t5 : Fin (k0_t5_loop v39).trips) (v152 : BitVec 32) : Prop :=
  (∀ (k0_h9 : k0_cond9 v1 = 1#1), ∀ a, (k0_off95 v39 k0_t5 v152) a + S1x256x128.size a ≤ S16x3072x128.size a)
theorem k0_off95_inb : ∀ (v1 : BitVec 32) (v39 : BitVec 32) (k0_t5 : Fin (k0_t5_loop v39).trips) (v152 : BitVec 32) (k0_hw47 : k0_chk47 v1 v39 k0_t5 v152), ∀ (k0_h9 : k0_cond9 v1 = 1#1), ∀ a, (k0_off95 v39 k0_t5 v152) a + S1x256x128.size a ≤ S16x3072x128.size a := fun v1 v39 k0_t5 v152 k0_hw47 k0_h9 => k0_hw47 k0_h9

@[reducible] def k0_t6_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let v41 : BitVec 32 := Scalar.addi c0_i32_17 v40
  let c1_i32_21 : BitVec 32 := 1#32
  ⟨v44, v41, c1_i32_21⟩
def k0_mult6 (v39 : BitVec 32) (k0_t6 : Fin (k0_t6_loop v39).trips) : BitVec 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t6
  let c256_i32 : BitVec 32 := 256#32
  let v47 : BitVec 32 := Scalar.muli arg17 c256_i32
  v47
def k0_off96 (v39 : BitVec 32) (k0_t6 : Fin (k0_t6_loop v39).trips) : Fin 2 → Nat :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t6
  let c256_i32 : BitVec 32 := 256#32
  let v47 : BitVec 32 := Scalar.muli arg17 c256_i32
  let v48 : BitVec 32 := v47
  let v49 : Index := Scalar.indexCast v48
  let c0_22 : Index := 0#32
  ![v49.toNat, 0]

def k0_chk43 (v1 : BitVec 32) (v39 : BitVec 32) : Prop :=
  (∀ (k0_h9 : k0_cond9 v1 = 1#1), (k0_t5_loop v39).OK) ∧
  (∀ k0_t5 : Fin (k0_t5_loop v39).trips, ∀ (k0_h9 : k0_cond9 v1 = 1#1), 256 ∣ (k0_mult5 v39 k0_t5).toNat) ∧
  (∀ k0_t5 : Fin (k0_t5_loop v39).trips, ∀ (k0_h9 : k0_cond9 v1 = 1#1), ∀ a, (k0_off87 v39 k0_t5) a + S256x128.size a ≤ S3072x128.size a) ∧
  (∀ (k0_h9 : k0_cond9 v1 = 1#1), (k0_t6_loop v39).OK) ∧
  (∀ k0_t6 : Fin (k0_t6_loop v39).trips, ∀ (k0_h9 : k0_cond9 v1 = 1#1), 256 ∣ (k0_mult6 v39 k0_t6).toNat) ∧
  (∀ k0_t6 : Fin (k0_t6_loop v39).trips, ∀ (k0_h9 : k0_cond9 v1 = 1#1), ∀ a, (k0_off96 v39 k0_t6) a + S256x128.size a ≤ S3072x128.size a)
theorem k0_t5_ok : ∀ (v1 : BitVec 32) (v39 : BitVec 32) (k0_hw43 : k0_chk43 v1 v39), ∀ (k0_h9 : k0_cond9 v1 = 1#1), (k0_t5_loop v39).OK := fun v1 v39 k0_hw43 k0_h9 => k0_hw43.1 k0_h9
theorem k0_mult5_dvd : ∀ (v1 : BitVec 32) (v39 : BitVec 32) (k0_hw43 : k0_chk43 v1 v39) (k0_t5 : Fin (k0_t5_loop v39).trips), ∀ (k0_h9 : k0_cond9 v1 = 1#1), 256 ∣ (k0_mult5 v39 k0_t5).toNat := fun v1 v39 k0_hw43 k0_t5 k0_h9 => k0_hw43.2.1 k0_t5 k0_h9
theorem k0_off87_inb : ∀ (v1 : BitVec 32) (v39 : BitVec 32) (k0_hw43 : k0_chk43 v1 v39) (k0_t5 : Fin (k0_t5_loop v39).trips), ∀ (k0_h9 : k0_cond9 v1 = 1#1), ∀ a, (k0_off87 v39 k0_t5) a + S256x128.size a ≤ S3072x128.size a := fun v1 v39 k0_hw43 k0_t5 k0_h9 => k0_hw43.2.2.1 k0_t5 k0_h9
theorem k0_t6_ok : ∀ (v1 : BitVec 32) (v39 : BitVec 32) (k0_hw43 : k0_chk43 v1 v39), ∀ (k0_h9 : k0_cond9 v1 = 1#1), (k0_t6_loop v39).OK := fun v1 v39 k0_hw43 k0_h9 => k0_hw43.2.2.2.1 k0_h9
theorem k0_mult6_dvd : ∀ (v1 : BitVec 32) (v39 : BitVec 32) (k0_hw43 : k0_chk43 v1 v39) (k0_t6 : Fin (k0_t6_loop v39).trips), ∀ (k0_h9 : k0_cond9 v1 = 1#1), 256 ∣ (k0_mult6 v39 k0_t6).toNat := fun v1 v39 k0_hw43 k0_t6 k0_h9 => k0_hw43.2.2.2.2.1 k0_t6 k0_h9
theorem k0_off96_inb : ∀ (v1 : BitVec 32) (v39 : BitVec 32) (k0_hw43 : k0_chk43 v1 v39) (k0_t6 : Fin (k0_t6_loop v39).trips), ∀ (k0_h9 : k0_cond9 v1 = 1#1), ∀ a, (k0_off96 v39 k0_t6) a + S256x128.size a ≤ S3072x128.size a := fun v1 v39 k0_hw43 k0_t6 k0_h9 => k0_hw43.2.2.2.2.2 k0_t6 k0_h9

def k0_off97 (i : grid0.Coords) : Fin 1 → Nat :=
  let arg0 : BitVec 32 := BitVec.ofNat 32 (i 0).val
  let c4_i32_41 : BitVec 32 := 4#32
  let v74 : BitVec 32 := Scalar.muli arg0 c4_i32_41
  let c0_i32_42 : BitVec 32 := 0#32
  let v75 : BitVec 32 := Scalar.addi v74 c0_i32_42
  let v76 : Index := Scalar.indexCast v75
  ![v76.toNat]
def k0_off98 (v39 : BitVec 32) (k0_t6 : Fin (k0_t6_loop v39).trips) (v77 : BitVec 32) : Fin 3 → Nat :=
  let c7_i32 : BitVec 32 := 7#32
  let v81 : BitVec 32 := Scalar.shrsi v77 c7_i32
  let v85 : Index := Scalar.indexCast v81
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t6
  let c256_i32 : BitVec 32 := 256#32
  let v47 : BitVec 32 := Scalar.muli arg17 c256_i32
  let v48 : BitVec 32 := v47
  let v86 : Index := Scalar.indexCast v48
  let c0_44 : Index := 0#32
  ![v85.toNat, v86.toNat, 0]

def k0_chk48 (v1 : BitVec 32) (v39 : BitVec 32) (k0_t6 : Fin (k0_t6_loop v39).trips) (v77 : BitVec 32) : Prop :=
  (∀ (k0_h9 : k0_cond9 v1 = 1#1), ∀ a, (k0_off98 v39 k0_t6 v77) a + S1x256x128.size a ≤ S16x3072x128.size a)
theorem k0_off98_inb : ∀ (v1 : BitVec 32) (v39 : BitVec 32) (k0_t6 : Fin (k0_t6_loop v39).trips) (v77 : BitVec 32) (k0_hw48 : k0_chk48 v1 v39 k0_t6 v77), ∀ (k0_h9 : k0_cond9 v1 = 1#1), ∀ a, (k0_off98 v39 k0_t6 v77) a + S1x256x128.size a ≤ S16x3072x128.size a := fun v1 v39 k0_t6 v77 k0_hw48 k0_h9 => k0_hw48 k0_h9

def k0_off99 (i : grid0.Coords) : Fin 1 → Nat :=
  let arg0 : BitVec 32 := BitVec.ofNat 32 (i 0).val
  let c4_i32_46 : BitVec 32 := 4#32
  let v99 : BitVec 32 := Scalar.muli arg0 c4_i32_46
  let c1_i32_47 : BitVec 32 := 1#32
  let v100 : BitVec 32 := Scalar.addi v99 c1_i32_47
  let v101 : Index := Scalar.indexCast v100
  ![v101.toNat]
def k0_off100 (v39 : BitVec 32) (k0_t6 : Fin (k0_t6_loop v39).trips) (v102 : BitVec 32) : Fin 3 → Nat :=
  let c7_i32_49 : BitVec 32 := 7#32
  let v106 : BitVec 32 := Scalar.shrsi v102 c7_i32_49
  let v110 : Index := Scalar.indexCast v106
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t6
  let c256_i32 : BitVec 32 := 256#32
  let v47 : BitVec 32 := Scalar.muli arg17 c256_i32
  let v48 : BitVec 32 := v47
  let v111 : Index := Scalar.indexCast v48
  let c0_51 : Index := 0#32
  ![v110.toNat, v111.toNat, 0]

def k0_chk49 (v1 : BitVec 32) (v39 : BitVec 32) (k0_t6 : Fin (k0_t6_loop v39).trips) (v102 : BitVec 32) : Prop :=
  (∀ (k0_h9 : k0_cond9 v1 = 1#1), ∀ a, (k0_off100 v39 k0_t6 v102) a + S1x256x128.size a ≤ S16x3072x128.size a)
theorem k0_off100_inb : ∀ (v1 : BitVec 32) (v39 : BitVec 32) (k0_t6 : Fin (k0_t6_loop v39).trips) (v102 : BitVec 32) (k0_hw49 : k0_chk49 v1 v39 k0_t6 v102), ∀ (k0_h9 : k0_cond9 v1 = 1#1), ∀ a, (k0_off100 v39 k0_t6 v102) a + S1x256x128.size a ≤ S16x3072x128.size a := fun v1 v39 k0_t6 v102 k0_hw49 k0_h9 => k0_hw49 k0_h9

def k0_off101 (i : grid0.Coords) : Fin 1 → Nat :=
  let arg0 : BitVec 32 := BitVec.ofNat 32 (i 0).val
  let c4_i32_53 : BitVec 32 := 4#32
  let v124 : BitVec 32 := Scalar.muli arg0 c4_i32_53
  let c2_i32_54 : BitVec 32 := 2#32
  let v125 : BitVec 32 := Scalar.addi v124 c2_i32_54
  let v126 : Index := Scalar.indexCast v125
  ![v126.toNat]
def k0_off102 (v39 : BitVec 32) (k0_t6 : Fin (k0_t6_loop v39).trips) (v127 : BitVec 32) : Fin 3 → Nat :=
  let c7_i32_56 : BitVec 32 := 7#32
  let v131 : BitVec 32 := Scalar.shrsi v127 c7_i32_56
  let v135 : Index := Scalar.indexCast v131
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t6
  let c256_i32 : BitVec 32 := 256#32
  let v47 : BitVec 32 := Scalar.muli arg17 c256_i32
  let v48 : BitVec 32 := v47
  let v136 : Index := Scalar.indexCast v48
  let c0_58 : Index := 0#32
  ![v135.toNat, v136.toNat, 0]

def k0_chk50 (v1 : BitVec 32) (v39 : BitVec 32) (k0_t6 : Fin (k0_t6_loop v39).trips) (v127 : BitVec 32) : Prop :=
  (∀ (k0_h9 : k0_cond9 v1 = 1#1), ∀ a, (k0_off102 v39 k0_t6 v127) a + S1x256x128.size a ≤ S16x3072x128.size a)
theorem k0_off102_inb : ∀ (v1 : BitVec 32) (v39 : BitVec 32) (k0_t6 : Fin (k0_t6_loop v39).trips) (v127 : BitVec 32) (k0_hw50 : k0_chk50 v1 v39 k0_t6 v127), ∀ (k0_h9 : k0_cond9 v1 = 1#1), ∀ a, (k0_off102 v39 k0_t6 v127) a + S1x256x128.size a ≤ S16x3072x128.size a := fun v1 v39 k0_t6 v127 k0_hw50 k0_h9 => k0_hw50 k0_h9

def k0_off103 (i : grid0.Coords) : Fin 1 → Nat :=
  let arg0 : BitVec 32 := BitVec.ofNat 32 (i 0).val
  let c4_i32_60 : BitVec 32 := 4#32
  let v149 : BitVec 32 := Scalar.muli arg0 c4_i32_60
  let c3_i32_61 : BitVec 32 := 3#32
  let v150 : BitVec 32 := Scalar.addi v149 c3_i32_61
  let v151 : Index := Scalar.indexCast v150
  ![v151.toNat]
def k0_off104 (v39 : BitVec 32) (k0_t6 : Fin (k0_t6_loop v39).trips) (v152 : BitVec 32) : Fin 3 → Nat :=
  let c7_i32_63 : BitVec 32 := 7#32
  let v156 : BitVec 32 := Scalar.shrsi v152 c7_i32_63
  let v160 : Index := Scalar.indexCast v156
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t6
  let c256_i32 : BitVec 32 := 256#32
  let v47 : BitVec 32 := Scalar.muli arg17 c256_i32
  let v48 : BitVec 32 := v47
  let v161 : Index := Scalar.indexCast v48
  let c0_65 : Index := 0#32
  ![v160.toNat, v161.toNat, 0]

def k0_chk51 (v1 : BitVec 32) (v39 : BitVec 32) (k0_t6 : Fin (k0_t6_loop v39).trips) (v152 : BitVec 32) : Prop :=
  (∀ (k0_h9 : k0_cond9 v1 = 1#1), ∀ a, (k0_off104 v39 k0_t6 v152) a + S1x256x128.size a ≤ S16x3072x128.size a)
theorem k0_off104_inb : ∀ (v1 : BitVec 32) (v39 : BitVec 32) (k0_t6 : Fin (k0_t6_loop v39).trips) (v152 : BitVec 32) (k0_hw51 : k0_chk51 v1 v39 k0_t6 v152), ∀ (k0_h9 : k0_cond9 v1 = 1#1), ∀ a, (k0_off104 v39 k0_t6 v152) a + S1x256x128.size a ≤ S16x3072x128.size a := fun v1 v39 k0_t6 v152 k0_hw51 k0_h9 => k0_hw51 k0_h9

@[reducible] def k0_t7_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_20 : BitVec 32 := 1#32
  ⟨c0_i32_17, v44, c1_i32_20⟩
def k0_cond10 (v1 : BitVec 32) : BitVec 1 :=
  let c4_i32_12 : BitVec 32 := 4#32
  let v30 : BitVec 1 := Scalar.cmpi .eq v1 c4_i32_12
  let v31 : BitVec 32 := Scalar.extui v30
  let c0_i32_13 : BitVec 32 := 0#32
  let v32 : BitVec 1 := Scalar.cmpi .ne v31 c0_i32_13
  v32

def k0_mult7 (v39 : BitVec 32) (k0_t7 : Fin (k0_t7_loop v39).trips) : BitVec 32 :=
  let c0_i32_17 : BitVec 32 := 0#32
  let c1_i32_20 : BitVec 32 := 1#32
  let arg17 : BitVec 32 := Scf.iv c0_i32_17 c1_i32_20 k0_t7
  let c256_i32 : BitVec 32 := 256#32
  let v47 : BitVec 32 := Scalar.muli arg17 c256_i32
  v47
def k0_off105 (v39 : BitVec 32) (k0_t7 : Fin (k0_t7_loop v39).trips) : Fin 2 → Nat :=
  let c0_i32_17 : BitVec 32 := 0#32
  let c1_i32_20 : BitVec 32 := 1#32
  let arg17 : BitVec 32 := Scf.iv c0_i32_17 c1_i32_20 k0_t7
  let c256_i32 : BitVec 32 := 256#32
  let v47 : BitVec 32 := Scalar.muli arg17 c256_i32
  let v48 : BitVec 32 := v47
  let v49 : Index := Scalar.indexCast v48
  let c0_22 : Index := 0#32
  ![v49.toNat, 0]
def k0_off106 (i : grid0.Coords) : Fin 1 → Nat :=
  let arg0 : BitVec 32 := BitVec.ofNat 32 (i 0).val
  let c4_i32_47 : BitVec 32 := 4#32
  let v82 : BitVec 32 := Scalar.muli arg0 c4_i32_47
  let c0_i32_48 : BitVec 32 := 0#32
  let v83 : BitVec 32 := Scalar.addi v82 c0_i32_48
  let v84 : Index := Scalar.indexCast v83
  ![v84.toNat]
def k0_off107 (v39 : BitVec 32) (k0_t7 : Fin (k0_t7_loop v39).trips) (v85 : BitVec 32) : Fin 3 → Nat :=
  let c7_i32 : BitVec 32 := 7#32
  let v89 : BitVec 32 := Scalar.shrsi v85 c7_i32
  let v93 : Index := Scalar.indexCast v89
  let c0_i32_17 : BitVec 32 := 0#32
  let c1_i32_20 : BitVec 32 := 1#32
  let arg17 : BitVec 32 := Scf.iv c0_i32_17 c1_i32_20 k0_t7
  let c256_i32 : BitVec 32 := 256#32
  let v47 : BitVec 32 := Scalar.muli arg17 c256_i32
  let v48 : BitVec 32 := v47
  let v94 : Index := Scalar.indexCast v48
  let c0_50 : Index := 0#32
  ![v93.toNat, v94.toNat, 0]

def k0_chk53 (v1 : BitVec 32) (v39 : BitVec 32) (k0_t7 : Fin (k0_t7_loop v39).trips) (v85 : BitVec 32) : Prop :=
  (∀ (k0_h10 : k0_cond10 v1 = 1#1), ∀ a, (k0_off107 v39 k0_t7 v85) a + S1x256x128.size a ≤ S16x3072x128.size a)
theorem k0_off107_inb : ∀ (v1 : BitVec 32) (v39 : BitVec 32) (k0_t7 : Fin (k0_t7_loop v39).trips) (v85 : BitVec 32) (k0_hw53 : k0_chk53 v1 v39 k0_t7 v85), ∀ (k0_h10 : k0_cond10 v1 = 1#1), ∀ a, (k0_off107 v39 k0_t7 v85) a + S1x256x128.size a ≤ S16x3072x128.size a := fun v1 v39 k0_t7 v85 k0_hw53 k0_h10 => k0_hw53 k0_h10

def k0_off108 (i : grid0.Coords) : Fin 1 → Nat :=
  let arg0 : BitVec 32 := BitVec.ofNat 32 (i 0).val
  let c4_i32_52 : BitVec 32 := 4#32
  let v107 : BitVec 32 := Scalar.muli arg0 c4_i32_52
  let c1_i32_53 : BitVec 32 := 1#32
  let v108 : BitVec 32 := Scalar.addi v107 c1_i32_53
  let v109 : Index := Scalar.indexCast v108
  ![v109.toNat]
def k0_off109 (v39 : BitVec 32) (k0_t7 : Fin (k0_t7_loop v39).trips) (v110 : BitVec 32) : Fin 3 → Nat :=
  let c7_i32_55 : BitVec 32 := 7#32
  let v114 : BitVec 32 := Scalar.shrsi v110 c7_i32_55
  let v118 : Index := Scalar.indexCast v114
  let c0_i32_17 : BitVec 32 := 0#32
  let c1_i32_20 : BitVec 32 := 1#32
  let arg17 : BitVec 32 := Scf.iv c0_i32_17 c1_i32_20 k0_t7
  let c256_i32 : BitVec 32 := 256#32
  let v47 : BitVec 32 := Scalar.muli arg17 c256_i32
  let v48 : BitVec 32 := v47
  let v119 : Index := Scalar.indexCast v48
  let c0_57 : Index := 0#32
  ![v118.toNat, v119.toNat, 0]

def k0_chk54 (v1 : BitVec 32) (v39 : BitVec 32) (k0_t7 : Fin (k0_t7_loop v39).trips) (v110 : BitVec 32) : Prop :=
  (∀ (k0_h10 : k0_cond10 v1 = 1#1), ∀ a, (k0_off109 v39 k0_t7 v110) a + S1x256x128.size a ≤ S16x3072x128.size a)
theorem k0_off109_inb : ∀ (v1 : BitVec 32) (v39 : BitVec 32) (k0_t7 : Fin (k0_t7_loop v39).trips) (v110 : BitVec 32) (k0_hw54 : k0_chk54 v1 v39 k0_t7 v110), ∀ (k0_h10 : k0_cond10 v1 = 1#1), ∀ a, (k0_off109 v39 k0_t7 v110) a + S1x256x128.size a ≤ S16x3072x128.size a := fun v1 v39 k0_t7 v110 k0_hw54 k0_h10 => k0_hw54 k0_h10

def k0_off110 (i : grid0.Coords) : Fin 1 → Nat :=
  let arg0 : BitVec 32 := BitVec.ofNat 32 (i 0).val
  let c4_i32_59 : BitVec 32 := 4#32
  let v132 : BitVec 32 := Scalar.muli arg0 c4_i32_59
  let c2_i32_60 : BitVec 32 := 2#32
  let v133 : BitVec 32 := Scalar.addi v132 c2_i32_60
  let v134 : Index := Scalar.indexCast v133
  ![v134.toNat]
def k0_off111 (v39 : BitVec 32) (k0_t7 : Fin (k0_t7_loop v39).trips) (v135 : BitVec 32) : Fin 3 → Nat :=
  let c7_i32_62 : BitVec 32 := 7#32
  let v139 : BitVec 32 := Scalar.shrsi v135 c7_i32_62
  let v143 : Index := Scalar.indexCast v139
  let c0_i32_17 : BitVec 32 := 0#32
  let c1_i32_20 : BitVec 32 := 1#32
  let arg17 : BitVec 32 := Scf.iv c0_i32_17 c1_i32_20 k0_t7
  let c256_i32 : BitVec 32 := 256#32
  let v47 : BitVec 32 := Scalar.muli arg17 c256_i32
  let v48 : BitVec 32 := v47
  let v144 : Index := Scalar.indexCast v48
  let c0_64 : Index := 0#32
  ![v143.toNat, v144.toNat, 0]

def k0_chk55 (v1 : BitVec 32) (v39 : BitVec 32) (k0_t7 : Fin (k0_t7_loop v39).trips) (v135 : BitVec 32) : Prop :=
  (∀ (k0_h10 : k0_cond10 v1 = 1#1), ∀ a, (k0_off111 v39 k0_t7 v135) a + S1x256x128.size a ≤ S16x3072x128.size a)
theorem k0_off111_inb : ∀ (v1 : BitVec 32) (v39 : BitVec 32) (k0_t7 : Fin (k0_t7_loop v39).trips) (v135 : BitVec 32) (k0_hw55 : k0_chk55 v1 v39 k0_t7 v135), ∀ (k0_h10 : k0_cond10 v1 = 1#1), ∀ a, (k0_off111 v39 k0_t7 v135) a + S1x256x128.size a ≤ S16x3072x128.size a := fun v1 v39 k0_t7 v135 k0_hw55 k0_h10 => k0_hw55 k0_h10

def k0_off112 (i : grid0.Coords) : Fin 1 → Nat :=
  let arg0 : BitVec 32 := BitVec.ofNat 32 (i 0).val
  let c4_i32_66 : BitVec 32 := 4#32
  let v157 : BitVec 32 := Scalar.muli arg0 c4_i32_66
  let c3_i32_67 : BitVec 32 := 3#32
  let v158 : BitVec 32 := Scalar.addi v157 c3_i32_67
  let v159 : Index := Scalar.indexCast v158
  ![v159.toNat]
def k0_off113 (v39 : BitVec 32) (k0_t7 : Fin (k0_t7_loop v39).trips) (v160 : BitVec 32) : Fin 3 → Nat :=
  let c7_i32_69 : BitVec 32 := 7#32
  let v164 : BitVec 32 := Scalar.shrsi v160 c7_i32_69
  let v168 : Index := Scalar.indexCast v164
  let c0_i32_17 : BitVec 32 := 0#32
  let c1_i32_20 : BitVec 32 := 1#32
  let arg17 : BitVec 32 := Scf.iv c0_i32_17 c1_i32_20 k0_t7
  let c256_i32 : BitVec 32 := 256#32
  let v47 : BitVec 32 := Scalar.muli arg17 c256_i32
  let v48 : BitVec 32 := v47
  let v169 : Index := Scalar.indexCast v48
  let c0_71 : Index := 0#32
  ![v168.toNat, v169.toNat, 0]

def k0_chk56 (v1 : BitVec 32) (v39 : BitVec 32) (k0_t7 : Fin (k0_t7_loop v39).trips) (v160 : BitVec 32) : Prop :=
  (∀ (k0_h10 : k0_cond10 v1 = 1#1), ∀ a, (k0_off113 v39 k0_t7 v160) a + S1x256x128.size a ≤ S16x3072x128.size a)
theorem k0_off113_inb : ∀ (v1 : BitVec 32) (v39 : BitVec 32) (k0_t7 : Fin (k0_t7_loop v39).trips) (v160 : BitVec 32) (k0_hw56 : k0_chk56 v1 v39 k0_t7 v160), ∀ (k0_h10 : k0_cond10 v1 = 1#1), ∀ a, (k0_off113 v39 k0_t7 v160) a + S1x256x128.size a ≤ S16x3072x128.size a := fun v1 v39 k0_t7 v160 k0_hw56 k0_h10 => k0_hw56 k0_h10

@[reducible] def k0_t8_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let v41 : BitVec 32 := Scalar.addi c0_i32_17 v40
  let c1_i32_21 : BitVec 32 := 1#32
  ⟨v44, v41, c1_i32_21⟩
def k0_mult8 (v39 : BitVec 32) (k0_t8 : Fin (k0_t8_loop v39).trips) : BitVec 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t8
  let c256_i32 : BitVec 32 := 256#32
  let v47 : BitVec 32 := Scalar.muli arg17 c256_i32
  v47
def k0_off114 (v39 : BitVec 32) (k0_t8 : Fin (k0_t8_loop v39).trips) : Fin 2 → Nat :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t8
  let c256_i32 : BitVec 32 := 256#32
  let v47 : BitVec 32 := Scalar.muli arg17 c256_i32
  let v48 : BitVec 32 := v47
  let v49 : Index := Scalar.indexCast v48
  let c0_22 : Index := 0#32
  ![v49.toNat, 0]

def k0_chk52 (v1 : BitVec 32) (v39 : BitVec 32) : Prop :=
  (∀ (k0_h10 : k0_cond10 v1 = 1#1), (k0_t7_loop v39).OK) ∧
  (∀ k0_t7 : Fin (k0_t7_loop v39).trips, ∀ (k0_h10 : k0_cond10 v1 = 1#1), 256 ∣ (k0_mult7 v39 k0_t7).toNat) ∧
  (∀ k0_t7 : Fin (k0_t7_loop v39).trips, ∀ (k0_h10 : k0_cond10 v1 = 1#1), ∀ a, (k0_off105 v39 k0_t7) a + S256x128.size a ≤ S3072x128.size a) ∧
  (∀ (k0_h10 : k0_cond10 v1 = 1#1), (k0_t8_loop v39).OK) ∧
  (∀ k0_t8 : Fin (k0_t8_loop v39).trips, ∀ (k0_h10 : k0_cond10 v1 = 1#1), 256 ∣ (k0_mult8 v39 k0_t8).toNat) ∧
  (∀ k0_t8 : Fin (k0_t8_loop v39).trips, ∀ (k0_h10 : k0_cond10 v1 = 1#1), ∀ a, (k0_off114 v39 k0_t8) a + S256x128.size a ≤ S3072x128.size a)
theorem k0_t7_ok : ∀ (v1 : BitVec 32) (v39 : BitVec 32) (k0_hw52 : k0_chk52 v1 v39), ∀ (k0_h10 : k0_cond10 v1 = 1#1), (k0_t7_loop v39).OK := fun v1 v39 k0_hw52 k0_h10 => k0_hw52.1 k0_h10
theorem k0_mult7_dvd : ∀ (v1 : BitVec 32) (v39 : BitVec 32) (k0_hw52 : k0_chk52 v1 v39) (k0_t7 : Fin (k0_t7_loop v39).trips), ∀ (k0_h10 : k0_cond10 v1 = 1#1), 256 ∣ (k0_mult7 v39 k0_t7).toNat := fun v1 v39 k0_hw52 k0_t7 k0_h10 => k0_hw52.2.1 k0_t7 k0_h10
theorem k0_off105_inb : ∀ (v1 : BitVec 32) (v39 : BitVec 32) (k0_hw52 : k0_chk52 v1 v39) (k0_t7 : Fin (k0_t7_loop v39).trips), ∀ (k0_h10 : k0_cond10 v1 = 1#1), ∀ a, (k0_off105 v39 k0_t7) a + S256x128.size a ≤ S3072x128.size a := fun v1 v39 k0_hw52 k0_t7 k0_h10 => k0_hw52.2.2.1 k0_t7 k0_h10
theorem k0_t8_ok : ∀ (v1 : BitVec 32) (v39 : BitVec 32) (k0_hw52 : k0_chk52 v1 v39), ∀ (k0_h10 : k0_cond10 v1 = 1#1), (k0_t8_loop v39).OK := fun v1 v39 k0_hw52 k0_h10 => k0_hw52.2.2.2.1 k0_h10
theorem k0_mult8_dvd : ∀ (v1 : BitVec 32) (v39 : BitVec 32) (k0_hw52 : k0_chk52 v1 v39) (k0_t8 : Fin (k0_t8_loop v39).trips), ∀ (k0_h10 : k0_cond10 v1 = 1#1), 256 ∣ (k0_mult8 v39 k0_t8).toNat := fun v1 v39 k0_hw52 k0_t8 k0_h10 => k0_hw52.2.2.2.2.1 k0_t8 k0_h10
theorem k0_off114_inb : ∀ (v1 : BitVec 32) (v39 : BitVec 32) (k0_hw52 : k0_chk52 v1 v39) (k0_t8 : Fin (k0_t8_loop v39).trips), ∀ (k0_h10 : k0_cond10 v1 = 1#1), ∀ a, (k0_off114 v39 k0_t8) a + S256x128.size a ≤ S3072x128.size a := fun v1 v39 k0_hw52 k0_t8 k0_h10 => k0_hw52.2.2.2.2.2 k0_t8 k0_h10

def k0_off115 (i : grid0.Coords) : Fin 1 → Nat :=
  let arg0 : BitVec 32 := BitVec.ofNat 32 (i 0).val
  let c4_i32_47 : BitVec 32 := 4#32
  let v82 : BitVec 32 := Scalar.muli arg0 c4_i32_47
  let c0_i32_48 : BitVec 32 := 0#32
  let v83 : BitVec 32 := Scalar.addi v82 c0_i32_48
  let v84 : Index := Scalar.indexCast v83
  ![v84.toNat]
def k0_off116 (v39 : BitVec 32) (k0_t8 : Fin (k0_t8_loop v39).trips) (v85 : BitVec 32) : Fin 3 → Nat :=
  let c7_i32 : BitVec 32 := 7#32
  let v89 : BitVec 32 := Scalar.shrsi v85 c7_i32
  let v93 : Index := Scalar.indexCast v89
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t8
  let c256_i32 : BitVec 32 := 256#32
  let v47 : BitVec 32 := Scalar.muli arg17 c256_i32
  let v48 : BitVec 32 := v47
  let v94 : Index := Scalar.indexCast v48
  let c0_50 : Index := 0#32
  ![v93.toNat, v94.toNat, 0]

def k0_chk57 (v1 : BitVec 32) (v39 : BitVec 32) (k0_t8 : Fin (k0_t8_loop v39).trips) (v85 : BitVec 32) : Prop :=
  (∀ (k0_h10 : k0_cond10 v1 = 1#1), ∀ a, (k0_off116 v39 k0_t8 v85) a + S1x256x128.size a ≤ S16x3072x128.size a)
theorem k0_off116_inb : ∀ (v1 : BitVec 32) (v39 : BitVec 32) (k0_t8 : Fin (k0_t8_loop v39).trips) (v85 : BitVec 32) (k0_hw57 : k0_chk57 v1 v39 k0_t8 v85), ∀ (k0_h10 : k0_cond10 v1 = 1#1), ∀ a, (k0_off116 v39 k0_t8 v85) a + S1x256x128.size a ≤ S16x3072x128.size a := fun v1 v39 k0_t8 v85 k0_hw57 k0_h10 => k0_hw57 k0_h10

def k0_off117 (i : grid0.Coords) : Fin 1 → Nat :=
  let arg0 : BitVec 32 := BitVec.ofNat 32 (i 0).val
  let c4_i32_52 : BitVec 32 := 4#32
  let v107 : BitVec 32 := Scalar.muli arg0 c4_i32_52
  let c1_i32_53 : BitVec 32 := 1#32
  let v108 : BitVec 32 := Scalar.addi v107 c1_i32_53
  let v109 : Index := Scalar.indexCast v108
  ![v109.toNat]
def k0_off118 (v39 : BitVec 32) (k0_t8 : Fin (k0_t8_loop v39).trips) (v110 : BitVec 32) : Fin 3 → Nat :=
  let c7_i32_55 : BitVec 32 := 7#32
  let v114 : BitVec 32 := Scalar.shrsi v110 c7_i32_55
  let v118 : Index := Scalar.indexCast v114
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t8
  let c256_i32 : BitVec 32 := 256#32
  let v47 : BitVec 32 := Scalar.muli arg17 c256_i32
  let v48 : BitVec 32 := v47
  let v119 : Index := Scalar.indexCast v48
  let c0_57 : Index := 0#32
  ![v118.toNat, v119.toNat, 0]

def k0_chk58 (v1 : BitVec 32) (v39 : BitVec 32) (k0_t8 : Fin (k0_t8_loop v39).trips) (v110 : BitVec 32) : Prop :=
  (∀ (k0_h10 : k0_cond10 v1 = 1#1), ∀ a, (k0_off118 v39 k0_t8 v110) a + S1x256x128.size a ≤ S16x3072x128.size a)
theorem k0_off118_inb : ∀ (v1 : BitVec 32) (v39 : BitVec 32) (k0_t8 : Fin (k0_t8_loop v39).trips) (v110 : BitVec 32) (k0_hw58 : k0_chk58 v1 v39 k0_t8 v110), ∀ (k0_h10 : k0_cond10 v1 = 1#1), ∀ a, (k0_off118 v39 k0_t8 v110) a + S1x256x128.size a ≤ S16x3072x128.size a := fun v1 v39 k0_t8 v110 k0_hw58 k0_h10 => k0_hw58 k0_h10

def k0_off119 (i : grid0.Coords) : Fin 1 → Nat :=
  let arg0 : BitVec 32 := BitVec.ofNat 32 (i 0).val
  let c4_i32_59 : BitVec 32 := 4#32
  let v132 : BitVec 32 := Scalar.muli arg0 c4_i32_59
  let c2_i32_60 : BitVec 32 := 2#32
  let v133 : BitVec 32 := Scalar.addi v132 c2_i32_60
  let v134 : Index := Scalar.indexCast v133
  ![v134.toNat]
def k0_off120 (v39 : BitVec 32) (k0_t8 : Fin (k0_t8_loop v39).trips) (v135 : BitVec 32) : Fin 3 → Nat :=
  let c7_i32_62 : BitVec 32 := 7#32
  let v139 : BitVec 32 := Scalar.shrsi v135 c7_i32_62
  let v143 : Index := Scalar.indexCast v139
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t8
  let c256_i32 : BitVec 32 := 256#32
  let v47 : BitVec 32 := Scalar.muli arg17 c256_i32
  let v48 : BitVec 32 := v47
  let v144 : Index := Scalar.indexCast v48
  let c0_64 : Index := 0#32
  ![v143.toNat, v144.toNat, 0]

def k0_chk59 (v1 : BitVec 32) (v39 : BitVec 32) (k0_t8 : Fin (k0_t8_loop v39).trips) (v135 : BitVec 32) : Prop :=
  (∀ (k0_h10 : k0_cond10 v1 = 1#1), ∀ a, (k0_off120 v39 k0_t8 v135) a + S1x256x128.size a ≤ S16x3072x128.size a)
theorem k0_off120_inb : ∀ (v1 : BitVec 32) (v39 : BitVec 32) (k0_t8 : Fin (k0_t8_loop v39).trips) (v135 : BitVec 32) (k0_hw59 : k0_chk59 v1 v39 k0_t8 v135), ∀ (k0_h10 : k0_cond10 v1 = 1#1), ∀ a, (k0_off120 v39 k0_t8 v135) a + S1x256x128.size a ≤ S16x3072x128.size a := fun v1 v39 k0_t8 v135 k0_hw59 k0_h10 => k0_hw59 k0_h10

def k0_off121 (i : grid0.Coords) : Fin 1 → Nat :=
  let arg0 : BitVec 32 := BitVec.ofNat 32 (i 0).val
  let c4_i32_66 : BitVec 32 := 4#32
  let v157 : BitVec 32 := Scalar.muli arg0 c4_i32_66
  let c3_i32_67 : BitVec 32 := 3#32
  let v158 : BitVec 32 := Scalar.addi v157 c3_i32_67
  let v159 : Index := Scalar.indexCast v158
  ![v159.toNat]
def k0_off122 (v39 : BitVec 32) (k0_t8 : Fin (k0_t8_loop v39).trips) (v160 : BitVec 32) : Fin 3 → Nat :=
  let c7_i32_69 : BitVec 32 := 7#32
  let v164 : BitVec 32 := Scalar.shrsi v160 c7_i32_69
  let v168 : Index := Scalar.indexCast v164
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t8
  let c256_i32 : BitVec 32 := 256#32
  let v47 : BitVec 32 := Scalar.muli arg17 c256_i32
  let v48 : BitVec 32 := v47
  let v169 : Index := Scalar.indexCast v48
  let c0_71 : Index := 0#32
  ![v168.toNat, v169.toNat, 0]

def k0_chk60 (v1 : BitVec 32) (v39 : BitVec 32) (k0_t8 : Fin (k0_t8_loop v39).trips) (v160 : BitVec 32) : Prop :=
  (∀ (k0_h10 : k0_cond10 v1 = 1#1), ∀ a, (k0_off122 v39 k0_t8 v160) a + S1x256x128.size a ≤ S16x3072x128.size a)
theorem k0_off122_inb : ∀ (v1 : BitVec 32) (v39 : BitVec 32) (k0_t8 : Fin (k0_t8_loop v39).trips) (v160 : BitVec 32) (k0_hw60 : k0_chk60 v1 v39 k0_t8 v160), ∀ (k0_h10 : k0_cond10 v1 = 1#1), ∀ a, (k0_off122 v39 k0_t8 v160) a + S1x256x128.size a ≤ S16x3072x128.size a := fun v1 v39 k0_t8 v160 k0_hw60 k0_h10 => k0_hw60 k0_h10

@[reducible] def k0_t9_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_20 : BitVec 32 := 1#32
  ⟨c0_i32_17, v44, c1_i32_20⟩
def k0_cond11 (v1 : BitVec 32) : BitVec 1 :=
  let c5_i32_14 : BitVec 32 := 5#32
  let v33 : BitVec 1 := Scalar.cmpi .eq v1 c5_i32_14
  let v34 : BitVec 32 := Scalar.extui v33
  let c0_i32_15 : BitVec 32 := 0#32
  let v35 : BitVec 1 := Scalar.cmpi .ne v34 c0_i32_15
  v35

def k0_mult9 (v39 : BitVec 32) (k0_t9 : Fin (k0_t9_loop v39).trips) : BitVec 32 :=
  let c0_i32_17 : BitVec 32 := 0#32
  let c1_i32_20 : BitVec 32 := 1#32
  let arg17 : BitVec 32 := Scf.iv c0_i32_17 c1_i32_20 k0_t9
  let c256_i32 : BitVec 32 := 256#32
  let v47 : BitVec 32 := Scalar.muli arg17 c256_i32
  v47
def k0_off123 (v39 : BitVec 32) (k0_t9 : Fin (k0_t9_loop v39).trips) : Fin 2 → Nat :=
  let c0_i32_17 : BitVec 32 := 0#32
  let c1_i32_20 : BitVec 32 := 1#32
  let arg17 : BitVec 32 := Scf.iv c0_i32_17 c1_i32_20 k0_t9
  let c256_i32 : BitVec 32 := 256#32
  let v47 : BitVec 32 := Scalar.muli arg17 c256_i32
  let v48 : BitVec 32 := v47
  let v49 : Index := Scalar.indexCast v48
  let c0_22 : Index := 0#32
  ![v49.toNat, 0]
def k0_off124 (i : grid0.Coords) : Fin 1 → Nat :=
  let arg0 : BitVec 32 := BitVec.ofNat 32 (i 0).val
  let c4_i32_53 : BitVec 32 := 4#32
  let v90 : BitVec 32 := Scalar.muli arg0 c4_i32_53
  let c0_i32_54 : BitVec 32 := 0#32
  let v91 : BitVec 32 := Scalar.addi v90 c0_i32_54
  let v92 : Index := Scalar.indexCast v91
  ![v92.toNat]
def k0_off125 (v39 : BitVec 32) (k0_t9 : Fin (k0_t9_loop v39).trips) (v93 : BitVec 32) : Fin 3 → Nat :=
  let c7_i32 : BitVec 32 := 7#32
  let v97 : BitVec 32 := Scalar.shrsi v93 c7_i32
  let v101 : Index := Scalar.indexCast v97
  let c0_i32_17 : BitVec 32 := 0#32
  let c1_i32_20 : BitVec 32 := 1#32
  let arg17 : BitVec 32 := Scf.iv c0_i32_17 c1_i32_20 k0_t9
  let c256_i32 : BitVec 32 := 256#32
  let v47 : BitVec 32 := Scalar.muli arg17 c256_i32
  let v48 : BitVec 32 := v47
  let v102 : Index := Scalar.indexCast v48
  let c0_56 : Index := 0#32
  ![v101.toNat, v102.toNat, 0]

def k0_chk62 (v1 : BitVec 32) (v39 : BitVec 32) (k0_t9 : Fin (k0_t9_loop v39).trips) (v93 : BitVec 32) : Prop :=
  (∀ (k0_h11 : k0_cond11 v1 = 1#1), ∀ a, (k0_off125 v39 k0_t9 v93) a + S1x256x128.size a ≤ S16x3072x128.size a)
theorem k0_off125_inb : ∀ (v1 : BitVec 32) (v39 : BitVec 32) (k0_t9 : Fin (k0_t9_loop v39).trips) (v93 : BitVec 32) (k0_hw62 : k0_chk62 v1 v39 k0_t9 v93), ∀ (k0_h11 : k0_cond11 v1 = 1#1), ∀ a, (k0_off125 v39 k0_t9 v93) a + S1x256x128.size a ≤ S16x3072x128.size a := fun v1 v39 k0_t9 v93 k0_hw62 k0_h11 => k0_hw62 k0_h11

def k0_off126 (i : grid0.Coords) : Fin 1 → Nat :=
  let arg0 : BitVec 32 := BitVec.ofNat 32 (i 0).val
  let c4_i32_58 : BitVec 32 := 4#32
  let v115 : BitVec 32 := Scalar.muli arg0 c4_i32_58
  let c1_i32_59 : BitVec 32 := 1#32
  let v116 : BitVec 32 := Scalar.addi v115 c1_i32_59
  let v117 : Index := Scalar.indexCast v116
  ![v117.toNat]
def k0_off127 (v39 : BitVec 32) (k0_t9 : Fin (k0_t9_loop v39).trips) (v118 : BitVec 32) : Fin 3 → Nat :=
  let c7_i32_61 : BitVec 32 := 7#32
  let v122 : BitVec 32 := Scalar.shrsi v118 c7_i32_61
  let v126 : Index := Scalar.indexCast v122
  let c0_i32_17 : BitVec 32 := 0#32
  let c1_i32_20 : BitVec 32 := 1#32
  let arg17 : BitVec 32 := Scf.iv c0_i32_17 c1_i32_20 k0_t9
  let c256_i32 : BitVec 32 := 256#32
  let v47 : BitVec 32 := Scalar.muli arg17 c256_i32
  let v48 : BitVec 32 := v47
  let v127 : Index := Scalar.indexCast v48
  let c0_63 : Index := 0#32
  ![v126.toNat, v127.toNat, 0]

def k0_chk63 (v1 : BitVec 32) (v39 : BitVec 32) (k0_t9 : Fin (k0_t9_loop v39).trips) (v118 : BitVec 32) : Prop :=
  (∀ (k0_h11 : k0_cond11 v1 = 1#1), ∀ a, (k0_off127 v39 k0_t9 v118) a + S1x256x128.size a ≤ S16x3072x128.size a)
theorem k0_off127_inb : ∀ (v1 : BitVec 32) (v39 : BitVec 32) (k0_t9 : Fin (k0_t9_loop v39).trips) (v118 : BitVec 32) (k0_hw63 : k0_chk63 v1 v39 k0_t9 v118), ∀ (k0_h11 : k0_cond11 v1 = 1#1), ∀ a, (k0_off127 v39 k0_t9 v118) a + S1x256x128.size a ≤ S16x3072x128.size a := fun v1 v39 k0_t9 v118 k0_hw63 k0_h11 => k0_hw63 k0_h11

def k0_off128 (i : grid0.Coords) : Fin 1 → Nat :=
  let arg0 : BitVec 32 := BitVec.ofNat 32 (i 0).val
  let c4_i32_65 : BitVec 32 := 4#32
  let v140 : BitVec 32 := Scalar.muli arg0 c4_i32_65
  let c2_i32_66 : BitVec 32 := 2#32
  let v141 : BitVec 32 := Scalar.addi v140 c2_i32_66
  let v142 : Index := Scalar.indexCast v141
  ![v142.toNat]
def k0_off129 (v39 : BitVec 32) (k0_t9 : Fin (k0_t9_loop v39).trips) (v143 : BitVec 32) : Fin 3 → Nat :=
  let c7_i32_68 : BitVec 32 := 7#32
  let v147 : BitVec 32 := Scalar.shrsi v143 c7_i32_68
  let v151 : Index := Scalar.indexCast v147
  let c0_i32_17 : BitVec 32 := 0#32
  let c1_i32_20 : BitVec 32 := 1#32
  let arg17 : BitVec 32 := Scf.iv c0_i32_17 c1_i32_20 k0_t9
  let c256_i32 : BitVec 32 := 256#32
  let v47 : BitVec 32 := Scalar.muli arg17 c256_i32
  let v48 : BitVec 32 := v47
  let v152 : Index := Scalar.indexCast v48
  let c0_70 : Index := 0#32
  ![v151.toNat, v152.toNat, 0]

def k0_chk64 (v1 : BitVec 32) (v39 : BitVec 32) (k0_t9 : Fin (k0_t9_loop v39).trips) (v143 : BitVec 32) : Prop :=
  (∀ (k0_h11 : k0_cond11 v1 = 1#1), ∀ a, (k0_off129 v39 k0_t9 v143) a + S1x256x128.size a ≤ S16x3072x128.size a)
theorem k0_off129_inb : ∀ (v1 : BitVec 32) (v39 : BitVec 32) (k0_t9 : Fin (k0_t9_loop v39).trips) (v143 : BitVec 32) (k0_hw64 : k0_chk64 v1 v39 k0_t9 v143), ∀ (k0_h11 : k0_cond11 v1 = 1#1), ∀ a, (k0_off129 v39 k0_t9 v143) a + S1x256x128.size a ≤ S16x3072x128.size a := fun v1 v39 k0_t9 v143 k0_hw64 k0_h11 => k0_hw64 k0_h11

def k0_off130 (i : grid0.Coords) : Fin 1 → Nat :=
  let arg0 : BitVec 32 := BitVec.ofNat 32 (i 0).val
  let c4_i32_72 : BitVec 32 := 4#32
  let v165 : BitVec 32 := Scalar.muli arg0 c4_i32_72
  let c3_i32_73 : BitVec 32 := 3#32
  let v166 : BitVec 32 := Scalar.addi v165 c3_i32_73
  let v167 : Index := Scalar.indexCast v166
  ![v167.toNat]
def k0_off131 (v39 : BitVec 32) (k0_t9 : Fin (k0_t9_loop v39).trips) (v168 : BitVec 32) : Fin 3 → Nat :=
  let c7_i32_75 : BitVec 32 := 7#32
  let v172 : BitVec 32 := Scalar.shrsi v168 c7_i32_75
  let v176 : Index := Scalar.indexCast v172
  let c0_i32_17 : BitVec 32 := 0#32
  let c1_i32_20 : BitVec 32 := 1#32
  let arg17 : BitVec 32 := Scf.iv c0_i32_17 c1_i32_20 k0_t9
  let c256_i32 : BitVec 32 := 256#32
  let v47 : BitVec 32 := Scalar.muli arg17 c256_i32
  let v48 : BitVec 32 := v47
  let v177 : Index := Scalar.indexCast v48
  let c0_77 : Index := 0#32
  ![v176.toNat, v177.toNat, 0]

def k0_chk65 (v1 : BitVec 32) (v39 : BitVec 32) (k0_t9 : Fin (k0_t9_loop v39).trips) (v168 : BitVec 32) : Prop :=
  (∀ (k0_h11 : k0_cond11 v1 = 1#1), ∀ a, (k0_off131 v39 k0_t9 v168) a + S1x256x128.size a ≤ S16x3072x128.size a)
theorem k0_off131_inb : ∀ (v1 : BitVec 32) (v39 : BitVec 32) (k0_t9 : Fin (k0_t9_loop v39).trips) (v168 : BitVec 32) (k0_hw65 : k0_chk65 v1 v39 k0_t9 v168), ∀ (k0_h11 : k0_cond11 v1 = 1#1), ∀ a, (k0_off131 v39 k0_t9 v168) a + S1x256x128.size a ≤ S16x3072x128.size a := fun v1 v39 k0_t9 v168 k0_hw65 k0_h11 => k0_hw65 k0_h11

@[reducible] def k0_t10_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let v41 : BitVec 32 := Scalar.addi c0_i32_17 v40
  let c1_i32_21 : BitVec 32 := 1#32
  ⟨v44, v41, c1_i32_21⟩
def k0_mult10 (v39 : BitVec 32) (k0_t10 : Fin (k0_t10_loop v39).trips) : BitVec 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t10
  let c256_i32 : BitVec 32 := 256#32
  let v47 : BitVec 32 := Scalar.muli arg17 c256_i32
  v47
def k0_off132 (v39 : BitVec 32) (k0_t10 : Fin (k0_t10_loop v39).trips) : Fin 2 → Nat :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t10
  let c256_i32 : BitVec 32 := 256#32
  let v47 : BitVec 32 := Scalar.muli arg17 c256_i32
  let v48 : BitVec 32 := v47
  let v49 : Index := Scalar.indexCast v48
  let c0_22 : Index := 0#32
  ![v49.toNat, 0]

def k0_chk61 (v1 : BitVec 32) (v39 : BitVec 32) : Prop :=
  (∀ (k0_h11 : k0_cond11 v1 = 1#1), (k0_t9_loop v39).OK) ∧
  (∀ k0_t9 : Fin (k0_t9_loop v39).trips, ∀ (k0_h11 : k0_cond11 v1 = 1#1), 256 ∣ (k0_mult9 v39 k0_t9).toNat) ∧
  (∀ k0_t9 : Fin (k0_t9_loop v39).trips, ∀ (k0_h11 : k0_cond11 v1 = 1#1), ∀ a, (k0_off123 v39 k0_t9) a + S256x128.size a ≤ S3072x128.size a) ∧
  (∀ (k0_h11 : k0_cond11 v1 = 1#1), (k0_t10_loop v39).OK) ∧
  (∀ k0_t10 : Fin (k0_t10_loop v39).trips, ∀ (k0_h11 : k0_cond11 v1 = 1#1), 256 ∣ (k0_mult10 v39 k0_t10).toNat) ∧
  (∀ k0_t10 : Fin (k0_t10_loop v39).trips, ∀ (k0_h11 : k0_cond11 v1 = 1#1), ∀ a, (k0_off132 v39 k0_t10) a + S256x128.size a ≤ S3072x128.size a)
theorem k0_t9_ok : ∀ (v1 : BitVec 32) (v39 : BitVec 32) (k0_hw61 : k0_chk61 v1 v39), ∀ (k0_h11 : k0_cond11 v1 = 1#1), (k0_t9_loop v39).OK := fun v1 v39 k0_hw61 k0_h11 => k0_hw61.1 k0_h11
theorem k0_mult9_dvd : ∀ (v1 : BitVec 32) (v39 : BitVec 32) (k0_hw61 : k0_chk61 v1 v39) (k0_t9 : Fin (k0_t9_loop v39).trips), ∀ (k0_h11 : k0_cond11 v1 = 1#1), 256 ∣ (k0_mult9 v39 k0_t9).toNat := fun v1 v39 k0_hw61 k0_t9 k0_h11 => k0_hw61.2.1 k0_t9 k0_h11
theorem k0_off123_inb : ∀ (v1 : BitVec 32) (v39 : BitVec 32) (k0_hw61 : k0_chk61 v1 v39) (k0_t9 : Fin (k0_t9_loop v39).trips), ∀ (k0_h11 : k0_cond11 v1 = 1#1), ∀ a, (k0_off123 v39 k0_t9) a + S256x128.size a ≤ S3072x128.size a := fun v1 v39 k0_hw61 k0_t9 k0_h11 => k0_hw61.2.2.1 k0_t9 k0_h11
theorem k0_t10_ok : ∀ (v1 : BitVec 32) (v39 : BitVec 32) (k0_hw61 : k0_chk61 v1 v39), ∀ (k0_h11 : k0_cond11 v1 = 1#1), (k0_t10_loop v39).OK := fun v1 v39 k0_hw61 k0_h11 => k0_hw61.2.2.2.1 k0_h11
theorem k0_mult10_dvd : ∀ (v1 : BitVec 32) (v39 : BitVec 32) (k0_hw61 : k0_chk61 v1 v39) (k0_t10 : Fin (k0_t10_loop v39).trips), ∀ (k0_h11 : k0_cond11 v1 = 1#1), 256 ∣ (k0_mult10 v39 k0_t10).toNat := fun v1 v39 k0_hw61 k0_t10 k0_h11 => k0_hw61.2.2.2.2.1 k0_t10 k0_h11
theorem k0_off132_inb : ∀ (v1 : BitVec 32) (v39 : BitVec 32) (k0_hw61 : k0_chk61 v1 v39) (k0_t10 : Fin (k0_t10_loop v39).trips), ∀ (k0_h11 : k0_cond11 v1 = 1#1), ∀ a, (k0_off132 v39 k0_t10) a + S256x128.size a ≤ S3072x128.size a := fun v1 v39 k0_hw61 k0_t10 k0_h11 => k0_hw61.2.2.2.2.2 k0_t10 k0_h11

def k0_off133 (i : grid0.Coords) : Fin 1 → Nat :=
  let arg0 : BitVec 32 := BitVec.ofNat 32 (i 0).val
  let c4_i32_53 : BitVec 32 := 4#32
  let v90 : BitVec 32 := Scalar.muli arg0 c4_i32_53
  let c0_i32_54 : BitVec 32 := 0#32
  let v91 : BitVec 32 := Scalar.addi v90 c0_i32_54
  let v92 : Index := Scalar.indexCast v91
  ![v92.toNat]
def k0_off134 (v39 : BitVec 32) (k0_t10 : Fin (k0_t10_loop v39).trips) (v93 : BitVec 32) : Fin 3 → Nat :=
  let c7_i32 : BitVec 32 := 7#32
  let v97 : BitVec 32 := Scalar.shrsi v93 c7_i32
  let v101 : Index := Scalar.indexCast v97
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t10
  let c256_i32 : BitVec 32 := 256#32
  let v47 : BitVec 32 := Scalar.muli arg17 c256_i32
  let v48 : BitVec 32 := v47
  let v102 : Index := Scalar.indexCast v48
  let c0_56 : Index := 0#32
  ![v101.toNat, v102.toNat, 0]

def k0_chk66 (v1 : BitVec 32) (v39 : BitVec 32) (k0_t10 : Fin (k0_t10_loop v39).trips) (v93 : BitVec 32) : Prop :=
  (∀ (k0_h11 : k0_cond11 v1 = 1#1), ∀ a, (k0_off134 v39 k0_t10 v93) a + S1x256x128.size a ≤ S16x3072x128.size a)
theorem k0_off134_inb : ∀ (v1 : BitVec 32) (v39 : BitVec 32) (k0_t10 : Fin (k0_t10_loop v39).trips) (v93 : BitVec 32) (k0_hw66 : k0_chk66 v1 v39 k0_t10 v93), ∀ (k0_h11 : k0_cond11 v1 = 1#1), ∀ a, (k0_off134 v39 k0_t10 v93) a + S1x256x128.size a ≤ S16x3072x128.size a := fun v1 v39 k0_t10 v93 k0_hw66 k0_h11 => k0_hw66 k0_h11

def k0_off135 (i : grid0.Coords) : Fin 1 → Nat :=
  let arg0 : BitVec 32 := BitVec.ofNat 32 (i 0).val
  let c4_i32_58 : BitVec 32 := 4#32
  let v115 : BitVec 32 := Scalar.muli arg0 c4_i32_58
  let c1_i32_59 : BitVec 32 := 1#32
  let v116 : BitVec 32 := Scalar.addi v115 c1_i32_59
  let v117 : Index := Scalar.indexCast v116
  ![v117.toNat]
def k0_off136 (v39 : BitVec 32) (k0_t10 : Fin (k0_t10_loop v39).trips) (v118 : BitVec 32) : Fin 3 → Nat :=
  let c7_i32_61 : BitVec 32 := 7#32
  let v122 : BitVec 32 := Scalar.shrsi v118 c7_i32_61
  let v126 : Index := Scalar.indexCast v122
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t10
  let c256_i32 : BitVec 32 := 256#32
  let v47 : BitVec 32 := Scalar.muli arg17 c256_i32
  let v48 : BitVec 32 := v47
  let v127 : Index := Scalar.indexCast v48
  let c0_63 : Index := 0#32
  ![v126.toNat, v127.toNat, 0]

def k0_chk67 (v1 : BitVec 32) (v39 : BitVec 32) (k0_t10 : Fin (k0_t10_loop v39).trips) (v118 : BitVec 32) : Prop :=
  (∀ (k0_h11 : k0_cond11 v1 = 1#1), ∀ a, (k0_off136 v39 k0_t10 v118) a + S1x256x128.size a ≤ S16x3072x128.size a)
theorem k0_off136_inb : ∀ (v1 : BitVec 32) (v39 : BitVec 32) (k0_t10 : Fin (k0_t10_loop v39).trips) (v118 : BitVec 32) (k0_hw67 : k0_chk67 v1 v39 k0_t10 v118), ∀ (k0_h11 : k0_cond11 v1 = 1#1), ∀ a, (k0_off136 v39 k0_t10 v118) a + S1x256x128.size a ≤ S16x3072x128.size a := fun v1 v39 k0_t10 v118 k0_hw67 k0_h11 => k0_hw67 k0_h11

def k0_off137 (i : grid0.Coords) : Fin 1 → Nat :=
  let arg0 : BitVec 32 := BitVec.ofNat 32 (i 0).val
  let c4_i32_65 : BitVec 32 := 4#32
  let v140 : BitVec 32 := Scalar.muli arg0 c4_i32_65
  let c2_i32_66 : BitVec 32 := 2#32
  let v141 : BitVec 32 := Scalar.addi v140 c2_i32_66
  let v142 : Index := Scalar.indexCast v141
  ![v142.toNat]
def k0_off138 (v39 : BitVec 32) (k0_t10 : Fin (k0_t10_loop v39).trips) (v143 : BitVec 32) : Fin 3 → Nat :=
  let c7_i32_68 : BitVec 32 := 7#32
  let v147 : BitVec 32 := Scalar.shrsi v143 c7_i32_68
  let v151 : Index := Scalar.indexCast v147
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t10
  let c256_i32 : BitVec 32 := 256#32
  let v47 : BitVec 32 := Scalar.muli arg17 c256_i32
  let v48 : BitVec 32 := v47
  let v152 : Index := Scalar.indexCast v48
  let c0_70 : Index := 0#32
  ![v151.toNat, v152.toNat, 0]

def k0_chk68 (v1 : BitVec 32) (v39 : BitVec 32) (k0_t10 : Fin (k0_t10_loop v39).trips) (v143 : BitVec 32) : Prop :=
  (∀ (k0_h11 : k0_cond11 v1 = 1#1), ∀ a, (k0_off138 v39 k0_t10 v143) a + S1x256x128.size a ≤ S16x3072x128.size a)
theorem k0_off138_inb : ∀ (v1 : BitVec 32) (v39 : BitVec 32) (k0_t10 : Fin (k0_t10_loop v39).trips) (v143 : BitVec 32) (k0_hw68 : k0_chk68 v1 v39 k0_t10 v143), ∀ (k0_h11 : k0_cond11 v1 = 1#1), ∀ a, (k0_off138 v39 k0_t10 v143) a + S1x256x128.size a ≤ S16x3072x128.size a := fun v1 v39 k0_t10 v143 k0_hw68 k0_h11 => k0_hw68 k0_h11

def k0_off139 (i : grid0.Coords) : Fin 1 → Nat :=
  let arg0 : BitVec 32 := BitVec.ofNat 32 (i 0).val
  let c4_i32_72 : BitVec 32 := 4#32
  let v165 : BitVec 32 := Scalar.muli arg0 c4_i32_72
  let c3_i32_73 : BitVec 32 := 3#32
  let v166 : BitVec 32 := Scalar.addi v165 c3_i32_73
  let v167 : Index := Scalar.indexCast v166
  ![v167.toNat]
def k0_off140 (v39 : BitVec 32) (k0_t10 : Fin (k0_t10_loop v39).trips) (v168 : BitVec 32) : Fin 3 → Nat :=
  let c7_i32_75 : BitVec 32 := 7#32
  let v172 : BitVec 32 := Scalar.shrsi v168 c7_i32_75
  let v176 : Index := Scalar.indexCast v172
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t10
  let c256_i32 : BitVec 32 := 256#32
  let v47 : BitVec 32 := Scalar.muli arg17 c256_i32
  let v48 : BitVec 32 := v47
  let v177 : Index := Scalar.indexCast v48
  let c0_77 : Index := 0#32
  ![v176.toNat, v177.toNat, 0]

def k0_chk69 (v1 : BitVec 32) (v39 : BitVec 32) (k0_t10 : Fin (k0_t10_loop v39).trips) (v168 : BitVec 32) : Prop :=
  (∀ (k0_h11 : k0_cond11 v1 = 1#1), ∀ a, (k0_off140 v39 k0_t10 v168) a + S1x256x128.size a ≤ S16x3072x128.size a)
theorem k0_off140_inb : ∀ (v1 : BitVec 32) (v39 : BitVec 32) (k0_t10 : Fin (k0_t10_loop v39).trips) (v168 : BitVec 32) (k0_hw69 : k0_chk69 v1 v39 k0_t10 v168), ∀ (k0_h11 : k0_cond11 v1 = 1#1), ∀ a, (k0_off140 v39 k0_t10 v168) a + S1x256x128.size a ≤ S16x3072x128.size a := fun v1 v39 k0_t10 v168 k0_hw69 k0_h11 => k0_hw69 k0_h11

@[reducible] def k0_t11_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_20 : BitVec 32 := 1#32
  ⟨c0_i32_17, v44, c1_i32_20⟩
def k0_cond12 (v1 : BitVec 32) : BitVec 1 :=
  let c6_i32 : BitVec 32 := 6#32
  let v36 : BitVec 1 := Scalar.cmpi .eq v1 c6_i32
  let v37 : BitVec 32 := Scalar.extui v36
  let c0_i32_16 : BitVec 32 := 0#32
  let v38 : BitVec 1 := Scalar.cmpi .ne v37 c0_i32_16
  v38

def k0_mult11 (v39 : BitVec 32) (k0_t11 : Fin (k0_t11_loop v39).trips) : BitVec 32 :=
  let c0_i32_17 : BitVec 32 := 0#32
  let c1_i32_20 : BitVec 32 := 1#32
  let arg17 : BitVec 32 := Scf.iv c0_i32_17 c1_i32_20 k0_t11
  let c256_i32 : BitVec 32 := 256#32
  let v47 : BitVec 32 := Scalar.muli arg17 c256_i32
  v47
def k0_off141 (v39 : BitVec 32) (k0_t11 : Fin (k0_t11_loop v39).trips) : Fin 2 → Nat :=
  let c0_i32_17 : BitVec 32 := 0#32
  let c1_i32_20 : BitVec 32 := 1#32
  let arg17 : BitVec 32 := Scf.iv c0_i32_17 c1_i32_20 k0_t11
  let c256_i32 : BitVec 32 := 256#32
  let v47 : BitVec 32 := Scalar.muli arg17 c256_i32
  let v48 : BitVec 32 := v47
  let v49 : Index := Scalar.indexCast v48
  let c0_22 : Index := 0#32
  ![v49.toNat, 0]
def k0_off142 (i : grid0.Coords) : Fin 1 → Nat :=
  let arg0 : BitVec 32 := BitVec.ofNat 32 (i 0).val
  let c4_i32_59 : BitVec 32 := 4#32
  let v98 : BitVec 32 := Scalar.muli arg0 c4_i32_59
  let c0_i32_60 : BitVec 32 := 0#32
  let v99 : BitVec 32 := Scalar.addi v98 c0_i32_60
  let v100 : Index := Scalar.indexCast v99
  ![v100.toNat]
def k0_off143 (v39 : BitVec 32) (k0_t11 : Fin (k0_t11_loop v39).trips) (v101 : BitVec 32) : Fin 3 → Nat :=
  let c7_i32 : BitVec 32 := 7#32
  let v105 : BitVec 32 := Scalar.shrsi v101 c7_i32
  let v109 : Index := Scalar.indexCast v105
  let c0_i32_17 : BitVec 32 := 0#32
  let c1_i32_20 : BitVec 32 := 1#32
  let arg17 : BitVec 32 := Scf.iv c0_i32_17 c1_i32_20 k0_t11
  let c256_i32 : BitVec 32 := 256#32
  let v47 : BitVec 32 := Scalar.muli arg17 c256_i32
  let v48 : BitVec 32 := v47
  let v110 : Index := Scalar.indexCast v48
  let c0_62 : Index := 0#32
  ![v109.toNat, v110.toNat, 0]

def k0_chk71 (v1 : BitVec 32) (v39 : BitVec 32) (k0_t11 : Fin (k0_t11_loop v39).trips) (v101 : BitVec 32) : Prop :=
  (∀ (k0_h12 : k0_cond12 v1 = 1#1), ∀ a, (k0_off143 v39 k0_t11 v101) a + S1x256x128.size a ≤ S16x3072x128.size a)
theorem k0_off143_inb : ∀ (v1 : BitVec 32) (v39 : BitVec 32) (k0_t11 : Fin (k0_t11_loop v39).trips) (v101 : BitVec 32) (k0_hw71 : k0_chk71 v1 v39 k0_t11 v101), ∀ (k0_h12 : k0_cond12 v1 = 1#1), ∀ a, (k0_off143 v39 k0_t11 v101) a + S1x256x128.size a ≤ S16x3072x128.size a := fun v1 v39 k0_t11 v101 k0_hw71 k0_h12 => k0_hw71 k0_h12

def k0_off144 (i : grid0.Coords) : Fin 1 → Nat :=
  let arg0 : BitVec 32 := BitVec.ofNat 32 (i 0).val
  let c4_i32_64 : BitVec 32 := 4#32
  let v123 : BitVec 32 := Scalar.muli arg0 c4_i32_64
  let c1_i32_65 : BitVec 32 := 1#32
  let v124 : BitVec 32 := Scalar.addi v123 c1_i32_65
  let v125 : Index := Scalar.indexCast v124
  ![v125.toNat]
def k0_off145 (v39 : BitVec 32) (k0_t11 : Fin (k0_t11_loop v39).trips) (v126 : BitVec 32) : Fin 3 → Nat :=
  let c7_i32_67 : BitVec 32 := 7#32
  let v130 : BitVec 32 := Scalar.shrsi v126 c7_i32_67
  let v134 : Index := Scalar.indexCast v130
  let c0_i32_17 : BitVec 32 := 0#32
  let c1_i32_20 : BitVec 32 := 1#32
  let arg17 : BitVec 32 := Scf.iv c0_i32_17 c1_i32_20 k0_t11
  let c256_i32 : BitVec 32 := 256#32
  let v47 : BitVec 32 := Scalar.muli arg17 c256_i32
  let v48 : BitVec 32 := v47
  let v135 : Index := Scalar.indexCast v48
  let c0_69 : Index := 0#32
  ![v134.toNat, v135.toNat, 0]

def k0_chk72 (v1 : BitVec 32) (v39 : BitVec 32) (k0_t11 : Fin (k0_t11_loop v39).trips) (v126 : BitVec 32) : Prop :=
  (∀ (k0_h12 : k0_cond12 v1 = 1#1), ∀ a, (k0_off145 v39 k0_t11 v126) a + S1x256x128.size a ≤ S16x3072x128.size a)
theorem k0_off145_inb : ∀ (v1 : BitVec 32) (v39 : BitVec 32) (k0_t11 : Fin (k0_t11_loop v39).trips) (v126 : BitVec 32) (k0_hw72 : k0_chk72 v1 v39 k0_t11 v126), ∀ (k0_h12 : k0_cond12 v1 = 1#1), ∀ a, (k0_off145 v39 k0_t11 v126) a + S1x256x128.size a ≤ S16x3072x128.size a := fun v1 v39 k0_t11 v126 k0_hw72 k0_h12 => k0_hw72 k0_h12

def k0_off146 (i : grid0.Coords) : Fin 1 → Nat :=
  let arg0 : BitVec 32 := BitVec.ofNat 32 (i 0).val
  let c4_i32_71 : BitVec 32 := 4#32
  let v148 : BitVec 32 := Scalar.muli arg0 c4_i32_71
  let c2_i32_72 : BitVec 32 := 2#32
  let v149 : BitVec 32 := Scalar.addi v148 c2_i32_72
  let v150 : Index := Scalar.indexCast v149
  ![v150.toNat]
def k0_off147 (v39 : BitVec 32) (k0_t11 : Fin (k0_t11_loop v39).trips) (v151 : BitVec 32) : Fin 3 → Nat :=
  let c7_i32_74 : BitVec 32 := 7#32
  let v155 : BitVec 32 := Scalar.shrsi v151 c7_i32_74
  let v159 : Index := Scalar.indexCast v155
  let c0_i32_17 : BitVec 32 := 0#32
  let c1_i32_20 : BitVec 32 := 1#32
  let arg17 : BitVec 32 := Scf.iv c0_i32_17 c1_i32_20 k0_t11
  let c256_i32 : BitVec 32 := 256#32
  let v47 : BitVec 32 := Scalar.muli arg17 c256_i32
  let v48 : BitVec 32 := v47
  let v160 : Index := Scalar.indexCast v48
  let c0_76 : Index := 0#32
  ![v159.toNat, v160.toNat, 0]

def k0_chk73 (v1 : BitVec 32) (v39 : BitVec 32) (k0_t11 : Fin (k0_t11_loop v39).trips) (v151 : BitVec 32) : Prop :=
  (∀ (k0_h12 : k0_cond12 v1 = 1#1), ∀ a, (k0_off147 v39 k0_t11 v151) a + S1x256x128.size a ≤ S16x3072x128.size a)
theorem k0_off147_inb : ∀ (v1 : BitVec 32) (v39 : BitVec 32) (k0_t11 : Fin (k0_t11_loop v39).trips) (v151 : BitVec 32) (k0_hw73 : k0_chk73 v1 v39 k0_t11 v151), ∀ (k0_h12 : k0_cond12 v1 = 1#1), ∀ a, (k0_off147 v39 k0_t11 v151) a + S1x256x128.size a ≤ S16x3072x128.size a := fun v1 v39 k0_t11 v151 k0_hw73 k0_h12 => k0_hw73 k0_h12

def k0_off148 (i : grid0.Coords) : Fin 1 → Nat :=
  let arg0 : BitVec 32 := BitVec.ofNat 32 (i 0).val
  let c4_i32_78 : BitVec 32 := 4#32
  let v173 : BitVec 32 := Scalar.muli arg0 c4_i32_78
  let c3_i32_79 : BitVec 32 := 3#32
  let v174 : BitVec 32 := Scalar.addi v173 c3_i32_79
  let v175 : Index := Scalar.indexCast v174
  ![v175.toNat]
def k0_off149 (v39 : BitVec 32) (k0_t11 : Fin (k0_t11_loop v39).trips) (v176 : BitVec 32) : Fin 3 → Nat :=
  let c7_i32_81 : BitVec 32 := 7#32
  let v180 : BitVec 32 := Scalar.shrsi v176 c7_i32_81
  let v184 : Index := Scalar.indexCast v180
  let c0_i32_17 : BitVec 32 := 0#32
  let c1_i32_20 : BitVec 32 := 1#32
  let arg17 : BitVec 32 := Scf.iv c0_i32_17 c1_i32_20 k0_t11
  let c256_i32 : BitVec 32 := 256#32
  let v47 : BitVec 32 := Scalar.muli arg17 c256_i32
  let v48 : BitVec 32 := v47
  let v185 : Index := Scalar.indexCast v48
  let c0_83 : Index := 0#32
  ![v184.toNat, v185.toNat, 0]

def k0_chk74 (v1 : BitVec 32) (v39 : BitVec 32) (k0_t11 : Fin (k0_t11_loop v39).trips) (v176 : BitVec 32) : Prop :=
  (∀ (k0_h12 : k0_cond12 v1 = 1#1), ∀ a, (k0_off149 v39 k0_t11 v176) a + S1x256x128.size a ≤ S16x3072x128.size a)
theorem k0_off149_inb : ∀ (v1 : BitVec 32) (v39 : BitVec 32) (k0_t11 : Fin (k0_t11_loop v39).trips) (v176 : BitVec 32) (k0_hw74 : k0_chk74 v1 v39 k0_t11 v176), ∀ (k0_h12 : k0_cond12 v1 = 1#1), ∀ a, (k0_off149 v39 k0_t11 v176) a + S1x256x128.size a ≤ S16x3072x128.size a := fun v1 v39 k0_t11 v176 k0_hw74 k0_h12 => k0_hw74 k0_h12

@[reducible] def k0_t12_loop (v39 : BitVec 32) : Scf.Loop 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let v41 : BitVec 32 := Scalar.addi c0_i32_17 v40
  let c1_i32_21 : BitVec 32 := 1#32
  ⟨v44, v41, c1_i32_21⟩
def k0_mult12 (v39 : BitVec 32) (k0_t12 : Fin (k0_t12_loop v39).trips) : BitVec 32 :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t12
  let c256_i32 : BitVec 32 := 256#32
  let v47 : BitVec 32 := Scalar.muli arg17 c256_i32
  v47
def k0_off150 (v39 : BitVec 32) (k0_t12 : Fin (k0_t12_loop v39).trips) : Fin 2 → Nat :=
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t12
  let c256_i32 : BitVec 32 := 256#32
  let v47 : BitVec 32 := Scalar.muli arg17 c256_i32
  let v48 : BitVec 32 := v47
  let v49 : Index := Scalar.indexCast v48
  let c0_22 : Index := 0#32
  ![v49.toNat, 0]

def k0_chk70 (v1 : BitVec 32) (v39 : BitVec 32) : Prop :=
  (∀ (k0_h12 : k0_cond12 v1 = 1#1), (k0_t11_loop v39).OK) ∧
  (∀ k0_t11 : Fin (k0_t11_loop v39).trips, ∀ (k0_h12 : k0_cond12 v1 = 1#1), 256 ∣ (k0_mult11 v39 k0_t11).toNat) ∧
  (∀ k0_t11 : Fin (k0_t11_loop v39).trips, ∀ (k0_h12 : k0_cond12 v1 = 1#1), ∀ a, (k0_off141 v39 k0_t11) a + S256x128.size a ≤ S3072x128.size a) ∧
  (∀ (k0_h12 : k0_cond12 v1 = 1#1), (k0_t12_loop v39).OK) ∧
  (∀ k0_t12 : Fin (k0_t12_loop v39).trips, ∀ (k0_h12 : k0_cond12 v1 = 1#1), 256 ∣ (k0_mult12 v39 k0_t12).toNat) ∧
  (∀ k0_t12 : Fin (k0_t12_loop v39).trips, ∀ (k0_h12 : k0_cond12 v1 = 1#1), ∀ a, (k0_off150 v39 k0_t12) a + S256x128.size a ≤ S3072x128.size a)
theorem k0_t11_ok : ∀ (v1 : BitVec 32) (v39 : BitVec 32) (k0_hw70 : k0_chk70 v1 v39), ∀ (k0_h12 : k0_cond12 v1 = 1#1), (k0_t11_loop v39).OK := fun v1 v39 k0_hw70 k0_h12 => k0_hw70.1 k0_h12
theorem k0_mult11_dvd : ∀ (v1 : BitVec 32) (v39 : BitVec 32) (k0_hw70 : k0_chk70 v1 v39) (k0_t11 : Fin (k0_t11_loop v39).trips), ∀ (k0_h12 : k0_cond12 v1 = 1#1), 256 ∣ (k0_mult11 v39 k0_t11).toNat := fun v1 v39 k0_hw70 k0_t11 k0_h12 => k0_hw70.2.1 k0_t11 k0_h12
theorem k0_off141_inb : ∀ (v1 : BitVec 32) (v39 : BitVec 32) (k0_hw70 : k0_chk70 v1 v39) (k0_t11 : Fin (k0_t11_loop v39).trips), ∀ (k0_h12 : k0_cond12 v1 = 1#1), ∀ a, (k0_off141 v39 k0_t11) a + S256x128.size a ≤ S3072x128.size a := fun v1 v39 k0_hw70 k0_t11 k0_h12 => k0_hw70.2.2.1 k0_t11 k0_h12
theorem k0_t12_ok : ∀ (v1 : BitVec 32) (v39 : BitVec 32) (k0_hw70 : k0_chk70 v1 v39), ∀ (k0_h12 : k0_cond12 v1 = 1#1), (k0_t12_loop v39).OK := fun v1 v39 k0_hw70 k0_h12 => k0_hw70.2.2.2.1 k0_h12
theorem k0_mult12_dvd : ∀ (v1 : BitVec 32) (v39 : BitVec 32) (k0_hw70 : k0_chk70 v1 v39) (k0_t12 : Fin (k0_t12_loop v39).trips), ∀ (k0_h12 : k0_cond12 v1 = 1#1), 256 ∣ (k0_mult12 v39 k0_t12).toNat := fun v1 v39 k0_hw70 k0_t12 k0_h12 => k0_hw70.2.2.2.2.1 k0_t12 k0_h12
theorem k0_off150_inb : ∀ (v1 : BitVec 32) (v39 : BitVec 32) (k0_hw70 : k0_chk70 v1 v39) (k0_t12 : Fin (k0_t12_loop v39).trips), ∀ (k0_h12 : k0_cond12 v1 = 1#1), ∀ a, (k0_off150 v39 k0_t12) a + S256x128.size a ≤ S3072x128.size a := fun v1 v39 k0_hw70 k0_t12 k0_h12 => k0_hw70.2.2.2.2.2 k0_t12 k0_h12

def k0_off151 (i : grid0.Coords) : Fin 1 → Nat :=
  let arg0 : BitVec 32 := BitVec.ofNat 32 (i 0).val
  let c4_i32_59 : BitVec 32 := 4#32
  let v98 : BitVec 32 := Scalar.muli arg0 c4_i32_59
  let c0_i32_60 : BitVec 32 := 0#32
  let v99 : BitVec 32 := Scalar.addi v98 c0_i32_60
  let v100 : Index := Scalar.indexCast v99
  ![v100.toNat]
def k0_off152 (v39 : BitVec 32) (k0_t12 : Fin (k0_t12_loop v39).trips) (v101 : BitVec 32) : Fin 3 → Nat :=
  let c7_i32 : BitVec 32 := 7#32
  let v105 : BitVec 32 := Scalar.shrsi v101 c7_i32
  let v109 : Index := Scalar.indexCast v105
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t12
  let c256_i32 : BitVec 32 := 256#32
  let v47 : BitVec 32 := Scalar.muli arg17 c256_i32
  let v48 : BitVec 32 := v47
  let v110 : Index := Scalar.indexCast v48
  let c0_62 : Index := 0#32
  ![v109.toNat, v110.toNat, 0]

def k0_chk75 (v1 : BitVec 32) (v39 : BitVec 32) (k0_t12 : Fin (k0_t12_loop v39).trips) (v101 : BitVec 32) : Prop :=
  (∀ (k0_h12 : k0_cond12 v1 = 1#1), ∀ a, (k0_off152 v39 k0_t12 v101) a + S1x256x128.size a ≤ S16x3072x128.size a)
theorem k0_off152_inb : ∀ (v1 : BitVec 32) (v39 : BitVec 32) (k0_t12 : Fin (k0_t12_loop v39).trips) (v101 : BitVec 32) (k0_hw75 : k0_chk75 v1 v39 k0_t12 v101), ∀ (k0_h12 : k0_cond12 v1 = 1#1), ∀ a, (k0_off152 v39 k0_t12 v101) a + S1x256x128.size a ≤ S16x3072x128.size a := fun v1 v39 k0_t12 v101 k0_hw75 k0_h12 => k0_hw75 k0_h12

def k0_off153 (i : grid0.Coords) : Fin 1 → Nat :=
  let arg0 : BitVec 32 := BitVec.ofNat 32 (i 0).val
  let c4_i32_64 : BitVec 32 := 4#32
  let v123 : BitVec 32 := Scalar.muli arg0 c4_i32_64
  let c1_i32_65 : BitVec 32 := 1#32
  let v124 : BitVec 32 := Scalar.addi v123 c1_i32_65
  let v125 : Index := Scalar.indexCast v124
  ![v125.toNat]
def k0_off154 (v39 : BitVec 32) (k0_t12 : Fin (k0_t12_loop v39).trips) (v126 : BitVec 32) : Fin 3 → Nat :=
  let c7_i32_67 : BitVec 32 := 7#32
  let v130 : BitVec 32 := Scalar.shrsi v126 c7_i32_67
  let v134 : Index := Scalar.indexCast v130
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t12
  let c256_i32 : BitVec 32 := 256#32
  let v47 : BitVec 32 := Scalar.muli arg17 c256_i32
  let v48 : BitVec 32 := v47
  let v135 : Index := Scalar.indexCast v48
  let c0_69 : Index := 0#32
  ![v134.toNat, v135.toNat, 0]

def k0_chk76 (v1 : BitVec 32) (v39 : BitVec 32) (k0_t12 : Fin (k0_t12_loop v39).trips) (v126 : BitVec 32) : Prop :=
  (∀ (k0_h12 : k0_cond12 v1 = 1#1), ∀ a, (k0_off154 v39 k0_t12 v126) a + S1x256x128.size a ≤ S16x3072x128.size a)
theorem k0_off154_inb : ∀ (v1 : BitVec 32) (v39 : BitVec 32) (k0_t12 : Fin (k0_t12_loop v39).trips) (v126 : BitVec 32) (k0_hw76 : k0_chk76 v1 v39 k0_t12 v126), ∀ (k0_h12 : k0_cond12 v1 = 1#1), ∀ a, (k0_off154 v39 k0_t12 v126) a + S1x256x128.size a ≤ S16x3072x128.size a := fun v1 v39 k0_t12 v126 k0_hw76 k0_h12 => k0_hw76 k0_h12

def k0_off155 (i : grid0.Coords) : Fin 1 → Nat :=
  let arg0 : BitVec 32 := BitVec.ofNat 32 (i 0).val
  let c4_i32_71 : BitVec 32 := 4#32
  let v148 : BitVec 32 := Scalar.muli arg0 c4_i32_71
  let c2_i32_72 : BitVec 32 := 2#32
  let v149 : BitVec 32 := Scalar.addi v148 c2_i32_72
  let v150 : Index := Scalar.indexCast v149
  ![v150.toNat]
def k0_off156 (v39 : BitVec 32) (k0_t12 : Fin (k0_t12_loop v39).trips) (v151 : BitVec 32) : Fin 3 → Nat :=
  let c7_i32_74 : BitVec 32 := 7#32
  let v155 : BitVec 32 := Scalar.shrsi v151 c7_i32_74
  let v159 : Index := Scalar.indexCast v155
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t12
  let c256_i32 : BitVec 32 := 256#32
  let v47 : BitVec 32 := Scalar.muli arg17 c256_i32
  let v48 : BitVec 32 := v47
  let v160 : Index := Scalar.indexCast v48
  let c0_76 : Index := 0#32
  ![v159.toNat, v160.toNat, 0]

def k0_chk77 (v1 : BitVec 32) (v39 : BitVec 32) (k0_t12 : Fin (k0_t12_loop v39).trips) (v151 : BitVec 32) : Prop :=
  (∀ (k0_h12 : k0_cond12 v1 = 1#1), ∀ a, (k0_off156 v39 k0_t12 v151) a + S1x256x128.size a ≤ S16x3072x128.size a)
theorem k0_off156_inb : ∀ (v1 : BitVec 32) (v39 : BitVec 32) (k0_t12 : Fin (k0_t12_loop v39).trips) (v151 : BitVec 32) (k0_hw77 : k0_chk77 v1 v39 k0_t12 v151), ∀ (k0_h12 : k0_cond12 v1 = 1#1), ∀ a, (k0_off156 v39 k0_t12 v151) a + S1x256x128.size a ≤ S16x3072x128.size a := fun v1 v39 k0_t12 v151 k0_hw77 k0_h12 => k0_hw77 k0_h12

def k0_off157 (i : grid0.Coords) : Fin 1 → Nat :=
  let arg0 : BitVec 32 := BitVec.ofNat 32 (i 0).val
  let c4_i32_78 : BitVec 32 := 4#32
  let v173 : BitVec 32 := Scalar.muli arg0 c4_i32_78
  let c3_i32_79 : BitVec 32 := 3#32
  let v174 : BitVec 32 := Scalar.addi v173 c3_i32_79
  let v175 : Index := Scalar.indexCast v174
  ![v175.toNat]
def k0_off158 (v39 : BitVec 32) (k0_t12 : Fin (k0_t12_loop v39).trips) (v176 : BitVec 32) : Fin 3 → Nat :=
  let c7_i32_81 : BitVec 32 := 7#32
  let v180 : BitVec 32 := Scalar.shrsi v176 c7_i32_81
  let v184 : Index := Scalar.indexCast v180
  let c0_i32_17 : BitVec 32 := 0#32
  let v40 : BitVec 32 := Scalar.subi v39 c0_i32_17
  let c1_i32_19 : BitVec 32 := 1#32
  let v42 : BitVec 32 := Scalar.divsi v40 c1_i32_19
  let v43 : BitVec 32 := Scalar.muli v42 c1_i32_19
  let v44 : BitVec 32 := Scalar.addi c0_i32_17 v43
  let c1_i32_21 : BitVec 32 := 1#32
  let arg17 : BitVec 32 := Scf.iv v44 c1_i32_21 k0_t12
  let c256_i32 : BitVec 32 := 256#32
  let v47 : BitVec 32 := Scalar.muli arg17 c256_i32
  let v48 : BitVec 32 := v47
  let v185 : Index := Scalar.indexCast v48
  let c0_83 : Index := 0#32
  ![v184.toNat, v185.toNat, 0]

def k0_chk78 (v1 : BitVec 32) (v39 : BitVec 32) (k0_t12 : Fin (k0_t12_loop v39).trips) (v176 : BitVec 32) : Prop :=
  (∀ (k0_h12 : k0_cond12 v1 = 1#1), ∀ a, (k0_off158 v39 k0_t12 v176) a + S1x256x128.size a ≤ S16x3072x128.size a)
theorem k0_off158_inb : ∀ (v1 : BitVec 32) (v39 : BitVec 32) (k0_t12 : Fin (k0_t12_loop v39).trips) (v176 : BitVec 32) (k0_hw78 : k0_chk78 v1 v39 k0_t12 v176), ∀ (k0_h12 : k0_cond12 v1 = 1#1), ∀ a, (k0_off158 v39 k0_t12 v176) a + S1x256x128.size a ≤ S16x3072x128.size a := fun v1 v39 k0_t12 v176 k0_hw78 k0_h12 => k0_hw78 k0_h12

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_6 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 4), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S3072x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x3072x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S3072x128 : Shape := ⟨2, ![3072, 128]⟩
abbrev S2048x64x768 : Shape := ⟨3, ![2048, 64, 768]⟩
abbrev S2048x768 : Shape := ⟨2, ![2048, 768]⟩
abbrev S2048 : Shape := ⟨1, ![2048]⟩
abbrev S96 : Shape := ⟨1, ![96]⟩
abbrev S768 : Shape := ⟨1, ![768]⟩
abbrev S1x768 : Shape := ⟨2, ![1, 768]⟩
abbrev S2048x1 : Shape := ⟨2, ![2048, 1]⟩
abbrev S2048x1x768 : Shape := ⟨3, ![2048, 1, 768]⟩
abbrev S2048x64x1 : Shape := ⟨3, ![2048, 64, 1]⟩
abbrev S2 : Shape := ⟨1, ![2]⟩
abbrev S_ : Shape := ⟨0, ![]⟩
abbrev S1x2x1x1 : Shape := ⟨4, ![1, 2, 1, 1]⟩
abbrev S2048x1x64x768 : Shape := ⟨4, ![2048, 1, 64, 768]⟩
abbrev S2048x2x64x768 : Shape := ⟨4, ![2048, 2, 64, 768]⟩
abbrev S2048x128x768 : Shape := ⟨3, ![2048, 128, 768]⟩
abbrev S3072x2048x768 : Shape := ⟨3, ![3072, 2048, 768]⟩
abbrev S1x2048x768 : Shape := ⟨3, ![1, 2048, 768]⟩
abbrev S3072x2048 : Shape := ⟨2, ![3072, 2048]⟩
abbrev S3072x16x128 : Shape := ⟨3, ![3072, 16, 128]⟩
abbrev S16x3072x128 : Shape := ⟨3, ![16, 3072, 128]⟩

abbrev nBuf : Space → Nat
  | .hbm => 51
  | .vmem => 0
  | .smem => 0
  | _ => 0

abbrev bufTy : (tb : Table) → Fin (tcTables nBuf tb) → BufTy
  | .hbm, ⟨0, _⟩ => ⟨S3072x128, .bf16⟩
  | .hbm, ⟨1, _⟩ => ⟨S2048x64x768, .i8⟩
  | .hbm, ⟨2, _⟩ => ⟨S2048x768, .f32⟩
  | .hbm, ⟨3, _⟩ => ⟨S2048, .i32⟩
  | .hbm, ⟨4, _⟩ => ⟨S96, .i32⟩
  | .hbm, ⟨5, _⟩ => ⟨S768, .i32⟩
  | .hbm, ⟨6, _⟩ => ⟨S1x768, .i32⟩
  | .hbm, ⟨7, _⟩ => ⟨S2048x1, .i32⟩
  | .hbm, ⟨8, _⟩ => ⟨S2048x768, .i32⟩
  | .hbm, ⟨9, _⟩ => ⟨S2048x768, .i32⟩
  | .hbm, ⟨10, _⟩ => ⟨S2048x768, .i1⟩
  | .hbm, ⟨11, _⟩ => ⟨S2048x1x768, .i1⟩
  | .hbm, ⟨12, _⟩ => ⟨S2048x64x1, .i8⟩
  | .hbm, ⟨13, _⟩ => ⟨S2048x64x768, .i1⟩
  | .hbm, ⟨14, _⟩ => ⟨S2048x64x768, .i8⟩
  | .hbm, ⟨15, _⟩ => ⟨S2048x64x768, .i8⟩
  | .hbm, ⟨16, _⟩ => ⟨S2048x64x768, .i32⟩
  | .hbm, ⟨17, _⟩ => ⟨S2048x1, .f32⟩
  | .hbm, ⟨18, _⟩ => ⟨S2048x768, .f32⟩
  | .hbm, ⟨19, _⟩ => ⟨S2048x768, .f32⟩
  | .hbm, ⟨20, _⟩ => ⟨S2, .i32⟩
  | .hbm, ⟨21, _⟩ => ⟨S_, .i32⟩
  | .hbm, ⟨22, _⟩ => ⟨S2, .i32⟩
  | .hbm, ⟨23, _⟩ => ⟨S2, .i32⟩
  | .hbm, ⟨24, _⟩ => ⟨S1x2x1x1, .i32⟩
  | .hbm, ⟨25, _⟩ => ⟨S2048x1x64x768, .i32⟩
  | .hbm, ⟨26, _⟩ => ⟨S2048x2x64x768, .i32⟩
  | .hbm, ⟨27, _⟩ => ⟨S2048x2x64x768, .i32⟩
  | .hbm, ⟨28, _⟩ => ⟨S2048x2x64x768, .i32⟩
  | .hbm, ⟨29, _⟩ => ⟨S_, .i32⟩
  | .hbm, ⟨30, _⟩ => ⟨S2048x2x64x768, .i32⟩
  | .hbm, ⟨31, _⟩ => ⟨S2048x2x64x768, .i32⟩
  | .hbm, ⟨32, _⟩ => ⟨S_, .i32⟩
  | .hbm, ⟨33, _⟩ => ⟨S2048x2x64x768, .i32⟩
  | .hbm, ⟨34, _⟩ => ⟨S2048x2x64x768, .i32⟩
  | .hbm, ⟨35, _⟩ => ⟨S_, .i32⟩
  | .hbm, ⟨36, _⟩ => ⟨S2048x2x64x768, .i32⟩
  | .hbm, ⟨37, _⟩ => ⟨S2048x2x64x768, .i32⟩
  | .hbm, ⟨38, _⟩ => ⟨S2048x2x64x768, .bf16⟩
  | .hbm, ⟨39, _⟩ => ⟨S2048x128x768, .bf16⟩
  | .hbm, ⟨40, _⟩ => ⟨S_, .bf16⟩
  | .hbm, ⟨41, _⟩ => ⟨S3072x128, .bf16⟩
  | .hbm, ⟨42, _⟩ => ⟨S3072x128, .bf16⟩
  | .hbm, ⟨43, _⟩ => ⟨S3072x2048x768, .f32⟩
  | .hbm, ⟨44, _⟩ => ⟨S1x2048x768, .f32⟩
  | .hbm, ⟨45, _⟩ => ⟨S3072x2048x768, .f32⟩
  | .hbm, ⟨46, _⟩ => ⟨S3072x2048x768, .f32⟩
  | .hbm, ⟨47, _⟩ => ⟨S_, .f32⟩
  | .hbm, ⟨48, _⟩ => ⟨S3072x2048, .f32⟩
  | .hbm, ⟨49, _⟩ => ⟨S3072x16x128, .f32⟩
  | .hbm, ⟨50, _⟩ => ⟨S16x3072x128, .f32⟩
  | _, _ => ⟨S3072x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Project.lean ====
abbrev S3072x3584 : Shape := ⟨2, ![3072, 3584]⟩
abbrev S1x3584 : Shape := ⟨2, ![1, 3584]⟩
abbrev S3584x128 : Shape := ⟨2, ![3584, 128]⟩
abbrev S1x128 : Shape := ⟨2, ![1, 128]⟩
abbrev S96 : Shape := ⟨1, ![96]⟩
abbrev S3072x1 : Shape := ⟨2, ![3072, 1]⟩
abbrev S3072x128 : Shape := ⟨2, ![3072, 128]⟩
abbrev S256x3584 : Shape := ⟨2, ![256, 3584]⟩
abbrev S256x1 : Shape := ⟨2, ![256, 1]⟩
abbrev S256x128 : Shape := ⟨2, ![256, 128]⟩
abbrev S256 : Shape := ⟨1, ![256]⟩
abbrev S1 : Shape := ⟨1, ![1]⟩
abbrev S32x128 : Shape := ⟨2, ![32, 128]⟩

abbrev nBuf : Space → Nat
  | .hbm => 12
  | .vmem => 20
  | .smem => 1
  | _ => 0

abbrev bufTy : (tb : Table) → Fin (tcTables nBuf tb) → BufTy
  | .hbm, ⟨0, _⟩ => ⟨S3072x3584, .bf16⟩
  | .hbm, ⟨1, _⟩ => ⟨S1x3584, .f32⟩
  | .hbm, ⟨2, _⟩ => ⟨S3584x128, .i8⟩
  | .hbm, ⟨3, _⟩ => ⟨S1x128, .f32⟩
  | .hbm, ⟨4, _⟩ => ⟨S1x128, .f32⟩
  | .hbm, ⟨5, _⟩ => ⟨S3072x3584, .i8⟩
  | .hbm, ⟨6, _⟩ => ⟨S3072x1, .f32⟩
  | .hbm, ⟨7, _⟩ => ⟨S3072x128, .f32⟩
  | .hbm, ⟨8, _⟩ => ⟨S3072x128, .f32⟩
  | .hbm, ⟨9, _⟩ => ⟨S3072x128, .i8⟩
  | .hbm, ⟨10, _⟩ => ⟨S3072x1, .f32⟩
  | .hbm, ⟨11, _⟩ => ⟨S3072x128, .bf16⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S3584x128, .i8⟩
  | .local _ .vmem, ⟨4, _⟩ => ⟨S1x128, .f32⟩
  | .local _ .vmem, ⟨5, _⟩ => ⟨S1x128, .f32⟩
  | .local _ .vmem, ⟨6, _⟩ => ⟨S256x3584, .i8⟩
  | .local _ .vmem, ⟨7, _⟩ => ⟨S256x3584, .i8⟩
  | .local _ .vmem, ⟨8, _⟩ => ⟨S256x1, .f32⟩
  | .local _ .vmem, ⟨9, _⟩ => ⟨S256x1, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .i8⟩
  | .local _ .vmem, ⟨15, _⟩ => ⟨S256x128, .i8⟩
  | .local _ .vmem, ⟨16, _⟩ => ⟨S256x1, .f32⟩
  | .local _ .vmem, ⟨17, _⟩ => ⟨S256x1, .f32⟩
  | .local _ .vmem, ⟨18, _⟩ => ⟨S3072x128, .bf16⟩
  | .local _ .vmem, ⟨19, _⟩ => ⟨S3072x128, .f32⟩
  | .local _ .smem, ⟨0, _⟩ => ⟨S96, .i32⟩
  | _, _ => ⟨S3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v78 : BitVec 32 := Scalar.muli arg0 c8_i32
  let c0_i32_39 : BitVec 32 := 0#32
  let v79 : BitVec 32 := Scalar.addi v78 c0_i32_39
  let v80 : Index := Scalar.indexCast v79
  ![v80.toNat]
def k0_off2 (v81 : BitVec 32) : Fin 2 → Nat :=
  let v83 : Index := Scalar.indexCast v81
  let c0_40 : Index := 0#32
  ![v83.toNat, 0]

def k0_chk1 (v81 : BitVec 32) : Prop :=
  (∀ a, (k0_off2 v81) a + S32x128.size a ≤ S3072x128.size a)
theorem k0_off2_inb : ∀ (v81 : BitVec 32) (k0_hw1 : k0_chk1 v81), ∀ a, (k0_off2 v81) a + S32x128.size a ≤ S3072x128.size a := fun v81 k0_hw1 => k0_hw1

def k0_off3 (i : grid0.Coords) : Fin 1 → Nat :=
  let arg0 : BitVec 32 := BitVec.ofNat 32 (i 0).val
  let c8_i32_41 : BitVec 32 := 8#32
  let v87 : BitVec 32 := Scalar.muli arg0 c8_i32_41
  let c1_i32 : BitVec 32 := 1#32
  let v88 : BitVec 32 := Scalar.addi v87 c1_i32
  let v89 : Index := Scalar.indexCast v88
  ![v89.toNat]
def k0_off4 (v90 : BitVec 32) : Fin 2 → Nat :=
  let v92 : Index := Scalar.indexCast v90
  let c0_42 : Index := 0#32
  ![v92.toNat, 0]

def k0_chk2 (v90 : BitVec 32) : Prop :=
  (∀ a, (k0_off4 v90) a + S32x128.size a ≤ S3072x128.size a)
theorem k0_off4_inb : ∀ (v90 : BitVec 32) (k0_hw2 : k0_chk2 v90), ∀ a, (k0_off4 v90) a + S32x128.size a ≤ S3072x128.size a := fun v90 k0_hw2 => k0_hw2

def k0_off5 (i : grid0.Coords) : Fin 1 → Nat :=
  let arg0 : BitVec 32 := BitVec.ofNat 32 (i 0).val
  let c8_i32_43 : BitVec 32 := 8#32
  let v96 : BitVec 32 := Scalar.muli arg0 c8_i32_43
  let c2_i32 : BitVec 32 := 2#32
  let v97 : BitVec 32 := Scalar.addi v96 c2_i32
  let v98 : Index := Scalar.indexCast v97
  ![v98.toNat]
def k0_off6 (v99 : BitVec 32) : Fin 2 → Nat :=
  let v101 : Index := Scalar.indexCast v99
  let c0_44 : Index := 0#32
  ![v101.toNat, 0]

def k0_chk3 (v99 : BitVec 32) : Prop :=
  (∀ a, (k0_off6 v99) a + S32x128.size a ≤ S3072x128.size a)
theorem k0_off6_inb : ∀ (v99 : BitVec 32) (k0_hw3 : k0_chk3 v99), ∀ a, (k0_off6 v99) a + S32x128.size a ≤ S3072x128.size a := fun v99 k0_hw3 => k0_hw3

def k0_off7 (i : grid0.Coords) : Fin 1 → Nat :=
  let arg0 : BitVec 32 := BitVec.ofNat 32 (i 0).val
  let c8_i32_45 : BitVec 32 := 8#32
  let v105 : BitVec 32 := Scalar.muli arg0 c8_i32_45
  let c3_i32 : BitVec 32 := 3#32
  let v106 : BitVec 32 := Scalar.addi v105 c3_i32
  let v107 : Index := Scalar.indexCast v106
  ![v107.toNat]
def k0_off8 (v108 : BitVec 32) : Fin 2 → Nat :=
  let v110 : Index := Scalar.indexCast v108
  let c0_46 : Index := 0#32
  ![v110.toNat, 0]

def k0_chk4 (v108 : BitVec 32) : Prop :=
  (∀ a, (k0_off8 v108) a + S32x128.size a ≤ S3072x128.size a)
theorem k0_off8_inb : ∀ (v108 : BitVec 32) (k0_hw4 : k0_chk4 v108), ∀ a, (k0_off8 v108) a + S32x128.size a ≤ S3072x128.size a := fun v108 k0_hw4 => k0_hw4

def k0_off9 (i : grid0.Coords) : Fin 1 → Nat :=
  let arg0 : BitVec 32 := BitVec.ofNat 32 (i 0).val
  let c8_i32_47 : BitVec 32 := 8#32
  let v114 : BitVec 32 := Scalar.muli arg0 c8_i32_47
  let c4_i32 : BitVec 32 := 4#32
  let v115 : BitVec 32 := Scalar.addi v114 c4_i32
  let v116 : Index := Scalar.indexCast v115
  ![v116.toNat]
def k0_off10 (v117 : BitVec 32) : Fin 2 → Nat :=
  let v119 : Index := Scalar.indexCast v117
  let c0_48 : Index := 0#32
  ![v119.toNat, 0]

def k0_chk5 (v117 : BitVec 32) : Prop :=
  (∀ a, (k0_off10 v117) a + S32x128.size a ≤ S3072x128.size a)
theorem k0_off10_inb : ∀ (v117 : BitVec 32) (k0_hw5 : k0_chk5 v117), ∀ a, (k0_off10 v117) a + S32x128.size a ≤ S3072x128.size a := fun v117 k0_hw5 => k0_hw5

def k0_off11 (i : grid0.Coords) : Fin 1 → Nat :=
  let arg0 : BitVec 32 := BitVec.ofNat 32 (i 0).val
  let c8_i32_49 : BitVec 32 := 8#32
  let v123 : BitVec 32 := Scalar.muli arg0 c8_i32_49
  let c5_i32 : BitVec 32 := 5#32
  let v124 : BitVec 32 := Scalar.addi v123 c5_i32
  let v125 : Index := Scalar.indexCast v124
  ![v125.toNat]
def k0_off12 (v126 : BitVec 32) : Fin 2 → Nat :=
  let v128 : Index := Scalar.indexCast v126
  let c0_50 : Index := 0#32
  ![v128.toNat, 0]

def k0_chk6 (v126 : BitVec 32) : Prop :=
  (∀ a, (k0_off12 v126) a + S32x128.size a ≤ S3072x128.size a)
theorem k0_off12_inb : ∀ (v126 : BitVec 32) (k0_hw6 : k0_chk6 v126), ∀ a, (k0_off12 v126) a + S32x128.size a ≤ S3072x128.size a := fun v126 k0_hw6 => k0_hw6

def k0_off13 (i : grid0.Coords) : Fin 1 → Nat :=
  let arg0 : BitVec 32 := BitVec.ofNat 32 (i 0).val
  let c8_i32_51 : BitVec 32 := 8#32
  let v132 : BitVec 32 := Scalar.muli arg0 c8_i32_51
  let c6_i32 : BitVec 32 := 6#32
  let v133 : BitVec 32 := Scalar.addi v132 c6_i32
  let v134 : Index := Scalar.indexCast v133
  ![v134.toNat]
def k0_off14 (v135 : BitVec 32) : Fin 2 → Nat :=
  let v137 : Index := Scalar.indexCast v135
  let c0_52 : Index := 0#32
  ![v137.toNat, 0]

def k0_chk7 (v135 : BitVec 32) : Prop :=
  (∀ a, (k0_off14 v135) a + S32x128.size a ≤ S3072x128.size a)
theorem k0_off14_inb : ∀ (v135 : BitVec 32) (k0_hw7 : k0_chk7 v135), ∀ a, (k0_off14 v135) a + S32x128.size a ≤ S3072x128.size a := fun v135 k0_hw7 => k0_hw7

def k0_off15 (i : grid0.Coords) : Fin 1 → Nat :=
  let arg0 : BitVec 32 := BitVec.ofNat 32 (i 0).val
  let c8_i32_53 : BitVec 32 := 8#32
  let v141 : BitVec 32 := Scalar.muli arg0 c8_i32_53
  let c7_i32 : BitVec 32 := 7#32
  let v142 : BitVec 32 := Scalar.addi v141 c7_i32
  let v143 : Index := Scalar.indexCast v142
  ![v143.toNat]
def k0_off16 (v144 : BitVec 32) : Fin 2 → Nat :=
  let v146 : Index := Scalar.indexCast v144
  let c0_54 : Index := 0#32
  ![v146.toNat, 0]

def k0_chk8 (v144 : BitVec 32) : Prop :=
  (∀ a, (k0_off16 v144) a + S32x128.size a ≤ S3072x128.size a)
theorem k0_off16_inb : ∀ (v144 : BitVec 32) (k0_hw8 : k0_chk8 v144), ∀ a, (k0_off16 v144) a + S32x128.size a ≤ S3072x128.size a := fun v144 k0_hw8 => k0_hw8

def k0_cond2 (i : grid0.Coords) : BitVec 1 :=
  let arg0 : BitVec 32 := BitVec.ofNat 32 (i 0).val
  let c11_i32 : BitVec 32 := 11#32
  let v150 : BitVec 1 := Scalar.cmpi .eq arg0 c11_i32
  let v151 : BitVec 32 := Scalar.extui v150
  let c0_i32_55 : BitVec 32 := 0#32
  let v152 : BitVec 1 := Scalar.cmpi .ne v151 c0_i32_55
  v152

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3072x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ProjectReferenceIdeal.lean ====
abbrev S3072x3584 : Shape := ⟨2, ![3072, 3584]⟩
abbrev S1x3584 : Shape := ⟨2, ![1, 3584]⟩
abbrev S3584x128 : Shape := ⟨2, ![3584, 128]⟩
abbrev S1x128 : Shape := ⟨2, ![1, 128]⟩
abbrev S96 : Shape := ⟨1, ![96]⟩
abbrev S3072x1 : Shape := ⟨2, ![3072, 1]⟩
abbrev S3072x128 : Shape := ⟨2, ![3072, 128]⟩
abbrev S3072 : Shape := ⟨1, ![3072]⟩

abbrev nBuf : Space → Nat
  | .hbm => 12
  | .vmem => 11
  | .smem => 0
  | _ => 0

abbrev bufTy : (tb : Table) → Fin (tcTables nBuf tb) → BufTy
  | .hbm, ⟨0, _⟩ => ⟨S3072x3584, .bf16⟩
  | .hbm, ⟨1, _⟩ => ⟨S1x3584, .f32⟩
  | .hbm, ⟨2, _⟩ => ⟨S3584x128, .i8⟩
  | .hbm, ⟨3, _⟩ => ⟨S1x128, .f32⟩
  | .hbm, ⟨4, _⟩ => ⟨S1x128, .f32⟩
  | .hbm, ⟨5, _⟩ => ⟨S96, .i32⟩
  | .hbm, ⟨6, _⟩ => ⟨S3072x3584, .i8⟩
  | .hbm, ⟨7, _⟩ => ⟨S3072x1, .f32⟩
  | .hbm, ⟨8, _⟩ => ⟨S3072x128, .f32⟩
  | .hbm, ⟨9, _⟩ => ⟨S3072x128, .f32⟩
  | .hbm, ⟨10, _⟩ => ⟨S3072x128, .i8⟩
  | .hbm, ⟨11, _⟩ => ⟨S3072x1, .f32⟩
  | .local _ .vmem, ⟨0, _⟩ => ⟨S3072x3584, .bf16⟩
  | .local _ .vmem, ⟨1, _⟩ => ⟨S1x3584, .f32⟩
  | .local _ .vmem, ⟨2, _⟩ => ⟨S3584x128, .i8⟩
  | .local _ .vmem, ⟨3, _⟩ => ⟨S1x128, .f32⟩
  | .local _ .vmem, ⟨4, _⟩ => ⟨S1x128, .f32⟩
  | .local _ .vmem, ⟨5, _⟩ => ⟨S3072x3584, .i8⟩
  | .local _ .vmem, ⟨6, _⟩ => ⟨S3072x1, .f32⟩
  | .local _ .vmem, ⟨7, _⟩ => ⟨S3072x128, .f32⟩
  | .local _ .vmem, ⟨8, _⟩ => ⟨S3072x128, .f32⟩
  | .local _ .vmem, ⟨9, _⟩ => ⟨S3072x128, .i8⟩
  | .local _ .vmem, ⟨10, _⟩ => ⟨S3072x1, .f32⟩
  | _, _ => ⟨S3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3072x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pre.lean ====
module
public import proofs.«01_k».proof.Pre_lengths
public import proofs.«01_k».proof.Proof.Gen.Pre_lengths
public import Idealize.ShloMosaic.Lib.ReduceAll

@[expose] public section
set_option maxRecDepth 16384
noncomputable section

namespace Cert.Pre_lengths
open Idealize.ShloMosaic

variable {F : FTy → Type} [FloatOps F]

instance : Subsingleton S_.Idx := ⟨fun a b => funext fun i => i.elim0⟩

theorem one_of_andi (x y : BitVec 1) (h : IntOp.andi x y = 1#1) : x = 1#1 ∧ y = 1#1 := by
  revert x y; decide

theorem true_of_ofBool {b : Bool} (h : BitVec.ofBool b = 1#1) : b = true := by
  revert b; decide

theorem le_of_sle {x : BitVec 32} {n : ℕ} (hn : n < 2 ^ 31) (h0 : 0 ≤ x.toInt) (h : IntOp.cmpi .sle x (BitVec.ofNat 32 n) = 1#1) : x.toNat ≤ n := by
  have h1 : (x.sle (BitVec.ofNat 32 n)) = true := by
    exact true_of_ofBool h
  rw [BitVec.sle, decide_eq_true_iff, BitVec.toInt_eq_toNat_of_lt (x := BitVec.ofNat 32 n) (by rw [BitVec.toNat_ofNat]; omega), BitVec.toNat_ofNat] at h1
  have := x.isLt
  rw [BitVec.toInt_eq_toNat_cond] at h0 h1
  split at h0 <;> omega

theorem ge_of_sge {x : BitVec 32} {n : ℕ} (hn : n < 2 ^ 31) (h : IntOp.cmpi .sge x (BitVec.ofNat 32 n) = 1#1) : (n : ℤ) ≤ x.toInt ∧ n ≤ x.toNat := by
  have h1 : ((BitVec.ofNat 32 n).sle x) = true := by
    exact true_of_ofBool h
  rw [BitVec.sle, decide_eq_true_iff, BitVec.toInt_eq_toNat_of_lt (x := BitVec.ofNat 32 n) (by rw [BitVec.toNat_ofNat]; omega), BitVec.toNat_ofNat] at h1
  have := x.isLt
  refine ⟨by omega, ?_⟩
  rw [BitVec.toInt_eq_toNat_cond] at h1
  split at h1 <;> omega

/-- What the precondition says: every page has 1 to 768 columns, every query at most 32 rows. -/
theorem bounds [Facts] (a0 : FVec F S3072x128 .bf16) (a1 : IVec S2048x64x768 8) (a2 : FVec F S2048x768 .f32) (l : IVec S2048 32) (q : IVec S96 32)
    (h : fn a0 a1 a2 l q = fun _ => 1#1) : (∀ j, 1 ≤ (l j).toNat ∧ (l j).toNat ≤ 768) ∧ ∀ j, (q j).toNat ≤ 32 := by
  have h0 := congrFun h (fun i => i.elim0)
  obtain ⟨h1, h2⟩ := one_of_andi _ _ h0
  refine ⟨fun j => ?_, fun j => ?_⟩
  · obtain ⟨ha, hb⟩ := one_of_andi _ _ (Host.reduce_andi_all _ _ _ _ _ h1 j)
    have hg := ge_of_sge (n := 1) (by decide) ha
    exact ⟨hg.2, le_of_sle (by decide) (by omega) hb⟩
  · obtain ⟨ha, hb⟩ := one_of_andi _ _ (Host.reduce_andi_all _ _ _ _ _ h2 j)
    have hg := ge_of_sge (n := 0) (by decide) ha
    exact le_of_sle (by decide) (by omega) hb

end Cert.Pre_lengths
-- ==== Proof.KI.Spec.lean ====
/- What the page-scoring kernel computes at one grid step, as plain functions of vectors: the decoded chunk of the four pages
   (`decW`, `decS`), the scores of one block of 256 query rows (`best`, `topK`), and how the four pages' columns are written
   into the result (`selP`, `pageStep`, `tripStep`, `loopOut`). -/
module

public import proofs.«01_k».proof.Proof.Gen.KernelIdeal.Skeleton
public import Idealize.ShloMosaic.Lib.LoopRemainder
public import Idealize.ShloMosaic.Lib.Pointwise
public import Idealize.ShloMosaic.Lib.VecWindow
public import Idealize.ShloMosaic.Lib.BitcastFour

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-! ## One block of query rows -/

/-- The lane numbers 0 … 127. -/
abbrev laneV : IVec S1x128 32 := iota .tc S1x128 32 [1] iota_S1x128_d1_w32

/-- One chunk's scores of 256 query rows: the product with the decoded codes, times the scales. -/
def scoreV (q : Vec F S256x128 .bf16) (w : Vec F S1x128x512 .bf16) (s : Vec F S1x1x512 .f32) : FVec F S256x512 .f32 :=
  mulf (matmul dot_S256x128_S128x512_S256x512_1_0_0_1_n_n none q (shapeCast S128x512 w shapeCasts_S1x128x512_S128x512)
      (constant S256x512 .f32 0x00000000#32))
    (broadcastTo S256x512 (shapeCast S1x512 s shapeCasts_S1x1x512_S1x512) broadcasts_S1x512_S256x512)

/-- The elementwise maximum of the scores of chunks 0 … n. -/
def best (q : Vec F S256x128 .bf16) (w : ℕ → Vec F S1x128x512 .bf16) (s : ℕ → Vec F S1x1x512 .f32) : ℕ → FVec F S256x512 .f32
  | 0 => scoreV q (w 0) (s 0)
  | n + 1 => maximumf (best q w s n) (scoreV q (w (n + 1)) (s (n + 1)))

/-- The maximum over the 128 lanes of page `k` of the group. -/
def topK (b : FVec F S256x512 .f32) : Fin 4 → FVec F S256 .f32
  | 0 => multiReduction .maximumf [1] S256 (extractStridedSlice S256x128 ![0, 0] b slices_S256x512_o0_0_S256x128) 0xFF800000#32 reduces_S256x128_S256 (.inl rfl) rfl
  | 1 => multiReduction .maximumf [1] S256 (extractStridedSlice S256x128 ![0, 128] b slices_S256x512_o0_128_S256x128) 0xFF800000#32 reduces_S256x128_S256 (.inl rfl) rfl
  | 2 => multiReduction .maximumf [1] S256 (extractStridedSlice S256x128 ![0, 256] b slices_S256x512_o0_256_S256x128) 0xFF800000#32 reduces_S256x128_S256 (.inl rfl) rfl
  | 3 => multiReduction .maximumf [1] S256 (extractStridedSlice S256x128 ![0, 384] b slices_S256x512_o0_384_S256x128) 0xFF800000#32 reduces_S256x128_S256 (.inl rfl) rfl

/-- A column of maxima put into the page's lane of the block read from the result. -/
def selP (top : FVec F S256 .f32) (w : BitVec 32) (old : Vec F S1x256x128 .f32) : FVec F S1x256x128 .f32 :=
  shapeCast S1x256x128
    (select (broadcastTo S256x128 (shapeCast S1x128 (cmpi .eq laneV (broadcast S1x128 (Scalar.andi w 127#32))) shapeCasts_S1x128_S1x128) broadcasts_S1x128_S256x128)
      (broadcastTo S256x128 (shapeCast S256x1 (shapeCast S256x1 top shapeCasts_S256_S256x1) shapeCasts_S256x1_S256x1) broadcasts_S256x1_S256x128)
      (shapeCast S256x128 old shapeCasts_S1x256x128_S256x128))
    shapeCasts_S256x128_S1x256x128

/-- The result after page word `w`'s column of rows `256 a …` is set. -/
def pageStep (top : FVec F S256 .f32) (w : BitVec 32) (a : ℕ) (O : S16x3072x128.Idx → Elt F .f32) : S16x3072x128.Idx → Elt F .f32 :=
  fun y => if h : (y 0).val = w.toNat / 128 ∧ (256 * a ≤ (y 1).val ∧ (y 1).val < 256 * a + 256) ∧ (y 2).val = w.toNat % 128 then
    top (ix1 ⟨(y 1).val - 256 * a, by omega⟩) else O y

/-- The result after the four pages' columns of rows `256 a …` are set. -/
def tripStep (b : FVec F S256x512 .f32) (ws : Fin 4 → BitVec 32) (a : ℕ) (O : S16x3072x128.Idx → Elt F .f32) : S16x3072x128.Idx → Elt F .f32 :=
  pageStep (topK b 3) (ws 3) a (pageStep (topK b 2) (ws 2) a (pageStep (topK b 1) (ws 1) a (pageStep (topK b 0) (ws 0) a O)))

/-- Rows `256 a …` of the queries (row 0 stands for what lies outside). -/
def rowsAt (Q : S3072x128.Idx → Elt F .bf16) (a : ℕ) : Vec F S256x128 .bf16 :=
  fun y => Q (ix2 ⟨(256 * a + (y 0).val) % 3072, Nat.mod_lt _ (by decide)⟩ (y 1))

/-- The result after the first `k` blocks of rows, with `n + 1` chunks. -/
def loopOut (n : ℕ) (Q : S3072x128.Idx → Elt F .bf16) (w : ℕ → Vec F S1x128x512 .bf16) (s : ℕ → Vec F S1x1x512 .f32) (ws : Fin 4 → BitVec 32)
    (O : S16x3072x128.Idx → Elt F .f32) : ℕ → S16x3072x128.Idx → Elt F .f32
  | 0 => O
  | k + 1 => tripStep (best (rowsAt Q k) w s n) ws k (loopOut n Q w s ws O k)

/-- The selected block, element by element. -/
theorem selP_apply (top : FVec F S256 .f32) (w : BitVec 32) (old : Vec F S1x256x128 .f32) (z : Fin 1) (r : Fin 256) (l : Fin 128) :
    selP top w old (ix3 z r l) = if l.val = w.toNat % 128 then top (ix1 r) else old (ix3 0 r l) := by
  pointwise [selP]
  have e : (IntOp.cmpi CmpIPredicate.eq (BitVec.ofNat 32 l.val) (Scalar.andi w 127#32) = 1#1) ↔ l.val = w.toNat % 128 := by
    have h127 : (Scalar.andi w 127#32).toNat = w.toNat % 128 := by
      show (w &&& 127#32).toNat = _
      rw [BitVec.toNat_and]
      exact Nat.and_two_pow_sub_one_eq_mod w.toNat 7
    have hl : (BitVec.ofNat 32 l.val).toNat = l.val := by
      rw [BitVec.toNat_ofNat]; exact Nat.mod_eq_of_lt (by have := l.isLt; omega)
    rw [← h127, ← hl, BitVec.toNat_inj]
    generalize BitVec.ofNat 32 l.val = x
    generalize Scalar.andi w 127#32 = x'
    by_cases hh : x = x'
    · subst hh; simp [IntOp.cmpi]
    · have hb : (x == x') = false := by simpa using hh
      simp [IntOp.cmpi, hh, hb]
  simp only [Scalar.select]
  exact if_congr e rfl rfl

theorem pageStep_of (top : FVec F S256 .f32) (w : BitVec 32) (a : ℕ) (O : S16x3072x128.Idx → Elt F .f32) (y0 : Fin 16) (y1 : Fin 3072) (y2 : Fin 128)
    (h : y0.val = w.toNat / 128 ∧ (256 * a ≤ y1.val ∧ y1.val < 256 * a + 256) ∧ y2.val = w.toNat % 128) :
    pageStep top w a O (ix3 y0 y1 y2) = top (ix1 ⟨y1.val - 256 * a, by omega⟩) := dif_pos h

theorem pageStep_else (top : FVec F S256 .f32) (w : BitVec 32) (a : ℕ) (O : S16x3072x128.Idx → Elt F .f32) (y0 : Fin 16) (y1 : Fin 3072) (y2 : Fin 128)
    (h : ¬ (y0.val = w.toNat / 128 ∧ (256 * a ≤ y1.val ∧ y1.val < 256 * a + 256) ∧ y2.val = w.toNat % 128)) :
    pageStep top w a O (ix3 y0 y1 y2) = O (ix3 y0 y1 y2) := dif_neg h

/-- Putting the selected block over the block it was read from is `pageStep`. -/
theorem put_selP (top : FVec F S256 .f32) (w : BitVec 32) (hw : w.toNat < 2048) (a : ℕ) (ha : a < 12) (O : S16x3072x128.Idx → Elt F .f32)
    (inb : ∀ d, (![w.toNat / 128, 256 * a, 0] : Fin 3 → ℕ) d + S1x256x128.size d ≤ S16x3072x128.size d) :
    VecWindow.put O ![w.toNat / 128, 256 * a, 0] S1x256x128.size (selP top w (VecWindow.window O ![w.toNat / 128, 256 * a, 0] S1x256x128.size inb))
      = pageStep top w a O := by
  funext y
  idx_vars y
  simp only [VecWindow.put]
  have e0 : (ix3 y0 y1 y2 : S16x3072x128.Idx) 0 = y0 := rfl
  have e1 : (ix3 y0 y1 y2 : S16x3072x128.Idx) 1 = y1 := rfl
  have e2 : (ix3 y0 y1 y2 : S16x3072x128.Idx) 2 = y2 := rfl
  have h2 : y2.val < 128 := y2.isLt
  by_cases h : y0.val = w.toNat / 128 ∧ 256 * a ≤ y1.val ∧ y1.val < 256 * a + 256
  · have hin : ∀ d : Fin 3, (![w.toNat / 128, 256 * a, 0] : Fin 3 → ℕ) d ≤ ((ix3 y0 y1 y2 : S16x3072x128.Idx) d).val
        ∧ ((ix3 y0 y1 y2 : S16x3072x128.Idx) d).val < (![w.toNat / 128, 256 * a, 0] : Fin 3 → ℕ) d + S1x256x128.size d := fun d =>
      match d with
      | ⟨0, _⟩ => by show w.toNat / 128 ≤ y0.val ∧ y0.val < w.toNat / 128 + 1; omega
      | ⟨1, _⟩ => by show 256 * a ≤ y1.val ∧ y1.val < 256 * a + 256; omega
      | ⟨2, _⟩ => by show 0 ≤ y2.val ∧ y2.val < 0 + 128; omega
    have hb : y1.val - 256 * a < 256 := by omega
    have hl : (Rect.unitLocal (s := S16x3072x128) (off := ![w.toNat / 128, 256 * a, 0]) (size := S1x256x128.size) (ix3 y0 y1 y2) hin : S1x256x128.Idx)
        = ix3 (0 : Fin 1) (⟨y1.val - 256 * a, hb⟩ : Fin 256) y2 := by
      funext d
      apply Fin.ext
      match d with
      | ⟨0, _⟩ => show y0.val - w.toNat / 128 = 0; omega
      | ⟨1, _⟩ => rfl
      | ⟨2, _⟩ => show y2.val - 0 = y2.val; omega
    rw [dif_pos hin]
    refine (congrArg _ hl).trans ((selP_apply _ _ _ _ _ _).trans ?_)
    by_cases h3 : y2.val = w.toNat % 128
    · rw [if_pos h3]
      exact (pageStep_of top w a O y0 y1 y2 ⟨h.1, h.2, h3⟩).symm
    · rw [if_neg h3]
      refine Eq.trans ?_ (pageStep_else top w a O y0 y1 y2 (fun hh => h3 hh.2.2)).symm
      refine congrArg O (funext fun d => Fin.ext ?_)
      match d with
      | ⟨0, _⟩ => show w.toNat / 128 + 1 * 0 = y0.val; omega
      | ⟨1, _⟩ => show 256 * a + 1 * (y1.val - 256 * a) = y1.val; omega
      | ⟨2, _⟩ => show 0 + 1 * y2.val = y2.val; omega
  · refine (dif_neg fun hin => h ?_).trans (pageStep_else top w a O y0 y1 y2 (fun hh => h ⟨hh.1, hh.2.1⟩)).symm
    have h0 : w.toNat / 128 ≤ y0.val ∧ y0.val < w.toNat / 128 + 1 := hin 0
    have h1 : 256 * a ≤ y1.val ∧ y1.val < 256 * a + 256 := hin 1
    omega

/-! ## The loads -/

/-- The page word `4 i + j` of the order table. -/
def ordAt (ord : S2048.Idx → BitVec 32) (i : grid0.Coords) (j : Fin 4) : BitVec 32 :=
  ord (ix1 ⟨4 * (i 0).val + j.val, by have : (i 0).val < 512 := (i 0).isLt; have := j.isLt; omega⟩)

/-- Chunk `c` of the decoded codes. -/
def chunkW (W : S6x128x512.Idx → Elt F .bf16) (c : ℕ) : Vec F S1x128x512 .bf16 := fun y => W (ix3 ⟨c % 6, Nat.mod_lt _ (by decide)⟩ (y 1) (y 2))

/-- Chunk `c` of the scales. -/
def chunkS (S : S6x1x512.Idx → Elt F .f32) (c : ℕ) : Vec F S1x1x512 .f32 := fun y => S (ix3 ⟨c % 6, Nat.mod_lt _ (by decide)⟩ (y 1) (y 2))

theorem offw (i : grid0.Coords) (j : ℕ) (hj : j < 4) :
    (Scalar.indexCast (Scalar.addi (Scalar.muli (BitVec.ofNat 32 (i 0).val) 4#32) (BitVec.ofNat 32 j))).toNat = 4 * (i 0).val + j := by
  have : (i 0).val < 512 := (i 0).isLt
  show ((BitVec.ofNat 32 (i 0).val * 4#32 + BitVec.ofNat 32 j : BitVec 32)).toNat = _
  rw [BitVec.toNat_add, BitVec.toNat_mul, BitVec.toNat_ofNat, BitVec.toNat_ofNat]
  simp only [BitVec.toNat_ofNat]
  omega

section Loads
variable {sig : RefSig} {κ : Kind} {sp : Space}

theorem load_rows (v : View sig κ sp S3072x128 .bf16) (Q : S3072x128.Idx → Elt F .bf16) {off : Fin 2 → ℕ} (a : ℕ) (ha : a < 12) (h : off = ![256 * a, 0])
    (inb : ∀ d, off d + S256x128.size d ≤ S3072x128.size d) :
    v.readAt (Elt F) (Rect.unit (s := S3072x128) off S256x128.size inb).toLoadRect (v.rep Q) = rowsAt Q a := by
  subst h
  rw [View.readAt_rep_unit v Q inb rfl inb]
  funext y
  refine congrArg Q (funext fun d => Fin.ext ?_)
  match d with
  | ⟨0, _⟩ => show 256 * a + 1 * (y 0).val = (256 * a + (y 0).val) % 3072; have : (y 0).val < 256 := (y 0).isLt; omega
  | ⟨1, _⟩ => show 0 + 1 * (y 1).val = (y 1).val; omega

theorem load_W (v : View sig κ sp S6x128x512 .bf16) (W : S6x128x512.Idx → Elt F .bf16) {c : ℕ} (hc : c < 6)
    (inb : ∀ d, (![c, 0, 0] : Fin 3 → ℕ) d + S1x128x512.size d ≤ S6x128x512.size d) :
    v.readAt (Elt F) (Rect.unit (s := S6x128x512) ![c, 0, 0] S1x128x512.size inb).toLoadRect (v.rep W) = chunkW W c := by
  rw [View.readAt_rep_unit v W inb rfl inb]
  funext y
  refine congrArg W (funext fun d => Fin.ext ?_)
  have h0 : (y 0).val < 1 := (y 0).isLt
  match d with
  | ⟨0, _⟩ => show c + 1 * (y 0).val = c % 6; omega
  | ⟨1, _⟩ => show 0 + 1 * (y 1).val = (y 1).val; omega
  | ⟨2, _⟩ => show 0 + 1 * (y 2).val = (y 2).val; omega

theorem load_S (v : View sig κ sp S6x1x512 .f32) (S : S6x1x512.Idx → Elt F .f32) {c : ℕ} (hc : c < 6)
    (inb : ∀ d, (![c, 0, 0] : Fin 3 → ℕ) d + S1x1x512.size d ≤ S6x1x512.size d) :
    v.readAt (Elt F) (Rect.unit (s := S6x1x512) ![c, 0, 0] S1x1x512.size inb).toLoadRect (v.rep S) = chunkS S c := by
  rw [View.readAt_rep_unit v S inb rfl inb]
  funext y
  refine congrArg S (funext fun d => Fin.ext ?_)
  have h0 : (y 0).val < 1 := (y 0).isLt
  match d with
  | ⟨0, _⟩ => show c + 1 * (y 0).val = c % 6; omega
  | ⟨1, _⟩ => show 0 + 1 * (y 1).val = (y 1).val; omega
  | ⟨2, _⟩ => show 0 + 1 * (y 2).val = (y 2).val; omega

theorem load_ord (v : View sig κ sp S2048 .i32) (ord : S2048.Idx → BitVec 32) {off : Fin 1 → ℕ} (i : grid0.Coords) (j : Fin 4)
    (h : off = ![(Scalar.indexCast (Scalar.addi (Scalar.muli (BitVec.ofNat 32 (i 0).val) 4#32) (BitVec.ofNat 32 j.val))).toNat])
    (inb : ∀ d, off d + S1.size d ≤ S2048.size d) (x) :
    v.readAt (Elt F) (Rect.unit (s := S2048) off S1.size inb).toLoadRect (v.rep (Val := Elt F) ord) x = ordAt ord i j := by
  rw [offw i j.val j.isLt] at h
  subst h
  rw [View.readAt_rep_unit (Val := Elt F) v ord inb rfl inb]
  refine congrArg ord (funext fun d => Fin.ext ?_)
  have h0 : (x 0).val < 1 := (x 0).isLt
  match d with
  | ⟨0, _⟩ => show 4 * (i 0).val + j.val + 1 * (x 0).val = 4 * (i 0).val + j.val; omega

end Loads

/-! ## Words -/

theorem shr7 (w : BitVec 32) (h : w.toNat < 2048) : (Scalar.indexCast (Scalar.shrsi w 7#32)).toNat = w.toNat / 128 := by
  have hm : w.msb = false := by rw [BitVec.msb_eq_false_iff_two_mul_lt]; omega
  show (w.sshiftRight 7).toNat = _
  rw [BitVec.sshiftRight_eq_of_msb_false hm, BitVec.toNat_ushiftRight, Nat.shiftRight_eq_div_pow]

theorem iv256 (k : ℕ) (hk : k < 12) : (Scalar.indexCast (Scalar.muli (Scf.iv (0#32) (1#32) k) 256#32)).toNat = 256 * k := by
  show (((0#32 + BitVec.ofNat 32 k * 1#32) : BitVec 32) * 256#32).toNat = _
  rw [BitVec.toNat_mul, BitVec.toNat_add, BitVec.toNat_mul, BitVec.toNat_ofNat]
  simp only [BitVec.toNat_ofNat]
  omega

theorem trips_eq (x : BitVec 32) (h0 : x.toNat ≤ 12) : (k0_t1_loop x).trips = x.toNat := by
  show Scf.trips 0#32 (Scalar.addi 0#32 (Scalar.muli (Scalar.divsi (Scalar.subi x 0#32) 1#32) 1#32)) 1#32 = _
  rw [Scalar.muli_divsi_one]
  have e : Scalar.addi 0#32 (Scalar.subi x 0#32) = x := by
    show 0#32 + (x - 0#32) = x
    rw [BitVec.sub_zero, BitVec.zero_add]
  rw [e]
  have h1 : (1#32 : BitVec 32).toInt = 1 := by decide
  have h2 : (0#32 : BitVec 32).toInt = 0 := by decide
  have h3 : x.toInt = x.toNat := BitVec.toInt_eq_toNat_of_lt (by omega)
  unfold Scf.trips
  rw [h1, h2, h3]
  omega

/-- A block of 256 rows of the page's tile lies in the result. -/
theorem off14_ok (w : BitVec 32) (h : w.toNat < 2048) (k : ℕ) (hk : k < 12) (a : Fin 3) :
    (![(Scalar.indexCast (Scalar.shrsi w 7#32)).toNat, (Scalar.indexCast (Scalar.muli (Scf.iv (0#32) (1#32) k) 256#32)).toNat, 0] : Fin 3 → ℕ) a
      + S1x256x128.size a ≤ S16x3072x128.size a := by
  match a with
  | ⟨0, _⟩ => show (Scalar.indexCast (Scalar.shrsi w 7#32)).toNat + 1 ≤ 16; rw [shr7 w h]; omega
  | ⟨1, _⟩ => show (Scalar.indexCast (Scalar.muli (Scf.iv (0#32) (1#32) k) 256#32)).toNat + 256 ≤ 3072; rw [iv256 k hk]; omega
  | ⟨2, _⟩ => show 0 + 128 ≤ 128; omega

theorem off14_eq (w : BitVec 32) (h : w.toNat < 2048) (k : ℕ) (hk : k < 12) :
    (![(Scalar.indexCast (Scalar.shrsi w 7#32)).toNat, (Scalar.indexCast (Scalar.muli (Scf.iv (0#32) (1#32) k) 256#32)).toNat, 0] : Fin 3 → ℕ)
      = ![w.toNat / 128, 256 * k, 0] := by
  rw [shr7 w h, iv256 k hk]

/-- A store of the selected block, whatever was stored before, does `pageStep` to what the view reads. -/
theorem page_read {sig : RefSig} {κ : Kind} {sp : Space} {v : View sig κ sp S16x3072x128 .f32} {f : v.ty.Contents (Elt F)}
    {off : Fin 3 → ℕ} {inb inb' : ∀ d, off d + S1x256x128.size d ≤ S16x3072x128.size d} {L : List (View.Piece (Elt F) S16x3072x128 .f32)}
    {pay : FVec F S1x256x128 .f32} {top : FVec F S256 .f32} {w : BitVec 32} {a : ℕ} {O : S16x3072x128.Idx → Elt F .f32}
    (hpay : pay = selP top w (v.readAt (Elt F) (Rect.unit (s := S16x3072x128) off S1x256x128.size inb').toLoadRect (v.writes (Elt F) f L)))
    {w' : BitVec 32} (hw' : w = w') (hw : w'.toNat < 2048) (ha : a < 12)
    (h : off = ![(Scalar.indexCast (Scalar.shrsi w 7#32)).toNat, (Scalar.indexCast (Scalar.muli (Scf.iv (0#32) (1#32) a) 256#32)).toNat, 0])
    {top' : FVec F S256 .f32} (htop : top = top') (hO : v.read (Elt F) (v.writes (Elt F) f L) = O) :
    v.read (Elt F) (v.writes (Elt F) f (⟨Rect.unit (s := S16x3072x128) off S1x256x128.size inb, pay⟩ :: L)) = pageStep top' w' a O := by
  subst hw'
  rw [off14_eq w hw a ha] at h
  subst hO h hpay htop
  rw [View.read_writes_cons_put v f inb _ L rfl, View.readAt_unit v _ inb' rfl inb', put_selP top w hw a ha]

/-- The first store, onto a view reading `O`. -/
theorem page_read0 {sig : RefSig} {κ : Kind} {sp : Space} {v : View sig κ sp S16x3072x128 .f32} {O : S16x3072x128.Idx → Elt F .f32}
    {off : Fin 3 → ℕ} {inb inb' : ∀ d, off d + S1x256x128.size d ≤ S16x3072x128.size d}
    {pay : FVec F S1x256x128 .f32} {top : FVec F S256 .f32} {w : BitVec 32} {a : ℕ}
    (hpay : pay = selP top w (v.readAt (Elt F) (Rect.unit (s := S16x3072x128) off S1x256x128.size inb').toLoadRect (v.rep O)))
    {w' : BitVec 32} (hw' : w = w') (hw : w'.toNat < 2048) (ha : a < 12)
    (h : off = ![(Scalar.indexCast (Scalar.shrsi w 7#32)).toNat, (Scalar.indexCast (Scalar.muli (Scf.iv (0#32) (1#32) a) 256#32)).toNat, 0])
    {top' : FVec F S256 .f32} (htop : top = top') :
    v.read (Elt F) (v.writes (Elt F) (v.rep O) [⟨Rect.unit (s := S16x3072x128) off S1x256x128.size inb, pay⟩]) = pageStep top' w' a O :=
  page_read (L := []) (by rw [View.writes_nil]; exact hpay) hw' hw ha h htop (by rw [View.writes_nil, View.read_rep])

/-! ## The scores from the loads -/

section Raw
variable {sig : RefSig} {κ : Kind} {sp sp' sp'' : Space}

theorem inbW (c : ℕ) (d : Fin 3) : (![c % 6, 0, 0] : Fin 3 → ℕ) d + S1x128x512.size d ≤ S6x128x512.size d := by
  match d with
  | ⟨0, _⟩ => show c % 6 + 1 ≤ 6; omega
  | ⟨1, _⟩ => show 0 + 128 ≤ 128; omega
  | ⟨2, _⟩ => show 0 + 512 ≤ 512; omega

theorem inbS (c : ℕ) (d : Fin 3) : (![c % 6, 0, 0] : Fin 3 → ℕ) d + S1x1x512.size d ≤ S6x1x512.size d := by
  match d with
  | ⟨0, _⟩ => show c % 6 + 1 ≤ 6; omega
  | ⟨1, _⟩ => show 0 + 1 ≤ 1; omega
  | ⟨2, _⟩ => show 0 + 512 ≤ 512; omega

/-- The load of chunk `c` of the codes. -/
def rawW (v : View sig κ sp S6x128x512 .bf16) (W : S6x128x512.Idx → Elt F .bf16) (c : ℕ) : Vec F S1x128x512 .bf16 :=
  v.readAt (Elt F) (Rect.unit (s := S6x128x512) ![c % 6, 0, 0] S1x128x512.size (inbW c)).toLoadRect (v.rep W)

/-- The load of chunk `c` of the scales. -/
def rawS (v : View sig κ sp S6x1x512 .f32) (S : S6x1x512.Idx → Elt F .f32) (c : ℕ) : Vec F S1x1x512 .f32 :=
  v.readAt (Elt F) (Rect.unit (s := S6x1x512) ![c % 6, 0, 0] S1x1x512.size (inbS c)).toLoadRect (v.rep S)

theorem rawW_eq (v : View sig κ sp S6x128x512 .bf16) (W : S6x128x512.Idx → Elt F .bf16) : rawW v W = chunkW W := funext fun c => by
  unfold rawW
  rw [load_W v W (c := c % 6) (Nat.mod_lt _ (by decide))]
  unfold chunkW
  simp only [Nat.mod_mod]

theorem rawS_eq (v : View sig κ sp S6x1x512 .f32) (S : S6x1x512.Idx → Elt F .f32) : rawS v S = chunkS S := funext fun c => by
  unfold rawS
  rw [load_S v S (c := c % 6) (Nat.mod_lt _ (by decide))]
  unfold chunkS
  simp only [Nat.mod_mod]

/-- The scores computed from the loads are the scores of the rows and chunks loaded. -/
theorem rawBest_eq (v5 : View sig κ sp S3072x128 .bf16) (v15 : View sig κ sp' S6x128x512 .bf16) (v16 : View sig κ sp'' S6x1x512 .f32)
    (Q : S3072x128.Idx → Elt F .bf16) (W : S6x128x512.Idx → Elt F .bf16) (S : S6x1x512.Idx → Elt F .f32) (n a : ℕ) (ha : a < 12) (off : Fin 2 → ℕ)
    (h : off = ![(Scalar.indexCast (Scalar.muli (Scf.iv (0#32) (1#32) a) 256#32)).toNat, 0])
    (inb : ∀ d, off d + S256x128.size d ≤ S3072x128.size d) :
    best (v5.readAt (Elt F) (Rect.unit (s := S3072x128) off S256x128.size inb).toLoadRect (v5.rep Q)) (rawW v15 W) (rawS v16 S) n
      = best (rowsAt Q a) (chunkW W) (chunkS S) n := by
  rw [iv256 a ha] at h
  rw [load_rows v5 Q a ha h, rawW_eq, rawS_eq]

end Raw

end Cert.KernelIdeal.Body
-- ==== Proof.KI.Decode.lean ====
/- How the kernel decodes one chunk of 128 patches of the four pages of a group: the two nibbles of every byte and the scales,
   with the values of column 0 wherever the patch lies beyond the page's length. -/
module

public import proofs.«01_k».proof.Proof.KI.Spec

@[expose] public section
set_option maxRecDepth 16384
noncomputable section

namespace Cert.KernelIdeal.Body
open Cert.KernelIdeal Cert.KernelIdeal.Gen
open Idealize.ShloMosaic Idealize.ShloMosaic.TcCoe Idealize.ShloMosaic.Tactic

variable {F : FTy → Type} [FloatOps F]

/-! ## One page's chunk -/

/-- Which of the chunk's 128 patches lie before the page's end (`cw` the chunk's first patch, `len` the length). -/
def maskC (cw len : BitVec 32) : IVec S1x128 1 := cmpi .slt (addi laneV (broadcast S1x128 cw)) (broadcast S1x128 len)

/-- The words of four code rows each. -/
def wordsC (b : Vec F S1x64x128 .i8) : IVec S16x128 32 :=
  bitcast S16x128 32 (shapeCast S64x128 b shapeCasts_S1x64x128_S64x128 : IVec S64x128 8) bitcasts_S64x128_w8_S16x128_w32

/-- The chunk's words, those of column 0 beyond the page's end. -/
def selC (m : IVec S1x128 1) (first b : Vec F S1x64x128 .i8) : IVec S16x128 32 :=
  select (broadcastTo S16x128 (shapeCast S1x128 m shapeCasts_S1x128_S1x128) broadcasts_S1x128_S16x128) (wordsC b)
    (broadcastTo S16x128 (shapeCast S16x1 (extractStridedSlice S16x1 ![0, 0] (wordsC first) slices_S16x128_o0_0_S16x1) shapeCasts_S16x1_S16x1) broadcasts_S16x1_S16x128)

/-- The low nibbles, in the high half of a byte, as floats. -/
def loC (m : IVec S1x128 1) (first b : Vec F S1x64x128 .i8) : FVec F S1x64x128 .bf16 :=
  shapeCast S1x64x128 (sitofp .bf16 (bitcast S64x128 8 (andi (shli (selC m first b) (broadcast S16x128 4#32)) (broadcast S16x128 4042322160#32))
    bitcasts_S16x128_w32_S64x128_w8)) shapeCasts_S64x128_S1x64x128

/-- The high nibbles, in the high half of a byte, as floats. -/
def hiC (m : IVec S1x128 1) (first b : Vec F S1x64x128 .i8) : FVec F S1x64x128 .bf16 :=
  shapeCast S1x64x128 (sitofp .bf16 (bitcast S64x128 8 (andi (selC m first b) (broadcast S16x128 4042322160#32))
    bitcasts_S16x128_w32_S64x128_w8)) shapeCasts_S64x128_S1x64x128

/-- The chunk's scales, that of column 0 beyond the page's end. -/
def scC (m : IVec S1x128 1) (b : Vec F S1x1x128 .f32) (first : Vec F S1x1x1 .f32) : FVec F S1x1x128 .f32 :=
  shapeCast S1x1x128 (select m (shapeCast S1x128 b shapeCasts_S1x1x128_S1x128)
    (broadcastTo S1x128 (shapeCast S1x1 (shapeCast S1x1 first shapeCasts_S1x1x1_S1x1) shapeCasts_S1x1_S1x1) broadcasts_S1x1_S1x128)) shapeCasts_S1x128_S1x1x128

/-- Chunk `c` of a page's codes. -/
def blockP (P : S1x64x768.Idx → Elt F .i8) (c : ℕ) : Vec F S1x64x128 .i8 :=
  fun y => P (ix3 0 (y 1) ⟨(128 * c + (y 2).val) % 768, Nat.mod_lt _ (by decide)⟩)

/-- Chunk `c` of a page's scales. -/
def blockS (P : S1x1x768.Idx → Elt F .f32) (c : ℕ) : Vec F S1x1x128 .f32 :=
  fun y => P (ix3 0 0 ⟨(128 * c + (y 2).val) % 768, Nat.mod_lt _ (by decide)⟩)

/-- The page's first scale. -/
def firstS (P : S1x1x768.Idx → Elt F .f32) : Vec F S1x1x1 .f32 := fun _ => P (ix3 0 0 0)

/-! ## The chunk in the scratch -/

/-- Page `k`'s 128 columns of chunk `c` written: low nibbles above, high nibbles below. -/
def pagePut (c k : ℕ) (lo hi : FVec F S1x64x128 .bf16) (X : S6x128x512.Idx → Elt F .bf16) : S6x128x512.Idx → Elt F .bf16 := fun y =>
  if (y 0).val = c ∧ (y 2).val / 128 = k then
    if (y 1).val < 64 then lo (ix3 0 ⟨(y 1).val % 64, Nat.mod_lt _ (by decide)⟩ ⟨(y 2).val % 128, Nat.mod_lt _ (by decide)⟩)
    else hi (ix3 0 ⟨(y 1).val % 64, Nat.mod_lt _ (by decide)⟩ ⟨(y 2).val % 128, Nat.mod_lt _ (by decide)⟩)
  else X y

/-- Page `k`'s 128 scales of chunk `c` written. -/
def scalePut (c k : ℕ) (sc : FVec F S1x1x128 .f32) (X : S6x1x512.Idx → Elt F .f32) : S6x1x512.Idx → Elt F .f32 := fun y =>
  if (y 0).val = c ∧ (y 2).val / 128 = k then sc (ix3 0 0 ⟨(y 2).val % 128, Nat.mod_lt _ (by decide)⟩) else X y

/-- Chunk `c` of the four pages decoded into the scratch. -/
def chunkPut (c : ℕ) (P : Fin 4 → S1x64x768.Idx → Elt F .i8) (len : Fin 4 → BitVec 32) (X : S6x128x512.Idx → Elt F .bf16) : S6x128x512.Idx → Elt F .bf16 :=
  let lo := fun k : Fin 4 => loC (F := F) (maskC (BitVec.ofNat 32 (128 * c)) (len k)) (blockP (P k) 0) (blockP (P k) c)
  let hi := fun k : Fin 4 => hiC (F := F) (maskC (BitVec.ofNat 32 (128 * c)) (len k)) (blockP (P k) 0) (blockP (P k) c)
  pagePut c 3 (lo 3) (hi 3) (pagePut c 2 (lo 2) (hi 2) (pagePut c 1 (lo 1) (hi 1) (pagePut c 0 (lo 0) (hi 0) X)))

/-- Chunk `c` of the four pages' scales written into the scratch. -/
def chunkPutS (c : ℕ) (P : Fin 4 → S1x1x768.Idx → Elt F .f32) (len : Fin 4 → BitVec 32) (X : S6x1x512.Idx → Elt F .f32) : S6x1x512.Idx → Elt F .f32 :=
  let sc := fun k : Fin 4 => scC (F := F) (maskC (BitVec.ofNat 32 (128 * c)) (len k)) (blockS (P k) c) (firstS (P k))
  scalePut c 3 (sc 3) (scalePut c 2 (sc 2) (scalePut c 1 (sc 1) (scalePut c 0 (sc 0) X)))

/-! ## Loads and stores -/

section Loads
variable {sig : RefSig} {κ : Kind} {sp : Space}

theorem load_P (v : View sig κ sp S1x64x768 .i8) (P : S1x64x768.Idx → Elt F .i8) {c : ℕ} (hc : c < 6) {off : Fin 3 → ℕ} (h : off = ![0, 0, 128 * c])
    (inb : ∀ d, off d + S1x64x128.size d ≤ S1x64x768.size d) :
    v.readAt (Elt F) (Rect.unit (s := S1x64x768) off S1x64x128.size inb).toLoadRect (v.rep P) = blockP P c := by
  subst h
  rw [View.readAt_rep_unit v P inb rfl inb]
  funext y
  refine congrArg P (funext fun d => Fin.ext ?_)
  have h0 : (y 0).val < 1 := (y 0).isLt
  have h2 : (y 2).val < 128 := (y 2).isLt
  match d with
  | ⟨0, _⟩ => show 0 + 1 * (y 0).val = 0; omega
  | ⟨1, _⟩ => show 0 + 1 * (y 1).val = (y 1).val; omega
  | ⟨2, _⟩ => show 128 * c + 1 * (y 2).val = (128 * c + (y 2).val) % 768; omega

theorem load_Sc (v : View sig κ sp S1x1x768 .f32) (P : S1x1x768.Idx → Elt F .f32) {c : ℕ} (hc : c < 6) {off : Fin 3 → ℕ} (h : off = ![0, 0, 128 * c])
    (inb : ∀ d, off d + S1x1x128.size d ≤ S1x1x768.size d) :
    v.readAt (Elt F) (Rect.unit (s := S1x1x768) off S1x1x128.size inb).toLoadRect (v.rep P) = blockS P c := by
  subst h
  rw [View.readAt_rep_unit v P inb rfl inb]
  funext y
  refine congrArg P (funext fun d => Fin.ext ?_)
  have h0 : (y 0).val < 1 := (y 0).isLt
  have h1 : (y 1).val < 1 := (y 1).isLt
  have h2 : (y 2).val < 128 := (y 2).isLt
  match d with
  | ⟨0, _⟩ => show 0 + 1 * (y 0).val = 0; omega
  | ⟨1, _⟩ => show 0 + 1 * (y 1).val = 0; omega
  | ⟨2, _⟩ => show 128 * c + 1 * (y 2).val = (128 * c + (y 2).val) % 768; omega

theorem load_first (v : View sig κ sp S1x1x768 .f32) (P : S1x1x768.Idx → Elt F .f32)
    (inb : ∀ d, (![0, 0, 0] : Fin 3 → ℕ) d + S1x1x1.size d ≤ S1x1x768.size d) :
    v.readAt (Elt F) (Rect.unit (s := S1x1x768) ![0, 0, 0] S1x1x1.size inb).toLoadRect (v.rep P) = firstS P := by
  rw [View.readAt_rep_unit v P inb rfl inb]
  funext y
  refine congrArg P (funext fun d => Fin.ext ?_)
  have h0 : (y 0).val < 1 := (y 0).isLt
  have h1 : (y 1).val < 1 := (y 1).isLt
  have h2 : (y 2).val < 1 := (y 2).isLt
  match d with
  | ⟨0, _⟩ => show 0 + 1 * (y 0).val = 0; omega
  | ⟨1, _⟩ => show 0 + 1 * (y 1).val = 0; omega
  | ⟨2, _⟩ => show 0 + 1 * (y 2).val = 0; omega

theorem put_put_page {c k : ℕ} (hk : k < 4) (lo hi : FVec F S1x64x128 .bf16) (X : S6x128x512.Idx → Elt F .bf16) :
    VecWindow.put (VecWindow.put (s := S6x128x512) X ![c, 0, 128 * k] S1x64x128.size lo) ![c, 64, 128 * k] S1x64x128.size hi = pagePut c k lo hi X := by
  funext y
  have h1 : (y 1).val < 128 := (y 1).isLt
  have h2 : (y 2).val < 512 := (y 2).isLt
  unfold VecWindow.put pagePut
  by_cases hin : (y 0).val = c ∧ (y 2).val / 128 = k
  · rw [if_pos hin]
    by_cases hl : (y 1).val < 64
    · rw [if_pos hl, dif_neg (fun h => by have : 64 ≤ (y 1).val := (h 1).1; omega)]
      rw [dif_pos (fun d => by
        match d with
        | ⟨0, _⟩ => exact (show c ≤ (y 0).val ∧ (y 0).val < c + 1 by omega)
        | ⟨1, _⟩ => exact (show 0 ≤ (y 1).val ∧ (y 1).val < 0 + 64 by omega)
        | ⟨2, _⟩ => exact (show 128 * k ≤ (y 2).val ∧ (y 2).val < 128 * k + 128 by omega))]
      refine congrArg lo (funext fun d => Fin.ext ?_)
      match d with
      | ⟨0, _⟩ => show (y 0).val - c = 0; omega
      | ⟨1, _⟩ => show (y 1).val - 0 = (y 1).val % 64; omega
      | ⟨2, _⟩ => show (y 2).val - 128 * k = (y 2).val % 128; omega
    · rw [if_neg hl, dif_pos (fun d => by
        match d with
        | ⟨0, _⟩ => exact (show c ≤ (y 0).val ∧ (y 0).val < c + 1 by omega)
        | ⟨1, _⟩ => exact (show 64 ≤ (y 1).val ∧ (y 1).val < 64 + 64 by omega)
        | ⟨2, _⟩ => exact (show 128 * k ≤ (y 2).val ∧ (y 2).val < 128 * k + 128 by omega))]
      refine congrArg hi (funext fun d => Fin.ext ?_)
      match d with
      | ⟨0, _⟩ => show (y 0).val - c = 0; omega
      | ⟨1, _⟩ => show (y 1).val - 64 = (y 1).val % 64; omega
      | ⟨2, _⟩ => show (y 2).val - 128 * k = (y 2).val % 128; omega
  · rw [if_neg hin, dif_neg (fun h => hin ⟨by have : c ≤ (y 0).val ∧ (y 0).val < c + 1 := h 0; omega, by have : 128 * k ≤ (y 2).val ∧ (y 2).val < 128 * k + 128 := h 2; omega⟩),
      dif_neg (fun h => hin ⟨by have : c ≤ (y 0).val ∧ (y 0).val < c + 1 := h 0; omega, by have : 128 * k ≤ (y 2).val ∧ (y 2).val < 128 * k + 128 := h 2; omega⟩)]

theorem put_scale {c k : ℕ} (hk : k < 4) (sc : FVec F S1x1x128 .f32) (X : S6x1x512.Idx → Elt F .f32) :
    VecWindow.put (s := S6x1x512) X ![c, 0, 128 * k] S1x1x128.size sc = scalePut c k sc X := by
  funext y
  have h1 : (y 1).val < 1 := (y 1).isLt
  have h2 : (y 2).val < 512 := (y 2).isLt
  unfold VecWindow.put scalePut
  by_cases hin : (y 0).val = c ∧ (y 2).val / 128 = k
  · rw [if_pos hin, dif_pos (fun d => by
        match d with
        | ⟨0, _⟩ => exact (show c ≤ (y 0).val ∧ (y 0).val < c + 1 by omega)
        | ⟨1, _⟩ => exact (show 0 ≤ (y 1).val ∧ (y 1).val < 0 + 1 by omega)
        | ⟨2, _⟩ => exact (show 128 * k ≤ (y 2).val ∧ (y 2).val < 128 * k + 128 by omega))]
    refine congrArg sc (funext fun d => Fin.ext ?_)
    match d with
    | ⟨0, _⟩ => show (y 0).val - c = 0; omega
    | ⟨1, _⟩ => show (y 1).val - 0 = 0; omega
    | ⟨2, _⟩ => show (y 2).val - 128 * k = (y 2).val % 128; omega
  · rw [if_neg hin, dif_neg (fun h => hin ⟨by have : c ≤ (y 0).val ∧ (y 0).val < c + 1 := h 0; omega, by have : 128 * k ≤ (y 2).val ∧ (y 2).val < 128 * k + 128 := h 2; omega⟩)]

/-- The two stores of a page's nibbles do `pagePut`, whatever was stored before. -/
theorem dec_read {v : View sig κ sp S6x128x512 .bf16} {f : v.ty.Contents (Elt F)} (c k : ℕ) (hk : k < 4) {off off' : Fin 3 → ℕ}
    {inb : ∀ d, off d + S1x64x128.size d ≤ S6x128x512.size d} {inb' : ∀ d, off' d + S1x64x128.size d ≤ S6x128x512.size d}
    {L : List (View.Piece (Elt F) S6x128x512 .bf16)} {plo phi lo hi : FVec F S1x64x128 .bf16} {X : S6x128x512.Idx → Elt F .bf16}
    (h : off = ![c, 0, 128 * k]) (h' : off' = ![c, 64, 128 * k]) (hlo : plo = lo) (hhi : phi = hi) (hX : v.read (Elt F) (v.writes (Elt F) f L) = X) :
    v.read (Elt F) (v.writes (Elt F) f (⟨Rect.unit (s := S6x128x512) off' S1x64x128.size inb', phi⟩ :: ⟨Rect.unit (s := S6x128x512) off S1x64x128.size inb, plo⟩ :: L))
      = pagePut c k lo hi X := by
  subst hlo hhi hX
  rw [View.read_writes_cons_put v f inb' _ _ h', View.read_writes_cons_put v f inb _ L h, put_put_page hk]

/-- The store of a page's scales does `scalePut`, whatever was stored before. -/
theorem sc_read {v : View sig κ sp S6x1x512 .f32} {f : v.ty.Contents (Elt F)} (c k : ℕ) (hk : k < 4) {off : Fin 3 → ℕ}
    {inb : ∀ d, off d + S1x1x128.size d ≤ S6x1x512.size d}
    {L : List (View.Piece (Elt F) S6x1x512 .f32)} {psc sc : FVec F S1x1x128 .f32} {X : S6x1x512.Idx → Elt F .f32}
    (h : off = ![c, 0, 128 * k]) (hsc : psc = sc) (hX : v.read (Elt F) (v.writes (Elt F) f L) = X) :
    v.read (Elt F) (v.writes (Elt F) f (⟨Rect.unit (s := S6x1x512) off S1x1x128.size inb, psc⟩ :: L)) = scalePut c k sc X := by
  subst hsc hX
  rw [View.read_writes_cons_put v f inb _ L h, put_scale hk]

/-- The scratch before any store. -/
theorem read_nil {S : Shape} {e : EltTy} (v : View sig κ sp S e) (X : S.Idx → Elt F e) : v.read (Elt F) (v.writes (Elt F) (v.rep X) []) = X := by
  rw [View.writes_nil, View.read_rep]

/-- The length of the page at word `w` of the order. -/
def lenAt (len : S2048.Idx → BitVec 32) (w : BitVec 32) : BitVec 32 := len (ix1 ⟨w.toNat % 2048, Nat.mod_lt _ (by decide)⟩)

theorem load_len (v : View sig κ sp S2048 .i32) (len : S2048.Idx → BitVec 32) {w w' : BitVec 32} (hw' : w = w') (hw : w'.toNat < 2048) {off : Fin 1 → ℕ}
    (h : off = ![(Scalar.indexCast w).toNat]) (inb : ∀ d, off d + S1.size d ≤ S2048.size d) (x) :
    v.readAt (Elt F) (Rect.unit (s := S2048) off S1.size inb).toLoadRect (v.rep (Val := Elt F) len) x = lenAt len w' := by
  subst h hw'
  rw [View.readAt_rep_unit (Val := Elt F) v len inb rfl inb]
  refine congrArg len (funext fun d => Fin.ext ?_)
  have h0 : (x 0).val < 1 := (x 0).isLt
  match d with
  | ⟨0, _⟩ => show w.toNat + 1 * (x 0).val = w.toNat % 2048; omega

end Loads

/-! ## Conditions -/

/-- A word below 2048 is a page. -/
theorem len_ok (w : BitVec 32) (h : w.toNat < 2048) (a : Fin 1) : (![(Scalar.indexCast w).toNat] : Fin 1 → ℕ) a + S1.size a ≤ S2048.size a := by
  match a with
  | ⟨0, _⟩ => show w.toNat + 1 ≤ 2048; omega

end Cert.KernelIdeal.Body
-- ==== Proof.KI.Trip.lean ====
module
public import proofs.«01_k».proof.Proof.Gen.KernelIdeal.Skeleton
public import proofs.«01_k».proof.Proof.Gen.KernelIdeal.Launch
public import proofs.«01_k».proof.Proof.Gen.KernelIdeal.Loops
public import proofs.«01_k».proof.Proof.KI.Spec
public import Idealize.ShloMosaic.Lib.LoopRemainder

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
abbrev UU (nD : Nat) (τ : Topo) : Type := UR sig nD τ
abbrev 𝒱₀ : Variants := Variants.none
local notation "𝕄" => MT nD τ sig Unit (Elt F) ℕ (UU nD τ) ℕ

/-- Contents of a buffer through a memref, at a share. -/
abbrev pt {sp : Space} {S : Shape} {e : EltTy} (c : Dev nD) (M : Memref sig .tc sp S e) (q : PosShare TreeShare) (f : Buf (Elt F) (M.view.loc (c : Thread nD τ))) : sProp 𝕄 :=
  M.view.loc (c : Thread nD τ) ↦[M.view.set]{q} f

/-- A memref reading `X`, at a share. -/
abbrev ptR {sp : Space} {S : Shape} {e : EltTy} (c : Dev nD) (M : Memref sig .tc sp S e) (q : PosShare TreeShare) (X : S.Idx → Elt F e) : sProp 𝕄 :=
  pt c M q (M.view.rep (Val := Elt F) X)

section Trip
variable (c : Dev nD) (i : grid0.Coords) (arg1 : Memref sig .tc .smem S2048 .i32) (harg1 : arg1.IsWhole) (arg2 : Memref sig .tc .smem S512 .i32) (harg2 : arg2.IsWhole) (arg3 : Memref sig .tc .smem S1 .i32) (harg3 : arg3.IsWhole) (arg4 : Memref sig .tc .smem S2048 .i32) (harg4 : arg4.IsWhole) (arg5 : Memref sig .tc .vmem S3072x128 .bf16) (harg5 : arg5.IsWhole) (arg6 : Memref sig .tc .vmem S1x64x768 .i8) (harg6 : arg6.IsWhole) (arg7 : Memref sig .tc .vmem S1x64x768 .i8) (harg7 : arg7.IsWhole) (arg8 : Memref sig .tc .vmem S1x64x768 .i8) (harg8 : arg8.IsWhole) (arg9 : Memref sig .tc .vmem S1x64x768 .i8) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x1x768 .f32) (harg12 : arg12.IsWhole) (arg13 : Memref sig .tc .vmem S1x1x768 .f32) (harg13 : arg13.IsWhole) (arg14 : Memref sig .tc .vmem S16x3072x128 .f32) (harg14 : arg14.IsWhole) (arg15 : Memref sig .tc .vmem S6x128x512 .bf16) (harg15 : arg15.IsWhole) (arg16 : Memref sig .tc .vmem S6x1x512 .f32) (harg16 : arg16.IsWhole)
  (q1 q5 : PosShare TreeShare) (ord : S2048.Idx → BitVec 32) (Q : S3072x128.Idx → Elt F .bf16)
  (W : S6x128x512.Idx → Elt F .bf16) (S : S6x1x512.Idx → Elt F .f32)

/-- What a loop over the row blocks holds: the order table, the rows, the result at `O`, the decoded chunks. -/
abbrev loopRes (O : S16x3072x128.Idx → Elt F .f32) : sProp 𝕄 :=
  iprop(ptR c arg1 q1 ord ∗ ptR c arg5 q5 Q ∗ ptR c arg14 fullShare O ∗ ptR c arg15 fullShare W ∗ ptR c arg16 fullShare S)

theorem ord_lt (hord : ∀ j, (ord j).toNat < 2048) (r : Rect S2048) (j) :
    (arg1.view.readAt (Elt F) r.toLoadRect (arg1.view.rep (Val := Elt F) ord) j : BitVec 32).toNat < 2048 := by
  rw [View.readAt_rep]; exact hord _

/-! ## 1 chunk -/

theorem pay_1_0 (q : Vec F S256x128 .bf16) (w0 : Vec F S1x128x512 .bf16) (s0 : Vec F S1x1x512 .f32) (x : BitVec 32) (o : Vec F S1x256x128 .f32) :
    k0_pay144 laneV q w0 s0 x o = selP (topK (scoreV q w0 s0) 0) x o := rfl
theorem pay_1_1 (b : FVec F S256x512 .f32) (x : BitVec 32) (o : Vec F S1x256x128 .f32) :
    k0_pay145 laneV b x o = selP (topK b 1) x o := rfl
theorem pay_1_2 (b : FVec F S256x512 .f32) (x : BitVec 32) (o : Vec F S1x256x128 .f32) :
    k0_pay235 (k0_pay146 laneV b x o) = selP (topK b 2) x o := rfl
theorem pay_1_3 (b : FVec F S256x512 .f32) (x : BitVec 32) (o : Vec F S1x256x128 .f32) :
    k0_pay236 b x o = selP (topK b 3) x o := rfl

/-- One trip with 1 chunk(s): one block of 256 rows of the group's four pages is scored and written. -/
theorem trip1 (hord : ∀ j, (ord j).toNat < 2048) (O : S16x3072x128.Idx → Elt F .f32) (arg0 v1 : BitVec 32) (hc : k0_cond7 v1 = 1#1) (v39 : BitVec 32)
    (hw : k0_chk25 v1 v39) (acc : BitVec 32) (hn : v39.toNat ≤ 12) (k : Fin (k0_t1_loop v39).trips) :
    loopRes c arg1 arg5 arg14 arg15 arg16 q1 q5 ord Q W S O
    ⊢ wp frame (wpE (defs₀ (F := F)) 𝒱₀ (c : Thread nD τ) none) Set.univ
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw k acc)
      (fun _ => loopRes c arg1 arg5 arg14 arg15 arg16 q1 q5 ord Q W S (tripStep (best (rowsAt Q k.val) (chunkW W) (chunkS S) 0) (ordAt ord i) k.val O)) := by
  have hk : k.val < 12 := lt_of_lt_of_le (lt_of_lt_of_eq k.isLt (trips_eq v39 hn)) hn
  have hb := fun inb => rawBest_eq arg5.view arg15.view arg16.view Q W S 0 k.val hk (k0_off51 v39 k) rfl inb
  iintro ⟨H1, H5, H14, H15, H16⟩
  sl_unfold [k0_t1_body]
  sl_exec (disch := exact fun _ => off14_ok _ (ord_lt arg1 ord hord _ _) _ hk)
  rw [wp_ret]; imodintro
  isplitl [H1]; · iexact H1
  isplitl [H5]; · iexact H5
  isplitl [H14]
  · iapply (pointsTo_rep_of_read (c : Thread nD τ) arg14 _ fullShare _ ?_); on_goal 2 => iexact H14
    refine page_read (pay_1_3 _ _ _) (load_ord _ _ i 3 rfl _ _) (hord _) hk rfl (congrArg (topK · 3) (hb (k0_off51_inb v1 v39 hw k hc))) ?_
    refine page_read (pay_1_2 _ _ _) (load_ord _ _ i 2 rfl _ _) (hord _) hk rfl (congrArg (topK · 2) (hb (k0_off51_inb v1 v39 hw k hc))) ?_
    refine page_read (pay_1_1 _ _ _) (load_ord _ _ i 1 rfl _ _) (hord _) hk rfl (congrArg (topK · 1) (hb (k0_off51_inb v1 v39 hw k hc))) ?_
    refine page_read0 (pay_1_0 _ _ _ _ _) (load_ord _ _ i 0 rfl _ _) (hord _) hk rfl (congrArg (topK · 0) (hb (k0_off51_inb v1 v39 hw k hc)))
  isplitl [H15]; · iexact H15
  iexact H16

/-! ## 2 chunks -/

theorem pay_2_0 (q : Vec F S256x128 .bf16) (w0 : Vec F S1x128x512 .bf16) (s0 : Vec F S1x1x512 .f32) (w1 : Vec F S1x128x512 .bf16) (s1 : Vec F S1x1x512 .f32) (x : BitVec 32) (o : Vec F S1x256x128 .f32) :
    k0_pay155 (k0_pay152 q w0 s0 w1 s1) (k0_pay153 o) (k0_pay154 (F := F) laneV x) = selP (topK (maximumf (scoreV q w0 s0) (scoreV q w1 s1)) 0) x o := rfl
theorem pay_2_1 (b : FVec F S256x512 .f32) (x : BitVec 32) (o : Vec F S1x256x128 .f32) :
    k0_pay156 laneV b x o = selP (topK b 1) x o := rfl
theorem pay_2_2 (b : FVec F S256x512 .f32) (x : BitVec 32) (o : Vec F S1x256x128 .f32) :
    k0_pay239 (k0_pay157 b) (k0_pay158 (F := F) x) o = selP (topK b 2) x o := rfl
theorem pay_2_3 (b : FVec F S256x512 .f32) (x : BitVec 32) (o : Vec F S1x256x128 .f32) :
    k0_pay240 b x o = selP (topK b 3) x o := rfl

/-- One trip with 2 chunk(s): one block of 256 rows of the group's four pages is scored and written. -/
theorem trip2 (hord : ∀ j, (ord j).toNat < 2048) (O : S16x3072x128.Idx → Elt F .f32) (arg0 v1 : BitVec 32) (hc : k0_cond8 v1 = 1#1) (v39 : BitVec 32)
    (hw : k0_chk34 v1 v39) (acc : BitVec 32) (hn : v39.toNat ≤ 12) (k : Fin (k0_t3_loop v39).trips) :
    loopRes c arg1 arg5 arg14 arg15 arg16 q1 q5 ord Q W S O
    ⊢ wp frame (wpE (defs₀ (F := F)) 𝒱₀ (c : Thread nD τ) none) Set.univ
      (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw k acc)
      (fun _ => loopRes c arg1 arg5 arg14 arg15 arg16 q1 q5 ord Q W S (tripStep (best (rowsAt Q k.val) (chunkW W) (chunkS S) 1) (ordAt ord i) k.val O)) := by
  have hk : k.val < 12 := lt_of_lt_of_le (lt_of_lt_of_eq k.isLt (trips_eq v39 hn)) hn
  have hb := fun inb => rawBest_eq arg5.view arg15.view arg16.view Q W S 1 k.val hk (k0_off69 v39 k) rfl inb
  iintro ⟨H1, H5, H14, H15, H16⟩
  sl_unfold [k0_t3_body]
  sl_exec (disch := exact fun _ => off14_ok _ (ord_lt arg1 ord hord _ _) _ hk)
  rw [wp_ret]; imodintro
  isplitl [H1]; · iexact H1
  isplitl [H5]; · iexact H5
  isplitl [H14]
  · iapply (pointsTo_rep_of_read (c : Thread nD τ) arg14 _ fullShare _ ?_); on_goal 2 => iexact H14
    refine page_read (pay_2_3 _ _ _) (load_ord _ _ i 3 rfl _ _) (hord _) hk rfl (congrArg (topK · 3) (hb (k0_off69_inb v1 v39 hw k hc))) ?_
    refine page_read (pay_2_2 _ _ _) (load_ord _ _ i 2 rfl _ _) (hord _) hk rfl (congrArg (topK · 2) (hb (k0_off69_inb v1 v39 hw k hc))) ?_
    refine page_read (pay_2_1 _ _ _) (load_ord _ _ i 1 rfl _ _) (hord _) hk rfl (congrArg (topK · 1) (hb (k0_off69_inb v1 v39 hw k hc))) ?_
    refine page_read0 (pay_2_0 _ _ _ _ _ _ _) (load_ord _ _ i 0 rfl _ _) (hord _) hk rfl (congrArg (topK · 0) (hb (k0_off69_inb v1 v39 hw k hc)))
  isplitl [H15]; · iexact H15
  iexact H16

/-! ## 3 chunks -/

theorem pay_3_0 (q : Vec F S256x128 .bf16) (w0 : Vec F S1x128x512 .bf16) (s0 : Vec F S1x1x512 .f32) (w1 : Vec F S1x128x512 .bf16) (s1 : Vec F S1x1x512 .f32) (w2 : Vec F S1x128x512 .bf16) (s2 : Vec F S1x1x512 .f32) (x : BitVec 32) (o : Vec F S1x256x128 .f32) :
    k0_pay169 laneV x (k0_pay168 q w0 s0 w1 s1 w2 s2) o = selP (topK (maximumf (maximumf (scoreV q w0 s0) (scoreV q w1 s1)) (scoreV q w2 s2)) 0) x o := rfl
theorem pay_3_1 (b : FVec F S256x512 .f32) (x : BitVec 32) (o : Vec F S1x256x128 .f32) :
    k0_pay170 laneV b x o = selP (topK b 1) x o := rfl
theorem pay_3_2 (b : FVec F S256x512 .f32) (x : BitVec 32) (o : Vec F S1x256x128 .f32) :
    k0_pay171 laneV b x o = selP (topK b 2) x o := rfl
theorem pay_3_3 (b : FVec F S256x512 .f32) (x : BitVec 32) (o : Vec F S1x256x128 .f32) :
    k0_pay243 (k0_pay172 laneV b x o) = selP (topK b 3) x o := rfl

/-- One trip with 3 chunk(s): one block of 256 rows of the group's four pages is scored and written. -/
theorem trip3 (hord : ∀ j, (ord j).toNat < 2048) (O : S16x3072x128.Idx → Elt F .f32) (arg0 v1 : BitVec 32) (hc : k0_cond9 v1 = 1#1) (v39 : BitVec 32)
    (hw : k0_chk43 v1 v39) (acc : BitVec 32) (hn : v39.toNat ≤ 12) (k : Fin (k0_t5_loop v39).trips) :
    loopRes c arg1 arg5 arg14 arg15 arg16 q1 q5 ord Q W S O
    ⊢ wp frame (wpE (defs₀ (F := F)) 𝒱₀ (c : Thread nD τ) none) Set.univ
      (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw k acc)
      (fun _ => loopRes c arg1 arg5 arg14 arg15 arg16 q1 q5 ord Q W S (tripStep (best (rowsAt Q k.val) (chunkW W) (chunkS S) 2) (ordAt ord i) k.val O)) := by
  have hk : k.val < 12 := lt_of_lt_of_le (lt_of_lt_of_eq k.isLt (trips_eq v39 hn)) hn
  have hb := fun inb => rawBest_eq arg5.view arg15.view arg16.view Q W S 2 k.val hk (k0_off87 v39 k) rfl inb
  iintro ⟨H1, H5, H14, H15, H16⟩
  sl_unfold [k0_t5_body]
  sl_exec (disch := exact fun _ => off14_ok _ (ord_lt arg1 ord hord _ _) _ hk)
  rw [wp_ret]; imodintro
  isplitl [H1]; · iexact H1
  isplitl [H5]; · iexact H5
  isplitl [H14]
  · iapply (pointsTo_rep_of_read (c : Thread nD τ) arg14 _ fullShare _ ?_); on_goal 2 => iexact H14
    refine page_read (pay_3_3 _ _ _) (load_ord _ _ i 3 rfl _ _) (hord _) hk rfl (congrArg (topK · 3) (hb (k0_off87_inb v1 v39 hw k hc))) ?_
    refine page_read (pay_3_2 _ _ _) (load_ord _ _ i 2 rfl _ _) (hord _) hk rfl (congrArg (topK · 2) (hb (k0_off87_inb v1 v39 hw k hc))) ?_
    refine page_read (pay_3_1 _ _ _) (load_ord _ _ i 1 rfl _ _) (hord _) hk rfl (congrArg (topK · 1) (hb (k0_off87_inb v1 v39 hw k hc))) ?_
    refine page_read0 (pay_3_0 _ _ _ _ _ _ _ _ _) (load_ord _ _ i 0 rfl _ _) (hord _) hk rfl (congrArg (topK · 0) (hb (k0_off87_inb v1 v39 hw k hc)))
  isplitl [H15]; · iexact H15
  iexact H16

/-! ## 4 chunks -/

theorem pay_4_0 (q : Vec F S256x128 .bf16) (w0 : Vec F S1x128x512 .bf16) (s0 : Vec F S1x1x512 .f32) (w1 : Vec F S1x128x512 .bf16) (s1 : Vec F S1x1x512 .f32) (w2 : Vec F S1x128x512 .bf16) (s2 : Vec F S1x1x512 .f32) (w3 : Vec F S1x128x512 .bf16) (s3 : Vec F S1x1x512 .f32) (x : BitVec 32) (o : Vec F S1x256x128 .f32) :
    k0_pay182 laneV (k0_pay179 q w0 s0 w1 s1 w2 s2) (k0_pay180 q w3) s3 x o = selP (topK (maximumf (maximumf (maximumf (scoreV q w0 s0) (scoreV q w1 s1)) (scoreV q w2 s2)) (scoreV q w3 s3)) 0) x o := rfl
theorem pay_4_1 (q : Vec F S256x128 .bf16) (w0 : Vec F S1x128x512 .bf16) (s0 : Vec F S1x1x512 .f32) (w1 : Vec F S1x128x512 .bf16) (s1 : Vec F S1x1x512 .f32) (w2 : Vec F S1x128x512 .bf16) (s2 : Vec F S1x1x512 .f32) (w3 : Vec F S1x128x512 .bf16) (s3 : Vec F S1x1x512 .f32) (x : BitVec 32) (o : Vec F S1x256x128 .f32) :
    k0_pay185 (k0_pay183 (k0_pay179 q w0 s0 w1 s1 w2 s2) (k0_pay180 q w3) s3) (k0_pay184 (F := F) laneV x) o = selP (topK (maximumf (maximumf (maximumf (scoreV q w0 s0) (scoreV q w1 s1)) (scoreV q w2 s2)) (scoreV q w3 s3)) 1) x o := rfl
theorem pay_4_2 (b : FVec F S256x512 .f32) (x : BitVec 32) (o : Vec F S1x256x128 .f32) :
    k0_pay186 laneV b x o = selP (topK b 2) x o := rfl
theorem pay_4_3 (b : FVec F S256x512 .f32) (x : BitVec 32) (o : Vec F S1x256x128 .f32) :
    k0_pay1 laneV x (k0_pay187 b) o = selP (topK b 3) x o := rfl

/-- One trip with 4 chunk(s): one block of 256 rows of the group's four pages is scored and written. -/
theorem trip4 (hord : ∀ j, (ord j).toNat < 2048) (O : S16x3072x128.Idx → Elt F .f32) (arg0 v1 : BitVec 32) (hc : k0_cond10 v1 = 1#1) (v39 : BitVec 32)
    (hw : k0_chk52 v1 v39) (acc : BitVec 32) (hn : v39.toNat ≤ 12) (k : Fin (k0_t7_loop v39).trips) :
    loopRes c arg1 arg5 arg14 arg15 arg16 q1 q5 ord Q W S O
    ⊢ wp frame (wpE (defs₀ (F := F)) 𝒱₀ (c : Thread nD τ) none) Set.univ
      (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw k acc)
      (fun _ => loopRes c arg1 arg5 arg14 arg15 arg16 q1 q5 ord Q W S (tripStep (best (rowsAt Q k.val) (chunkW W) (chunkS S) 3) (ordAt ord i) k.val O)) := by
  have hk : k.val < 12 := lt_of_lt_of_le (lt_of_lt_of_eq k.isLt (trips_eq v39 hn)) hn
  have hb := fun inb => rawBest_eq arg5.view arg15.view arg16.view Q W S 3 k.val hk (k0_off105 v39 k) rfl inb
  iintro ⟨H1, H5, H14, H15, H16⟩
  sl_unfold [k0_t7_body]
  sl_exec (disch := exact fun _ => off14_ok _ (ord_lt arg1 ord hord _ _) _ hk)
  rw [wp_ret]; imodintro
  isplitl [H1]; · iexact H1
  isplitl [H5]; · iexact H5
  isplitl [H14]
  · iapply (pointsTo_rep_of_read (c : Thread nD τ) arg14 _ fullShare _ ?_); on_goal 2 => iexact H14
    refine page_read (pay_4_3 _ _ _) (load_ord _ _ i 3 rfl _ _) (hord _) hk rfl (congrArg (topK · 3) (hb (k0_off105_inb v1 v39 hw k hc))) ?_
    refine page_read (pay_4_2 _ _ _) (load_ord _ _ i 2 rfl _ _) (hord _) hk rfl (congrArg (topK · 2) (hb (k0_off105_inb v1 v39 hw k hc))) ?_
    refine page_read (pay_4_1 _ _ _ _ _ _ _ _ _ _ _) (load_ord _ _ i 1 rfl _ _) (hord _) hk rfl (congrArg (topK · 1) (hb (k0_off105_inb v1 v39 hw k hc))) ?_
    refine page_read0 (pay_4_0 _ _ _ _ _ _ _ _ _ _ _) (load_ord _ _ i 0 rfl _ _) (hord _) hk rfl (congrArg (topK · 0) (hb (k0_off105_inb v1 v39 hw k hc)))
  isplitl [H15]; · iexact H15
  iexact H16

/-! ## 5 chunks -/

theorem pay_5_0 (q : Vec F S256x128 .bf16) (w0 : Vec F S1x128x512 .bf16) (s0 : Vec F S1x1x512 .f32) (w1 : Vec F S1x128x512 .bf16) (s1 : Vec F S1x1x512 .f32) (w2 : Vec F S1x128x512 .bf16) (s2 : Vec F S1x1x512 .f32) (w3 : Vec F S1x128x512 .bf16) (s3 : Vec F S1x1x512 .f32) (w4 : Vec F S1x128x512 .bf16) (s4 : Vec F S1x1x512 .f32) (x : BitVec 32) (o : Vec F S1x256x128 .f32) :
    k0_pay200 laneV q (k0_pay197 q w0 s0 w1 s1 w2 s2) (k0_pay198 q w3) s3 w4 s4 x o = selP (topK (maximumf (maximumf (maximumf (maximumf (scoreV q w0 s0) (scoreV q w1 s1)) (scoreV q w2 s2)) (scoreV q w3 s3)) (scoreV q w4 s4)) 0) x o := rfl
theorem pay_5_1 (b : FVec F S256x512 .f32) (x : BitVec 32) (o : Vec F S1x256x128 .f32) :
    k0_pay201 laneV b x o = selP (topK b 1) x o := rfl
theorem pay_5_2 (b : FVec F S256x512 .f32) (x : BitVec 32) (o : Vec F S1x256x128 .f32) :
    k0_pay3 (k0_pay202 laneV b x o) = selP (topK b 2) x o := rfl
theorem pay_5_3 (b : FVec F S256x512 .f32) (x : BitVec 32) (o : Vec F S1x256x128 .f32) :
    k0_pay4 laneV b x o = selP (topK b 3) x o := rfl

/-- One trip with 5 chunk(s): one block of 256 rows of the group's four pages is scored and written. -/
theorem trip5 (hord : ∀ j, (ord j).toNat < 2048) (O : S16x3072x128.Idx → Elt F .f32) (arg0 v1 : BitVec 32) (hc : k0_cond11 v1 = 1#1) (v39 : BitVec 32)
    (hw : k0_chk61 v1 v39) (acc : BitVec 32) (hn : v39.toNat ≤ 12) (k : Fin (k0_t9_loop v39).trips) :
    loopRes c arg1 arg5 arg14 arg15 arg16 q1 q5 ord Q W S O
    ⊢ wp frame (wpE (defs₀ (F := F)) 𝒱₀ (c : Thread nD τ) none) Set.univ
      (k0_t9_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw k acc)
      (fun _ => loopRes c arg1 arg5 arg14 arg15 arg16 q1 q5 ord Q W S (tripStep (best (rowsAt Q k.val) (chunkW W) (chunkS S) 4) (ordAt ord i) k.val O)) := by
  have hk : k.val < 12 := lt_of_lt_of_le (lt_of_lt_of_eq k.isLt (trips_eq v39 hn)) hn
  have hb := fun inb => rawBest_eq arg5.view arg15.view arg16.view Q W S 4 k.val hk (k0_off123 v39 k) rfl inb
  iintro ⟨H1, H5, H14, H15, H16⟩
  sl_unfold [k0_t9_body]
  sl_exec (disch := exact fun _ => off14_ok _ (ord_lt arg1 ord hord _ _) _ hk)
  rw [wp_ret]; imodintro
  isplitl [H1]; · iexact H1
  isplitl [H5]; · iexact H5
  isplitl [H14]
  · iapply (pointsTo_rep_of_read (c : Thread nD τ) arg14 _ fullShare _ ?_); on_goal 2 => iexact H14
    refine page_read (pay_5_3 _ _ _) (load_ord _ _ i 3 rfl _ _) (hord _) hk rfl (congrArg (topK · 3) (hb (k0_off123_inb v1 v39 hw k hc))) ?_
    refine page_read (pay_5_2 _ _ _) (load_ord _ _ i 2 rfl _ _) (hord _) hk rfl (congrArg (topK · 2) (hb (k0_off123_inb v1 v39 hw k hc))) ?_
    refine page_read (pay_5_1 _ _ _) (load_ord _ _ i 1 rfl _ _) (hord _) hk rfl (congrArg (topK · 1) (hb (k0_off123_inb v1 v39 hw k hc))) ?_
    refine page_read0 (pay_5_0 _ _ _ _ _ _ _ _ _ _ _ _ _) (load_ord _ _ i 0 rfl _ _) (hord _) hk rfl (congrArg (topK · 0) (hb (k0_off123_inb v1 v39 hw k hc)))
  isplitl [H15]; · iexact H15
  iexact H16

/-! ## 6 chunks -/

theorem pay_6_0 (q : Vec F S256x128 .bf16) (w0 : Vec F S1x128x512 .bf16) (s0 : Vec F S1x1x512 .f32) (w1 : Vec F S1x128x512 .bf16) (s1 : Vec F S1x1x512 .f32) (w2 : Vec F S1x128x512 .bf16) (s2 : Vec F S1x1x512 .f32) (w3 : Vec F S1x128x512 .bf16) (s3 : Vec F S1x1x512 .f32) (w4 : Vec F S1x128x512 .bf16) (s4 : Vec F S1x1x512 .f32) (w5 : Vec F S1x128x512 .bf16) (s5 : Vec F S1x1x512 .f32) (x : BitVec 32) (o : Vec F S1x256x128 .f32) :
    k0_pay215 (k0_pay212 q (k0_pay209 q w0 s0 w1 s1 w2 s2) (k0_pay210 q w3) s3 w4 s4 w5 s5) (k0_pay213 o) (k0_pay214 (F := F) laneV x) = selP (topK (maximumf (maximumf (maximumf (maximumf (maximumf (scoreV q w0 s0) (scoreV q w1 s1)) (scoreV q w2 s2)) (scoreV q w3 s3)) (scoreV q w4 s4)) (scoreV q w5 s5)) 0) x o := rfl
theorem pay_6_1 (b : FVec F S256x512 .f32) (x : BitVec 32) (o : Vec F S1x256x128 .f32) :
    k0_pay216 laneV b x o = selP (topK b 1) x o := rfl
theorem pay_6_2 (b : FVec F S256x512 .f32) (x : BitVec 32) (o : Vec F S1x256x128 .f32) :
    k0_pay7 laneV (k0_pay217 b) (k0_pay218 (F := F) x) o = selP (topK b 2) x o := rfl
theorem pay_6_3 (b : FVec F S256x512 .f32) (x : BitVec 32) (o : Vec F S1x256x128 .f32) :
    k0_pay8 laneV b x o = selP (topK b 3) x o := rfl

/-- One trip with 6 chunk(s): one block of 256 rows of the group's four pages is scored and written. -/
theorem trip6 (hord : ∀ j, (ord j).toNat < 2048) (O : S16x3072x128.Idx → Elt F .f32) (arg0 v1 : BitVec 32) (hc : k0_cond12 v1 = 1#1) (v39 : BitVec 32)
    (hw : k0_chk70 v1 v39) (acc : BitVec 32) (hn : v39.toNat ≤ 12) (k : Fin (k0_t11_loop v39).trips) :
    loopRes c arg1 arg5 arg14 arg15 arg16 q1 q5 ord Q W S O
    ⊢ wp frame (wpE (defs₀ (F := F)) 𝒱₀ (c : Thread nD τ) none) Set.univ
      (k0_t11_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw k acc)
      (fun _ => loopRes c arg1 arg5 arg14 arg15 arg16 q1 q5 ord Q W S (tripStep (best (rowsAt Q k.val) (chunkW W) (chunkS S) 5) (ordAt ord i) k.val O)) := by
  have hk : k.val < 12 := lt_of_lt_of_le (lt_of_lt_of_eq k.isLt (trips_eq v39 hn)) hn
  have hb := fun inb => rawBest_eq arg5.view arg15.view arg16.view Q W S 5 k.val hk (k0_off141 v39 k) rfl inb
  iintro ⟨H1, H5, H14, H15, H16⟩
  sl_unfold [k0_t11_body]
  sl_exec (disch := exact fun _ => off14_ok _ (ord_lt arg1 ord hord _ _) _ hk)
  rw [wp_ret]; imodintro
  isplitl [H1]; · iexact H1
  isplitl [H5]; · iexact H5
  isplitl [H14]
  · iapply (pointsTo_rep_of_read (c : Thread nD τ) arg14 _ fullShare _ ?_); on_goal 2 => iexact H14
    refine page_read (pay_6_3 _ _ _) (load_ord _ _ i 3 rfl _ _) (hord _) hk rfl (congrArg (topK · 3) (hb (k0_off141_inb v1 v39 hw k hc))) ?_
    refine page_read (pay_6_2 _ _ _) (load_ord _ _ i 2 rfl _ _) (hord _) hk rfl (congrArg (topK · 2) (hb (k0_off141_inb v1 v39 hw k hc))) ?_
    refine page_read (pay_6_1 _ _ _) (load_ord _ _ i 1 rfl _ _) (hord _) hk rfl (congrArg (topK · 1) (hb (k0_off141_inb v1 v39 hw k hc))) ?_
    refine page_read0 (pay_6_0 _ _ _ _ _ _ _ _ _ _ _ _ _ _ _) (load_ord _ _ i 0 rfl _ _) (hord _) hk rfl (congrArg (topK · 0) (hb (k0_off141_inb v1 v39 hw k hc)))
  isplitl [H15]; · iexact H15
  iexact H16

end Trip

end Cert.KernelIdeal.Body
-- ==== Proof.KI.Blocks.lean ====
/- The blocks of the kernel that decode one chunk of the four pages into the scratches. -/
module
public import proofs.«01_k».proof.Proof.Gen.KernelIdeal.Skeleton
public import proofs.«01_k».proof.Proof.Gen.KernelIdeal.Launch
public import proofs.«01_k».proof.Proof.Gen.KernelIdeal.Loops
public import proofs.«01_k».proof.Proof.KI.Decode
public import proofs.«01_k».proof.Proof.KI.Trip
public import Idealize.ShloMosaic.Lib.LoopRemainder

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem lo_congr {cw x x' : BitVec 32} {f f' b b' : Vec F S1x64x128 .i8} (hx : x = x') (hf : f = f') (hb : b = b') :
    loC (F := F) (maskC cw x) f b = loC (maskC cw x') f' b' := by rw [hx, hf, hb]
theorem hi_congr {cw x x' : BitVec 32} {f f' b b' : Vec F S1x64x128 .i8} (hx : x = x') (hf : f = f') (hb : b = b') :
    hiC (F := F) (maskC cw x) f b = hiC (maskC cw x') f' b' := by rw [hx, hf, hb]
theorem sc_congr {cw x x' : BitVec 32} {b b' : Vec F S1x1x128 .f32} {f f' : Vec F S1x1x1 .f32} (hx : x = x') (hb : b = b') (hf : f = f') :
    scC (F := F) (maskC cw x) b f = scC (maskC cw x') b' f' := by rw [hx, hf, hb]

section Block
variable (c : Dev nD) (i : grid0.Coords) (arg1 : Memref sig .tc .smem S2048 .i32) (harg1 : arg1.IsWhole) (arg2 : Memref sig .tc .smem S512 .i32) (harg2 : arg2.IsWhole) (arg3 : Memref sig .tc .smem S1 .i32) (harg3 : arg3.IsWhole) (arg4 : Memref sig .tc .smem S2048 .i32) (harg4 : arg4.IsWhole) (arg5 : Memref sig .tc .vmem S3072x128 .bf16) (harg5 : arg5.IsWhole) (arg6 : Memref sig .tc .vmem S1x64x768 .i8) (harg6 : arg6.IsWhole) (arg7 : Memref sig .tc .vmem S1x64x768 .i8) (harg7 : arg7.IsWhole) (arg8 : Memref sig .tc .vmem S1x64x768 .i8) (harg8 : arg8.IsWhole) (arg9 : Memref sig .tc .vmem S1x64x768 .i8) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x1x768 .f32) (harg12 : arg12.IsWhole) (arg13 : Memref sig .tc .vmem S1x1x768 .f32) (harg13 : arg13.IsWhole) (arg14 : Memref sig .tc .vmem S16x3072x128 .f32) (harg14 : arg14.IsWhole) (arg15 : Memref sig .tc .vmem S6x128x512 .bf16) (harg15 : arg15.IsWhole) (arg16 : Memref sig .tc .vmem S6x1x512 .f32) (harg16 : arg16.IsWhole)
  (q1 q4 : PosShare TreeShare) (qp : Fin 8 → PosShare TreeShare) (ord len : S2048.Idx → BitVec 32)
  (P : Fin 4 → S1x64x768.Idx → Elt F .i8) (Sc : Fin 4 → S1x1x768.Idx → Elt F .f32)

/-- What the decoding holds: the order and the lengths, the four pages and their scales, the two scratches. -/
abbrev blkRes (W : S6x128x512.Idx → Elt F .bf16) (S : S6x1x512.Idx → Elt F .f32) : sProp 𝕄 :=
  iprop(ptR c arg1 q1 ord ∗ ptR c arg4 q4 len ∗ ptR c arg6 (qp 0) (P 0) ∗ ptR c arg7 (qp 1) (P 1) ∗ ptR c arg8 (qp 2) (P 2) ∗ ptR c arg9 (qp 3) (P 3)
    ∗ ptR c arg10 (qp 4) (Sc 0) ∗ ptR c arg11 (qp 5) (Sc 1) ∗ ptR c arg12 (qp 6) (Sc 2) ∗ ptR c arg13 (qp 7) (Sc 3)
    ∗ ptR c arg15 fullShare W ∗ ptR c arg16 fullShare S)

/-! ## Chunk 0 -/

theorem lo_0_0 (x : BitVec 32) (f b : Vec F S1x64x128 .i8) : k0_pay13 laneV x f b = loC (maskC (BitVec.ofNat 32 (128 * 0)) x) f b := rfl
theorem hi_0_0 (x : BitVec 32) (f b : Vec F S1x64x128 .i8) : k0_pay14 laneV x f b = hiC (maskC (BitVec.ofNat 32 (128 * 0)) x) f b := rfl
theorem sc_0_0 (x : BitVec 32) (b : Vec F S1x1x128 .f32) (f : Vec F S1x1x1 .f32) : k0_pay15 (k0_pay11 (F := F) laneV x) b f = scC (maskC (BitVec.ofNat 32 (128 * 0)) x) b f := rfl
theorem lo_0_1 (x : BitVec 32) (f b : Vec F S1x64x128 .i8) : k0_pay20 (F := F) (k0_pay18 laneV x f b) = loC (maskC (BitVec.ofNat 32 (128 * 0)) x) f b := rfl
theorem hi_0_1 (x : BitVec 32) (f b : Vec F S1x64x128 .i8) : k0_pay21 (F := F) (k0_pay17 laneV x f b) k0_pay19 = hiC (maskC (BitVec.ofNat 32 (128 * 0)) x) f b := rfl
theorem sc_0_1 (x : BitVec 32) (b : Vec F S1x1x128 .f32) (f : Vec F S1x1x1 .f32) : k0_pay22 (k0_pay16 (F := F) laneV x) b f = scC (maskC (BitVec.ofNat 32 (128 * 0)) x) b f := rfl
theorem lo_0_2 (x : BitVec 32) (f b : Vec F S1x64x128 .i8) : k0_pay26 (k0_pay23 (F := F) laneV x) (k0_pay24 f) b = loC (maskC (BitVec.ofNat 32 (128 * 0)) x) f b := rfl
theorem hi_0_2 (x : BitVec 32) (f b : Vec F S1x64x128 .i8) : k0_pay27 (k0_pay23 (F := F) laneV x) (k0_pay24 f) b = hiC (maskC (BitVec.ofNat 32 (128 * 0)) x) f b := rfl
theorem sc_0_2 (x : BitVec 32) (b : Vec F S1x1x128 .f32) (f : Vec F S1x1x1 .f32) : k0_pay28 (k0_pay23 (F := F) laneV x) b f = scC (maskC (BitVec.ofNat 32 (128 * 0)) x) b f := rfl
theorem lo_0_3 (x : BitVec 32) (f b : Vec F S1x64x128 .i8) : k0_pay31 laneV x f b = loC (maskC (BitVec.ofNat 32 (128 * 0)) x) f b := rfl
theorem hi_0_3 (x : BitVec 32) (f b : Vec F S1x64x128 .i8) : k0_pay32 laneV x f b = hiC (maskC (BitVec.ofNat 32 (128 * 0)) x) f b := rfl
theorem sc_0_3 (x : BitVec 32) (b : Vec F S1x1x128 .f32) (f : Vec F S1x1x1 .f32) : k0_pay229 (k0_pay29 (F := F) laneV x) b f = scC (maskC (BitVec.ofNat 32 (128 * 0)) x) b f := rfl

set_option maxHeartbeats 4000000 in
/-- The kernel's block that decodes chunk 0. -/
def blk0 (arg0 : BitVec 32) (v1 : Elt F .i32) (v2 : IVec S1x128 32) (k0_h1 : k0_cond1 v1 = 1#1) : Prog (TpuEff nD τ sig (Elt F) Λ₀ .tc) PUnit := do
  let v48 : IVec S1x128 1 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h1
  let ⟨v96, v108, v113, v114⟩ : Σ' (v96 : IVec S1x128 1) (v108 : IVec S16x128 32) (v113 : IVec S64x128 8), IVec S16x128 32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h1 v48
  let ⟨v144, v148⟩ : Σ' (v144 : IVec S1x128 1), IVec S16x1 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h1 v96 v108 v113 v114
  let ⟨v183, c3_i32_94⟩ : Σ' (v183 : BitVec 32), BitVec 32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h1 v183 c3_i32_94
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![0, 0, 384] S1x1x128.size inb_S6x1x512_S1x1x128_0_0_384).toLoadRect (View.loadsAt_vmem h_S1x1x128))
  Prog.lift (.store arg16 (Rect.unit (s := S6x1x512) ![0, 0, 384] S1x1x128.size inb_S6x1x512_S1x1x128_0_0_384) (k0_pay229 v192 v221 v223) Finset.univ (View.stores_vmem_bits_univ h_S1x1x128 rfl) (.inl rfl))
  pure ⟨⟩

set_option maxHeartbeats 4000000 in
/-- Decoding chunk 0 leaves it decoded in the scratches and everything else as it was. -/
theorem blk0_spec (hord : ∀ j, (ord j).toNat < 2048) (W : S6x128x512.Idx → Elt F .bf16) (S : S6x1x512.Idx → Elt F .f32) (v1 : Elt F .i32) (hc : k0_cond1 v1 = 1#1) :
    blkRes c arg1 arg4 arg6 arg7 arg8 arg9 arg10 arg11 arg12 arg13 arg15 arg16 q1 q4 qp ord len P Sc W S
    ⊢ wp frame (wpE (defs₀ (F := F)) 𝒱₀ (c : Thread nD τ) none) Set.univ
      (blk0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => blkRes c arg1 arg4 arg6 arg7 arg8 arg9 arg10 arg11 arg12 arg13 arg15 arg16 q1 q4 qp ord len P Sc
        (chunkPut 0 P (fun k => lenAt len (ordAt ord i k)) W) (chunkPutS 0 Sc (fun k => lenAt len (ordAt ord i k)) S)) := by
  iintro ⟨H1, H4, H6, H7, H8, H9, H10, H11, H12, H13, H15, H16⟩
  sl_unfold [blk0]
  sl_exec (disch := exact fun _ => len_ok _ (ord_lt arg1 ord hord _ _))
  rw [wp_ret]; imodintro
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · iapply (pointsTo_rep_of_read (c : Thread nD τ) arg15 _ fullShare _ ?_); on_goal 2 => iexact H15
    refine dec_read 0 3 (by decide) rfl rfl ((lo_0_3 _ _ _).trans (lo_congr (load_len _ _ (load_ord _ _ i 3 rfl _ _) (hord _) rfl _ _) (load_P (c := 0) _ _ (by decide) rfl _) (load_P (c := 0) _ _ (by decide) rfl _))) ((hi_0_3 _ _ _).trans (hi_congr (load_len _ _ (load_ord _ _ i 3 rfl _ _) (hord _) rfl _ _) (load_P (c := 0) _ _ (by decide) rfl _) (load_P (c := 0) _ _ (by decide) rfl _))) ?_
    refine dec_read 0 2 (by decide) rfl rfl ((lo_0_2 _ _ _).trans (lo_congr (load_len _ _ (load_ord _ _ i 2 rfl _ _) (hord _) rfl _ _) (load_P (c := 0) _ _ (by decide) rfl _) (load_P (c := 0) _ _ (by decide) rfl _))) ((hi_0_2 _ _ _).trans (hi_congr (load_len _ _ (load_ord _ _ i 2 rfl _ _) (hord _) rfl _ _) (load_P (c := 0) _ _ (by decide) rfl _) (load_P (c := 0) _ _ (by decide) rfl _))) ?_
    refine dec_read 0 1 (by decide) rfl rfl ((lo_0_1 _ _ _).trans (lo_congr (load_len _ _ (load_ord _ _ i 1 rfl _ _) (hord _) rfl _ _) (load_P (c := 0) _ _ (by decide) rfl _) (load_P (c := 0) _ _ (by decide) rfl _))) ((hi_0_1 _ _ _).trans (hi_congr (load_len _ _ (load_ord _ _ i 1 rfl _ _) (hord _) rfl _ _) (load_P (c := 0) _ _ (by decide) rfl _) (load_P (c := 0) _ _ (by decide) rfl _))) ?_
    refine dec_read 0 0 (by decide) rfl rfl ((lo_0_0 _ _ _).trans (lo_congr (load_len _ _ (load_ord _ _ i 0 rfl _ _) (hord _) rfl _ _) (load_P (c := 0) _ _ (by decide) rfl _) (load_P (c := 0) _ _ (by decide) rfl _))) ((hi_0_0 _ _ _).trans (hi_congr (load_len _ _ (load_ord _ _ i 0 rfl _ _) (hord _) rfl _ _) (load_P (c := 0) _ _ (by decide) rfl _) (load_P (c := 0) _ _ (by decide) rfl _))) ?_
    exact read_nil _ _
  · iapply (pointsTo_rep_of_read (c : Thread nD τ) arg16 _ fullShare _ ?_); on_goal 2 => iexact H16
    refine sc_read 0 3 (by decide) rfl ((sc_0_3 _ _ _).trans (sc_congr (load_len _ _ (load_ord _ _ i 3 rfl _ _) (hord _) rfl _ _) (load_Sc (c := 0) _ _ (by decide) rfl _) (load_first _ _ _))) ?_
    refine sc_read 0 2 (by decide) rfl ((sc_0_2 _ _ _).trans (sc_congr (load_len _ _ (load_ord _ _ i 2 rfl _ _) (hord _) rfl _ _) (load_Sc (c := 0) _ _ (by decide) rfl _) (load_first _ _ _))) ?_
    refine sc_read 0 1 (by decide) rfl ((sc_0_1 _ _ _).trans (sc_congr (load_len _ _ (load_ord _ _ i 1 rfl _ _) (hord _) rfl _ _) (load_Sc (c := 0) _ _ (by decide) rfl _) (load_first _ _ _))) ?_
    refine sc_read 0 0 (by decide) rfl ((sc_0_0 _ _ _).trans (sc_congr (load_len _ _ (load_ord _ _ i 0 rfl _ _) (hord _) rfl _ _) (load_Sc (c := 0) _ _ (by decide) rfl _) (load_first _ _ _))) ?_
    exact read_nil _ _

/-! ## Chunk 1 -/

theorem lo_1_0 (x : BitVec 32) (f b : Vec F S1x64x128 .i8) : k0_pay35 laneV x f b = loC (maskC (BitVec.ofNat 32 (128 * 1)) x) f b := rfl
theorem hi_1_0 (x : BitVec 32) (f b : Vec F S1x64x128 .i8) : k0_pay36 laneV x f b = hiC (maskC (BitVec.ofNat 32 (128 * 1)) x) f b := rfl
theorem sc_1_0 (x : BitVec 32) (b : Vec F S1x1x128 .f32) (f : Vec F S1x1x1 .f32) : k0_pay37 (k0_pay33 (F := F) laneV x) b f = scC (maskC (BitVec.ofNat 32 (128 * 1)) x) b f := rfl
theorem lo_1_1 (x : BitVec 32) (f b : Vec F S1x64x128 .i8) : k0_pay42 (F := F) (k0_pay40 laneV x f b) = loC (maskC (BitVec.ofNat 32 (128 * 1)) x) f b := rfl
theorem hi_1_1 (x : BitVec 32) (f b : Vec F S1x64x128 .i8) : k0_pay43 (F := F) (k0_pay39 laneV x f b) k0_pay41 = hiC (maskC (BitVec.ofNat 32 (128 * 1)) x) f b := rfl
theorem sc_1_1 (x : BitVec 32) (b : Vec F S1x1x128 .f32) (f : Vec F S1x1x1 .f32) : k0_pay44 (k0_pay38 (F := F) laneV x) b f = scC (maskC (BitVec.ofNat 32 (128 * 1)) x) b f := rfl
theorem lo_1_2 (x : BitVec 32) (f b : Vec F S1x64x128 .i8) : k0_pay48 (k0_pay45 (F := F) laneV x) (k0_pay46 f) b = loC (maskC (BitVec.ofNat 32 (128 * 1)) x) f b := rfl
theorem hi_1_2 (x : BitVec 32) (f b : Vec F S1x64x128 .i8) : k0_pay49 (k0_pay45 (F := F) laneV x) (k0_pay46 f) b = hiC (maskC (BitVec.ofNat 32 (128 * 1)) x) f b := rfl
theorem sc_1_2 (x : BitVec 32) (b : Vec F S1x1x128 .f32) (f : Vec F S1x1x1 .f32) : k0_pay50 (k0_pay45 (F := F) laneV x) b f = scC (maskC (BitVec.ofNat 32 (128 * 1)) x) b f := rfl
theorem lo_1_3 (x : BitVec 32) (f b : Vec F S1x64x128 .i8) : k0_pay53 laneV x f b = loC (maskC (BitVec.ofNat 32 (128 * 1)) x) f b := rfl
theorem hi_1_3 (x : BitVec 32) (f b : Vec F S1x64x128 .i8) : k0_pay54 laneV x f b = hiC (maskC (BitVec.ofNat 32 (128 * 1)) x) f b := rfl
theorem sc_1_3 (x : BitVec 32) (b : Vec F S1x1x128 .f32) (f : Vec F S1x1x1 .f32) : k0_pay230 (k0_pay51 (F := F) laneV x) b f = scC (maskC (BitVec.ofNat 32 (128 * 1)) x) b f := rfl

set_option maxHeartbeats 4000000 in
/-- The kernel's block that decodes chunk 1. -/
def blk1 (arg0 : BitVec 32) (v1 : Elt F .i32) (v2 : IVec S1x128 32) (k0_h2 : k0_cond2 v1 = 1#1) : Prog (TpuEff nD τ sig (Elt F) Λ₀ .tc) PUnit := do
  let v48 : IVec S1x128 1 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h2
  let ⟨v96, v108, v113, v114⟩ : Σ' (v96 : IVec S1x128 1) (v108 : IVec S16x128 32) (v113 : IVec S64x128 8), IVec S16x128 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h2 v48
  let ⟨v144, v148⟩ : Σ' (v144 : IVec S1x128 1), IVec S16x1 32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h2 v96 v108 v113 v114
  let ⟨v183, c3_i32_92⟩ : Σ' (v183 : BitVec 32), BitVec 32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h2 v183 c3_i32_92
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![1, 0, 384] S1x1x128.size inb_S6x1x512_S1x1x128_1_0_384).toLoadRect (View.loadsAt_vmem h_S1x1x128))
  Prog.lift (.store arg16 (Rect.unit (s := S6x1x512) ![1, 0, 384] S1x1x128.size inb_S6x1x512_S1x1x128_1_0_384) (k0_pay230 v192 v221 v223) Finset.univ (View.stores_vmem_bits_univ h_S1x1x128 rfl) (.inl rfl))
  pure ⟨⟩

set_option maxHeartbeats 4000000 in
/-- Decoding chunk 1 leaves it decoded in the scratches and everything else as it was. -/
theorem blk1_spec (hord : ∀ j, (ord j).toNat < 2048) (W : S6x128x512.Idx → Elt F .bf16) (S : S6x1x512.Idx → Elt F .f32) (v1 : Elt F .i32) (hc : k0_cond2 v1 = 1#1) :
    blkRes c arg1 arg4 arg6 arg7 arg8 arg9 arg10 arg11 arg12 arg13 arg15 arg16 q1 q4 qp ord len P Sc W S
    ⊢ wp frame (wpE (defs₀ (F := F)) 𝒱₀ (c : Thread nD τ) none) Set.univ
      (blk1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => blkRes c arg1 arg4 arg6 arg7 arg8 arg9 arg10 arg11 arg12 arg13 arg15 arg16 q1 q4 qp ord len P Sc
        (chunkPut 1 P (fun k => lenAt len (ordAt ord i k)) W) (chunkPutS 1 Sc (fun k => lenAt len (ordAt ord i k)) S)) := by
  iintro ⟨H1, H4, H6, H7, H8, H9, H10, H11, H12, H13, H15, H16⟩
  sl_unfold [blk1]
  sl_exec (disch := exact fun _ => len_ok _ (ord_lt arg1 ord hord _ _))
  rw [wp_ret]; imodintro
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · iapply (pointsTo_rep_of_read (c : Thread nD τ) arg15 _ fullShare _ ?_); on_goal 2 => iexact H15
    refine dec_read 1 3 (by decide) rfl rfl ((lo_1_3 _ _ _).trans (lo_congr (load_len _ _ (load_ord _ _ i 3 rfl _ _) (hord _) rfl _ _) (load_P (c := 0) _ _ (by decide) rfl _) (load_P (c := 1) _ _ (by decide) rfl _))) ((hi_1_3 _ _ _).trans (hi_congr (load_len _ _ (load_ord _ _ i 3 rfl _ _) (hord _) rfl _ _) (load_P (c := 0) _ _ (by decide) rfl _) (load_P (c := 1) _ _ (by decide) rfl _))) ?_
    refine dec_read 1 2 (by decide) rfl rfl ((lo_1_2 _ _ _).trans (lo_congr (load_len _ _ (load_ord _ _ i 2 rfl _ _) (hord _) rfl _ _) (load_P (c := 0) _ _ (by decide) rfl _) (load_P (c := 1) _ _ (by decide) rfl _))) ((hi_1_2 _ _ _).trans (hi_congr (load_len _ _ (load_ord _ _ i 2 rfl _ _) (hord _) rfl _ _) (load_P (c := 0) _ _ (by decide) rfl _) (load_P (c := 1) _ _ (by decide) rfl _))) ?_
    refine dec_read 1 1 (by decide) rfl rfl ((lo_1_1 _ _ _).trans (lo_congr (load_len _ _ (load_ord _ _ i 1 rfl _ _) (hord _) rfl _ _) (load_P (c := 0) _ _ (by decide) rfl _) (load_P (c := 1) _ _ (by decide) rfl _))) ((hi_1_1 _ _ _).trans (hi_congr (load_len _ _ (load_ord _ _ i 1 rfl _ _) (hord _) rfl _ _) (load_P (c := 0) _ _ (by decide) rfl _) (load_P (c := 1) _ _ (by decide) rfl _))) ?_
    refine dec_read 1 0 (by decide) rfl rfl ((lo_1_0 _ _ _).trans (lo_congr (load_len _ _ (load_ord _ _ i 0 rfl _ _) (hord _) rfl _ _) (load_P (c := 0) _ _ (by decide) rfl _) (load_P (c := 1) _ _ (by decide) rfl _))) ((hi_1_0 _ _ _).trans (hi_congr (load_len _ _ (load_ord _ _ i 0 rfl _ _) (hord _) rfl _ _) (load_P (c := 0) _ _ (by decide) rfl _) (load_P (c := 1) _ _ (by decide) rfl _))) ?_
    exact read_nil _ _
  · iapply (pointsTo_rep_of_read (c : Thread nD τ) arg16 _ fullShare _ ?_); on_goal 2 => iexact H16
    refine sc_read 1 3 (by decide) rfl ((sc_1_3 _ _ _).trans (sc_congr (load_len _ _ (load_ord _ _ i 3 rfl _ _) (hord _) rfl _ _) (load_Sc (c := 1) _ _ (by decide) rfl _) (load_first _ _ _))) ?_
    refine sc_read 1 2 (by decide) rfl ((sc_1_2 _ _ _).trans (sc_congr (load_len _ _ (load_ord _ _ i 2 rfl _ _) (hord _) rfl _ _) (load_Sc (c := 1) _ _ (by decide) rfl _) (load_first _ _ _))) ?_
    refine sc_read 1 1 (by decide) rfl ((sc_1_1 _ _ _).trans (sc_congr (load_len _ _ (load_ord _ _ i 1 rfl _ _) (hord _) rfl _ _) (load_Sc (c := 1) _ _ (by decide) rfl _) (load_first _ _ _))) ?_
    refine sc_read 1 0 (by decide) rfl ((sc_1_0 _ _ _).trans (sc_congr (load_len _ _ (load_ord _ _ i 0 rfl _ _) (hord _) rfl _ _) (load_Sc (c := 1) _ _ (by decide) rfl _) (load_first _ _ _))) ?_
    exact read_nil _ _

/-! ## Chunk 2 -/

theorem lo_2_0 (x : BitVec 32) (f b : Vec F S1x64x128 .i8) : k0_pay57 laneV x f b = loC (maskC (BitVec.ofNat 32 (128 * 2)) x) f b := rfl
theorem hi_2_0 (x : BitVec 32) (f b : Vec F S1x64x128 .i8) : k0_pay58 laneV x f b = hiC (maskC (BitVec.ofNat 32 (128 * 2)) x) f b := rfl
theorem sc_2_0 (x : BitVec 32) (b : Vec F S1x1x128 .f32) (f : Vec F S1x1x1 .f32) : k0_pay59 (k0_pay55 (F := F) laneV x) b f = scC (maskC (BitVec.ofNat 32 (128 * 2)) x) b f := rfl
theorem lo_2_1 (x : BitVec 32) (f b : Vec F S1x64x128 .i8) : k0_pay64 (F := F) (k0_pay62 laneV x f b) = loC (maskC (BitVec.ofNat 32 (128 * 2)) x) f b := rfl
theorem hi_2_1 (x : BitVec 32) (f b : Vec F S1x64x128 .i8) : k0_pay65 (F := F) (k0_pay61 laneV x f b) k0_pay63 = hiC (maskC (BitVec.ofNat 32 (128 * 2)) x) f b := rfl
theorem sc_2_1 (x : BitVec 32) (b : Vec F S1x1x128 .f32) (f : Vec F S1x1x1 .f32) : k0_pay66 (k0_pay60 (F := F) laneV x) b f = scC (maskC (BitVec.ofNat 32 (128 * 2)) x) b f := rfl
theorem lo_2_2 (x : BitVec 32) (f b : Vec F S1x64x128 .i8) : k0_pay70 (k0_pay67 (F := F) laneV x) (k0_pay68 f) b = loC (maskC (BitVec.ofNat 32 (128 * 2)) x) f b := rfl
theorem hi_2_2 (x : BitVec 32) (f b : Vec F S1x64x128 .i8) : k0_pay71 (k0_pay67 (F := F) laneV x) (k0_pay68 f) b = hiC (maskC (BitVec.ofNat 32 (128 * 2)) x) f b := rfl
theorem sc_2_2 (x : BitVec 32) (b : Vec F S1x1x128 .f32) (f : Vec F S1x1x1 .f32) : k0_pay72 (k0_pay67 (F := F) laneV x) b f = scC (maskC (BitVec.ofNat 32 (128 * 2)) x) b f := rfl
theorem lo_2_3 (x : BitVec 32) (f b : Vec F S1x64x128 .i8) : k0_pay75 laneV x f b = loC (maskC (BitVec.ofNat 32 (128 * 2)) x) f b := rfl
theorem hi_2_3 (x : BitVec 32) (f b : Vec F S1x64x128 .i8) : k0_pay76 laneV x f b = hiC (maskC (BitVec.ofNat 32 (128 * 2)) x) f b := rfl
theorem sc_2_3 (x : BitVec 32) (b : Vec F S1x1x128 .f32) (f : Vec F S1x1x1 .f32) : k0_pay231 (k0_pay73 (F := F) laneV x) b f = scC (maskC (BitVec.ofNat 32 (128 * 2)) x) b f := rfl

set_option maxHeartbeats 4000000 in
/-- The kernel's block that decodes chunk 2. -/
def blk2 (arg0 : BitVec 32) (v1 : Elt F .i32) (v2 : IVec S1x128 32) (k0_h3 : k0_cond3 v1 = 1#1) : Prog (TpuEff nD τ sig (Elt F) Λ₀ .tc) PUnit := do
  let v48 : IVec S1x128 1 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h3
  let ⟨v96, v108, v113, v114⟩ : Σ' (v96 : IVec S1x128 1) (v108 : IVec S16x128 32) (v113 : IVec S64x128 8), IVec S16x128 32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h3 v48
  let ⟨v144, v148⟩ : Σ' (v144 : IVec S1x128 1), IVec S16x1 32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h3 v96 v108 v113 v114
  let ⟨v183, c3_i32_92⟩ : Σ' (v183 : BitVec 32), BitVec 32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h3 v183 c3_i32_92
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![2, 0, 384] S1x1x128.size inb_S6x1x512_S1x1x128_2_0_384).toLoadRect (View.loadsAt_vmem h_S1x1x128))
  Prog.lift (.store arg16 (Rect.unit (s := S6x1x512) ![2, 0, 384] S1x1x128.size inb_S6x1x512_S1x1x128_2_0_384) (k0_pay231 v192 v221 v223) Finset.univ (View.stores_vmem_bits_univ h_S1x1x128 rfl) (.inl rfl))
  pure ⟨⟩

set_option maxHeartbeats 4000000 in
/-- Decoding chunk 2 leaves it decoded in the scratches and everything else as it was. -/
theorem blk2_spec (hord : ∀ j, (ord j).toNat < 2048) (W : S6x128x512.Idx → Elt F .bf16) (S : S6x1x512.Idx → Elt F .f32) (v1 : Elt F .i32) (hc : k0_cond3 v1 = 1#1) :
    blkRes c arg1 arg4 arg6 arg7 arg8 arg9 arg10 arg11 arg12 arg13 arg15 arg16 q1 q4 qp ord len P Sc W S
    ⊢ wp frame (wpE (defs₀ (F := F)) 𝒱₀ (c : Thread nD τ) none) Set.univ
      (blk2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => blkRes c arg1 arg4 arg6 arg7 arg8 arg9 arg10 arg11 arg12 arg13 arg15 arg16 q1 q4 qp ord len P Sc
        (chunkPut 2 P (fun k => lenAt len (ordAt ord i k)) W) (chunkPutS 2 Sc (fun k => lenAt len (ordAt ord i k)) S)) := by
  iintro ⟨H1, H4, H6, H7, H8, H9, H10, H11, H12, H13, H15, H16⟩
  sl_unfold [blk2]
  sl_exec (disch := exact fun _ => len_ok _ (ord_lt arg1 ord hord _ _))
  rw [wp_ret]; imodintro
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · iapply (pointsTo_rep_of_read (c : Thread nD τ) arg15 _ fullShare _ ?_); on_goal 2 => iexact H15
    refine dec_read 2 3 (by decide) rfl rfl ((lo_2_3 _ _ _).trans (lo_congr (load_len _ _ (load_ord _ _ i 3 rfl _ _) (hord _) rfl _ _) (load_P (c := 0) _ _ (by decide) rfl _) (load_P (c := 2) _ _ (by decide) rfl _))) ((hi_2_3 _ _ _).trans (hi_congr (load_len _ _ (load_ord _ _ i 3 rfl _ _) (hord _) rfl _ _) (load_P (c := 0) _ _ (by decide) rfl _) (load_P (c := 2) _ _ (by decide) rfl _))) ?_
    refine dec_read 2 2 (by decide) rfl rfl ((lo_2_2 _ _ _).trans (lo_congr (load_len _ _ (load_ord _ _ i 2 rfl _ _) (hord _) rfl _ _) (load_P (c := 0) _ _ (by decide) rfl _) (load_P (c := 2) _ _ (by decide) rfl _))) ((hi_2_2 _ _ _).trans (hi_congr (load_len _ _ (load_ord _ _ i 2 rfl _ _) (hord _) rfl _ _) (load_P (c := 0) _ _ (by decide) rfl _) (load_P (c := 2) _ _ (by decide) rfl _))) ?_
    refine dec_read 2 1 (by decide) rfl rfl ((lo_2_1 _ _ _).trans (lo_congr (load_len _ _ (load_ord _ _ i 1 rfl _ _) (hord _) rfl _ _) (load_P (c := 0) _ _ (by decide) rfl _) (load_P (c := 2) _ _ (by decide) rfl _))) ((hi_2_1 _ _ _).trans (hi_congr (load_len _ _ (load_ord _ _ i 1 rfl _ _) (hord _) rfl _ _) (load_P (c := 0) _ _ (by decide) rfl _) (load_P (c := 2) _ _ (by decide) rfl _))) ?_
    refine dec_read 2 0 (by decide) rfl rfl ((lo_2_0 _ _ _).trans (lo_congr (load_len _ _ (load_ord _ _ i 0 rfl _ _) (hord _) rfl _ _) (load_P (c := 0) _ _ (by decide) rfl _) (load_P (c := 2) _ _ (by decide) rfl _))) ((hi_2_0 _ _ _).trans (hi_congr (load_len _ _ (load_ord _ _ i 0 rfl _ _) (hord _) rfl _ _) (load_P (c := 0) _ _ (by decide) rfl _) (load_P (c := 2) _ _ (by decide) rfl _))) ?_
    exact read_nil _ _
  · iapply (pointsTo_rep_of_read (c : Thread nD τ) arg16 _ fullShare _ ?_); on_goal 2 => iexact H16
    refine sc_read 2 3 (by decide) rfl ((sc_2_3 _ _ _).trans (sc_congr (load_len _ _ (load_ord _ _ i 3 rfl _ _) (hord _) rfl _ _) (load_Sc (c := 2) _ _ (by decide) rfl _) (load_first _ _ _))) ?_
    refine sc_read 2 2 (by decide) rfl ((sc_2_2 _ _ _).trans (sc_congr (load_len _ _ (load_ord _ _ i 2 rfl _ _) (hord _) rfl _ _) (load_Sc (c := 2) _ _ (by decide) rfl _) (load_first _ _ _))) ?_
    refine sc_read 2 1 (by decide) rfl ((sc_2_1 _ _ _).trans (sc_congr (load_len _ _ (load_ord _ _ i 1 rfl _ _) (hord _) rfl _ _) (load_Sc (c := 2) _ _ (by decide) rfl _) (load_first _ _ _))) ?_
    refine sc_read 2 0 (by decide) rfl ((sc_2_0 _ _ _).trans (sc_congr (load_len _ _ (load_ord _ _ i 0 rfl _ _) (hord _) rfl _ _) (load_Sc (c := 2) _ _ (by decide) rfl _) (load_first _ _ _))) ?_
    exact read_nil _ _

/-! ## Chunk 3 -/

theorem lo_3_0 (x : BitVec 32) (f b : Vec F S1x64x128 .i8) : k0_pay79 laneV x f b = loC (maskC (BitVec.ofNat 32 (128 * 3)) x) f b := rfl
theorem hi_3_0 (x : BitVec 32) (f b : Vec F S1x64x128 .i8) : k0_pay80 laneV x f b = hiC (maskC (BitVec.ofNat 32 (128 * 3)) x) f b := rfl
theorem sc_3_0 (x : BitVec 32) (b : Vec F S1x1x128 .f32) (f : Vec F S1x1x1 .f32) : k0_pay81 (k0_pay77 (F := F) laneV x) b f = scC (maskC (BitVec.ofNat 32 (128 * 3)) x) b f := rfl
theorem lo_3_1 (x : BitVec 32) (f b : Vec F S1x64x128 .i8) : k0_pay86 (F := F) (k0_pay84 laneV x f b) = loC (maskC (BitVec.ofNat 32 (128 * 3)) x) f b := rfl
theorem hi_3_1 (x : BitVec 32) (f b : Vec F S1x64x128 .i8) : k0_pay87 (F := F) (k0_pay83 laneV x f b) k0_pay85 = hiC (maskC (BitVec.ofNat 32 (128 * 3)) x) f b := rfl
theorem sc_3_1 (x : BitVec 32) (b : Vec F S1x1x128 .f32) (f : Vec F S1x1x1 .f32) : k0_pay88 (k0_pay82 (F := F) laneV x) b f = scC (maskC (BitVec.ofNat 32 (128 * 3)) x) b f := rfl
theorem lo_3_2 (x : BitVec 32) (f b : Vec F S1x64x128 .i8) : k0_pay92 (k0_pay89 (F := F) laneV x) (k0_pay90 f) b = loC (maskC (BitVec.ofNat 32 (128 * 3)) x) f b := rfl
theorem hi_3_2 (x : BitVec 32) (f b : Vec F S1x64x128 .i8) : k0_pay93 (k0_pay89 (F := F) laneV x) (k0_pay90 f) b = hiC (maskC (BitVec.ofNat 32 (128 * 3)) x) f b := rfl
theorem sc_3_2 (x : BitVec 32) (b : Vec F S1x1x128 .f32) (f : Vec F S1x1x1 .f32) : k0_pay94 (k0_pay89 (F := F) laneV x) b f = scC (maskC (BitVec.ofNat 32 (128 * 3)) x) b f := rfl
theorem lo_3_3 (x : BitVec 32) (f b : Vec F S1x64x128 .i8) : k0_pay97 laneV x f b = loC (maskC (BitVec.ofNat 32 (128 * 3)) x) f b := rfl
theorem hi_3_3 (x : BitVec 32) (f b : Vec F S1x64x128 .i8) : k0_pay98 laneV x f b = hiC (maskC (BitVec.ofNat 32 (128 * 3)) x) f b := rfl
theorem sc_3_3 (x : BitVec 32) (b : Vec F S1x1x128 .f32) (f : Vec F S1x1x1 .f32) : k0_pay232 (k0_pay95 (F := F) laneV x) b f = scC (maskC (BitVec.ofNat 32 (128 * 3)) x) b f := rfl

set_option maxHeartbeats 4000000 in
/-- The kernel's block that decodes chunk 3. -/
def blk3 (arg0 : BitVec 32) (v1 : Elt F .i32) (v2 : IVec S1x128 32) (k0_h4 : k0_cond4 v1 = 1#1) : Prog (TpuEff nD τ sig (Elt F) Λ₀ .tc) PUnit := do
  let v48 : IVec S1x128 1 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h4
  let ⟨v96, v108, v113, v114⟩ : Σ' (v96 : IVec S1x128 1) (v108 : IVec S16x128 32) (v113 : IVec S64x128 8), IVec S16x128 32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h4 v48
  let ⟨v144, v148⟩ : Σ' (v144 : IVec S1x128 1), IVec S16x1 32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h4 v96 v108 v113 v114
  let ⟨v183, c3_i32_91⟩ : Σ' (v183 : BitVec 32), BitVec 32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h4 v183 c3_i32_91
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![3, 0, 384] S1x1x128.size inb_S6x1x512_S1x1x128_3_0_384).toLoadRect (View.loadsAt_vmem h_S1x1x128))
  Prog.lift (.store arg16 (Rect.unit (s := S6x1x512) ![3, 0, 384] S1x1x128.size inb_S6x1x512_S1x1x128_3_0_384) (k0_pay232 v192 v221 v223) Finset.univ (View.stores_vmem_bits_univ h_S1x1x128 rfl) (.inl rfl))
  pure ⟨⟩

set_option maxHeartbeats 4000000 in
/-- Decoding chunk 3 leaves it decoded in the scratches and everything else as it was. -/
theorem blk3_spec (hord : ∀ j, (ord j).toNat < 2048) (W : S6x128x512.Idx → Elt F .bf16) (S : S6x1x512.Idx → Elt F .f32) (v1 : Elt F .i32) (hc : k0_cond4 v1 = 1#1) :
    blkRes c arg1 arg4 arg6 arg7 arg8 arg9 arg10 arg11 arg12 arg13 arg15 arg16 q1 q4 qp ord len P Sc W S
    ⊢ wp frame (wpE (defs₀ (F := F)) 𝒱₀ (c : Thread nD τ) none) Set.univ
      (blk3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => blkRes c arg1 arg4 arg6 arg7 arg8 arg9 arg10 arg11 arg12 arg13 arg15 arg16 q1 q4 qp ord len P Sc
        (chunkPut 3 P (fun k => lenAt len (ordAt ord i k)) W) (chunkPutS 3 Sc (fun k => lenAt len (ordAt ord i k)) S)) := by
  iintro ⟨H1, H4, H6, H7, H8, H9, H10, H11, H12, H13, H15, H16⟩
  sl_unfold [blk3]
  sl_exec (disch := exact fun _ => len_ok _ (ord_lt arg1 ord hord _ _))
  rw [wp_ret]; imodintro
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · iapply (pointsTo_rep_of_read (c : Thread nD τ) arg15 _ fullShare _ ?_); on_goal 2 => iexact H15
    refine dec_read 3 3 (by decide) rfl rfl ((lo_3_3 _ _ _).trans (lo_congr (load_len _ _ (load_ord _ _ i 3 rfl _ _) (hord _) rfl _ _) (load_P (c := 0) _ _ (by decide) rfl _) (load_P (c := 3) _ _ (by decide) rfl _))) ((hi_3_3 _ _ _).trans (hi_congr (load_len _ _ (load_ord _ _ i 3 rfl _ _) (hord _) rfl _ _) (load_P (c := 0) _ _ (by decide) rfl _) (load_P (c := 3) _ _ (by decide) rfl _))) ?_
    refine dec_read 3 2 (by decide) rfl rfl ((lo_3_2 _ _ _).trans (lo_congr (load_len _ _ (load_ord _ _ i 2 rfl _ _) (hord _) rfl _ _) (load_P (c := 0) _ _ (by decide) rfl _) (load_P (c := 3) _ _ (by decide) rfl _))) ((hi_3_2 _ _ _).trans (hi_congr (load_len _ _ (load_ord _ _ i 2 rfl _ _) (hord _) rfl _ _) (load_P (c := 0) _ _ (by decide) rfl _) (load_P (c := 3) _ _ (by decide) rfl _))) ?_
    refine dec_read 3 1 (by decide) rfl rfl ((lo_3_1 _ _ _).trans (lo_congr (load_len _ _ (load_ord _ _ i 1 rfl _ _) (hord _) rfl _ _) (load_P (c := 0) _ _ (by decide) rfl _) (load_P (c := 3) _ _ (by decide) rfl _))) ((hi_3_1 _ _ _).trans (hi_congr (load_len _ _ (load_ord _ _ i 1 rfl _ _) (hord _) rfl _ _) (load_P (c := 0) _ _ (by decide) rfl _) (load_P (c := 3) _ _ (by decide) rfl _))) ?_
    refine dec_read 3 0 (by decide) rfl rfl ((lo_3_0 _ _ _).trans (lo_congr (load_len _ _ (load_ord _ _ i 0 rfl _ _) (hord _) rfl _ _) (load_P (c := 0) _ _ (by decide) rfl _) (load_P (c := 3) _ _ (by decide) rfl _))) ((hi_3_0 _ _ _).trans (hi_congr (load_len _ _ (load_ord _ _ i 0 rfl _ _) (hord _) rfl _ _) (load_P (c := 0) _ _ (by decide) rfl _) (load_P (c := 3) _ _ (by decide) rfl _))) ?_
    exact read_nil _ _
  · iapply (pointsTo_rep_of_read (c : Thread nD τ) arg16 _ fullShare _ ?_); on_goal 2 => iexact H16
    refine sc_read 3 3 (by decide) rfl ((sc_3_3 _ _ _).trans (sc_congr (load_len _ _ (load_ord _ _ i 3 rfl _ _) (hord _) rfl _ _) (load_Sc (c := 3) _ _ (by decide) rfl _) (load_first _ _ _))) ?_
    refine sc_read 3 2 (by decide) rfl ((sc_3_2 _ _ _).trans (sc_congr (load_len _ _ (load_ord _ _ i 2 rfl _ _) (hord _) rfl _ _) (load_Sc (c := 3) _ _ (by decide) rfl _) (load_first _ _ _))) ?_
    refine sc_read 3 1 (by decide) rfl ((sc_3_1 _ _ _).trans (sc_congr (load_len _ _ (load_ord _ _ i 1 rfl _ _) (hord _) rfl _ _) (load_Sc (c := 3) _ _ (by decide) rfl _) (load_first _ _ _))) ?_
    refine sc_read 3 0 (by decide) rfl ((sc_3_0 _ _ _).trans (sc_congr (load_len _ _ (load_ord _ _ i 0 rfl _ _) (hord _) rfl _ _) (load_Sc (c := 3) _ _ (by decide) rfl _) (load_first _ _ _))) ?_
    exact read_nil _ _

/-! ## Chunk 4 -/

theorem lo_4_0 (x : BitVec 32) (f b : Vec F S1x64x128 .i8) : k0_pay101 laneV x f b = loC (maskC (BitVec.ofNat 32 (128 * 4)) x) f b := rfl
theorem hi_4_0 (x : BitVec 32) (f b : Vec F S1x64x128 .i8) : k0_pay102 laneV x f b = hiC (maskC (BitVec.ofNat 32 (128 * 4)) x) f b := rfl
theorem sc_4_0 (x : BitVec 32) (b : Vec F S1x1x128 .f32) (f : Vec F S1x1x1 .f32) : k0_pay103 (k0_pay99 (F := F) laneV x) b f = scC (maskC (BitVec.ofNat 32 (128 * 4)) x) b f := rfl
theorem lo_4_1 (x : BitVec 32) (f b : Vec F S1x64x128 .i8) : k0_pay108 (F := F) (k0_pay106 laneV x f b) = loC (maskC (BitVec.ofNat 32 (128 * 4)) x) f b := rfl
theorem hi_4_1 (x : BitVec 32) (f b : Vec F S1x64x128 .i8) : k0_pay109 (F := F) (k0_pay105 laneV x f b) k0_pay107 = hiC (maskC (BitVec.ofNat 32 (128 * 4)) x) f b := rfl
theorem sc_4_1 (x : BitVec 32) (b : Vec F S1x1x128 .f32) (f : Vec F S1x1x1 .f32) : k0_pay110 (k0_pay104 (F := F) laneV x) b f = scC (maskC (BitVec.ofNat 32 (128 * 4)) x) b f := rfl
theorem lo_4_2 (x : BitVec 32) (f b : Vec F S1x64x128 .i8) : k0_pay114 (k0_pay111 (F := F) laneV x) (k0_pay112 f) b = loC (maskC (BitVec.ofNat 32 (128 * 4)) x) f b := rfl
theorem hi_4_2 (x : BitVec 32) (f b : Vec F S1x64x128 .i8) : k0_pay115 (k0_pay111 (F := F) laneV x) (k0_pay112 f) b = hiC (maskC (BitVec.ofNat 32 (128 * 4)) x) f b := rfl
theorem sc_4_2 (x : BitVec 32) (b : Vec F S1x1x128 .f32) (f : Vec F S1x1x1 .f32) : k0_pay116 (k0_pay111 (F := F) laneV x) b f = scC (maskC (BitVec.ofNat 32 (128 * 4)) x) b f := rfl
theorem lo_4_3 (x : BitVec 32) (f b : Vec F S1x64x128 .i8) : k0_pay119 laneV x f b = loC (maskC (BitVec.ofNat 32 (128 * 4)) x) f b := rfl
theorem hi_4_3 (x : BitVec 32) (f b : Vec F S1x64x128 .i8) : k0_pay120 laneV x f b = hiC (maskC (BitVec.ofNat 32 (128 * 4)) x) f b := rfl
theorem sc_4_3 (x : BitVec 32) (b : Vec F S1x1x128 .f32) (f : Vec F S1x1x1 .f32) : k0_pay233 (k0_pay117 (F := F) laneV x) b f = scC (maskC (BitVec.ofNat 32 (128 * 4)) x) b f := rfl

set_option maxHeartbeats 4000000 in
/-- The kernel's block that decodes chunk 4. -/
def blk4 (arg0 : BitVec 32) (v1 : Elt F .i32) (v2 : IVec S1x128 32) (k0_h5 : k0_cond5 v1 = 1#1) : Prog (TpuEff nD τ sig (Elt F) Λ₀ .tc) PUnit := do
  let v48 : IVec S1x128 1 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h5
  let ⟨v96, v108, v113, v114⟩ : Σ' (v96 : IVec S1x128 1) (v108 : IVec S16x128 32) (v113 : IVec S64x128 8), IVec S16x128 32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h5 v48
  let ⟨v144, v148⟩ : Σ' (v144 : IVec S1x128 1), IVec S16x1 32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h5 v96 v108 v113 v114
  let ⟨v183, c3_i32_91⟩ : Σ' (v183 : BitVec 32), BitVec 32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h5 v183 c3_i32_91
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![4, 0, 384] S1x1x128.size inb_S6x1x512_S1x1x128_4_0_384).toLoadRect (View.loadsAt_vmem h_S1x1x128))
  Prog.lift (.store arg16 (Rect.unit (s := S6x1x512) ![4, 0, 384] S1x1x128.size inb_S6x1x512_S1x1x128_4_0_384) (k0_pay233 v192 v221 v223) Finset.univ (View.stores_vmem_bits_univ h_S1x1x128 rfl) (.inl rfl))
  pure ⟨⟩

set_option maxHeartbeats 4000000 in
/-- Decoding chunk 4 leaves it decoded in the scratches and everything else as it was. -/
theorem blk4_spec (hord : ∀ j, (ord j).toNat < 2048) (W : S6x128x512.Idx → Elt F .bf16) (S : S6x1x512.Idx → Elt F .f32) (v1 : Elt F .i32) (hc : k0_cond5 v1 = 1#1) :
    blkRes c arg1 arg4 arg6 arg7 arg8 arg9 arg10 arg11 arg12 arg13 arg15 arg16 q1 q4 qp ord len P Sc W S
    ⊢ wp frame (wpE (defs₀ (F := F)) 𝒱₀ (c : Thread nD τ) none) Set.univ
      (blk4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => blkRes c arg1 arg4 arg6 arg7 arg8 arg9 arg10 arg11 arg12 arg13 arg15 arg16 q1 q4 qp ord len P Sc
        (chunkPut 4 P (fun k => lenAt len (ordAt ord i k)) W) (chunkPutS 4 Sc (fun k => lenAt len (ordAt ord i k)) S)) := by
  iintro ⟨H1, H4, H6, H7, H8, H9, H10, H11, H12, H13, H15, H16⟩
  sl_unfold [blk4]
  sl_exec (disch := exact fun _ => len_ok _ (ord_lt arg1 ord hord _ _))
  rw [wp_ret]; imodintro
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · iapply (pointsTo_rep_of_read (c : Thread nD τ) arg15 _ fullShare _ ?_); on_goal 2 => iexact H15
    refine dec_read 4 3 (by decide) rfl rfl ((lo_4_3 _ _ _).trans (lo_congr (load_len _ _ (load_ord _ _ i 3 rfl _ _) (hord _) rfl _ _) (load_P (c := 0) _ _ (by decide) rfl _) (load_P (c := 4) _ _ (by decide) rfl _))) ((hi_4_3 _ _ _).trans (hi_congr (load_len _ _ (load_ord _ _ i 3 rfl _ _) (hord _) rfl _ _) (load_P (c := 0) _ _ (by decide) rfl _) (load_P (c := 4) _ _ (by decide) rfl _))) ?_
    refine dec_read 4 2 (by decide) rfl rfl ((lo_4_2 _ _ _).trans (lo_congr (load_len _ _ (load_ord _ _ i 2 rfl _ _) (hord _) rfl _ _) (load_P (c := 0) _ _ (by decide) rfl _) (load_P (c := 4) _ _ (by decide) rfl _))) ((hi_4_2 _ _ _).trans (hi_congr (load_len _ _ (load_ord _ _ i 2 rfl _ _) (hord _) rfl _ _) (load_P (c := 0) _ _ (by decide) rfl _) (load_P (c := 4) _ _ (by decide) rfl _))) ?_
    refine dec_read 4 1 (by decide) rfl rfl ((lo_4_1 _ _ _).trans (lo_congr (load_len _ _ (load_ord _ _ i 1 rfl _ _) (hord _) rfl _ _) (load_P (c := 0) _ _ (by decide) rfl _) (load_P (c := 4) _ _ (by decide) rfl _))) ((hi_4_1 _ _ _).trans (hi_congr (load_len _ _ (load_ord _ _ i 1 rfl _ _) (hord _) rfl _ _) (load_P (c := 0) _ _ (by decide) rfl _) (load_P (c := 4) _ _ (by decide) rfl _))) ?_
    refine dec_read 4 0 (by decide) rfl rfl ((lo_4_0 _ _ _).trans (lo_congr (load_len _ _ (load_ord _ _ i 0 rfl _ _) (hord _) rfl _ _) (load_P (c := 0) _ _ (by decide) rfl _) (load_P (c := 4) _ _ (by decide) rfl _))) ((hi_4_0 _ _ _).trans (hi_congr (load_len _ _ (load_ord _ _ i 0 rfl _ _) (hord _) rfl _ _) (load_P (c := 0) _ _ (by decide) rfl _) (load_P (c := 4) _ _ (by decide) rfl _))) ?_
    exact read_nil _ _
  · iapply (pointsTo_rep_of_read (c : Thread nD τ) arg16 _ fullShare _ ?_); on_goal 2 => iexact H16
    refine sc_read 4 3 (by decide) rfl ((sc_4_3 _ _ _).trans (sc_congr (load_len _ _ (load_ord _ _ i 3 rfl _ _) (hord _) rfl _ _) (load_Sc (c := 4) _ _ (by decide) rfl _) (load_first _ _ _))) ?_
    refine sc_read 4 2 (by decide) rfl ((sc_4_2 _ _ _).trans (sc_congr (load_len _ _ (load_ord _ _ i 2 rfl _ _) (hord _) rfl _ _) (load_Sc (c := 4) _ _ (by decide) rfl _) (load_first _ _ _))) ?_
    refine sc_read 4 1 (by decide) rfl ((sc_4_1 _ _ _).trans (sc_congr (load_len _ _ (load_ord _ _ i 1 rfl _ _) (hord _) rfl _ _) (load_Sc (c := 4) _ _ (by decide) rfl _) (load_first _ _ _))) ?_
    refine sc_read 4 0 (by decide) rfl ((sc_4_0 _ _ _).trans (sc_congr (load_len _ _ (load_ord _ _ i 0 rfl _ _) (hord _) rfl _ _) (load_Sc (c := 4) _ _ (by decide) rfl _) (load_first _ _ _))) ?_
    exact read_nil _ _

/-! ## Chunk 5 -/

theorem lo_5_0 (x : BitVec 32) (f b : Vec F S1x64x128 .i8) : k0_pay123 laneV x f b = loC (maskC (BitVec.ofNat 32 (128 * 5)) x) f b := rfl
theorem hi_5_0 (x : BitVec 32) (f b : Vec F S1x64x128 .i8) : k0_pay124 laneV x f b = hiC (maskC (BitVec.ofNat 32 (128 * 5)) x) f b := rfl
theorem sc_5_0 (x : BitVec 32) (b : Vec F S1x1x128 .f32) (f : Vec F S1x1x1 .f32) : k0_pay125 (k0_pay121 (F := F) laneV x) b f = scC (maskC (BitVec.ofNat 32 (128 * 5)) x) b f := rfl
theorem lo_5_1 (x : BitVec 32) (f b : Vec F S1x64x128 .i8) : k0_pay130 (F := F) (k0_pay128 laneV x f b) = loC (maskC (BitVec.ofNat 32 (128 * 5)) x) f b := rfl
theorem hi_5_1 (x : BitVec 32) (f b : Vec F S1x64x128 .i8) : k0_pay131 (F := F) (k0_pay127 laneV x f b) k0_pay129 = hiC (maskC (BitVec.ofNat 32 (128 * 5)) x) f b := rfl
theorem sc_5_1 (x : BitVec 32) (b : Vec F S1x1x128 .f32) (f : Vec F S1x1x1 .f32) : k0_pay132 (k0_pay126 (F := F) laneV x) b f = scC (maskC (BitVec.ofNat 32 (128 * 5)) x) b f := rfl
theorem lo_5_2 (x : BitVec 32) (f b : Vec F S1x64x128 .i8) : k0_pay136 (k0_pay133 (F := F) laneV x) (k0_pay134 f) b = loC (maskC (BitVec.ofNat 32 (128 * 5)) x) f b := rfl
theorem hi_5_2 (x : BitVec 32) (f b : Vec F S1x64x128 .i8) : k0_pay137 (k0_pay133 (F := F) laneV x) (k0_pay134 f) b = hiC (maskC (BitVec.ofNat 32 (128 * 5)) x) f b := rfl
theorem sc_5_2 (x : BitVec 32) (b : Vec F S1x1x128 .f32) (f : Vec F S1x1x1 .f32) : k0_pay138 (k0_pay133 (F := F) laneV x) b f = scC (maskC (BitVec.ofNat 32 (128 * 5)) x) b f := rfl
theorem lo_5_3 (x : BitVec 32) (f b : Vec F S1x64x128 .i8) : k0_pay141 laneV x f b = loC (maskC (BitVec.ofNat 32 (128 * 5)) x) f b := rfl
theorem hi_5_3 (x : BitVec 32) (f b : Vec F S1x64x128 .i8) : k0_pay142 laneV x f b = hiC (maskC (BitVec.ofNat 32 (128 * 5)) x) f b := rfl
theorem sc_5_3 (x : BitVec 32) (b : Vec F S1x1x128 .f32) (f : Vec F S1x1x1 .f32) : k0_pay234 (k0_pay139 (F := F) laneV x) b f = scC (maskC (BitVec.ofNat 32 (128 * 5)) x) b f := rfl

set_option maxHeartbeats 4000000 in
/-- The kernel's block that decodes chunk 5. -/
def blk5 (arg0 : BitVec 32) (v1 : Elt F .i32) (v2 : IVec S1x128 32) (k0_h6 : k0_cond6 v1 = 1#1) : Prog (TpuEff nD τ sig (Elt F) Λ₀ .tc) PUnit := do
  let v48 : IVec S1x128 1 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h6
  let ⟨v96, v108, v113, v114⟩ : Σ' (v96 : IVec S1x128 1) (v108 : IVec S16x128 32) (v113 : IVec S64x128 8), IVec S16x128 32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h6 v48
  let ⟨v144, v148⟩ : Σ' (v144 : IVec S1x128 1), IVec S16x1 32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h6 v96 v108 v113 v114
  let ⟨v183, c3_i32_91⟩ : Σ' (v183 : BitVec 32), BitVec 32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h6 v183 c3_i32_91
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![5, 0, 384] S1x1x128.size inb_S6x1x512_S1x1x128_5_0_384).toLoadRect (View.loadsAt_vmem h_S1x1x128))
  Prog.lift (.store arg16 (Rect.unit (s := S6x1x512) ![5, 0, 384] S1x1x128.size inb_S6x1x512_S1x1x128_5_0_384) (k0_pay234 v192 v221 v223) Finset.univ (View.stores_vmem_bits_univ h_S1x1x128 rfl) (.inl rfl))
  pure ⟨⟩

set_option maxHeartbeats 4000000 in
/-- Decoding chunk 5 leaves it decoded in the scratches and everything else as it was. -/
theorem blk5_spec (hord : ∀ j, (ord j).toNat < 2048) (W : S6x128x512.Idx → Elt F .bf16) (S : S6x1x512.Idx → Elt F .f32) (v1 : Elt F .i32) (hc : k0_cond6 v1 = 1#1) :
    blkRes c arg1 arg4 arg6 arg7 arg8 arg9 arg10 arg11 arg12 arg13 arg15 arg16 q1 q4 qp ord len P Sc W S
    ⊢ wp frame (wpE (defs₀ (F := F)) 𝒱₀ (c : Thread nD τ) none) Set.univ
      (blk5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => blkRes c arg1 arg4 arg6 arg7 arg8 arg9 arg10 arg11 arg12 arg13 arg15 arg16 q1 q4 qp ord len P Sc
        (chunkPut 5 P (fun k => lenAt len (ordAt ord i k)) W) (chunkPutS 5 Sc (fun k => lenAt len (ordAt ord i k)) S)) := by
  iintro ⟨H1, H4, H6, H7, H8, H9, H10, H11, H12, H13, H15, H16⟩
  sl_unfold [blk5]
  sl_exec (disch := exact fun _ => len_ok _ (ord_lt arg1 ord hord _ _))
  rw [wp_ret]; imodintro
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]
  · iapply (pointsTo_rep_of_read (c : Thread nD τ) arg15 _ fullShare _ ?_); on_goal 2 => iexact H15
    refine dec_read 5 3 (by decide) rfl rfl ((lo_5_3 _ _ _).trans (lo_congr (load_len _ _ (load_ord _ _ i 3 rfl _ _) (hord _) rfl _ _) (load_P (c := 0) _ _ (by decide) rfl _) (load_P (c := 5) _ _ (by decide) rfl _))) ((hi_5_3 _ _ _).trans (hi_congr (load_len _ _ (load_ord _ _ i 3 rfl _ _) (hord _) rfl _ _) (load_P (c := 0) _ _ (by decide) rfl _) (load_P (c := 5) _ _ (by decide) rfl _))) ?_
    refine dec_read 5 2 (by decide) rfl rfl ((lo_5_2 _ _ _).trans (lo_congr (load_len _ _ (load_ord _ _ i 2 rfl _ _) (hord _) rfl _ _) (load_P (c := 0) _ _ (by decide) rfl _) (load_P (c := 5) _ _ (by decide) rfl _))) ((hi_5_2 _ _ _).trans (hi_congr (load_len _ _ (load_ord _ _ i 2 rfl _ _) (hord _) rfl _ _) (load_P (c := 0) _ _ (by decide) rfl _) (load_P (c := 5) _ _ (by decide) rfl _))) ?_
    refine dec_read 5 1 (by decide) rfl rfl ((lo_5_1 _ _ _).trans (lo_congr (load_len _ _ (load_ord _ _ i 1 rfl _ _) (hord _) rfl _ _) (load_P (c := 0) _ _ (by decide) rfl _) (load_P (c := 5) _ _ (by decide) rfl _))) ((hi_5_1 _ _ _).trans (hi_congr (load_len _ _ (load_ord _ _ i 1 rfl _ _) (hord _) rfl _ _) (load_P (c := 0) _ _ (by decide) rfl _) (load_P (c := 5) _ _ (by decide) rfl _))) ?_
    refine dec_read 5 0 (by decide) rfl rfl ((lo_5_0 _ _ _).trans (lo_congr (load_len _ _ (load_ord _ _ i 0 rfl _ _) (hord _) rfl _ _) (load_P (c := 0) _ _ (by decide) rfl _) (load_P (c := 5) _ _ (by decide) rfl _))) ((hi_5_0 _ _ _).trans (hi_congr (load_len _ _ (load_ord _ _ i 0 rfl _ _) (hord _) rfl _ _) (load_P (c := 0) _ _ (by decide) rfl _) (load_P (c := 5) _ _ (by decide) rfl _))) ?_
    exact read_nil _ _
  · iapply (pointsTo_rep_of_read (c : Thread nD τ) arg16 _ fullShare _ ?_); on_goal 2 => iexact H16
    refine sc_read 5 3 (by decide) rfl ((sc_5_3 _ _ _).trans (sc_congr (load_len _ _ (load_ord _ _ i 3 rfl _ _) (hord _) rfl _ _) (load_Sc (c := 5) _ _ (by decide) rfl _) (load_first _ _ _))) ?_
    refine sc_read 5 2 (by decide) rfl ((sc_5_2 _ _ _).trans (sc_congr (load_len _ _ (load_ord _ _ i 2 rfl _ _) (hord _) rfl _ _) (load_Sc (c := 5) _ _ (by decide) rfl _) (load_first _ _ _))) ?_
    refine sc_read 5 1 (by decide) rfl ((sc_5_1 _ _ _).trans (sc_congr (load_len _ _ (load_ord _ _ i 1 rfl _ _) (hord _) rfl _ _) (load_Sc (c := 5) _ _ (by decide) rfl _) (load_first _ _ _))) ?_
    refine sc_read 5 0 (by decide) rfl ((sc_5_0 _ _ _).trans (sc_congr (load_len _ _ (load_ord _ _ i 0 rfl _ _) (hord _) rfl _ _) (load_Sc (c := 5) _ _ (by decide) rfl _) (load_first _ _ _))) ?_
    exact read_nil _ _

end Block

end Cert.KernelIdeal.Body
-- ==== Proof.KI.Loops.lean ====
/- The loops over the blocks of 256 query rows, one for each number of chunks. -/
module
public import proofs.«01_k».proof.Proof.Gen.KernelIdeal.Skeleton
public import proofs.«01_k».proof.Proof.Gen.KernelIdeal.Launch
public import proofs.«01_k».proof.Proof.Gen.KernelIdeal.Loops
public import proofs.«01_k».proof.Proof.KI.Trip
public import Idealize.ShloMosaic.Lib.LoopRemainder

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem ok_main (x : BitVec 32) (h : x.toNat ≤ 12) : (k0_t1_loop x).OK := by
  refine ⟨by show (0 : ℤ) < (1#32 : BitVec 32).toInt; decide, ?_⟩
  rw [show Scf.trips (k0_t1_loop x).lb (k0_t1_loop x).ub (k0_t1_loop x).st = x.toNat from trips_eq x h]
  have h1 : (1#32 : BitVec 32).toInt = 1 := by decide
  have h2 : (0#32 : BitVec 32).toInt = 0 := by decide
  show (0#32 : BitVec 32).toInt + (x.toNat : ℤ) * (1#32 : BitVec 32).toInt < 2 ^ 31
  rw [h1, h2]; omega

theorem mul_main (x : BitVec 32) (h : x.toNat ≤ 12) (t : Fin (k0_t1_loop x).trips) : 256 ∣ (Scalar.muli (Scf.iv (0#32) (1#32) t.val) 256#32).toNat := by
  have hk : t.val < 12 := lt_of_lt_of_le (lt_of_lt_of_eq t.isLt (trips_eq x h)) h
  have e := iv256 t.val hk
  exact ⟨t.val, e⟩

theorem off_main (x : BitVec 32) (h : x.toNat ≤ 12) (t : Fin (k0_t1_loop x).trips) (a : Fin 2) :
    (![(Scalar.indexCast (Scalar.muli (Scf.iv (0#32) (1#32) t.val) 256#32)).toNat, 0] : Fin 2 → ℕ) a + S256x128.size a ≤ S3072x128.size a := by
  have hk : t.val < 12 := lt_of_lt_of_le (lt_of_lt_of_eq t.isLt (trips_eq x h)) h
  match a with
  | ⟨0, _⟩ => show (Scalar.indexCast (Scalar.muli (Scf.iv (0#32) (1#32) t.val) 256#32)).toNat + 256 ≤ 3072; rw [iv256 t.val hk]; omega
  | ⟨1, _⟩ => show 0 + 128 ≤ 128; omega

/-- A loop whose every trip stays inside the rows has at most 12 trips. -/
theorem le_of_off (x : BitVec 32)
    (h : ∀ t : Fin (k0_t1_loop x).trips, (![(Scalar.indexCast (Scalar.muli (Scf.iv (0#32) (1#32) t.val) 256#32)).toNat, 0] : Fin 2 → ℕ) 0 + S256x128.size 0 ≤ S3072x128.size 0)
    (k : Fin (k0_t1_loop x).trips) : x.toNat ≤ 12 := by
  have e : (k0_t1_loop x).trips = x.toInt.toNat := by
    show Scf.trips 0#32 (Scalar.addi 0#32 (Scalar.muli (Scalar.divsi (Scalar.subi x 0#32) 1#32) 1#32)) 1#32 = _
    rw [Scalar.muli_divsi_one]
    have e : Scalar.addi 0#32 (Scalar.subi x 0#32) = x := by
      show 0#32 + (x - 0#32) = x
      rw [BitVec.sub_zero, BitVec.zero_add]
    rw [e]
    have h1 : (1#32 : BitVec 32).toInt = 1 := by decide
    have h2 : (0#32 : BitVec 32).toInt = 0 := by decide
    unfold Scf.trips
    rw [h1, h2]; omega
  have hx : x.toInt.toNat ≤ 12 := by
    by_contra hc
    have h12 := h ⟨12, by rw [e]; omega⟩
    have : (Scalar.indexCast (Scalar.muli (Scf.iv (0#32) (1#32) 12) 256#32)).toNat + 256 ≤ 3072 := h12
    revert this; decide
  have hp : 0 < x.toInt.toNat := by rw [← e]; exact lt_of_le_of_lt (Nat.zero_le _) k.isLt
  have := BitVec.toInt_eq_toNat_cond x
  split at this <;> omega

theorem ptR_congr (c : Dev nD) {sp : Space} {s : Shape} {e : EltTy} (M : Memref sig .tc sp s e) {q : PosShare TreeShare} {X Y : s.Idx → Elt F e} (h : X = Y) :
    ptR c M q X ⊢ ptR c M q Y := by rw [h]

section Run
variable (c : Dev nD) (i : grid0.Coords) (arg1 : Memref sig .tc .smem S2048 .i32) (harg1 : arg1.IsWhole) (arg2 : Memref sig .tc .smem S512 .i32) (harg2 : arg2.IsWhole) (arg3 : Memref sig .tc .smem S1 .i32) (harg3 : arg3.IsWhole) (arg4 : Memref sig .tc .smem S2048 .i32) (harg4 : arg4.IsWhole) (arg5 : Memref sig .tc .vmem S3072x128 .bf16) (harg5 : arg5.IsWhole) (arg6 : Memref sig .tc .vmem S1x64x768 .i8) (harg6 : arg6.IsWhole) (arg7 : Memref sig .tc .vmem S1x64x768 .i8) (harg7 : arg7.IsWhole) (arg8 : Memref sig .tc .vmem S1x64x768 .i8) (harg8 : arg8.IsWhole) (arg9 : Memref sig .tc .vmem S1x64x768 .i8) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x1x768 .f32) (harg12 : arg12.IsWhole) (arg13 : Memref sig .tc .vmem S1x1x768 .f32) (harg13 : arg13.IsWhole) (arg14 : Memref sig .tc .vmem S16x3072x128 .f32) (harg14 : arg14.IsWhole) (arg15 : Memref sig .tc .vmem S6x128x512 .bf16) (harg15 : arg15.IsWhole) (arg16 : Memref sig .tc .vmem S6x1x512 .f32) (harg16 : arg16.IsWhole)
  (q1 q3 q5 : PosShare TreeShare) (ord : S2048.Idx → BitVec 32) (nr : S1.Idx → BitVec 32) (Q : S3072x128.Idx → Elt F .bf16)
  (W : S6x128x512.Idx → Elt F .bf16) (S : S6x1x512.Idx → Elt F .f32)

theorem load_nr (inb : ∀ d, (![0] : Fin 1 → ℕ) d + S1.size d ≤ S1.size d) (x) :
    (arg3.view.readAt (Elt F) (Rect.unit (s := S1) ![0] S1.size inb).toLoadRect (arg3.view.rep (Val := Elt F) nr) x : BitVec 32) = nr (ix1 0) := by
  rw [View.readAt_rep]
  refine congrArg nr (funext fun d => Fin.ext ?_)
  have h0 : (x 0).val < 1 := (x 0).isLt
  match d with
  | ⟨0, _⟩ => show 0 + 1 * (x 0).val = 0; omega

/-! ## 1 chunk(s) -/

set_option warn.classDefReducibility false in
/-- Before trip `k` the result holds the first `k` blocks of rows. -/
@[sl_loop] def inv1 (hord : ∀ j, (ord j).toNat < 2048) (O : S16x3072x128.Idx → Elt F .f32) (arg0 v1 : BitVec 32) (hc : k0_cond7 v1 = 1#1) (v39 : BitVec 32)
    (hw : k0_chk25 v1 v39) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw 0#32 where
  inv k _ := iprop(loopRes c arg1 arg5 arg14 arg15 arg16 q1 q5 ord Q W S (loopOut 0 Q (chunkW W) (chunkS S) (ordAt ord i) O k))
  step k acc := by
    iintro H
    have hn : v39.toNat ≤ 12 := le_of_off v39 (fun t => hw.2.2.1 t hc 0) k
    iapply (wp_wand_r Idealize.ShloMosaic.frame (wpE (defs₀ (F := F)) 𝒱₀ (c : Thread nD τ) none) Set.univ)
    isplitl [H]
    · iapply (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q1 q5 ord Q W S hord (loopOut 0 Q (chunkW W) (chunkS S) (ordAt ord i) O k.val) arg0 v1 hc v39 hw acc hn k); iexact H
    · iintro %_ H'
      iexact H'

set_option maxHeartbeats 4000000 in
/-- The kernel's loop for 1 chunk(s). -/
def run1 (arg0 : BitVec 32) (v1 : Elt F .i32) (v2 : IVec S1x128 32) (k0_h7 : k0_cond7 v1 = 1#1) : Prog (TpuEff nD τ sig (Elt F) Λ₀ .tc) PUnit := do
  let v39 : Elt F .i32 ← smemLoad arg3 (Rect.unit (s := S1) ![0] S1.size inb_S1_S1_0) numel1_S1 rfl
  have k0_hw25 : k0_chk25 v1 v39 := (← Prog.lift (TpuEff.assume (k0_chk25 v1 v39) (k0_chk25.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t1_loop v39) (k0_t1_ok v1 v39 k0_hw25 k0_h7) 0#32 (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h7 v39 k0_hw25)
  let v46 : BitVec 32 ← Scf.Loop.for (k0_t2_loop v39) (k0_t2_ok v1 v39 k0_hw25 k0_h7) v45 (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h7 v39 k0_hw25 v44)
  pure ⟨⟩

/-- The loop for 1 chunk(s) leaves the blocks of rows counted by `nr` scored. -/
theorem run1_spec (hord : ∀ j, (ord j).toNat < 2048) (hnr : (nr (ix1 0)).toNat ≤ 12) (O : S16x3072x128.Idx → Elt F .f32) (v1 : Elt F .i32) (hc : k0_cond7 v1 = 1#1) :
    iprop(ptR c arg3 q3 nr ∗ loopRes c arg1 arg5 arg14 arg15 arg16 q1 q5 ord Q W S O)
    ⊢ wp frame (wpE (defs₀ (F := F)) 𝒱₀ (c : Thread nD τ) none) Set.univ
      (run1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => iprop(ptR c arg3 q3 nr ∗ loopRes c arg1 arg5 arg14 arg15 arg16 q1 q5 ord Q W S (loopOut 0 Q (chunkW W) (chunkS S) (ordAt ord i) O (nr (ix1 0)).toNat))) := by
  have hn : ∀ inb x, (arg3.view.readAt (Elt F) (Rect.unit (s := S1) ![0] S1.size inb).toLoadRect (arg3.view.rep (Val := Elt F) nr) x : BitVec 32).toNat ≤ 12 :=
    fun inb x => by rw [load_nr]; exact hnr
  have hT : ∀ inb x, (k0_t1_loop (arg3.view.readAt (Elt F) (Rect.unit (s := S1) ![0] S1.size inb).toLoadRect (arg3.view.rep (Val := Elt F) nr) x : BitVec 32)).trips = (nr (ix1 0)).toNat :=
    fun inb x => by rw [load_nr]; exact trips_eq _ hnr
  iintro ⟨H3, H1, H5, H14, H15, H16⟩
  sl_unfold [run1]
  sl_exec (disch := exact ⟨fun _ => ok_main _ (hn _ _), fun t _ => mul_main _ (hn _ _) t, fun t _ => off_main _ (hn _ _) t, fun _ => Scf.rem_ok _ _,
    fun t => (Scf.rem_no_trip _ _ t).elim, fun t => (Scf.rem_no_trip _ _ t).elim⟩)
  rw [wp_ret]
  imodintro
  isplitl [H3]; · iexact H3
  isplitl [H1]; · iexact H1
  isplitl [H5]; · iexact H5
  isplitl [H14]
  · iapply (ptR_congr c arg14 (congrArg (loopOut 0 Q (chunkW W) (chunkS S) (ordAt ord i) O) (hT _ _)))
    iexact H14
  isplitl [H15]; · iexact H15
  iexact H16

/-! ## 2 chunk(s) -/

set_option warn.classDefReducibility false in
/-- Before trip `k` the result holds the first `k` blocks of rows. -/
@[sl_loop] def inv2 (hord : ∀ j, (ord j).toNat < 2048) (O : S16x3072x128.Idx → Elt F .f32) (arg0 v1 : BitVec 32) (hc : k0_cond8 v1 = 1#1) (v39 : BitVec 32)
    (hw : k0_chk34 v1 v39) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw 0#32 where
  inv k _ := iprop(loopRes c arg1 arg5 arg14 arg15 arg16 q1 q5 ord Q W S (loopOut 1 Q (chunkW W) (chunkS S) (ordAt ord i) O k))
  step k acc := by
    iintro H
    have hn : v39.toNat ≤ 12 := le_of_off v39 (fun t => hw.2.2.1 t hc 0) k
    iapply (wp_wand_r Idealize.ShloMosaic.frame (wpE (defs₀ (F := F)) 𝒱₀ (c : Thread nD τ) none) Set.univ)
    isplitl [H]
    · iapply (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q1 q5 ord Q W S hord (loopOut 1 Q (chunkW W) (chunkS S) (ordAt ord i) O k.val) arg0 v1 hc v39 hw acc hn k); iexact H
    · iintro %_ H'
      iexact H'

set_option maxHeartbeats 4000000 in
/-- The kernel's loop for 2 chunk(s). -/
def run2 (arg0 : BitVec 32) (v1 : Elt F .i32) (v2 : IVec S1x128 32) (k0_h8 : k0_cond8 v1 = 1#1) : Prog (TpuEff nD τ sig (Elt F) Λ₀ .tc) PUnit := do
  let v39 : Elt F .i32 ← smemLoad arg3 (Rect.unit (s := S1) ![0] S1.size inb_S1_S1_0) numel1_S1 rfl
  have k0_hw34 : k0_chk34 v1 v39 := (← Prog.lift (TpuEff.assume (k0_chk34 v1 v39) (k0_chk34.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t3_loop v39) (k0_t3_ok v1 v39 k0_hw34 k0_h8) 0#32 (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h8 v39 k0_hw34)
  let v46 : BitVec 32 ← Scf.Loop.for (k0_t4_loop v39) (k0_t4_ok v1 v39 k0_hw34 k0_h8) v45 (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h8 v39 k0_hw34 v44)
  pure ⟨⟩

/-- The loop for 2 chunk(s) leaves the blocks of rows counted by `nr` scored. -/
theorem run2_spec (hord : ∀ j, (ord j).toNat < 2048) (hnr : (nr (ix1 0)).toNat ≤ 12) (O : S16x3072x128.Idx → Elt F .f32) (v1 : Elt F .i32) (hc : k0_cond8 v1 = 1#1) :
    iprop(ptR c arg3 q3 nr ∗ loopRes c arg1 arg5 arg14 arg15 arg16 q1 q5 ord Q W S O)
    ⊢ wp frame (wpE (defs₀ (F := F)) 𝒱₀ (c : Thread nD τ) none) Set.univ
      (run2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => iprop(ptR c arg3 q3 nr ∗ loopRes c arg1 arg5 arg14 arg15 arg16 q1 q5 ord Q W S (loopOut 1 Q (chunkW W) (chunkS S) (ordAt ord i) O (nr (ix1 0)).toNat))) := by
  have hn : ∀ inb x, (arg3.view.readAt (Elt F) (Rect.unit (s := S1) ![0] S1.size inb).toLoadRect (arg3.view.rep (Val := Elt F) nr) x : BitVec 32).toNat ≤ 12 :=
    fun inb x => by rw [load_nr]; exact hnr
  have hT : ∀ inb x, (k0_t1_loop (arg3.view.readAt (Elt F) (Rect.unit (s := S1) ![0] S1.size inb).toLoadRect (arg3.view.rep (Val := Elt F) nr) x : BitVec 32)).trips = (nr (ix1 0)).toNat :=
    fun inb x => by rw [load_nr]; exact trips_eq _ hnr
  iintro ⟨H3, H1, H5, H14, H15, H16⟩
  sl_unfold [run2]
  sl_exec (disch := exact ⟨fun _ => ok_main _ (hn _ _), fun t _ => mul_main _ (hn _ _) t, fun t _ => off_main _ (hn _ _) t, fun _ => Scf.rem_ok _ _,
    fun t => (Scf.rem_no_trip _ _ t).elim, fun t => (Scf.rem_no_trip _ _ t).elim⟩)
  rw [wp_ret]
  imodintro
  isplitl [H3]; · iexact H3
  isplitl [H1]; · iexact H1
  isplitl [H5]; · iexact H5
  isplitl [H14]
  · iapply (ptR_congr c arg14 (congrArg (loopOut 1 Q (chunkW W) (chunkS S) (ordAt ord i) O) (hT _ _)))
    iexact H14
  isplitl [H15]; · iexact H15
  iexact H16

/-! ## 3 chunk(s) -/

set_option warn.classDefReducibility false in
/-- Before trip `k` the result holds the first `k` blocks of rows. -/
@[sl_loop] def inv3 (hord : ∀ j, (ord j).toNat < 2048) (O : S16x3072x128.Idx → Elt F .f32) (arg0 v1 : BitVec 32) (hc : k0_cond9 v1 = 1#1) (v39 : BitVec 32)
    (hw : k0_chk43 v1 v39) :
    LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw 0#32 where
  inv k _ := iprop(loopRes c arg1 arg5 arg14 arg15 arg16 q1 q5 ord Q W S (loopOut 2 Q (chunkW W) (chunkS S) (ordAt ord i) O k))
  step k acc := by
    iintro H
    have hn : v39.toNat ≤ 12 := le_of_off v39 (fun t => hw.2.2.1 t hc 0) k
    iapply (wp_wand_r Idealize.ShloMosaic.frame (wpE (defs₀ (F := F)) 𝒱₀ (c : Thread nD τ) none) Set.univ)
    isplitl [H]
    · iapply (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q1 q5 ord Q W S hord (loopOut 2 Q (chunkW W) (chunkS S) (ordAt ord i) O k.val) arg0 v1 hc v39 hw acc hn k); iexact H
    · iintro %_ H'
      iexact H'

set_option maxHeartbeats 4000000 in
/-- The kernel's loop for 3 chunk(s). -/
def run3 (arg0 : BitVec 32) (v1 : Elt F .i32) (v2 : IVec S1x128 32) (k0_h9 : k0_cond9 v1 = 1#1) : Prog (TpuEff nD τ sig (Elt F) Λ₀ .tc) PUnit := do
  let v39 : Elt F .i32 ← smemLoad arg3 (Rect.unit (s := S1) ![0] S1.size inb_S1_S1_0) numel1_S1 rfl
  have k0_hw43 : k0_chk43 v1 v39 := (← Prog.lift (TpuEff.assume (k0_chk43 v1 v39) (k0_chk43.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t5_loop v39) (k0_t5_ok v1 v39 k0_hw43 k0_h9) 0#32 (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h9 v39 k0_hw43)
  let v46 : BitVec 32 ← Scf.Loop.for (k0_t6_loop v39) (k0_t6_ok v1 v39 k0_hw43 k0_h9) v45 (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h9 v39 k0_hw43 v44)
  pure ⟨⟩

/-- The loop for 3 chunk(s) leaves the blocks of rows counted by `nr` scored. -/
theorem run3_spec (hord : ∀ j, (ord j).toNat < 2048) (hnr : (nr (ix1 0)).toNat ≤ 12) (O : S16x3072x128.Idx → Elt F .f32) (v1 : Elt F .i32) (hc : k0_cond9 v1 = 1#1) :
    iprop(ptR c arg3 q3 nr ∗ loopRes c arg1 arg5 arg14 arg15 arg16 q1 q5 ord Q W S O)
    ⊢ wp frame (wpE (defs₀ (F := F)) 𝒱₀ (c : Thread nD τ) none) Set.univ
      (run3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => iprop(ptR c arg3 q3 nr ∗ loopRes c arg1 arg5 arg14 arg15 arg16 q1 q5 ord Q W S (loopOut 2 Q (chunkW W) (chunkS S) (ordAt ord i) O (nr (ix1 0)).toNat))) := by
  have hn : ∀ inb x, (arg3.view.readAt (Elt F) (Rect.unit (s := S1) ![0] S1.size inb).toLoadRect (arg3.view.rep (Val := Elt F) nr) x : BitVec 32).toNat ≤ 12 :=
    fun inb x => by rw [load_nr]; exact hnr
  have hT : ∀ inb x, (k0_t1_loop (arg3.view.readAt (Elt F) (Rect.unit (s := S1) ![0] S1.size inb).toLoadRect (arg3.view.rep (Val := Elt F) nr) x : BitVec 32)).trips = (nr (ix1 0)).toNat :=
    fun inb x => by rw [load_nr]; exact trips_eq _ hnr
  iintro ⟨H3, H1, H5, H14, H15, H16⟩
  sl_unfold [run3]
  sl_exec (disch := exact ⟨fun _ => ok_main _ (hn _ _), fun t _ => mul_main _ (hn _ _) t, fun t _ => off_main _ (hn _ _) t, fun _ => Scf.rem_ok _ _,
    fun t => (Scf.rem_no_trip _ _ t).elim, fun t => (Scf.rem_no_trip _ _ t).elim⟩)
  rw [wp_ret]
  imodintro
  isplitl [H3]; · iexact H3
  isplitl [H1]; · iexact H1
  isplitl [H5]; · iexact H5
  isplitl [H14]
  · iapply (ptR_congr c arg14 (congrArg (loopOut 2 Q (chunkW W) (chunkS S) (ordAt ord i) O) (hT _ _)))
    iexact H14
  isplitl [H15]; · iexact H15
  iexact H16

/-! ## 4 chunk(s) -/

set_option warn.classDefReducibility false in
/-- Before trip `k` the result holds the first `k` blocks of rows. -/
@[sl_loop] def inv4 (hord : ∀ j, (ord j).toNat < 2048) (O : S16x3072x128.Idx → Elt F .f32) (arg0 v1 : BitVec 32) (hc : k0_cond10 v1 = 1#1) (v39 : BitVec 32)
    (hw : k0_chk52 v1 v39) :
    LoopInvTy_k0_t7 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw 0#32 where
  inv k _ := iprop(loopRes c arg1 arg5 arg14 arg15 arg16 q1 q5 ord Q W S (loopOut 3 Q (chunkW W) (chunkS S) (ordAt ord i) O k))
  step k acc := by
    iintro H
    have hn : v39.toNat ≤ 12 := le_of_off v39 (fun t => hw.2.2.1 t hc 0) k
    iapply (wp_wand_r Idealize.ShloMosaic.frame (wpE (defs₀ (F := F)) 𝒱₀ (c : Thread nD τ) none) Set.univ)
    isplitl [H]
    · iapply (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q1 q5 ord Q W S hord (loopOut 3 Q (chunkW W) (chunkS S) (ordAt ord i) O k.val) arg0 v1 hc v39 hw acc hn k); iexact H
    · iintro %_ H'
      iexact H'

set_option maxHeartbeats 4000000 in
/-- The kernel's loop for 4 chunk(s). -/
def run4 (arg0 : BitVec 32) (v1 : Elt F .i32) (v2 : IVec S1x128 32) (k0_h10 : k0_cond10 v1 = 1#1) : Prog (TpuEff nD τ sig (Elt F) Λ₀ .tc) PUnit := do
  let v39 : Elt F .i32 ← smemLoad arg3 (Rect.unit (s := S1) ![0] S1.size inb_S1_S1_0) numel1_S1 rfl
  have k0_hw52 : k0_chk52 v1 v39 := (← Prog.lift (TpuEff.assume (k0_chk52 v1 v39) (k0_chk52.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t7_loop v39) (k0_t7_ok v1 v39 k0_hw52 k0_h10) 0#32 (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h10 v39 k0_hw52)
  let v46 : BitVec 32 ← Scf.Loop.for (k0_t8_loop v39) (k0_t8_ok v1 v39 k0_hw52 k0_h10) v45 (k0_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h10 v39 k0_hw52 v44)
  pure ⟨⟩

/-- The loop for 4 chunk(s) leaves the blocks of rows counted by `nr` scored. -/
theorem run4_spec (hord : ∀ j, (ord j).toNat < 2048) (hnr : (nr (ix1 0)).toNat ≤ 12) (O : S16x3072x128.Idx → Elt F .f32) (v1 : Elt F .i32) (hc : k0_cond10 v1 = 1#1) :
    iprop(ptR c arg3 q3 nr ∗ loopRes c arg1 arg5 arg14 arg15 arg16 q1 q5 ord Q W S O)
    ⊢ wp frame (wpE (defs₀ (F := F)) 𝒱₀ (c : Thread nD τ) none) Set.univ
      (run4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => iprop(ptR c arg3 q3 nr ∗ loopRes c arg1 arg5 arg14 arg15 arg16 q1 q5 ord Q W S (loopOut 3 Q (chunkW W) (chunkS S) (ordAt ord i) O (nr (ix1 0)).toNat))) := by
  have hn : ∀ inb x, (arg3.view.readAt (Elt F) (Rect.unit (s := S1) ![0] S1.size inb).toLoadRect (arg3.view.rep (Val := Elt F) nr) x : BitVec 32).toNat ≤ 12 :=
    fun inb x => by rw [load_nr]; exact hnr
  have hT : ∀ inb x, (k0_t1_loop (arg3.view.readAt (Elt F) (Rect.unit (s := S1) ![0] S1.size inb).toLoadRect (arg3.view.rep (Val := Elt F) nr) x : BitVec 32)).trips = (nr (ix1 0)).toNat :=
    fun inb x => by rw [load_nr]; exact trips_eq _ hnr
  iintro ⟨H3, H1, H5, H14, H15, H16⟩
  sl_unfold [run4]
  sl_exec (disch := exact ⟨fun _ => ok_main _ (hn _ _), fun t _ => mul_main _ (hn _ _) t, fun t _ => off_main _ (hn _ _) t, fun _ => Scf.rem_ok _ _,
    fun t => (Scf.rem_no_trip _ _ t).elim, fun t => (Scf.rem_no_trip _ _ t).elim⟩)
  rw [wp_ret]
  imodintro
  isplitl [H3]; · iexact H3
  isplitl [H1]; · iexact H1
  isplitl [H5]; · iexact H5
  isplitl [H14]
  · iapply (ptR_congr c arg14 (congrArg (loopOut 3 Q (chunkW W) (chunkS S) (ordAt ord i) O) (hT _ _)))
    iexact H14
  isplitl [H15]; · iexact H15
  iexact H16

/-! ## 5 chunk(s) -/

set_option warn.classDefReducibility false in
/-- Before trip `k` the result holds the first `k` blocks of rows. -/
@[sl_loop] def inv5 (hord : ∀ j, (ord j).toNat < 2048) (O : S16x3072x128.Idx → Elt F .f32) (arg0 v1 : BitVec 32) (hc : k0_cond11 v1 = 1#1) (v39 : BitVec 32)
    (hw : k0_chk61 v1 v39) :
    LoopInvTy_k0_t9 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw 0#32 where
  inv k _ := iprop(loopRes c arg1 arg5 arg14 arg15 arg16 q1 q5 ord Q W S (loopOut 4 Q (chunkW W) (chunkS S) (ordAt ord i) O k))
  step k acc := by
    iintro H
    have hn : v39.toNat ≤ 12 := le_of_off v39 (fun t => hw.2.2.1 t hc 0) k
    iapply (wp_wand_r Idealize.ShloMosaic.frame (wpE (defs₀ (F := F)) 𝒱₀ (c : Thread nD τ) none) Set.univ)
    isplitl [H]
    · iapply (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q1 q5 ord Q W S hord (loopOut 4 Q (chunkW W) (chunkS S) (ordAt ord i) O k.val) arg0 v1 hc v39 hw acc hn k); iexact H
    · iintro %_ H'
      iexact H'

set_option maxHeartbeats 4000000 in
/-- The kernel's loop for 5 chunk(s). -/
def run5 (arg0 : BitVec 32) (v1 : Elt F .i32) (v2 : IVec S1x128 32) (k0_h11 : k0_cond11 v1 = 1#1) : Prog (TpuEff nD τ sig (Elt F) Λ₀ .tc) PUnit := do
  let v39 : Elt F .i32 ← smemLoad arg3 (Rect.unit (s := S1) ![0] S1.size inb_S1_S1_0) numel1_S1 rfl
  have k0_hw61 : k0_chk61 v1 v39 := (← Prog.lift (TpuEff.assume (k0_chk61 v1 v39) (k0_chk61.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t9_loop v39) (k0_t9_ok v1 v39 k0_hw61 k0_h11) 0#32 (k0_t9_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h11 v39 k0_hw61)
  let v46 : BitVec 32 ← Scf.Loop.for (k0_t10_loop v39) (k0_t10_ok v1 v39 k0_hw61 k0_h11) v45 (k0_t10_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h11 v39 k0_hw61 v44)
  pure ⟨⟩

/-- The loop for 5 chunk(s) leaves the blocks of rows counted by `nr` scored. -/
theorem run5_spec (hord : ∀ j, (ord j).toNat < 2048) (hnr : (nr (ix1 0)).toNat ≤ 12) (O : S16x3072x128.Idx → Elt F .f32) (v1 : Elt F .i32) (hc : k0_cond11 v1 = 1#1) :
    iprop(ptR c arg3 q3 nr ∗ loopRes c arg1 arg5 arg14 arg15 arg16 q1 q5 ord Q W S O)
    ⊢ wp frame (wpE (defs₀ (F := F)) 𝒱₀ (c : Thread nD τ) none) Set.univ
      (run5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => iprop(ptR c arg3 q3 nr ∗ loopRes c arg1 arg5 arg14 arg15 arg16 q1 q5 ord Q W S (loopOut 4 Q (chunkW W) (chunkS S) (ordAt ord i) O (nr (ix1 0)).toNat))) := by
  have hn : ∀ inb x, (arg3.view.readAt (Elt F) (Rect.unit (s := S1) ![0] S1.size inb).toLoadRect (arg3.view.rep (Val := Elt F) nr) x : BitVec 32).toNat ≤ 12 :=
    fun inb x => by rw [load_nr]; exact hnr
  have hT : ∀ inb x, (k0_t1_loop (arg3.view.readAt (Elt F) (Rect.unit (s := S1) ![0] S1.size inb).toLoadRect (arg3.view.rep (Val := Elt F) nr) x : BitVec 32)).trips = (nr (ix1 0)).toNat :=
    fun inb x => by rw [load_nr]; exact trips_eq _ hnr
  iintro ⟨H3, H1, H5, H14, H15, H16⟩
  sl_unfold [run5]
  sl_exec (disch := exact ⟨fun _ => ok_main _ (hn _ _), fun t _ => mul_main _ (hn _ _) t, fun t _ => off_main _ (hn _ _) t, fun _ => Scf.rem_ok _ _,
    fun t => (Scf.rem_no_trip _ _ t).elim, fun t => (Scf.rem_no_trip _ _ t).elim⟩)
  rw [wp_ret]
  imodintro
  isplitl [H3]; · iexact H3
  isplitl [H1]; · iexact H1
  isplitl [H5]; · iexact H5
  isplitl [H14]
  · iapply (ptR_congr c arg14 (congrArg (loopOut 4 Q (chunkW W) (chunkS S) (ordAt ord i) O) (hT _ _)))
    iexact H14
  isplitl [H15]; · iexact H15
  iexact H16

/-! ## 6 chunk(s) -/

set_option warn.classDefReducibility false in
/-- Before trip `k` the result holds the first `k` blocks of rows. -/
@[sl_loop] def inv6 (hord : ∀ j, (ord j).toNat < 2048) (O : S16x3072x128.Idx → Elt F .f32) (arg0 v1 : BitVec 32) (hc : k0_cond12 v1 = 1#1) (v39 : BitVec 32)
    (hw : k0_chk70 v1 v39) :
    LoopInvTy_k0_t11 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 laneV hc v39 hw 0#32 where
  inv k _ := iprop(loopRes c arg1 arg5 arg14 arg15 arg16 q1 q5 ord Q W S (loopOut 5 Q (chunkW W) (chunkS S) (ordAt ord i) O k))
  step k acc := by
    iintro H
    have hn : v39.toNat ≤ 12 := le_of_off v39 (fun t => hw.2.2.1 t hc 0) k
    iapply (wp_wand_r Idealize.ShloMosaic.frame (wpE (defs₀ (F := F)) 𝒱₀ (c : Thread nD τ) none) Set.univ)
    isplitl [H]
    · iapply (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q1 q5 ord Q W S hord (loopOut 5 Q (chunkW W) (chunkS S) (ordAt ord i) O k.val) arg0 v1 hc v39 hw acc hn k); iexact H
    · iintro %_ H'
      iexact H'

set_option maxHeartbeats 4000000 in
/-- The kernel's loop for 6 chunk(s). -/
def run6 (arg0 : BitVec 32) (v1 : Elt F .i32) (v2 : IVec S1x128 32) (k0_h12 : k0_cond12 v1 = 1#1) : Prog (TpuEff nD τ sig (Elt F) Λ₀ .tc) PUnit := do
  let v39 : Elt F .i32 ← smemLoad arg3 (Rect.unit (s := S1) ![0] S1.size inb_S1_S1_0) numel1_S1 rfl
  have k0_hw70 : k0_chk70 v1 v39 := (← Prog.lift (TpuEff.assume (k0_chk70 v1 v39) (k0_chk70.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t11_loop v39) (k0_t11_ok v1 v39 k0_hw70 k0_h12) 0#32 (k0_t11_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h12 v39 k0_hw70)
  let v46 : BitVec 32 ← Scf.Loop.for (k0_t12_loop v39) (k0_t12_ok v1 v39 k0_hw70 k0_h12) v45 (k0_t12_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h12 v39 k0_hw70 v44)
  pure ⟨⟩

/-- The loop for 6 chunk(s) leaves the blocks of rows counted by `nr` scored. -/
theorem run6_spec (hord : ∀ j, (ord j).toNat < 2048) (hnr : (nr (ix1 0)).toNat ≤ 12) (O : S16x3072x128.Idx → Elt F .f32) (v1 : Elt F .i32) (hc : k0_cond12 v1 = 1#1) :
    iprop(ptR c arg3 q3 nr ∗ loopRes c arg1 arg5 arg14 arg15 arg16 q1 q5 ord Q W S O)
    ⊢ wp frame (wpE (defs₀ (F := F)) 𝒱₀ (c : Thread nD τ) none) Set.univ
      (run6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV hc)
      (fun _ => iprop(ptR c arg3 q3 nr ∗ loopRes c arg1 arg5 arg14 arg15 arg16 q1 q5 ord Q W S (loopOut 5 Q (chunkW W) (chunkS S) (ordAt ord i) O (nr (ix1 0)).toNat))) := by
  have hn : ∀ inb x, (arg3.view.readAt (Elt F) (Rect.unit (s := S1) ![0] S1.size inb).toLoadRect (arg3.view.rep (Val := Elt F) nr) x : BitVec 32).toNat ≤ 12 :=
    fun inb x => by rw [load_nr]; exact hnr
  have hT : ∀ inb x, (k0_t1_loop (arg3.view.readAt (Elt F) (Rect.unit (s := S1) ![0] S1.size inb).toLoadRect (arg3.view.rep (Val := Elt F) nr) x : BitVec 32)).trips = (nr (ix1 0)).toNat :=
    fun inb x => by rw [load_nr]; exact trips_eq _ hnr
  iintro ⟨H3, H1, H5, H14, H15, H16⟩
  sl_unfold [run6]
  sl_exec (disch := exact ⟨fun _ => ok_main _ (hn _ _), fun t _ => mul_main _ (hn _ _) t, fun t _ => off_main _ (hn _ _) t, fun _ => Scf.rem_ok _ _,
    fun t => (Scf.rem_no_trip _ _ t).elim, fun t => (Scf.rem_no_trip _ _ t).elim⟩)
  rw [wp_ret]
  imodintro
  isplitl [H3]; · iexact H3
  isplitl [H1]; · iexact H1
  isplitl [H5]; · iexact H5
  isplitl [H14]
  · iapply (ptR_congr c arg14 (congrArg (loopOut 5 Q (chunkW W) (chunkS S) (ordAt ord i) O) (hT _ _)))
    iexact H14
  isplitl [H15]; · iexact H15
  iexact H16

end Run

end Cert.KernelIdeal.Body
-- ==== Proof.KI.Body.lean ====
/- The whole body at one grid point: the chunks it decodes and the blocks of rows it scores. -/
module
public import proofs.«01_k».proof.Proof.Gen.KernelIdeal.Skeleton
public import proofs.«01_k».proof.Proof.Gen.KernelIdeal.Launch
public import proofs.«01_k».proof.Proof.Gen.KernelIdeal.Loops
public import proofs.«01_k».proof.Proof.KI.Blocks
public import proofs.«01_k».proof.Proof.KI.Loops
public import Idealize.ShloMosaic.Lib.LoopRemainder

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The decoding stages up to chunk `m`. -/
def decW (P : Fin 4 → S1x64x768.Idx → Elt F .i8) (len : Fin 4 → BitVec 32) (W : S6x128x512.Idx → Elt F .bf16) : ℕ → S6x128x512.Idx → Elt F .bf16
  | 0 => W
  | m + 1 => chunkPut m P len (decW P len W m)
/-- The same of the scales. -/
def decS (P : Fin 4 → S1x1x768.Idx → Elt F .f32) (len : Fin 4 → BitVec 32) (S : S6x1x512.Idx → Elt F .f32) : ℕ → S6x1x512.Idx → Elt F .f32
  | 0 => S
  | m + 1 => chunkPutS m P len (decS P len S m)

theorem small (n : BitVec 32) (h : n.toNat ≤ 6) : n = 0#32 ∨ n = 1#32 ∨ n = 2#32 ∨ n = 3#32 ∨ n = 4#32 ∨ n = 5#32 ∨ n = 6#32 := by
  have h1 : n = BitVec.ofNat 32 n.toNat := by simp
  have : n.toNat = 0 ∨ n.toNat = 1 ∨ n.toNat = 2 ∨ n.toNat = 3 ∨ n.toNat = 4 ∨ n.toNat = 5 ∨ n.toNat = 6 := by omega
  rcases this with e | e | e | e | e | e | e <;> rw [e] at h1 <;> simp [h1]

theorem cond1_iff (n : BitVec 32) (h : n.toNat ≤ 6) : k0_cond1 n = 1#1 ↔ 0 < n.toNat := by
  rcases small n h with e | e | e | e | e | e | e <;> subst e <;> decide
theorem cond2_iff (n : BitVec 32) (h : n.toNat ≤ 6) : k0_cond2 n = 1#1 ↔ 1 < n.toNat := by
  rcases small n h with e | e | e | e | e | e | e <;> subst e <;> decide
theorem cond3_iff (n : BitVec 32) (h : n.toNat ≤ 6) : k0_cond3 n = 1#1 ↔ 2 < n.toNat := by
  rcases small n h with e | e | e | e | e | e | e <;> subst e <;> decide
theorem cond4_iff (n : BitVec 32) (h : n.toNat ≤ 6) : k0_cond4 n = 1#1 ↔ 3 < n.toNat := by
  rcases small n h with e | e | e | e | e | e | e <;> subst e <;> decide
theorem cond5_iff (n : BitVec 32) (h : n.toNat ≤ 6) : k0_cond5 n = 1#1 ↔ 4 < n.toNat := by
  rcases small n h with e | e | e | e | e | e | e <;> subst e <;> decide
theorem cond6_iff (n : BitVec 32) (h : n.toNat ≤ 6) : k0_cond6 n = 1#1 ↔ 5 < n.toNat := by
  rcases small n h with e | e | e | e | e | e | e <;> subst e <;> decide
theorem cond7_iff (n : BitVec 32) (h : n.toNat ≤ 6) : k0_cond7 n = 1#1 ↔ n.toNat = 1 := by
  rcases small n h with e | e | e | e | e | e | e <;> subst e <;> decide
theorem cond8_iff (n : BitVec 32) (h : n.toNat ≤ 6) : k0_cond8 n = 1#1 ↔ n.toNat = 2 := by
  rcases small n h with e | e | e | e | e | e | e <;> subst e <;> decide
theorem cond9_iff (n : BitVec 32) (h : n.toNat ≤ 6) : k0_cond9 n = 1#1 ↔ n.toNat = 3 := by
  rcases small n h with e | e | e | e | e | e | e <;> subst e <;> decide
theorem cond10_iff (n : BitVec 32) (h : n.toNat ≤ 6) : k0_cond10 n = 1#1 ↔ n.toNat = 4 := by
  rcases small n h with e | e | e | e | e | e | e <;> subst e <;> decide
theorem cond11_iff (n : BitVec 32) (h : n.toNat ≤ 6) : k0_cond11 n = 1#1 ↔ n.toNat = 5 := by
  rcases small n h with e | e | e | e | e | e | e <;> subst e <;> decide
theorem cond12_iff (n : BitVec 32) (h : n.toNat ≤ 6) : k0_cond12 n = 1#1 ↔ n.toNat = 6 := by
  rcases small n h with e | e | e | e | e | e | e <;> subst e <;> decide

/-- The first program and then the second. -/
theorem wp_seq {α β : Type} {c : Dev nD} {p : Prog (TpuEff nD τ sig (Elt F) Λ₀ .tc) α} {k : α → Prog (TpuEff nD τ sig (Elt F) Λ₀ .tc) β} {A : sProp 𝕄} {B : α → sProp 𝕄} {C : β → sProp 𝕄}
    (h1 : A ⊢ wp frame (wpE (defs₀ (F := F)) 𝒱₀ (c : Thread nD τ) none) Set.univ p B)
    (h2 : ∀ x, B x ⊢ wp frame (wpE (defs₀ (F := F)) 𝒱₀ (c : Thread nD τ) none) Set.univ (k x) C) :
    A ⊢ wp frame (wpE (defs₀ (F := F)) 𝒱₀ (c : Thread nD τ) none) Set.univ (p >>= k) C := by
  rw [wp_bind]; exact h1.trans (wp_mono _ _ _ h2)

section Body
variable (i : grid0.Coords) (arg1 : Memref sig .tc .smem S2048 .i32) (harg1 : arg1.IsWhole) (arg2 : Memref sig .tc .smem S512 .i32) (harg2 : arg2.IsWhole) (arg3 : Memref sig .tc .smem S1 .i32) (harg3 : arg3.IsWhole) (arg4 : Memref sig .tc .smem S2048 .i32) (harg4 : arg4.IsWhole) (arg5 : Memref sig .tc .vmem S3072x128 .bf16) (harg5 : arg5.IsWhole) (arg6 : Memref sig .tc .vmem S1x64x768 .i8) (harg6 : arg6.IsWhole) (arg7 : Memref sig .tc .vmem S1x64x768 .i8) (harg7 : arg7.IsWhole) (arg8 : Memref sig .tc .vmem S1x64x768 .i8) (harg8 : arg8.IsWhole) (arg9 : Memref sig .tc .vmem S1x64x768 .i8) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x1x768 .f32) (harg12 : arg12.IsWhole) (arg13 : Memref sig .tc .vmem S1x1x768 .f32) (harg13 : arg13.IsWhole) (arg14 : Memref sig .tc .vmem S16x3072x128 .f32) (harg14 : arg14.IsWhole) (arg15 : Memref sig .tc .vmem S6x128x512 .bf16) (harg15 : arg15.IsWhole) (arg16 : Memref sig .tc .vmem S6x1x512 .f32) (harg16 : arg16.IsWhole)

/-- Branch 1 with what follows it. -/
def br1 {α : Type} (arg0 : BitVec 32) (v1 : Elt F .i32) (v2 : IVec S1x128 32) (k0_h1 : k0_cond1 v1 = 1#1) (κ : Prog (TpuEff nD τ sig (Elt F) Λ₀ .tc) α) : Prog (TpuEff nD τ sig (Elt F) Λ₀ .tc) α := do
  let v48 : IVec S1x128 1 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h1
  let ⟨v96, v108, v113, v114⟩ : Σ' (v96 : IVec S1x128 1) (v108 : IVec S16x128 32) (v113 : IVec S64x128 8), IVec S16x128 32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h1 v48
  let ⟨v144, v148⟩ : Σ' (v144 : IVec S1x128 1), IVec S16x1 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h1 v96 v108 v113 v114
  let ⟨v183, c3_i32_94⟩ : Σ' (v183 : BitVec 32), BitVec 32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h1 v183 c3_i32_94
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![0, 0, 384] S1x1x128.size inb_S6x1x512_S1x1x128_0_0_384).toLoadRect (View.loadsAt_vmem h_S1x1x128))
  Prog.lift (.store arg16 (Rect.unit (s := S6x1x512) ![0, 0, 384] S1x1x128.size inb_S6x1x512_S1x1x128_0_0_384) (k0_pay229 v192 v221 v223) Finset.univ (View.stores_vmem_bits_univ h_S1x1x128 rfl) (.inl rfl))
  κ

theorem br1_eq {α : Type} (arg0 : BitVec 32) (v1 : Elt F .i32) (v2 : IVec S1x128 32) (h : k0_cond1 v1 = 1#1) (κ : Prog (TpuEff nD τ sig (Elt F) Λ₀ .tc) α) :
    br1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = blk0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br1 blk0
  simp only [bind_assoc, pure_bind]

/-- Branch 2 with what follows it. -/
def br2 {α : Type} (arg0 : BitVec 32) (v1 : Elt F .i32) (v2 : IVec S1x128 32) (k0_h2 : k0_cond2 v1 = 1#1) (κ : Prog (TpuEff nD τ sig (Elt F) Λ₀ .tc) α) : Prog (TpuEff nD τ sig (Elt F) Λ₀ .tc) α := do
  let v48 : IVec S1x128 1 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h2
  let ⟨v96, v108, v113, v114⟩ : Σ' (v96 : IVec S1x128 1) (v108 : IVec S16x128 32) (v113 : IVec S64x128 8), IVec S16x128 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h2 v48
  let ⟨v144, v148⟩ : Σ' (v144 : IVec S1x128 1), IVec S16x1 32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h2 v96 v108 v113 v114
  let ⟨v183, c3_i32_92⟩ : Σ' (v183 : BitVec 32), BitVec 32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h2 v183 c3_i32_92
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![1, 0, 384] S1x1x128.size inb_S6x1x512_S1x1x128_1_0_384).toLoadRect (View.loadsAt_vmem h_S1x1x128))
  Prog.lift (.store arg16 (Rect.unit (s := S6x1x512) ![1, 0, 384] S1x1x128.size inb_S6x1x512_S1x1x128_1_0_384) (k0_pay230 v192 v221 v223) Finset.univ (View.stores_vmem_bits_univ h_S1x1x128 rfl) (.inl rfl))
  κ

theorem br2_eq {α : Type} (arg0 : BitVec 32) (v1 : Elt F .i32) (v2 : IVec S1x128 32) (h : k0_cond2 v1 = 1#1) (κ : Prog (TpuEff nD τ sig (Elt F) Λ₀ .tc) α) :
    br2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = blk1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br2 blk1
  simp only [bind_assoc, pure_bind]

/-- Branch 3 with what follows it. -/
def br3 {α : Type} (arg0 : BitVec 32) (v1 : Elt F .i32) (v2 : IVec S1x128 32) (k0_h3 : k0_cond3 v1 = 1#1) (κ : Prog (TpuEff nD τ sig (Elt F) Λ₀ .tc) α) : Prog (TpuEff nD τ sig (Elt F) Λ₀ .tc) α := do
  let v48 : IVec S1x128 1 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h3
  let ⟨v96, v108, v113, v114⟩ : Σ' (v96 : IVec S1x128 1) (v108 : IVec S16x128 32) (v113 : IVec S64x128 8), IVec S16x128 32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h3 v48
  let ⟨v144, v148⟩ : Σ' (v144 : IVec S1x128 1), IVec S16x1 32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h3 v96 v108 v113 v114
  let ⟨v183, c3_i32_92⟩ : Σ' (v183 : BitVec 32), BitVec 32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h3 v183 c3_i32_92
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![2, 0, 384] S1x1x128.size inb_S6x1x512_S1x1x128_2_0_384).toLoadRect (View.loadsAt_vmem h_S1x1x128))
  Prog.lift (.store arg16 (Rect.unit (s := S6x1x512) ![2, 0, 384] S1x1x128.size inb_S6x1x512_S1x1x128_2_0_384) (k0_pay231 v192 v221 v223) Finset.univ (View.stores_vmem_bits_univ h_S1x1x128 rfl) (.inl rfl))
  κ

theorem br3_eq {α : Type} (arg0 : BitVec 32) (v1 : Elt F .i32) (v2 : IVec S1x128 32) (h : k0_cond3 v1 = 1#1) (κ : Prog (TpuEff nD τ sig (Elt F) Λ₀ .tc) α) :
    br3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = blk2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br3 blk2
  simp only [bind_assoc, pure_bind]

/-- Branch 4 with what follows it. -/
def br4 {α : Type} (arg0 : BitVec 32) (v1 : Elt F .i32) (v2 : IVec S1x128 32) (k0_h4 : k0_cond4 v1 = 1#1) (κ : Prog (TpuEff nD τ sig (Elt F) Λ₀ .tc) α) : Prog (TpuEff nD τ sig (Elt F) Λ₀ .tc) α := do
  let v48 : IVec S1x128 1 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h4
  let ⟨v96, v108, v113, v114⟩ : Σ' (v96 : IVec S1x128 1) (v108 : IVec S16x128 32) (v113 : IVec S64x128 8), IVec S16x128 32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h4 v48
  let ⟨v144, v148⟩ : Σ' (v144 : IVec S1x128 1), IVec S16x1 32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h4 v96 v108 v113 v114
  let ⟨v183, c3_i32_91⟩ : Σ' (v183 : BitVec 32), BitVec 32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h4 v183 c3_i32_91
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![3, 0, 384] S1x1x128.size inb_S6x1x512_S1x1x128_3_0_384).toLoadRect (View.loadsAt_vmem h_S1x1x128))
  Prog.lift (.store arg16 (Rect.unit (s := S6x1x512) ![3, 0, 384] S1x1x128.size inb_S6x1x512_S1x1x128_3_0_384) (k0_pay232 v192 v221 v223) Finset.univ (View.stores_vmem_bits_univ h_S1x1x128 rfl) (.inl rfl))
  κ

theorem br4_eq {α : Type} (arg0 : BitVec 32) (v1 : Elt F .i32) (v2 : IVec S1x128 32) (h : k0_cond4 v1 = 1#1) (κ : Prog (TpuEff nD τ sig (Elt F) Λ₀ .tc) α) :
    br4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = blk3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br4 blk3
  simp only [bind_assoc, pure_bind]

/-- Branch 5 with what follows it. -/
def br5 {α : Type} (arg0 : BitVec 32) (v1 : Elt F .i32) (v2 : IVec S1x128 32) (k0_h5 : k0_cond5 v1 = 1#1) (κ : Prog (TpuEff nD τ sig (Elt F) Λ₀ .tc) α) : Prog (TpuEff nD τ sig (Elt F) Λ₀ .tc) α := do
  let v48 : IVec S1x128 1 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h5
  let ⟨v96, v108, v113, v114⟩ : Σ' (v96 : IVec S1x128 1) (v108 : IVec S16x128 32) (v113 : IVec S64x128 8), IVec S16x128 32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h5 v48
  let ⟨v144, v148⟩ : Σ' (v144 : IVec S1x128 1), IVec S16x1 32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h5 v96 v108 v113 v114
  let ⟨v183, c3_i32_91⟩ : Σ' (v183 : BitVec 32), BitVec 32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h5 v183 c3_i32_91
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![4, 0, 384] S1x1x128.size inb_S6x1x512_S1x1x128_4_0_384).toLoadRect (View.loadsAt_vmem h_S1x1x128))
  Prog.lift (.store arg16 (Rect.unit (s := S6x1x512) ![4, 0, 384] S1x1x128.size inb_S6x1x512_S1x1x128_4_0_384) (k0_pay233 v192 v221 v223) Finset.univ (View.stores_vmem_bits_univ h_S1x1x128 rfl) (.inl rfl))
  κ

theorem br5_eq {α : Type} (arg0 : BitVec 32) (v1 : Elt F .i32) (v2 : IVec S1x128 32) (h : k0_cond5 v1 = 1#1) (κ : Prog (TpuEff nD τ sig (Elt F) Λ₀ .tc) α) :
    br5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = blk4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br5 blk4
  simp only [bind_assoc, pure_bind]

/-- Branch 6 with what follows it. -/
def br6 {α : Type} (arg0 : BitVec 32) (v1 : Elt F .i32) (v2 : IVec S1x128 32) (k0_h6 : k0_cond6 v1 = 1#1) (κ : Prog (TpuEff nD τ sig (Elt F) Λ₀ .tc) α) : Prog (TpuEff nD τ sig (Elt F) Λ₀ .tc) α := do
  let v48 : IVec S1x128 1 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h6
  let ⟨v96, v108, v113, v114⟩ : Σ' (v96 : IVec S1x128 1) (v108 : IVec S16x128 32) (v113 : IVec S64x128 8), IVec S16x128 32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h6 v48
  let ⟨v144, v148⟩ : Σ' (v144 : IVec S1x128 1), IVec S16x1 32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h6 v96 v108 v113 v114
  let ⟨v183, c3_i32_91⟩ : Σ' (v183 : BitVec 32), BitVec 32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v144 v148
  let ⟨v192, v221⟩ : Σ' (v192 : IVec S1x128 1), Vec F S1x1x128 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 k0_h6 v183 c3_i32_91
  let v223 : Vec F S1x1x1 .f32 ← Prog.lift (.load arg13 (Rect.unit (s := S1x1x768) ![0, 0, 0] S1x1x1.size inb_S1x1x768_S1x1x1_0_0_0).toLoadRect (View.loadsAt_vmem h_S1x1x1))
  let v228 : Vec F S1x1x128 .f32 ← Prog.lift (.load arg16 (Rect.unit (s := S6x1x512) ![5, 0, 384] S1x1x128.size inb_S6x1x512_S1x1x128_5_0_384).toLoadRect (View.loadsAt_vmem h_S1x1x128))
  Prog.lift (.store arg16 (Rect.unit (s := S6x1x512) ![5, 0, 384] S1x1x128.size inb_S6x1x512_S1x1x128_5_0_384) (k0_pay234 v192 v221 v223) Finset.univ (View.stores_vmem_bits_univ h_S1x1x128 rfl) (.inl rfl))
  κ

theorem br6_eq {α : Type} (arg0 : BitVec 32) (v1 : Elt F .i32) (v2 : IVec S1x128 32) (h : k0_cond6 v1 = 1#1) (κ : Prog (TpuEff nD τ sig (Elt F) Λ₀ .tc) α) :
    br6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = blk5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br6 blk5
  simp only [bind_assoc, pure_bind]

/-- Branch 7 with what follows it. -/
def br7 {α : Type} (arg0 : BitVec 32) (v1 : Elt F .i32) (v2 : IVec S1x128 32) (k0_h7 : k0_cond7 v1 = 1#1) (κ : Prog (TpuEff nD τ sig (Elt F) Λ₀ .tc) α) : Prog (TpuEff nD τ sig (Elt F) Λ₀ .tc) α := do
  let v39 : Elt F .i32 ← smemLoad arg3 (Rect.unit (s := S1) ![0] S1.size inb_S1_S1_0) numel1_S1 rfl
  have k0_hw25 : k0_chk25 v1 v39 := (← Prog.lift (TpuEff.assume (k0_chk25 v1 v39) (k0_chk25.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t1_loop v39) (k0_t1_ok v1 v39 k0_hw25 k0_h7) 0#32 (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h7 v39 k0_hw25)
  let v46 : BitVec 32 ← Scf.Loop.for (k0_t2_loop v39) (k0_t2_ok v1 v39 k0_hw25 k0_h7) v45 (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h7 v39 k0_hw25 v44)
  κ

theorem br7_eq {α : Type} (arg0 : BitVec 32) (v1 : Elt F .i32) (v2 : IVec S1x128 32) (h : k0_cond7 v1 = 1#1) (κ : Prog (TpuEff nD τ sig (Elt F) Λ₀ .tc) α) :
    br7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = run1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br7 run1
  simp only [bind_assoc, pure_bind]

/-- Branch 8 with what follows it. -/
def br8 {α : Type} (arg0 : BitVec 32) (v1 : Elt F .i32) (v2 : IVec S1x128 32) (k0_h8 : k0_cond8 v1 = 1#1) (κ : Prog (TpuEff nD τ sig (Elt F) Λ₀ .tc) α) : Prog (TpuEff nD τ sig (Elt F) Λ₀ .tc) α := do
  let v39 : Elt F .i32 ← smemLoad arg3 (Rect.unit (s := S1) ![0] S1.size inb_S1_S1_0) numel1_S1 rfl
  have k0_hw34 : k0_chk34 v1 v39 := (← Prog.lift (TpuEff.assume (k0_chk34 v1 v39) (k0_chk34.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t3_loop v39) (k0_t3_ok v1 v39 k0_hw34 k0_h8) 0#32 (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h8 v39 k0_hw34)
  let v46 : BitVec 32 ← Scf.Loop.for (k0_t4_loop v39) (k0_t4_ok v1 v39 k0_hw34 k0_h8) v45 (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h8 v39 k0_hw34 v44)
  κ

theorem br8_eq {α : Type} (arg0 : BitVec 32) (v1 : Elt F .i32) (v2 : IVec S1x128 32) (h : k0_cond8 v1 = 1#1) (κ : Prog (TpuEff nD τ sig (Elt F) Λ₀ .tc) α) :
    br8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = run2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br8 run2
  simp only [bind_assoc, pure_bind]

/-- Branch 9 with what follows it. -/
def br9 {α : Type} (arg0 : BitVec 32) (v1 : Elt F .i32) (v2 : IVec S1x128 32) (k0_h9 : k0_cond9 v1 = 1#1) (κ : Prog (TpuEff nD τ sig (Elt F) Λ₀ .tc) α) : Prog (TpuEff nD τ sig (Elt F) Λ₀ .tc) α := do
  let v39 : Elt F .i32 ← smemLoad arg3 (Rect.unit (s := S1) ![0] S1.size inb_S1_S1_0) numel1_S1 rfl
  have k0_hw43 : k0_chk43 v1 v39 := (← Prog.lift (TpuEff.assume (k0_chk43 v1 v39) (k0_chk43.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t5_loop v39) (k0_t5_ok v1 v39 k0_hw43 k0_h9) 0#32 (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h9 v39 k0_hw43)
  let v46 : BitVec 32 ← Scf.Loop.for (k0_t6_loop v39) (k0_t6_ok v1 v39 k0_hw43 k0_h9) v45 (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h9 v39 k0_hw43 v44)
  κ

theorem br9_eq {α : Type} (arg0 : BitVec 32) (v1 : Elt F .i32) (v2 : IVec S1x128 32) (h : k0_cond9 v1 = 1#1) (κ : Prog (TpuEff nD τ sig (Elt F) Λ₀ .tc) α) :
    br9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = run3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br9 run3
  simp only [bind_assoc, pure_bind]

/-- Branch 10 with what follows it. -/
def br10 {α : Type} (arg0 : BitVec 32) (v1 : Elt F .i32) (v2 : IVec S1x128 32) (k0_h10 : k0_cond10 v1 = 1#1) (κ : Prog (TpuEff nD τ sig (Elt F) Λ₀ .tc) α) : Prog (TpuEff nD τ sig (Elt F) Λ₀ .tc) α := do
  let v39 : Elt F .i32 ← smemLoad arg3 (Rect.unit (s := S1) ![0] S1.size inb_S1_S1_0) numel1_S1 rfl
  have k0_hw52 : k0_chk52 v1 v39 := (← Prog.lift (TpuEff.assume (k0_chk52 v1 v39) (k0_chk52.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t7_loop v39) (k0_t7_ok v1 v39 k0_hw52 k0_h10) 0#32 (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h10 v39 k0_hw52)
  let v46 : BitVec 32 ← Scf.Loop.for (k0_t8_loop v39) (k0_t8_ok v1 v39 k0_hw52 k0_h10) v45 (k0_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h10 v39 k0_hw52 v44)
  κ

theorem br10_eq {α : Type} (arg0 : BitVec 32) (v1 : Elt F .i32) (v2 : IVec S1x128 32) (h : k0_cond10 v1 = 1#1) (κ : Prog (TpuEff nD τ sig (Elt F) Λ₀ .tc) α) :
    br10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = run4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br10 run4
  simp only [bind_assoc, pure_bind]

/-- Branch 11 with what follows it. -/
def br11 {α : Type} (arg0 : BitVec 32) (v1 : Elt F .i32) (v2 : IVec S1x128 32) (k0_h11 : k0_cond11 v1 = 1#1) (κ : Prog (TpuEff nD τ sig (Elt F) Λ₀ .tc) α) : Prog (TpuEff nD τ sig (Elt F) Λ₀ .tc) α := do
  let v39 : Elt F .i32 ← smemLoad arg3 (Rect.unit (s := S1) ![0] S1.size inb_S1_S1_0) numel1_S1 rfl
  have k0_hw61 : k0_chk61 v1 v39 := (← Prog.lift (TpuEff.assume (k0_chk61 v1 v39) (k0_chk61.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t9_loop v39) (k0_t9_ok v1 v39 k0_hw61 k0_h11) 0#32 (k0_t9_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h11 v39 k0_hw61)
  let v46 : BitVec 32 ← Scf.Loop.for (k0_t10_loop v39) (k0_t10_ok v1 v39 k0_hw61 k0_h11) v45 (k0_t10_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h11 v39 k0_hw61 v44)
  κ

theorem br11_eq {α : Type} (arg0 : BitVec 32) (v1 : Elt F .i32) (v2 : IVec S1x128 32) (h : k0_cond11 v1 = 1#1) (κ : Prog (TpuEff nD τ sig (Elt F) Λ₀ .tc) α) :
    br11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = run5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br11 run5
  simp only [bind_assoc, pure_bind]

/-- Branch 12 with what follows it. -/
def br12 {α : Type} (arg0 : BitVec 32) (v1 : Elt F .i32) (v2 : IVec S1x128 32) (k0_h12 : k0_cond12 v1 = 1#1) (κ : Prog (TpuEff nD τ sig (Elt F) Λ₀ .tc) α) : Prog (TpuEff nD τ sig (Elt F) Λ₀ .tc) α := do
  let v39 : Elt F .i32 ← smemLoad arg3 (Rect.unit (s := S1) ![0] S1.size inb_S1_S1_0) numel1_S1 rfl
  have k0_hw70 : k0_chk70 v1 v39 := (← Prog.lift (TpuEff.assume (k0_chk70 v1 v39) (k0_chk70.dec v1 v39))).down
  let v40 : BitVec 32 := Scalar.subi v39 0#32
  let v42 : BitVec 32 := Scalar.divsi v40 1#32
  let v43 : BitVec 32 := Scalar.muli v42 1#32
  let v44 : BitVec 32 := Scalar.addi 0#32 v43
  let v45 : BitVec 32 ← Scf.Loop.for (k0_t11_loop v39) (k0_t11_ok v1 v39 k0_hw70 k0_h12) 0#32 (k0_t11_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h12 v39 k0_hw70)
  let v46 : BitVec 32 ← Scf.Loop.for (k0_t12_loop v39) (k0_t12_ok v1 v39 k0_hw70 k0_h12) v45 (k0_t12_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 k0_h12 v39 k0_hw70 v44)
  κ

theorem br12_eq {α : Type} (arg0 : BitVec 32) (v1 : Elt F .i32) (v2 : IVec S1x128 32) (h : k0_cond12 v1 = 1#1) (κ : Prog (TpuEff nD τ sig (Elt F) Λ₀ .tc) α) :
    br12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h κ = run6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h >>= fun _ => κ := by
  unfold br12 run6
  simp only [bind_assoc, pure_bind]

/-- The body from branch 9 on. -/
def tl9 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond9 v1 = 1#1 then br9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (pure ⟨arg0, v1, v2, Scalar.cmpi .eq v1 4#32⟩) else pure ⟨arg0, v1, v2, Scalar.cmpi .eq v1 4#32⟩

/-- The body from branch 8 on. -/
def tl8 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond8 v1 = 1#1 then br8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 7 on. -/
def tl7 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond7 v1 = 1#1 then br7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 6 on. -/
def tl6 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond6 v1 = 1#1 then br6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 5 on. -/
def tl5 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond5 v1 = 1#1 then br5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 4 on. -/
def tl4 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond4 v1 = 1#1 then br4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 3 on. -/
def tl3 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond3 v1 = 1#1 then br3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 2 on. -/
def tl2 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond2 v1 = 1#1 then br2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 1 on. -/
def tl1 (arg0 : BitVec 32) (v1 : Elt F .i32) (v2 : IVec S1x128 32) : Prog (TpuEff nD τ sig (Elt F) Λ₀ .tc) (Σ' (arg0 : BitVec 32) (v1 : Elt F .i32) (v2 : IVec S1x128 32), BitVec 1) :=
  if h : k0_cond1 v1 = 1#1 then br1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 12 on. -/
def tl12 (arg0 : BitVec 32) (v1 : Elt F .i32) (v2 : IVec S1x128 32) : Prog (TpuEff nD τ sig (Elt F) Λ₀ .tc) PUnit :=
  if h : k0_cond12 v1 = 1#1 then br12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (pure ⟨⟩) else pure ⟨⟩

/-- The body from branch 11 on. -/
def tl11 (arg0 : BitVec 32) (v1 : Elt F .i32) (v2 : IVec S1x128 32) : Prog (TpuEff nD τ sig (Elt F) Λ₀ .tc) PUnit :=
  if h : k0_cond11 v1 = 1#1 then br11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

/-- The body from branch 10 on. -/
def tl10 (arg0 : BitVec 32) (v1 : Elt F .i32) (v2 : IVec S1x128 32) : Prog (TpuEff nD τ sig (Elt F) Λ₀ .tc) PUnit :=
  if h : k0_cond10 v1 = 1#1 then br10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2 h (tl11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2) else tl11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v1 v2

theorem head_eq : k0_part63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = smemLoad arg2 (Rect.unit (s := S512) (k0_off2 i) S1.size (k0_off2_inb i)) numel1_S1 rfl >>= fun v1 => tl1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v1 laneV := by
  rw [k0_part63_eq_skeleton]; rfl

theorem root_eq : cc0_maxsim (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = k0_part63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun x => tl10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x.1 x.2.1 x.2.2.1 := by
  rw [cc0_maxsim_eq_skeleton]; rfl

end Body

section Spec
variable (c : Dev nD) (i : grid0.Coords) (arg1 : Memref sig .tc .smem S2048 .i32) (harg1 : arg1.IsWhole) (arg2 : Memref sig .tc .smem S512 .i32) (harg2 : arg2.IsWhole) (arg3 : Memref sig .tc .smem S1 .i32) (harg3 : arg3.IsWhole) (arg4 : Memref sig .tc .smem S2048 .i32) (harg4 : arg4.IsWhole) (arg5 : Memref sig .tc .vmem S3072x128 .bf16) (harg5 : arg5.IsWhole) (arg6 : Memref sig .tc .vmem S1x64x768 .i8) (harg6 : arg6.IsWhole) (arg7 : Memref sig .tc .vmem S1x64x768 .i8) (harg7 : arg7.IsWhole) (arg8 : Memref sig .tc .vmem S1x64x768 .i8) (harg8 : arg8.IsWhole) (arg9 : Memref sig .tc .vmem S1x64x768 .i8) (harg9 : arg9.IsWhole) (arg10 : Memref sig .tc .vmem S1x1x768 .f32) (harg10 : arg10.IsWhole) (arg11 : Memref sig .tc .vmem S1x1x768 .f32) (harg11 : arg11.IsWhole) (arg12 : Memref sig .tc .vmem S1x1x768 .f32) (harg12 : arg12.IsWhole) (arg13 : Memref sig .tc .vmem S1x1x768 .f32) (harg13 : arg13.IsWhole) (arg14 : Memref sig .tc .vmem S16x3072x128 .f32) (harg14 : arg14.IsWhole) (arg15 : Memref sig .tc .vmem S6x128x512 .bf16) (harg15 : arg15.IsWhole) (arg16 : Memref sig .tc .vmem S6x1x512 .f32) (harg16 : arg16.IsWhole)
  (q1 q2 q3 q4 q5 : PosShare TreeShare) (qp : Fin 8 → PosShare TreeShare) (ord len : S2048.Idx → BitVec 32) (cnt : S512.Idx → BitVec 32) (nr : S1.Idx → BitVec 32)
  (Q : S3072x128.Idx → Elt F .bf16) (P : Fin 4 → S1x64x768.Idx → Elt F .i8) (Sc : Fin 4 → S1x1x768.Idx → Elt F .f32)
  (W : S6x128x512.Idx → Elt F .bf16) (S : S6x1x512.Idx → Elt F .f32) (O : S16x3072x128.Idx → Elt F .f32)

/-- The lengths of the four pages of the grid point. -/
def lens (k : Fin 4) : BitVec 32 := lenAt len (ordAt ord i k)

/-- The chunks that the grid point's longest page needs. -/
def cntAt (cnt : S512.Idx → BitVec 32) (i : grid0.Coords) : BitVec 32 := cnt (ix1 ⟨(i 0).val, (i 0).isLt⟩)

/-- What the grid point leaves in the result, all its chunks decoded. -/
def finalOut (n : BitVec 32) : S16x3072x128.Idx → Elt F .f32 :=
  loopOut (n.toNat - 1) Q (chunkW (decW P (lens i ord len) W n.toNat)) (chunkS (decS Sc (lens i ord len) S n.toNat)) (ordAt ord i) O (nr (ix1 0)).toNat

/-- What is held after `m` of the body's twelve branches. -/
def sRes (n : BitVec 32) (m : ℕ) : sProp 𝕄 :=
  iprop(blkRes c arg1 arg4 arg6 arg7 arg8 arg9 arg10 arg11 arg12 arg13 arg15 arg16 q1 q4 qp ord len P Sc (decW P (lens i ord len) W (min n.toNat m)) (decS Sc (lens i ord len) S (min n.toNat m))
    ∗ ptR c arg2 q2 cnt ∗ ptR c arg3 q3 nr ∗ ptR c arg5 q5 Q ∗ ptR c arg14 fullShare (if n.toNat + 6 ≤ m then finalOut i ord len nr Q P Sc W S O n else O))

variable {c i arg1 arg2 arg3 arg4 arg5 arg6 arg7 arg8 arg9 arg10 arg11 arg12 arg13 arg14 arg15 arg16 q1 q2 q3 q4 q5 qp ord len cnt nr Q P Sc W S O}

/-- A branch which decodes chunk `j` where the page has it, and what follows. -/
theorem step_dec {n : BitVec 32} {b : BitVec 1} {α : Type} {p : b = 1#1 → Prog (TpuEff nD τ sig (Elt F) Λ₀ .tc) PUnit} {κ : Prog (TpuEff nD τ sig (Elt F) Λ₀ .tc) α} {R : α → sProp 𝕄}
    (j : ℕ) (hj : j < 6) (h1 : 1 ≤ n.toNat) (hb : b = 1#1 ↔ j < n.toNat)
    (hs : ∀ h W S, blkRes c arg1 arg4 arg6 arg7 arg8 arg9 arg10 arg11 arg12 arg13 arg15 arg16 q1 q4 qp ord len P Sc W S ⊢ wp frame (wpE (defs₀ (F := F)) 𝒱₀ (c : Thread nD τ) none) Set.univ (p h) (fun _ => blkRes c arg1 arg4 arg6 arg7 arg8 arg9 arg10 arg11 arg12 arg13 arg15 arg16 q1 q4 qp ord len P Sc (chunkPut j P (fun k => lenAt len (ordAt ord i k)) W) (chunkPutS j Sc (fun k => lenAt len (ordAt ord i k)) S)))
    (hκ : sRes c i arg1 arg2 arg3 arg4 arg5 arg6 arg7 arg8 arg9 arg10 arg11 arg12 arg13 arg14 arg15 arg16 q1 q2 q3 q4 q5 qp ord len cnt nr Q P Sc W S O n (j + 1) ⊢ wp frame (wpE (defs₀ (F := F)) 𝒱₀ (c : Thread nD τ) none) Set.univ κ R) :
    sRes c i arg1 arg2 arg3 arg4 arg5 arg6 arg7 arg8 arg9 arg10 arg11 arg12 arg13 arg14 arg15 arg16 q1 q2 q3 q4 q5 qp ord len cnt nr Q P Sc W S O n j ⊢ wp frame (wpE (defs₀ (F := F)) 𝒱₀ (c : Thread nD τ) none) Set.univ (if h : b = 1#1 then p h >>= fun _ => κ else κ) R := by
  by_cases h : b = 1#1
  · have hlt := hb.1 h
    rw [dif_pos h]
    refine wp_seq (B := fun _ => sRes c i arg1 arg2 arg3 arg4 arg5 arg6 arg7 arg8 arg9 arg10 arg11 arg12 arg13 arg14 arg15 arg16 q1 q2 q3 q4 q5 qp ord len cnt nr Q P Sc W S O n (j + 1)) ?_ (fun _ => hκ)
    unfold sRes
    rw [show min n.toNat j = j by omega, show min n.toNat (j + 1) = j + 1 by omega, if_neg (by omega), if_neg (by omega)]
    exact (sep_mono_left (hs h _ _)).trans ((wp_frame_r _ _ _).trans (wp_mono _ _ _ fun _ => by exact .rfl))
  · have hlt : ¬ j < n.toNat := fun h' => h (hb.2 h')
    rw [dif_neg h]
    refine Entails.trans (BIBase.Entails.of_eq ?_) hκ
    unfold sRes
    rw [show min n.toNat (j + 1) = min n.toNat j by omega, if_neg (show ¬ n.toNat + 6 ≤ j + 1 by omega), if_neg (show ¬ n.toNat + 6 ≤ j by omega)]

/-- A branch which scores the blocks of rows against `j + 1` chunks where the pages have that many, and what follows. -/
theorem step_run {n : BitVec 32} {b : BitVec 1} {α : Type} {p : b = 1#1 → Prog (TpuEff nD τ sig (Elt F) Λ₀ .tc) PUnit} {κ : Prog (TpuEff nD τ sig (Elt F) Λ₀ .tc) α} {R : α → sProp 𝕄}
    (j : ℕ) (hn : n.toNat ≤ 6) (hb : b = 1#1 ↔ n.toNat = j + 1)
    (hs : ∀ h W S O, iprop(ptR c arg3 q3 nr ∗ loopRes c arg1 arg5 arg14 arg15 arg16 q1 q5 ord Q W S O) ⊢ wp frame (wpE (defs₀ (F := F)) 𝒱₀ (c : Thread nD τ) none) Set.univ (p h)
      (fun _ => iprop(ptR c arg3 q3 nr ∗ loopRes c arg1 arg5 arg14 arg15 arg16 q1 q5 ord Q W S (loopOut j Q (chunkW W) (chunkS S) (ordAt ord i) O (nr (ix1 0)).toNat))))
    (hκ : sRes c i arg1 arg2 arg3 arg4 arg5 arg6 arg7 arg8 arg9 arg10 arg11 arg12 arg13 arg14 arg15 arg16 q1 q2 q3 q4 q5 qp ord len cnt nr Q P Sc W S O n (j + 7) ⊢ wp frame (wpE (defs₀ (F := F)) 𝒱₀ (c : Thread nD τ) none) Set.univ κ R) :
    sRes c i arg1 arg2 arg3 arg4 arg5 arg6 arg7 arg8 arg9 arg10 arg11 arg12 arg13 arg14 arg15 arg16 q1 q2 q3 q4 q5 qp ord len cnt nr Q P Sc W S O n (j + 6) ⊢ wp frame (wpE (defs₀ (F := F)) 𝒱₀ (c : Thread nD τ) none) Set.univ (if h : b = 1#1 then p h >>= fun _ => κ else κ) R := by
  by_cases h : b = 1#1
  · have hlt := hb.1 h
    rw [dif_pos h]
    refine wp_seq (B := fun _ => sRes c i arg1 arg2 arg3 arg4 arg5 arg6 arg7 arg8 arg9 arg10 arg11 arg12 arg13 arg14 arg15 arg16 q1 q2 q3 q4 q5 qp ord len cnt nr Q P Sc W S O n (j + 7)) ?_ (fun _ => hκ)
    have e0 : min n.toNat (j + 6) = n.toNat := by omega
    have e1 : min n.toNat (j + 7) = n.toNat := by omega
    unfold sRes
    rw [e0, e1, if_neg (by omega), if_pos (by omega)]
    have hs := hs h (decW P (lens i ord len) W n.toNat) (decS Sc (lens i ord len) S n.toNat) O
    iintro ⟨⟨H1, H4, H6, H7, H8, H9, H10, H11, H12, H13, H15, H16⟩, H2, H3, H5, H14⟩
    iapply (wp_wand_r Idealize.ShloMosaic.frame (wpE (defs₀ (F := F)) 𝒱₀ (c : Thread nD τ) none) Set.univ)
    isplitl [H3 H1 H5 H14 H15 H16]
    · iapply hs
      isplitl [H3]; · iexact H3
      isplitl [H1]; · iexact H1
      isplitl [H5]; · iexact H5
      isplitl [H14]; · iexact H14
      isplitl [H15]; · iexact H15
      iexact H16
    · iintro %_ ⟨H3, H1, H5, H14, H15, H16⟩
      isplitl [H1 H4 H6 H7 H8 H9 H10 H11 H12 H13 H15 H16]
      · isplitl [H1]; · iexact H1
        isplitl [H4]; · iexact H4
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H15]; · iexact H15
        iexact H16
      isplitl [H2]; · iexact H2
      isplitl [H3]; · iexact H3
      isplitl [H5]; · iexact H5
      iapply (ptR_congr c arg14 (?_ : _ = _))
      on_goal 2 => iexact H14
      rw [finalOut, show n.toNat - 1 = j by omega]
  · have hlt : ¬ (n.toNat = j + 1) := fun h' => h (hb.2 h')
    rw [dif_neg h]
    refine Entails.trans (BIBase.Entails.of_eq ?_) hκ
    unfold sRes
    rw [show min n.toNat (j + 7) = min n.toNat (j + 6) by omega, if_congr (show n.toNat + 6 ≤ j + 6 ↔ n.toNat + 6 ≤ j + 7 by omega) rfl rfl]

variable (c i arg1 arg2 arg3 arg4 arg5 arg6 arg7 arg8 arg9 arg10 arg11 arg12 arg13 arg14 arg15 arg16 q1 q2 q3 q4 q5 qp ord len cnt nr Q P Sc W S O)

/-- The load of the number of chunks. -/
theorem load_cnt (inb : ∀ d, k0_off2 i d + S1.size d ≤ S512.size d) (x) :
    arg2.view.readAt (Elt F) (Rect.unit (s := S512) (k0_off2 i) S1.size inb).toLoadRect (arg2.view.rep (Val := Elt F) cnt) x = cntAt cnt i := by
  rw [View.readAt_rep]
  refine congrArg cnt (funext fun d => Fin.ext ?_)
  have h0 : (x 0).val < 1 := (x 0).isLt
  have hi : (i 0).val < 512 := (i 0).isLt
  match d with
  | ⟨0, _⟩ => show (BitVec.ofNat 32 (i 0).val).toNat + 1 * (x 0).val = (i 0).val; rw [BitVec.toNat_ofNat]; omega

/-- The body at one grid point: the scores of its four pages are in the result, the two scratches hold the decoded pages, the rest is as it was. -/
theorem body_spec (hord : ∀ j, (ord j).toNat < 2048) (hnr : (nr (ix1 0)).toNat ≤ 12) (h1 : 1 ≤ (cntAt cnt i).toNat) (hn : (cntAt cnt i).toNat ≤ 6) :
    sRes c i arg1 arg2 arg3 arg4 arg5 arg6 arg7 arg8 arg9 arg10 arg11 arg12 arg13 arg14 arg15 arg16 q1 q2 q3 q4 q5 qp ord len cnt nr Q P Sc W S O (cntAt cnt i) 0 ⊢ wp frame (wpE (defs₀ (F := F)) 𝒱₀ (c : Thread nD τ) none) Set.univ (cc0_maxsim i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => sRes c i arg1 arg2 arg3 arg4 arg5 arg6 arg7 arg8 arg9 arg10 arg11 arg12 arg13 arg14 arg15 arg16 q1 q2 q3 q4 q5 qp ord len cnt nr Q P Sc W S O (cntAt cnt i) 12) := by
  rw [root_eq, head_eq, bind_assoc]
  refine wp_seq (B := fun v => iprop(⌜v = cntAt cnt i⌝ ∗ sRes c i arg1 arg2 arg3 arg4 arg5 arg6 arg7 arg8 arg9 arg10 arg11 arg12 arg13 arg14 arg15 arg16 q1 q2 q3 q4 q5 qp ord len cnt nr Q P Sc W S O (cntAt cnt i) 0)) ?_ (fun v => ?_)
  · unfold sRes
    iintro ⟨HB, H2, HR⟩
    sl_exec
    rw [wp_ret]
    imodintro
    isplitr; · ipureintro; exact load_cnt _ _ _ _ _
    isplitl [HB]; · iexact HB
    isplitl [H2]; · iexact H2
    iexact HR
  · iintro ⟨%e, H⟩
    subst e
    have hh : sRes c i arg1 arg2 arg3 arg4 arg5 arg6 arg7 arg8 arg9 arg10 arg11 arg12 arg13 arg14 arg15 arg16 q1 q2 q3 q4 q5 qp ord len cnt nr Q P Sc W S O (cntAt cnt i) 0 ⊢ wp frame (wpE (defs₀ (F := F)) 𝒱₀ (c : Thread nD τ) none) Set.univ (tl1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (cntAt cnt i) laneV >>= fun x => tl10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x.1 x.2.1 x.2.2.1) (fun _ => sRes c i arg1 arg2 arg3 arg4 arg5 arg6 arg7 arg8 arg9 arg10 arg11 arg12 arg13 arg14 arg15 arg16 q1 q2 q3 q4 q5 qp ord len cnt nr Q P Sc W S O (cntAt cnt i) 12) := by
      refine wp_seq (B := fun x => iprop(⌜x.1 = BitVec.ofNat 32 (i 0).val ∧ x.2.1 = cntAt cnt i ∧ x.2.2.1 = laneV⌝ ∗ sRes c i arg1 arg2 arg3 arg4 arg5 arg6 arg7 arg8 arg9 arg10 arg11 arg12 arg13 arg14 arg15 arg16 q1 q2 q3 q4 q5 qp ord len cnt nr Q P Sc W S O (cntAt cnt i) 9)) ?_ (fun x => ?_)
      · have hpure : sRes c i arg1 arg2 arg3 arg4 arg5 arg6 arg7 arg8 arg9 arg10 arg11 arg12 arg13 arg14 arg15 arg16 q1 q2 q3 q4 q5 qp ord len cnt nr Q P Sc W S O (cntAt cnt i) 9 ⊢ wp frame (wpE (defs₀ (F := F)) 𝒱₀ (c : Thread nD τ) none) Set.univ (pure ⟨BitVec.ofNat 32 (i 0).val, cntAt cnt i, laneV, Scalar.cmpi .eq (cntAt cnt i) 4#32⟩ : Prog (TpuEff nD τ sig (Elt F) Λ₀ .tc) (Σ' (arg0 : BitVec 32) (v1 : Elt F .i32) (v2 : IVec S1x128 32), BitVec 1)) (fun x => iprop(⌜x.1 = BitVec.ofNat 32 (i 0).val ∧ x.2.1 = cntAt cnt i ∧ x.2.2.1 = laneV⌝ ∗ sRes c i arg1 arg2 arg3 arg4 arg5 arg6 arg7 arg8 arg9 arg10 arg11 arg12 arg13 arg14 arg15 arg16 q1 q2 q3 q4 q5 qp ord len cnt nr Q P Sc W S O (cntAt cnt i) 9)) := by
          iintro H
          rw [show (pure : _ → Prog (TpuEff nD τ sig (Elt F) Λ₀ .tc) _) = Prog.ret from rfl, wp_ret]
          imodintro
          isplitr; · ipureintro; exact ⟨rfl, rfl, rfl⟩
          iexact H
        unfold tl1; simp only [br1_eq]
        refine step_dec 0 (by decide) h1 (cond1_iff _ hn) ?_ ?_
        · intros; apply blk0_spec; exact hord
        unfold tl2; simp only [br2_eq]
        refine step_dec 1 (by decide) h1 (cond2_iff _ hn) ?_ ?_
        · intros; apply blk1_spec; exact hord
        unfold tl3; simp only [br3_eq]
        refine step_dec 2 (by decide) h1 (cond3_iff _ hn) ?_ ?_
        · intros; apply blk2_spec; exact hord
        unfold tl4; simp only [br4_eq]
        refine step_dec 3 (by decide) h1 (cond4_iff _ hn) ?_ ?_
        · intros; apply blk3_spec; exact hord
        unfold tl5; simp only [br5_eq]
        refine step_dec 4 (by decide) h1 (cond5_iff _ hn) ?_ ?_
        · intros; apply blk4_spec; exact hord
        unfold tl6; simp only [br6_eq]
        refine step_dec 5 (by decide) h1 (cond6_iff _ hn) ?_ ?_
        · intros; apply blk5_spec; exact hord
        unfold tl7; simp only [br7_eq]
        refine step_run 0 hn (cond7_iff _ hn) ?_ ?_
        · intros; apply run1_spec <;> assumption
        unfold tl8; simp only [br8_eq]
        refine step_run 1 hn (cond8_iff _ hn) ?_ ?_
        · intros; apply run2_spec <;> assumption
        unfold tl9; simp only [br9_eq]
        refine step_run 2 hn (cond9_iff _ hn) ?_ ?_
        · intros; apply run3_spec <;> assumption
        exact hpure
      · iintro ⟨%e, H⟩
        obtain ⟨e1, e2, e3⟩ := e
        rw [e1, e2, e3]
        have hpure : sRes c i arg1 arg2 arg3 arg4 arg5 arg6 arg7 arg8 arg9 arg10 arg11 arg12 arg13 arg14 arg15 arg16 q1 q2 q3 q4 q5 qp ord len cnt nr Q P Sc W S O (cntAt cnt i) 12 ⊢ wp frame (wpE (defs₀ (F := F)) 𝒱₀ (c : Thread nD τ) none) Set.univ (pure ⟨⟩ : Prog (TpuEff nD τ sig (Elt F) Λ₀ .tc) PUnit) (fun _ => sRes c i arg1 arg2 arg3 arg4 arg5 arg6 arg7 arg8 arg9 arg10 arg11 arg12 arg13 arg14 arg15 arg16 q1 q2 q3 q4 q5 qp ord len cnt nr Q P Sc W S O (cntAt cnt i) 12) := by
          iintro H
          rw [show (pure : _ → Prog (TpuEff nD τ sig (Elt F) Λ₀ .tc) _) = Prog.ret from rfl, wp_ret]
          imodintro
          iexact H
        have hs : sRes c i arg1 arg2 arg3 arg4 arg5 arg6 arg7 arg8 arg9 arg10 arg11 arg12 arg13 arg14 arg15 arg16 q1 q2 q3 q4 q5 qp ord len cnt nr Q P Sc W S O (cntAt cnt i) 9 ⊢ wp frame (wpE (defs₀ (F := F)) 𝒱₀ (c : Thread nD τ) none) Set.univ (tl10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (cntAt cnt i) laneV) (fun _ => sRes c i arg1 arg2 arg3 arg4 arg5 arg6 arg7 arg8 arg9 arg10 arg11 arg12 arg13 arg14 arg15 arg16 q1 q2 q3 q4 q5 qp ord len cnt nr Q P Sc W S O (cntAt cnt i) 12) := by
          unfold tl10; simp only [br10_eq]
          refine step_run 3 hn (cond10_iff _ hn) ?_ ?_
          · intros; apply run4_spec <;> assumption
          unfold tl11; simp only [br11_eq]
          refine step_run 4 hn (cond11_iff _ hn) ?_ ?_
          · intros; apply run5_spec <;> assumption
          unfold tl12; simp only [br12_eq]
          refine step_run 5 hn (cond12_iff _ hn) ?_ ?_
          · intros; apply run6_spec <;> assumption
          exact hpure
        iapply hs
        iexact H
    iapply hh
    iexact H

end Spec

end Cert.KernelIdeal.Body
-- ==== Proof.KI.Kit.lean ====
/- The launch: the memory at the call, the prefetched tables, and what the tables must satisfy. -/
module
public import proofs.«01_k».proof.Proof.KI.Body

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The host operations before the call -/

/-- The host operations, in their stretches. -/
abbrev hostOps : List (List (HloOp τ sig (Elt F))) := [hostOps0, hostOps0_1, hostOps0_2, hostOps0_3, hostOps0_4, hostOps0_5, hostOps0_6]

section
variable (m : (ℓ : Loc nD τ sig) → Buf (Elt F) ℓ)

/-- The memory when the call starts. -/
def V (c : Dev nD) (b : Ref sig .tc) : Buf (Elt F) ((c.tc : Thread nD τ).loc b) :=
  StableHlo.after (hostOps (F := F)).flatten (fun b => m (c, b)) b

theorem hostOps_fresh : (hostOps (F := F)).Forall fun ops => ops.Forall fun op => op.fresh = ∅ := by
  simp only [List.Forall, hostOps, hostOps0, hostOps0_1, hostOps0_2, hostOps0_3, hostOps0_4, hostOps0_5, hostOps0_6]
  repeat' constructor

theorem hmain : Pipeline.HMainP (Ix := Unit) (Name := ℕ) (U := UU nD τ) (Lvl := ℕ) (pcfgs (F := F)) 0 defs₀ 𝒱₀ m main (V m) :=
  Pipeline.hmainP_prefixes pcfgs 0 defs₀ 𝒱₀ m main hostOps
    (by simp only [List.Forall]; exact ⟨hostOps0_sub, hostOps0_1_sub, hostOps0_2_sub, hostOps0_3_sub, hostOps0_4_sub, hostOps0_5_sub, hostOps0_6_sub⟩)
    hostOps_fresh main_chain

/-- The buffers that the host operations write, in order. -/
def written : List (Ref sig .tc) := [main_c, main_v0, main_c_0, main_v1, main_c_1, main_v2, main_c_2, main_call0_v0, main_call0_v1, main_call0_v2, main_call0_v3, main_call0_v4, main_call0_v5, main_call0_c, main_call0_v6, main_call0_v7, main_call0_c_0, main_call0_v8, main_v3, main_v4, main_c_3, main_v5, main_v6, main_c_4, main_v7, main_v8, main_c_5, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v9, main_v10, main_call2_v0, main_call2_v1_0, main_v11, main_c_6, main_v12, main_v13, main_c_7, main_v14, main_v15, main_v16, main_v17, main_v18, main_v19, main_v20]

theorem V_of_not_written (r : Ref sig .tc) (h : r ∉ written) (c : Dev nD) : V m c r = m ((c.tc : Thread nD τ).loc r) :=
  StableHlo.after_of_writes_sub (W := written) (hostOps (F := F)).flatten _ (StableHlo.forall_writes_sub_of_map rfl) h

theorem V_arg0 (c : Dev nD) : V m c main_arg0 = m ((c.tc : Thread nD τ).loc main_arg0) := V_of_not_written m _ (by decide) c
theorem V_arg1 (c : Dev nD) : V m c main_arg1 = m ((c.tc : Thread nD τ).loc main_arg1) := V_of_not_written m _ (by decide) c
theorem V_arg2 (c : Dev nD) : V m c main_arg2 = m ((c.tc : Thread nD τ).loc main_arg2) := V_of_not_written m _ (by decide) c
theorem V_arg3 (c : Dev nD) : V m c main_arg3 = m ((c.tc : Thread nD τ).loc main_arg3) := V_of_not_written m _ (by decide) c
theorem V_arg4 (c : Dev nD) : V m c main_arg4 = m ((c.tc : Thread nD τ).loc main_arg4) := V_of_not_written m _ (by decide) c

/-! ## The tables -/

/-- The tables' contents: the order, the numbers of chunks, the blocks of rows, the lengths. -/
def tbl : pre0.Contents (Elt F) := fun j => V m (0 : Dev nD) (pre0.ref j)

theorem V_pre (c : Dev nD) (j : Fin 4) : V m c (pre0.ref j) = tbl m j := by
  obtain rfl : c = 0 := Subsingleton.elim _ _
  rfl

/-- The pages' order. -/
abbrev ordT : S2048.Idx → BitVec 32 := tbl m (0 : Fin 4)
/-- The numbers of chunks. -/
abbrev cntT : S512.Idx → BitVec 32 := tbl m (1 : Fin 4)
/-- The number of blocks of rows. -/
abbrev nrT : S1.Idx → BitVec 32 := tbl m (2 : Fin 4)
/-- The pages' lengths. -/
abbrev lenT : S2048.Idx → BitVec 32 := tbl m (3 : Fin 4)

/-- What the tables must satisfy: the order names pages, the numbers are in range. -/
structure Good : Prop where
  ord : ∀ j, (ordT m j).toNat < 2048
  cnt1 : ∀ j, 1 ≤ (cntT m j).toNat
  cnt6 : ∀ j, (cntT m j).toNat ≤ 6
  nr : (nrT m (ix1 0)).toNat ≤ 12

/-- A whole page of codes is whole words. -/
theorem wholeWords_page (ix : Fin 3 → ℕ) (h) (h1 : ix 1 = 0) : (Rect.block (s := S2048x64x768) S1x64x768.size ix h).WholeWords (EltTy.packing .i8) :=
  .inr ⟨by decide, rfl, by show ix 1 * 64 = 0; rw [h1], rfl⟩

theorem pages_in (ix : Fin 3 → ℕ) (w : BitVec 32) (hw : w.toNat < 2048) (h : ix = ![w.toNat, 0, 0]) :
    ∃ h : (∀ a, (ix a + 1) * S1x64x768.size a ≤ S2048x64x768.size a), EltTy.bits .i8 = 32 ∨ (Rect.block (s := S2048x64x768) S1x64x768.size ix h).WholeWords (EltTy.packing .i8) := by
  subst h
  refine ⟨fun a => ?_, .inr (wholeWords_page _ _ rfl)⟩
  match a with
  | ⟨0, _⟩ => show (w.toNat + 1) * 1 ≤ 2048; omega
  | ⟨1, _⟩ => show (0 + 1) * 64 ≤ 64; omega
  | ⟨2, _⟩ => show (0 + 1) * 768 ≤ 768; omega

theorem scales_in (ix : Fin 3 → ℕ) (w : BitVec 32) (hw : w.toNat < 2048) (h : ix = ![w.toNat, 0, 0]) :
    ∃ h : (∀ a, (ix a + 1) * S1x1x768.size a ≤ S2048x1x768.size a), EltTy.bits .f32 = 32 ∨ (Rect.block (s := S2048x1x768) S1x1x768.size ix h).WholeWords (EltTy.packing .f32) := by
  subst h
  refine ⟨fun a => ?_, .inl rfl⟩
  match a with
  | ⟨0, _⟩ => show (w.toNat + 1) * 1 ≤ 2048; omega
  | ⟨1, _⟩ => show (0 + 1) * 1 ≤ 1; omega
  | ⟨2, _⟩ => show (0 + 1) * 768 ≤ 768; omega

/-- The word that an index map reads. -/
theorem at_ord (i : grid0.Coords) (j : Fin 4) (pf : pre0.Contents (Elt F)) {off : Fin 1 → ℕ} (h : off = ![4 * (i 0).val + j.val]) (inb : ∀ a, off a + S1.size a ≤ S2048.size a) :
    (pf.at (0 : Fin 4) (Rect.unit (s := S2048) off S1.size inb) numel1_S1 : BitVec 32) = ordAt (pf (0 : Fin 4)) i j := by
  subst h
  refine congrArg (pf (0 : Fin 4)) (funext fun d => Fin.ext ?_)
  match d with
  | ⟨0, _⟩ => rfl

theorem trans1_eq (pf : pre0.Contents (Elt F)) (i : grid0.Coords) : cc0_transform_1 k0_off1_inb numel1_S1 pf i = ![(ordAt (pf (0 : Fin 4)) i 0).toNat, 0, 0] :=
  congrArg (fun w : BitVec 32 => (![w.toNat, 0, 0] : Fin 3 → ℕ)) (at_ord i 0 pf (congrArg (fun n : ℕ => (![n] : Fin 1 → ℕ)) (offw i 0 (by decide))) _)
theorem trans2_eq (pf : pre0.Contents (Elt F)) (i : grid0.Coords) : cc0_transform_2 k0_off1_inb numel1_S1 pf i = ![(ordAt (pf (0 : Fin 4)) i 1).toNat, 0, 0] :=
  congrArg (fun w : BitVec 32 => (![w.toNat, 0, 0] : Fin 3 → ℕ)) (at_ord i 1 pf (congrArg (fun n : ℕ => (![n] : Fin 1 → ℕ)) (offw i 1 (by decide))) _)
theorem trans3_eq (pf : pre0.Contents (Elt F)) (i : grid0.Coords) : cc0_transform_3 k0_off1_inb numel1_S1 pf i = ![(ordAt (pf (0 : Fin 4)) i 2).toNat, 0, 0] :=
  congrArg (fun w : BitVec 32 => (![w.toNat, 0, 0] : Fin 3 → ℕ)) (at_ord i 2 pf (congrArg (fun n : ℕ => (![n] : Fin 1 → ℕ)) (offw i 2 (by decide))) _)
theorem trans4_eq (pf : pre0.Contents (Elt F)) (i : grid0.Coords) : cc0_transform_4 k0_off1_inb numel1_S1 pf i = ![(ordAt (pf (0 : Fin 4)) i 3).toNat, 0, 0] :=
  congrArg (fun w : BitVec 32 => (![w.toNat, 0, 0] : Fin 3 → ℕ)) (at_ord i 3 pf (congrArg (fun n : ℕ => (![n] : Fin 1 → ℕ)) (offw i 3 (by decide))) _)
theorem trans5_eq (pf : pre0.Contents (Elt F)) (i : grid0.Coords) : cc0_transform_5 k0_off1_inb numel1_S1 pf i = ![(ordAt (pf (0 : Fin 4)) i 0).toNat, 0, 0] :=
  congrArg (fun w : BitVec 32 => (![w.toNat, 0, 0] : Fin 3 → ℕ)) (at_ord i 0 pf (congrArg (fun n : ℕ => (![n] : Fin 1 → ℕ)) (offw i 0 (by decide))) _)
theorem trans6_eq (pf : pre0.Contents (Elt F)) (i : grid0.Coords) : cc0_transform_6 k0_off1_inb numel1_S1 pf i = ![(ordAt (pf (0 : Fin 4)) i 1).toNat, 0, 0] :=
  congrArg (fun w : BitVec 32 => (![w.toNat, 0, 0] : Fin 3 → ℕ)) (at_ord i 1 pf (congrArg (fun n : ℕ => (![n] : Fin 1 → ℕ)) (offw i 1 (by decide))) _)
theorem trans7_eq (pf : pre0.Contents (Elt F)) (i : grid0.Coords) : cc0_transform_7 k0_off1_inb numel1_S1 pf i = ![(ordAt (pf (0 : Fin 4)) i 2).toNat, 0, 0] :=
  congrArg (fun w : BitVec 32 => (![w.toNat, 0, 0] : Fin 3 → ℕ)) (at_ord i 2 pf (congrArg (fun n : ℕ => (![n] : Fin 1 → ℕ)) (offw i 2 (by decide))) _)
theorem trans8_eq (pf : pre0.Contents (Elt F)) (i : grid0.Coords) : cc0_transform_8 k0_off1_inb numel1_S1 pf i = ![(ordAt (pf (0 : Fin 4)) i 3).toNat, 0, 0] :=
  congrArg (fun w : BitVec 32 => (![w.toNat, 0, 0] : Fin 3 → ℕ)) (at_ord i 3 pf (congrArg (fun n : ℕ => (![n] : Fin 1 → ℕ)) (offw i 3 (by decide))) _)

theorem ok_of (hG : Good m) : ok0 (tbl m) :=
  ⟨fun i => pages_in _ (ordAt (ordT m) i 0) (hG.ord _) (trans1_eq _ i), fun i => pages_in _ (ordAt (ordT m) i 1) (hG.ord _) (trans2_eq _ i), fun i => pages_in _ (ordAt (ordT m) i 2) (hG.ord _) (trans3_eq _ i), fun i => pages_in _ (ordAt (ordT m) i 3) (hG.ord _) (trans4_eq _ i), fun i => scales_in _ (ordAt (ordT m) i 0) (hG.ord _) (trans5_eq _ i), fun i => scales_in _ (ordAt (ordT m) i 1) (hG.ord _) (trans6_eq _ i), fun i => scales_in _ (ordAt (ordT m) i 2) (hG.ord _) (trans7_eq _ i), fun i => scales_in _ (ordAt (ordT m) i 3) (hG.ord _) (trans8_eq _ i)⟩

end

end Cert.KernelIdeal.Body
-- ==== Proof.KI.Host.lean ====
module
public import proofs.«01_k».proof.Proof.KI.Kit
public import Idealize.ShloMosaic.Lib.Routing.OpsSet
public import Idealize.ShloMosaic.Lib.Routing.Words
public import Idealize.ShloMosaic.Lib.SortFacts

@[expose] public section
set_option maxRecDepth 16384
noncomputable section

namespace Cert.KernelIdeal.Body
open Cert.KernelIdeal Cert.KernelIdeal.Gen
open Idealize.ShloMosaic Idealize.ShloMosaic.TcCoe
open Idealize.ShloMosaic.StableHlo

variable {F : FTy → Type} [FloatOps F]

/-! ## The host operations' values, stretch by stretch -/

/-- jax's floor division of scalars. -/
def fdiv0 (x d : S_.Idx → BitVec 32) : S_.Idx → BitVec 32 :=
  select (andi (cmpi .ne (signi x) (signi d)) (cmpi .ne (Host.remsi x d) (constantI S_ 32 0#32))) (subi (Host.divsi x d) (constantI S_ 32 1#32)) (Host.divsi x d)

/-- jax's floor division of a vector by a scalar. -/
def fdiv1 (x : S2048.Idx → BitVec 32) (d : S_.Idx → BitVec 32) : S2048.Idx → BitVec 32 :=
  select (andi (cmpi .ne (signi x) (broadcastInDim S2048 ![] bcast_S_S2048 (signi d))) (cmpi .ne (Host.remsi x (broadcastInDim S2048 ![] bcast_S_S2048 d)) (broadcastInDim S2048 ![] bcast_S_S2048 (constantI S_ 32 0#32))))
    (subi (Host.divsi x (broadcastInDim S2048 ![] bcast_S_S2048 d)) (broadcastInDim S2048 ![] bcast_S_S2048 (constantI S_ 32 1#32))) (Host.divsi x (broadcastInDim S2048 ![] bcast_S_S2048 d))

/-- The rows plus 255. -/
def rowsUp (q : S96.Idx → BitVec 32) : S_.Idx → BitVec 32 :=
  subi (addi (Host.reduce IntOp.addi q (constantI S_ 32 0#32) reducesTo_S96_S_d0 h_S_) (constantI S_ 32 256#32)) (constantI S_ 32 1#32)

/-- The lengths plus 127. -/
def lenUp (l : S2048.Idx → BitVec 32) : S2048.Idx → BitVec 32 :=
  subi (addi l (broadcastInDim S2048 ![] bcast_S_S2048 (constantI S_ 32 128#32))) (broadcastInDim S2048 ![] bcast_S_S2048 (constantI S_ 32 1#32))

/-- The pages' chunks. -/
def chunksOf (l : S2048.Idx → BitVec 32) : S2048.Idx → BitVec 32 := fdiv1 (lenUp l) (constantI S_ 32 128#32)

/-- The pages by falling number of chunks. -/
def orderOf (ch : S2048.Idx → BitVec 32) : S2048.Idx → BitVec 32 := (Host.sort2 S2048 0 comparator_i32_i32_d0 (negi ch) (iotaInDim S2048 32 0)).2

/-- The numbers of chunks at every fourth place of the order. -/
def countOf (ch ord : S2048.Idx → BitVec 32) : S512.Idx → BitVec 32 :=
  Host.slice S512 ![0] ![4] (Host.gather gather_S2048_S2048x1_S2048_n_0_n_n_0_1_1 ch (broadcastInDim S2048x1 ![0] bcast_S2048_S2048x1_0
    (select (cmpi .slt ord (broadcastInDim S2048 ![] bcast_S_S2048 (constantI S_ 32 0#32))) (addi ord (broadcastInDim S2048 ![] bcast_S_S2048 (constantI S_ 32 2048#32))) ord))) slicesBy_S2048_S512_0s4

section
variable (X : Valuation τ sig (Elt F))

theorem st0_v2 : after (hostOps0 (F := F)) X main_v2 = rowsUp (X main_arg4) := by
  after_results; try rfl
theorem st0_c_2 : after (hostOps0 (F := F)) X main_c_2 = constantI S_ 32 256#32 := by
  after_results; try rfl
theorem st1_v3 : after (hostOps0_1 (F := F)) X main_v3 = fdiv0 (X main_v2) (X main_c_2) := by
  after_results; try rfl
theorem st2_v4 : after (hostOps0_2 (F := F)) X main_v4 = shapeCast S1 (X main_v3 : S_.Idx → BitVec 32) shapeCasts_S_S1 := by
  after_results; try rfl
theorem st2_v8 : after (hostOps0_2 (F := F)) X main_v8 = lenUp (X main_arg3) := by
  after_results; try rfl
theorem st2_c_5 : after (hostOps0_2 (F := F)) X main_c_5 = constantI S_ 32 128#32 := by
  after_results; try rfl
theorem st3_v9 : after (hostOps0_3 (F := F)) X main_v9 = fdiv1 (X main_v8) (X main_c_5) := by
  after_results; try rfl
theorem st4_v10 : after (hostOps0_4 (F := F)) X main_v10 = negi (X main_v9 : S2048.Idx → BitVec 32) := by
  after_results; try rfl
theorem st5_v11 : after (hostOps0_5 (F := F)) X main_v11 = (Host.sort2 S2048 0 comparator_i32_i32_d0 (X main_v10 : S2048.Idx → BitVec 32) (iotaInDim S2048 32 0)).2 := by
  after_results; try rfl
theorem st6_v19 : after (hostOps0_6 (F := F)) X main_v19 = countOf (X main_v9) (X main_v11) := by
  after_results; try rfl
theorem st6_v20 : after (hostOps0_6 (F := F)) X main_v20 = shapeCast S2048x1x768 (X main_arg2 : S2048x768.Idx → Elt F .f32) shapeCasts_S2048x768_S2048x1x768 := by
  after_results; try rfl
theorem st0_arg2 : after (hostOps0 (F := F)) X main_arg2 = X main_arg2 := by
  after_results; try rfl
theorem st0_arg3 : after (hostOps0 (F := F)) X main_arg3 = X main_arg3 := by
  after_results; try rfl
theorem st1_arg2 : after (hostOps0_1 (F := F)) X main_arg2 = X main_arg2 := by
  after_results; try rfl
theorem st1_arg3 : after (hostOps0_1 (F := F)) X main_arg3 = X main_arg3 := by
  after_results; try rfl
theorem st2_arg2 : after (hostOps0_2 (F := F)) X main_arg2 = X main_arg2 := by
  after_results; try rfl
theorem st3_arg2 : after (hostOps0_3 (F := F)) X main_arg2 = X main_arg2 := by
  after_results; try rfl
theorem st3_v4 : after (hostOps0_3 (F := F)) X main_v4 = X main_v4 := by
  after_results; try rfl
theorem st4_arg2 : after (hostOps0_4 (F := F)) X main_arg2 = X main_arg2 := by
  after_results; try rfl
theorem st4_v4 : after (hostOps0_4 (F := F)) X main_v4 = X main_v4 := by
  after_results; try rfl
theorem st4_v9 : after (hostOps0_4 (F := F)) X main_v9 = X main_v9 := by
  after_results; try rfl
theorem st5_arg2 : after (hostOps0_5 (F := F)) X main_arg2 = X main_arg2 := by
  after_results; try rfl
theorem st5_v4 : after (hostOps0_5 (F := F)) X main_v4 = X main_v4 := by
  after_results; try rfl
theorem st5_v9 : after (hostOps0_5 (F := F)) X main_v9 = X main_v9 := by
  after_results; try rfl
theorem st6_v4 : after (hostOps0_6 (F := F)) X main_v4 = X main_v4 := by
  after_results; try rfl
theorem st6_v11 : after (hostOps0_6 (F := F)) X main_v11 = X main_v11 := by
  after_results; try rfl

end

section
variable (m : (ℓ : Loc nD τ sig) → Buf (Elt F) ℓ)

/-- The memory after the stretches, one by one. -/
def X0 : Valuation τ sig (Elt F) := fun b => m ((0 : Dev nD), b)
def X1 : Valuation τ sig (Elt F) := after (hostOps0 (F := F)) (X0 m)
def X2 : Valuation τ sig (Elt F) := after (hostOps0_1 (F := F)) (X1 m)
def X3 : Valuation τ sig (Elt F) := after (hostOps0_2 (F := F)) (X2 m)
def X4 : Valuation τ sig (Elt F) := after (hostOps0_3 (F := F)) (X3 m)
def X5 : Valuation τ sig (Elt F) := after (hostOps0_4 (F := F)) (X4 m)
def X6 : Valuation τ sig (Elt F) := after (hostOps0_5 (F := F)) (X5 m)

theorem V_eq (r : Ref sig .tc) : V m 0 r = after (hostOps0_6 (F := F)) (X6 m) r := rfl

/-- The lengths of the pages and of the queries as the program gets them. -/
abbrev lenA : S2048.Idx → BitVec 32 := m ((0 : Dev nD), (main_arg3 : DevRef τ sig))
abbrev qlenA : S96.Idx → BitVec 32 := m ((0 : Dev nD), (main_arg4 : DevRef τ sig))

theorem X_v9 : X4 m main_v9 = chunksOf (lenA m) := by
  unfold X4; rw [st3_v9]; unfold X3; rw [st2_v8, st2_c_5]; unfold X2; rw [st1_arg3]; unfold X1; rw [st0_arg3]; rfl

theorem X_v11 : X6 m main_v11 = orderOf (chunksOf (lenA m)) := by
  unfold X6; rw [st5_v11]; unfold X5; rw [st4_v10, X_v9]; rfl

theorem ordT_eq : ordT m = orderOf (chunksOf (lenA m)) := by
  show V m 0 main_v11 = _
  rw [V_eq, st6_v11, X_v11]

theorem cntT_eq : cntT m = countOf (chunksOf (lenA m)) (orderOf (chunksOf (lenA m))) := by
  show V m 0 main_v19 = _
  rw [V_eq, st6_v19, X_v11]; unfold X6; rw [st5_v9]; unfold X5; rw [st4_v9, X_v9]

theorem nrT_eq : nrT m = shapeCast S1 (fdiv0 (rowsUp (qlenA m)) (constantI S_ 32 256#32)) shapeCasts_S_S1 := by
  show V m 0 main_v4 = _
  rw [V_eq, st6_v4]; unfold X6; rw [st5_v4]; unfold X5; rw [st4_v4]; unfold X4; rw [st3_v4]; unfold X3; rw [st2_v4]; unfold X2; rw [st1_v3]; unfold X1; rw [st0_v2, st0_c_2]; rfl

theorem lenT_eq : lenT m = lenA m := V_arg3 m 0

theorem scales_eq : V m 0 main_v20 = shapeCast S2048x1x768 (m ((0 : Dev nD), (main_arg2 : DevRef τ sig)) : S2048x768.Idx → Elt F .f32) shapeCasts_S2048x768_S2048x1x768 := by
  rw [V_eq, st6_v20]; unfold X6; rw [st5_arg2]; unfold X5; rw [st4_arg2]; unfold X4; rw [st3_arg2]; unfold X3; rw [st2_arg2]; unfold X2; rw [st1_arg2]; unfold X1; rw [st0_arg2]; rfl

end

/-! ## Their arithmetic -/

/-- A word's sign. -/
def sgW (y : BitVec 32) : BitVec 32 := if y = 0 then 0 else if y.msb then -1 else 1

/-- jax's floor division of words. -/
def fdivW (x d : BitVec 32) : BitVec 32 :=
  if IntOp.andi (IntOp.cmpi .ne (sgW x) (sgW d)) (IntOp.cmpi .ne (IntOp.remsi .host x d) 0#32) = 1#1 then IntOp.subi (IntOp.divsi .host x d) 1#32 else IntOp.divsi .host x d

open Idealize.ShloMosaic.Routing in
/-- jax's floor division of natural words is the natural quotient. -/
theorem fdiv_word {a b : ℕ} (ha : a < 2 ^ 31) (h0 : 0 < b) (hb : b < 2 ^ 31) : fdivW (BitVec.ofNat 32 a) (BitVec.ofNat 32 b) = BitVec.ofNat 32 (a / b) := by
  generalize hx' : BitVec.ofNat 32 a = x
  generalize hd' : BitVec.ofNat 32 b = d
  unfold fdivW
  have hdiv : IntOp.divsi .host x d = BitVec.ofNat 32 (a / b) := by subst hx' hd'; exact divsi_word _ ha h0 hb
  have hrem : IntOp.remsi .host x d = BitVec.ofNat 32 (a % b) := by subst hx' hd'; exact remsi_word _ ha h0 hb
  have hmsb : ∀ n : ℕ, n < 2 ^ 31 → (BitVec.ofNat 32 n).msb = false := fun n hn => by
    rw [BitVec.msb_eq_false_iff_two_mul_lt, BitVec.toNat_ofNat]; omega
  have hne : ∀ n : ℕ, 0 < n → n < 2 ^ 31 → BitVec.ofNat 32 n ≠ 0 := fun n h hn e => by
    have := congrArg BitVec.toNat e; rw [BitVec.toNat_ofNat] at this; simp at this; omega
  rw [if_neg, hdiv]
  rcases Nat.eq_zero_or_pos a with h | hp
  · rw [hrem, h, Nat.zero_mod]
    show ¬ (IntOp.cmpi .ne (sgW x) (sgW d) &&& IntOp.cmpi .ne 0#32 0#32 = 1#1)
    rw [show IntOp.cmpi .ne (0#32 : BitVec 32) 0#32 = 0#1 from by decide]
    generalize IntOp.cmpi .ne (sgW x) (sgW d) = z
    revert z; decide
  · have hx : sgW x = 1 := by unfold sgW; subst hx'; rw [if_neg (hne a hp ha), hmsb a ha]; rfl
    have hd : sgW d = 1 := by unfold sgW; subst hd'; rw [if_neg (hne b h0 hb), hmsb b hb]; rfl
    rw [hx, hd, show IntOp.cmpi .ne (1 : BitVec 32) 1 = 0#1 from by decide]
    generalize IntOp.cmpi .ne (IntOp.remsi .host x d) 0#32 = z
    revert z; decide

/-- The chunks of a page of length `n`. -/
def chunkN (n : ℕ) : ℕ := (n + 127) / 128

theorem chunksOf_apply (l : S2048.Idx → BitVec 32) (j : S2048.Idx) (h : (l j).toNat ≤ 768) : chunksOf l j = BitVec.ofNat 32 (chunkN (l j).toNat) := by
  have e : lenUp l j = BitVec.ofNat 32 ((l j).toNat + 127) := by
    show l j + 128#32 - 1#32 = _
    apply BitVec.eq_of_toNat_eq
    rw [BitVec.toNat_sub, BitVec.toNat_add, BitVec.toNat_ofNat, BitVec.toNat_ofNat, BitVec.toNat_ofNat]
    omega
  have := fdiv_word (a := (l j).toNat + 127) (b := 128) (by omega) (by omega) (by omega)
  rw [← e] at this
  exact this

/-- The order as a rearrangement of the pages. -/
def perm (ch : S2048.Idx → BitVec 32) : Fin 2048 → Fin 2048 :=
  sortedFrom fun k k' => comparator_i32_i32_d0 ((negi ch) (ix1 k), (iotaInDim S2048 32 0) (ix1 k)) ((negi ch) (ix1 k'), (iotaInDim S2048 32 0) (ix1 k')) == 1#1

theorem perm_bij (ch : S2048.Idx → BitVec 32) : Function.Bijective (perm ch) := ⟨sortedFrom_injective _, sortedFrom_surjective _⟩

theorem along_eq {n : ℕ} (j k : Fin n) : (ix1 j : (⟨1, ![n]⟩ : Shape).Idx).along 0 k = ix1 k := by
  funext a
  obtain rfl : a = 0 := Subsingleton.elim _ _
  exact Function.update_self ..

theorem sort2_apply {n : ℕ} (cmp : BitVec 32 × BitVec 32 → BitVec 32 × BitVec 32 → BitVec 1) (x y : (⟨1, ![n]⟩ : Shape).Idx → BitVec 32) (j : Fin n) :
    (Host.sort2 ⟨1, ![n]⟩ 0 cmp x y).2 (ix1 j) = y (ix1 (sortedFrom (fun k k' => cmp (x (ix1 k), y (ix1 k)) (x (ix1 k'), y (ix1 k')) == 1#1) j)) := by
  unfold Host.sort2
  rw [dif_pos (show 0 < (⟨1, ![n]⟩ : Shape).rank from Nat.one_pos)]
  exact congrArg (fun f : Fin n → (⟨1, ![n]⟩ : Shape).Idx => y (f (sortedFrom (fun k k' => cmp (x (f k), y (f k)) (x (f k'), y (f k')) == 1#1) j))) (funext fun k => along_eq j k)

theorem orderOf_apply (ch : S2048.Idx → BitVec 32) (j : Fin 2048) : orderOf ch (ix1 j) = BitVec.ofNat 32 (perm ch j).val :=
  sort2_apply comparator_i32_i32_d0 (negi ch) (iotaInDim S2048 32 0) j

theorem perm_sorted (ch : S2048.Idx → BitVec 32) (hc : ∀ j, (ch j).toNat < 2 ^ 31) (i j : Fin 2048) (h : i ≤ j) : (ch (ix1 (perm ch j))).toNat ≤ (ch (ix1 (perm ch i))).toNat := by
  rcases Nat.lt_or_ge i.val j.val with hl | hl
  swap
  · obtain rfl : i = j := Fin.ext (by have := Fin.le_def.mp h; omega)
    exact le_rfl
  have key : ∀ a b : Fin 2048, (comparator_i32_i32_d0 ((negi ch) (ix1 a), (iotaInDim S2048 32 0) (ix1 a)) ((negi ch) (ix1 b), (iotaInDim S2048 32 0) (ix1 b)) == 1#1) = decide ((ch (ix1 b)).toNat < (ch (ix1 a)).toNat) := fun a b => by
    show (BitVec.ofBool ((-(ch (ix1 a))).slt (-(ch (ix1 b)))) == 1#1) = _
    have e : ∀ c, (ch c).toNat < 2 ^ 31 → (-(ch c)).toInt = -((ch c).toNat : ℤ) := fun c h => by
      rw [BitVec.toInt_neg, BitVec.toInt_eq_toNat_of_lt (by omega)]
      rw [Int.bmod_eq_of_le] <;> omega
    rw [BitVec.slt, e _ (hc _), e _ (hc _)]
    by_cases hh : (ch (ix1 b)).toNat < (ch (ix1 a)).toNat
    · rw [decide_eq_true (by omega), decide_eq_true hh]; rfl
    · rw [decide_eq_false (by omega), decide_eq_false hh]; rfl
  have := sortedFrom_noInversion (fun a b : Fin 2048 => decide ((ch (ix1 b)).toNat < (ch (ix1 a)).toNat)) (fun a b : Fin 2048 => decide ((ch (ix1 b)).toNat < (ch (ix1 a)).toNat))
    (fun a b h => by have := of_decide_eq_true h; exact decide_eq_false (by omega)) (fun _ _ h => h) (fun a b c h1 h2 => by have := of_decide_eq_false h1; have := of_decide_eq_false h2; exact decide_eq_false (by omega)) i j hl
  unfold perm
  simp only [key]
  have := of_decide_eq_false this
  omega

/-- The positions from which the numbers of chunks are taken: the order's, a negative one counted from the end. -/
def takeIx (ord : S2048.Idx → BitVec 32) : S2048x1.Idx → BitVec 32 :=
  broadcastInDim S2048x1 ![0] bcast_S2048_S2048x1_0 (select (cmpi .slt ord (broadcastInDim S2048 ![] bcast_S_S2048 (constantI S_ 32 0#32))) (addi ord (broadcastInDim S2048 ![] bcast_S_S2048 (constantI S_ 32 2048#32))) ord)

theorem takeIx_apply (ord : S2048.Idx → BitVec 32) (j : Fin 2048) (n : ℕ) (hn : n < 2048) (h : ord (ix1 j) = BitVec.ofNat 32 n) : takeIx ord (ix2 j (0 : Fin 1)) = BitVec.ofNat 32 n := by
  have e : takeIx ord (ix2 j (0 : Fin 1)) = if IntOp.cmpi .slt (ord (ix1 j)) 0#32 = 1#1 then IntOp.addi (ord (ix1 j)) 2048#32 else ord (ix1 j) := by
    unfold takeIx
    show select _ _ _ _ = _
    rw [show (fun a => _ : S2048.Idx) = ix1 j from ?_]
    · rfl
    · funext a
      match a with
      | ⟨0, _⟩ => rfl
  rw [e, h, if_neg]
  show ¬ BitVec.ofBool ((BitVec.ofNat 32 n).slt 0#32) = 1#1
  rw [BitVec.slt, BitVec.toInt_eq_toNat_of_lt (by rw [BitVec.toNat_ofNat]; omega), decide_eq_false (by rw [show (0#32 : BitVec 32).toInt = 0 from rfl]; omega)]
  decide

theorem take_apply (ch idx) (j b : Fin 2048) (hb : idx (ix2 j (0 : Fin 1)) = BitVec.ofNat 32 b.val) :
    Host.gather gather_S2048_S2048x1_S2048_n_0_n_n_0_1_1 (ch : S2048.Idx → BitVec 32) (idx : S2048x1.Idx → BitVec 32) (ix1 j) = ch (ix1 b) :=
  Routing.gather_take1 gather_S2048_S2048x1_S2048_n_0_n_n_0_1_1 rfl rfl rfl rfl ch idx j b hb (by norm_num)

theorem countOf_apply (ch : S2048.Idx → BitVec 32) (i : Fin 512) : countOf ch (orderOf ch) (ix1 i) = ch (ix1 (perm ch ⟨4 * i.val, by have := i.isLt; omega⟩)) := by
  refine Eq.trans ?_ (take_apply ch (takeIx (orderOf ch)) ⟨4 * i.val, by have := i.isLt; omega⟩ _ (takeIx_apply _ _ _ (perm ch _).isLt (orderOf_apply ch _)))
  unfold countOf Host.slice
  refine congrArg (Host.gather _ _ _) (funext fun a => Fin.ext ?_)
  match a with
  | ⟨0, _⟩ => show 0 + 4 * i.val = 4 * i.val; omega

/-- All the queries' lengths together. -/
def total (q : S96.Idx → BitVec 32) : ℕ := ((List.range 96).map fun i => if h : i < 96 then (q (ix1 ⟨i, h⟩)).toNat else 0).sum

theorem total_le (q : S96.Idx → BitVec 32) (h : ∀ j, (q j).toNat ≤ 32) : total q ≤ 3072 := by
  unfold total
  refine (List.sum_le_card_nsmul _ 32 ?_).trans ?_
  · intro x hx
    obtain ⟨i, -, rfl⟩ := List.mem_map.mp hx
    split
    · exact h _
    · omega
  · simp

theorem sum_eq (q : S96.Idx → BitVec 32) (h1 : S96.ReducesTo [0] S_) (h2 : 0 < S_.numel) : Host.reduce IntOp.addi q (constantI S_ 32 0#32) h1 h2 ValueIdx.ix0 = BitVec.ofNat 32 (total q) :=
  Routing.reduce_sum q (fun i => if h : i < 96 then (q (ix1 ⟨i, h⟩)).toNat else 0) (fun i => by rw [dif_pos i.isLt]; show q (ix1 i) = _; simp) h1 h2

theorem nr_apply (q : S96.Idx → BitVec 32) (h : ∀ j, (q j).toNat ≤ 32) :
    shapeCast S1 (fdiv0 (rowsUp q) (constantI S_ 32 256#32)) shapeCasts_S_S1 (ix1 0) = BitVec.ofNat 32 ((total q + 255) / 256) := by
  have ht := total_le q h
  have e : rowsUp q ValueIdx.ix0 = BitVec.ofNat 32 (total q + 255) := by
    show Host.reduce IntOp.addi q (constantI S_ 32 0#32) _ _ ValueIdx.ix0 + 256#32 - 1#32 = _
    rw [sum_eq]
    apply BitVec.eq_of_toNat_eq
    rw [BitVec.toNat_sub, BitVec.toNat_add, BitVec.toNat_ofNat, BitVec.toNat_ofNat, BitVec.toNat_ofNat, BitVec.toNat_ofNat]
    omega
  have := fdiv_word (a := total q + 255) (b := 256) (by omega) (by omega) (by omega)
  rw [← e] at this
  refine Eq.trans ?_ this
  unfold shapeCast
  refine congrArg (fdiv0 (rowsUp q) (constantI S_ 32 256#32)) (funext fun a => a.elim0)

end Cert.KernelIdeal.Body
-- ==== Proof.KI.Run.lean ====
module
public import proofs.«01_k».proof.Proof.KI.Kit
public import proofs.«01_k».proof.Proof.KI.Body
public import Idealize.ShloMosaic.Lib.Pipeline.Frame
public import Idealize.ShloMosaic.Lib.Pipeline.FrameBody

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

open Idealize.ShloMosaic.Pipeline (RDat)

section
variable (m : (ℓ : Loc nD τ sig) → Buf (Elt F) ℓ)

/-! ## The windows' contents -/

/-- One page of the codes. -/
def pageP (X : S2048x64x768.Idx → Elt F .i8) (w : BitVec 32) : S1x64x768.Idx → Elt F .i8 :=
  fun x => X (ix3 ⟨w.toNat % 2048, Nat.mod_lt _ (by decide)⟩ (x 1) (x 2))

/-- One page of the scales. -/
def pageS (X : S2048x1x768.Idx → Elt F .f32) (w : BitVec 32) : S1x1x768.Idx → Elt F .f32 :=
  fun x => X (ix3 ⟨w.toNat % 2048, Nat.mod_lt _ (by decide)⟩ (x 1) (x 2))

/-- The queries' codes, the pages of codes, the pages of scales as the call finds them. -/
abbrev Qm : S3072x128.Idx → Elt F .bf16 := V m (0 : Dev nD) main_arg0
abbrev pagesM : S2048x64x768.Idx → Elt F .i8 := V m (0 : Dev nD) main_arg1
abbrev scalesM : S2048x1x768.Idx → Elt F .f32 := V m (0 : Dev nD) main_v20

/-- The four pages that a grid point reads, -/
def Pm (i : grid0.Coords) (k : Fin 4) : S1x64x768.Idx → Elt F .i8 := pageP (pagesM m) (ordAt (ordT m) i k)
/-- and their scales. -/
def Sm (i : grid0.Coords) (k : Fin 4) : S1x1x768.Idx → Elt F .f32 := pageS (scalesM m) (ordAt (ordT m) i k)

/-- What a grid point leaves in the result, from what it finds there and in the scratches. -/
def outM (i : grid0.Coords) (W : S6x128x512.Idx → Elt F .bf16) (S : S6x1x512.Idx → Elt F .f32) (Y : S16x3072x128.Idx → Elt F .f32) : S16x3072x128.Idx → Elt F .f32 :=
  finalOut i (ordT m) (lenT m) (nrT m) (Qm m) (Pm m i) (Sm m i) W S Y (cntAt (cntT m) i)

variable (hG : Good m)

/-- The tables, admissible. -/
def adm : (p : Fin 1) → (pcfgs (F := F) p).Adm := fun _ => ⟨tbl m, ok_of m hG⟩

abbrev cfgM : Pipeline.Cfg sig Λ₀ := Pipeline.pin (pcfgs (F := F)) (adm m hG) 0

/-- What the body may leave in a window's buffer. -/
def afterM : (w : Fin 10) → Fin grid0.N → (Y X : (spec0 w).block.Idx → Elt F (spec0 w).elt) → Prop
  | 9 => fun t Y X => ∃ W S, X = outM m (grid0.coords t) W S Y
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y

/-- The proof data: the inputs stay, the result becomes what the grid point computes of it. -/
def rdat (c : Dev nD) : RDat τ (Elt F) Unit ℕ (UR sig nD τ) ℕ (cfgM m hG) c where
  A w := V m c (Pipeline.arrRef (cfgM m hG).spec w)
  after := afterM m
  Φ _ := iprop(Pipeline.ΦA spec0 c ∗ Pipeline.ΦT pre0 (tbl m) c)
  q w := Pipeline.shareOf (cfgM m hG).spec w
  owed _ := 0

/-! ## What the windows hold -/

theorem fetched_uncut (c : Dev nD) (w : Fin (cfgM m hG).W) (t : Fin (cfgM m hG).N) (d) (j : ((cfgM m hG).win w).block.Idx)
    (h : ∀ a, ((cfgM m hG).win w).clip ((cfgM m hG).grid.coords t) a = none) :
    ∃ j' : (((cfgM m hG).win w).xblock ((cfgM m hG).grid.coords t)).Idx, (∀ a, (j' a).val = (j a).val) ∧ (rdat m hG c).fetched w t d j = (rdat m hG c).blockOf w t j' := by
  have hm : ((cfgM m hG).win w).moved ((cfgM m hG).grid.coords t) j = true :=
    (((cfgM m hG).win w).moved_iff _ j).mpr fun a => by have := (j a).isLt; unfold Pipeline.Window.xsize; rw [h a]; exact this
  refine ⟨fun a => ⟨(j a).val, (((cfgM m hG).win w).moved_iff _ j).mp hm a⟩, fun a => rfl, ?_⟩
  unfold RDat.fetched Pipeline.Window.fill; rw [dif_pos hm]

theorem fetched_0 (c : Dev nD) (t : Fin grid0.N) (d : S3072x128.Idx → Elt F .bf16) : (rdat m hG c).fetched (0 : Fin 10) t d = Qm m := by
  obtain rfl : c = 0 := Subsingleton.elim _ _
  funext j
  obtain ⟨j', hj, h⟩ := fetched_uncut m hG 0 (0 : Fin 10) t d j (fun _ => rfl)
  refine h.trans (congrArg (Qm m) (funext fun a => Fin.ext ?_))
  have h0 := hj 0; have h1 := hj 1
  match a with
  | ⟨0, _⟩ => show 0 * 3072 + 1 * (j' 0).val = (j 0).val; omega
  | ⟨1, _⟩ => show 0 * 128 + 1 * (j' 1).val = (j 1).val; omega

theorem fetched_1 (c : Dev nD) (t : Fin grid0.N) (d : S1x64x768.Idx → Elt F .i8) : (rdat m hG c).fetched (1 : Fin 10) t d = Pm m (grid0.coords t) 0 := by
  obtain rfl : c = 0 := Subsingleton.elim _ _
  funext j
  obtain ⟨j', hj, h⟩ := fetched_uncut m hG 0 (1 : Fin 10) t d j (fun _ => rfl)
  refine h.trans (congrArg (pagesM m) (funext fun a => Fin.ext ?_))
  have hw : (ordAt (ordT m) (grid0.coords t) 0).toNat < 2048 := hG.ord _
  have ht := trans1_eq (tbl m) (grid0.coords t)
  have h0 := hj 0; have h1 := hj 1; have h2 := hj 2
  have hb : (j 0).val < 1 := (j 0).isLt
  match a with
  | ⟨0, _⟩ => show cc0_transform_1 k0_off1_inb numel1_S1 (tbl m) (grid0.coords t) 0 * 1 + 1 * (j' 0).val = (ordAt (ordT m) (grid0.coords t) 0).toNat % 2048; rw [ht]; show (ordAt (ordT m) (grid0.coords t) 0).toNat * 1 + 1 * (j' 0).val = _; rw [Nat.mod_eq_of_lt hw]; omega
  | ⟨1, _⟩ => show cc0_transform_1 k0_off1_inb numel1_S1 (tbl m) (grid0.coords t) 1 * 64 + 1 * (j' 1).val = (j 1).val; rw [ht]; show 0 * 64 + 1 * (j' 1).val = _; omega
  | ⟨2, _⟩ => show cc0_transform_1 k0_off1_inb numel1_S1 (tbl m) (grid0.coords t) 2 * 768 + 1 * (j' 2).val = (j 2).val; rw [ht]; show 0 * 768 + 1 * (j' 2).val = _; omega

theorem fetched_2 (c : Dev nD) (t : Fin grid0.N) (d : S1x64x768.Idx → Elt F .i8) : (rdat m hG c).fetched (2 : Fin 10) t d = Pm m (grid0.coords t) 1 := by
  obtain rfl : c = 0 := Subsingleton.elim _ _
  funext j
  obtain ⟨j', hj, h⟩ := fetched_uncut m hG 0 (2 : Fin 10) t d j (fun _ => rfl)
  refine h.trans (congrArg (pagesM m) (funext fun a => Fin.ext ?_))
  have hw : (ordAt (ordT m) (grid0.coords t) 1).toNat < 2048 := hG.ord _
  have ht := trans2_eq (tbl m) (grid0.coords t)
  have h0 := hj 0; have h1 := hj 1; have h2 := hj 2
  have hb : (j 0).val < 1 := (j 0).isLt
  match a with
  | ⟨0, _⟩ => show cc0_transform_2 k0_off1_inb numel1_S1 (tbl m) (grid0.coords t) 0 * 1 + 1 * (j' 0).val = (ordAt (ordT m) (grid0.coords t) 1).toNat % 2048; rw [ht]; show (ordAt (ordT m) (grid0.coords t) 1).toNat * 1 + 1 * (j' 0).val = _; rw [Nat.mod_eq_of_lt hw]; omega
  | ⟨1, _⟩ => show cc0_transform_2 k0_off1_inb numel1_S1 (tbl m) (grid0.coords t) 1 * 64 + 1 * (j' 1).val = (j 1).val; rw [ht]; show 0 * 64 + 1 * (j' 1).val = _; omega
  | ⟨2, _⟩ => show cc0_transform_2 k0_off1_inb numel1_S1 (tbl m) (grid0.coords t) 2 * 768 + 1 * (j' 2).val = (j 2).val; rw [ht]; show 0 * 768 + 1 * (j' 2).val = _; omega

theorem fetched_3 (c : Dev nD) (t : Fin grid0.N) (d : S1x64x768.Idx → Elt F .i8) : (rdat m hG c).fetched (3 : Fin 10) t d = Pm m (grid0.coords t) 2 := by
  obtain rfl : c = 0 := Subsingleton.elim _ _
  funext j
  obtain ⟨j', hj, h⟩ := fetched_uncut m hG 0 (3 : Fin 10) t d j (fun _ => rfl)
  refine h.trans (congrArg (pagesM m) (funext fun a => Fin.ext ?_))
  have hw : (ordAt (ordT m) (grid0.coords t) 2).toNat < 2048 := hG.ord _
  have ht := trans3_eq (tbl m) (grid0.coords t)
  have h0 := hj 0; have h1 := hj 1; have h2 := hj 2
  have hb : (j 0).val < 1 := (j 0).isLt
  match a with
  | ⟨0, _⟩ => show cc0_transform_3 k0_off1_inb numel1_S1 (tbl m) (grid0.coords t) 0 * 1 + 1 * (j' 0).val = (ordAt (ordT m) (grid0.coords t) 2).toNat % 2048; rw [ht]; show (ordAt (ordT m) (grid0.coords t) 2).toNat * 1 + 1 * (j' 0).val = _; rw [Nat.mod_eq_of_lt hw]; omega
  | ⟨1, _⟩ => show cc0_transform_3 k0_off1_inb numel1_S1 (tbl m) (grid0.coords t) 1 * 64 + 1 * (j' 1).val = (j 1).val; rw [ht]; show 0 * 64 + 1 * (j' 1).val = _; omega
  | ⟨2, _⟩ => show cc0_transform_3 k0_off1_inb numel1_S1 (tbl m) (grid0.coords t) 2 * 768 + 1 * (j' 2).val = (j 2).val; rw [ht]; show 0 * 768 + 1 * (j' 2).val = _; omega

theorem fetched_4 (c : Dev nD) (t : Fin grid0.N) (d : S1x64x768.Idx → Elt F .i8) : (rdat m hG c).fetched (4 : Fin 10) t d = Pm m (grid0.coords t) 3 := by
  obtain rfl : c = 0 := Subsingleton.elim _ _
  funext j
  obtain ⟨j', hj, h⟩ := fetched_uncut m hG 0 (4 : Fin 10) t d j (fun _ => rfl)
  refine h.trans (congrArg (pagesM m) (funext fun a => Fin.ext ?_))
  have hw : (ordAt (ordT m) (grid0.coords t) 3).toNat < 2048 := hG.ord _
  have ht := trans4_eq (tbl m) (grid0.coords t)
  have h0 := hj 0; have h1 := hj 1; have h2 := hj 2
  have hb : (j 0).val < 1 := (j 0).isLt
  match a with
  | ⟨0, _⟩ => show cc0_transform_4 k0_off1_inb numel1_S1 (tbl m) (grid0.coords t) 0 * 1 + 1 * (j' 0).val = (ordAt (ordT m) (grid0.coords t) 3).toNat % 2048; rw [ht]; show (ordAt (ordT m) (grid0.coords t) 3).toNat * 1 + 1 * (j' 0).val = _; rw [Nat.mod_eq_of_lt hw]; omega
  | ⟨1, _⟩ => show cc0_transform_4 k0_off1_inb numel1_S1 (tbl m) (grid0.coords t) 1 * 64 + 1 * (j' 1).val = (j 1).val; rw [ht]; show 0 * 64 + 1 * (j' 1).val = _; omega
  | ⟨2, _⟩ => show cc0_transform_4 k0_off1_inb numel1_S1 (tbl m) (grid0.coords t) 2 * 768 + 1 * (j' 2).val = (j 2).val; rw [ht]; show 0 * 768 + 1 * (j' 2).val = _; omega

theorem fetched_5 (c : Dev nD) (t : Fin grid0.N) (d : S1x1x768.Idx → Elt F .f32) : (rdat m hG c).fetched (5 : Fin 10) t d = Sm m (grid0.coords t) 0 := by
  obtain rfl : c = 0 := Subsingleton.elim _ _
  funext j
  obtain ⟨j', hj, h⟩ := fetched_uncut m hG 0 (5 : Fin 10) t d j (fun _ => rfl)
  refine h.trans (congrArg (scalesM m) (funext fun a => Fin.ext ?_))
  have hw : (ordAt (ordT m) (grid0.coords t) 0).toNat < 2048 := hG.ord _
  have ht := trans5_eq (tbl m) (grid0.coords t)
  have h0 := hj 0; have h1 := hj 1; have h2 := hj 2
  have hb : (j 0).val < 1 := (j 0).isLt
  match a with
  | ⟨0, _⟩ => show cc0_transform_5 k0_off1_inb numel1_S1 (tbl m) (grid0.coords t) 0 * 1 + 1 * (j' 0).val = (ordAt (ordT m) (grid0.coords t) 0).toNat % 2048; rw [ht]; show (ordAt (ordT m) (grid0.coords t) 0).toNat * 1 + 1 * (j' 0).val = _; rw [Nat.mod_eq_of_lt hw]; omega
  | ⟨1, _⟩ => show cc0_transform_5 k0_off1_inb numel1_S1 (tbl m) (grid0.coords t) 1 * 1 + 1 * (j' 1).val = (j 1).val; rw [ht]; show 0 * 1 + 1 * (j' 1).val = _; omega
  | ⟨2, _⟩ => show cc0_transform_5 k0_off1_inb numel1_S1 (tbl m) (grid0.coords t) 2 * 768 + 1 * (j' 2).val = (j 2).val; rw [ht]; show 0 * 768 + 1 * (j' 2).val = _; omega

theorem fetched_6 (c : Dev nD) (t : Fin grid0.N) (d : S1x1x768.Idx → Elt F .f32) : (rdat m hG c).fetched (6 : Fin 10) t d = Sm m (grid0.coords t) 1 := by
  obtain rfl : c = 0 := Subsingleton.elim _ _
  funext j
  obtain ⟨j', hj, h⟩ := fetched_uncut m hG 0 (6 : Fin 10) t d j (fun _ => rfl)
  refine h.trans (congrArg (scalesM m) (funext fun a => Fin.ext ?_))
  have hw : (ordAt (ordT m) (grid0.coords t) 1).toNat < 2048 := hG.ord _
  have ht := trans6_eq (tbl m) (grid0.coords t)
  have h0 := hj 0; have h1 := hj 1; have h2 := hj 2
  have hb : (j 0).val < 1 := (j 0).isLt
  match a with
  | ⟨0, _⟩ => show cc0_transform_6 k0_off1_inb numel1_S1 (tbl m) (grid0.coords t) 0 * 1 + 1 * (j' 0).val = (ordAt (ordT m) (grid0.coords t) 1).toNat % 2048; rw [ht]; show (ordAt (ordT m) (grid0.coords t) 1).toNat * 1 + 1 * (j' 0).val = _; rw [Nat.mod_eq_of_lt hw]; omega
  | ⟨1, _⟩ => show cc0_transform_6 k0_off1_inb numel1_S1 (tbl m) (grid0.coords t) 1 * 1 + 1 * (j' 1).val = (j 1).val; rw [ht]; show 0 * 1 + 1 * (j' 1).val = _; omega
  | ⟨2, _⟩ => show cc0_transform_6 k0_off1_inb numel1_S1 (tbl m) (grid0.coords t) 2 * 768 + 1 * (j' 2).val = (j 2).val; rw [ht]; show 0 * 768 + 1 * (j' 2).val = _; omega

theorem fetched_7 (c : Dev nD) (t : Fin grid0.N) (d : S1x1x768.Idx → Elt F .f32) : (rdat m hG c).fetched (7 : Fin 10) t d = Sm m (grid0.coords t) 2 := by
  obtain rfl : c = 0 := Subsingleton.elim _ _
  funext j
  obtain ⟨j', hj, h⟩ := fetched_uncut m hG 0 (7 : Fin 10) t d j (fun _ => rfl)
  refine h.trans (congrArg (scalesM m) (funext fun a => Fin.ext ?_))
  have hw : (ordAt (ordT m) (grid0.coords t) 2).toNat < 2048 := hG.ord _
  have ht := trans7_eq (tbl m) (grid0.coords t)
  have h0 := hj 0; have h1 := hj 1; have h2 := hj 2
  have hb : (j 0).val < 1 := (j 0).isLt
  match a with
  | ⟨0, _⟩ => show cc0_transform_7 k0_off1_inb numel1_S1 (tbl m) (grid0.coords t) 0 * 1 + 1 * (j' 0).val = (ordAt (ordT m) (grid0.coords t) 2).toNat % 2048; rw [ht]; show (ordAt (ordT m) (grid0.coords t) 2).toNat * 1 + 1 * (j' 0).val = _; rw [Nat.mod_eq_of_lt hw]; omega
  | ⟨1, _⟩ => show cc0_transform_7 k0_off1_inb numel1_S1 (tbl m) (grid0.coords t) 1 * 1 + 1 * (j' 1).val = (j 1).val; rw [ht]; show 0 * 1 + 1 * (j' 1).val = _; omega
  | ⟨2, _⟩ => show cc0_transform_7 k0_off1_inb numel1_S1 (tbl m) (grid0.coords t) 2 * 768 + 1 * (j' 2).val = (j 2).val; rw [ht]; show 0 * 768 + 1 * (j' 2).val = _; omega

theorem fetched_8 (c : Dev nD) (t : Fin grid0.N) (d : S1x1x768.Idx → Elt F .f32) : (rdat m hG c).fetched (8 : Fin 10) t d = Sm m (grid0.coords t) 3 := by
  obtain rfl : c = 0 := Subsingleton.elim _ _
  funext j
  obtain ⟨j', hj, h⟩ := fetched_uncut m hG 0 (8 : Fin 10) t d j (fun _ => rfl)
  refine h.trans (congrArg (scalesM m) (funext fun a => Fin.ext ?_))
  have hw : (ordAt (ordT m) (grid0.coords t) 3).toNat < 2048 := hG.ord _
  have ht := trans8_eq (tbl m) (grid0.coords t)
  have h0 := hj 0; have h1 := hj 1; have h2 := hj 2
  have hb : (j 0).val < 1 := (j 0).isLt
  match a with
  | ⟨0, _⟩ => show cc0_transform_8 k0_off1_inb numel1_S1 (tbl m) (grid0.coords t) 0 * 1 + 1 * (j' 0).val = (ordAt (ordT m) (grid0.coords t) 3).toNat % 2048; rw [ht]; show (ordAt (ordT m) (grid0.coords t) 3).toNat * 1 + 1 * (j' 0).val = _; rw [Nat.mod_eq_of_lt hw]; omega
  | ⟨1, _⟩ => show cc0_transform_8 k0_off1_inb numel1_S1 (tbl m) (grid0.coords t) 1 * 1 + 1 * (j' 1).val = (j 1).val; rw [ht]; show 0 * 1 + 1 * (j' 1).val = _; omega
  | ⟨2, _⟩ => show cc0_transform_8 k0_off1_inb numel1_S1 (tbl m) (grid0.coords t) 2 * 768 + 1 * (j' 2).val = (j 2).val; rw [ht]; show 0 * 768 + 1 * (j' 2).val = _; omega

end

end Cert.KernelIdeal.Body
-- ==== Proof.KI.Obl.lean ====
module
public import proofs.«01_k».proof.Proof.KI.Run

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

open Idealize.ShloMosaic.Pipeline (RDat)

theorem owns_ptR {sp : Space} {S : Shape} {e : EltTy} (c : Dev nD) (M : Memref sig .tc sp S e) (q : PosShare TreeShare) (X : S.Idx → Elt F e) :
    (owns (c : Thread nD τ) M q X : sProp 𝕄) ⊢ ptR c M q X := by
  unfold owns
  iintro ⟨%f, %hf, H⟩
  iapply (pointsTo_rep_of_read (c : Thread nD τ) M f q X hf)
  iexact H

theorem ptR_owns {sp : Space} {S : Shape} {e : EltTy} (c : Dev nD) (M : Memref sig .tc sp S e) (q : PosShare TreeShare) (X : S.Idx → Elt F e) :
    ptR c M q X ⊢ (owns (c : Thread nD τ) M q X : sProp 𝕄) := by
  unfold owns
  iintro H
  iexists (M.view.rep (Val := Elt F) X)
  isplitr
  · ipureintro; exact View.read_rep M.view X
  · iexact H

section
variable (m : (ℓ : Loc nD τ sig) → Buf (Elt F) ℓ)

theorem PhiT0_eq (c : Dev nD) (v : pre0.Contents (Elt F)) : (Pipeline.ΦT pre0 v c : sProp 𝕄) =
    iprop(owns (c : Thread nD τ) (Memref.whole main_v11) fullShare.right (v (0 : Fin 4)) ∗ owns (c : Thread nD τ) (Memref.whole main_v19) fullShare.right (v (1 : Fin 4))
      ∗ owns (c : Thread nD τ) (Memref.whole main_v4) fullShare.right (v (2 : Fin 4)) ∗ owns (c : Thread nD τ) (Memref.whole main_arg3) fullShare.right (v (3 : Fin 4))) := by
  unfold Pipeline.ΦT Pipeline.prefHeld
  rw [show (Finset.univ : Finset (Fin 4)) = insert (0:Fin 4) (insert 1 (insert 2 {3})) from by decide, bigSep_insert (by decide), bigSep_insert (by decide), bigSep_insert (by decide), bigSep_singleton]
  exact congrArg₂ BI.sep (owns_whole (c : Thread nD τ) main_v11 _ _).symm (congrArg₂ BI.sep (owns_whole (c : Thread nD τ) main_v19 _ _).symm (congrArg₂ BI.sep (owns_whole (c : Thread nD τ) main_v4 _ _).symm (owns_whole (c : Thread nD τ) main_arg3 _ _).symm))

theorem PhiA0_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f)) ∗ ∃ r, prngReg c r) := by
  unfold Pipeline.ΦA
  rw [scopedRest0_eq]
  simp only [owns_whole]

theorem finds_in (hG : Good m) (c : Dev nD) (w : Fin 10) (hw : (spec0 w).isOut = false) (t : Fin grid0.N) (Y) (hY : (rdat m hG c).Finds w t Y) (hk : ∀ t Y X, afterM m w t Y X → X = Y) :
    ∃ d, Y = (rdat m hG c).fetched w t d :=
  RDat.finds_in_eq_fetched (rdat m hG c) w hw (fun t t' _ => rfl) hk t Y hY

variable (hG : Good m)

/-- The body at a grid point, on the windows' current buffers. -/
abbrev bodyAtM (t : Fin grid0.N) : Prog (TpuEff nD τ sig (Elt F) Λ₀ .tc) PUnit :=
  defs₀ (F := F) .tc (cfgM m hG).body ((cfgM m hG).bodyArgs t ((cfgM m hG).slots t))

theorem body_ok (c : Dev nD) (t : Fin grid0.N) (Y9 : S16x3072x128.Idx → Elt F .f32) :
    iprop((Pipeline.ΦA spec0 c ∗ Pipeline.ΦT pre0 (tbl m) c) ∗ (rdat m hG c).owesAt () t.castSucc ∗ owns (c : Thread nD τ) (spec0_0.stage ((cfgM m hG).slots t (0 : Fin 10))) fullShare (Qm m) ∗ owns (c : Thread nD τ) (spec0_1.stage ((cfgM m hG).slots t (1 : Fin 10))) fullShare (Pm m (grid0.coords t) 0) ∗ owns (c : Thread nD τ) (spec0_2.stage ((cfgM m hG).slots t (2 : Fin 10))) fullShare (Pm m (grid0.coords t) 1) ∗ owns (c : Thread nD τ) (spec0_3.stage ((cfgM m hG).slots t (3 : Fin 10))) fullShare (Pm m (grid0.coords t) 2) ∗ owns (c : Thread nD τ) (spec0_4.stage ((cfgM m hG).slots t (4 : Fin 10))) fullShare (Pm m (grid0.coords t) 3) ∗ owns (c : Thread nD τ) (spec0_5.stage ((cfgM m hG).slots t (5 : Fin 10))) fullShare (Sm m (grid0.coords t) 0) ∗ owns (c : Thread nD τ) (spec0_6.stage ((cfgM m hG).slots t (6 : Fin 10))) fullShare (Sm m (grid0.coords t) 1) ∗ owns (c : Thread nD τ) (spec0_7.stage ((cfgM m hG).slots t (7 : Fin 10))) fullShare (Sm m (grid0.coords t) 2) ∗ owns (c : Thread nD τ) (spec0_8.stage ((cfgM m hG).slots t (8 : Fin 10))) fullShare (Sm m (grid0.coords t) 3) ∗ owns (c : Thread nD τ) (spec0_9.stage ((cfgM m hG).slots t (9 : Fin 10))) fullShare Y9)
      ⊢ wp frame (wpE (defs₀ (F := F)) 𝒱₀ (c : Thread nD τ) none) Set.univ (bodyAtM m hG t) (fun _ => iprop((Pipeline.ΦA spec0 c ∗ Pipeline.ΦT pre0 (tbl m) c) ∗ (rdat m hG c).owesAt () t.castSucc ∗ owns (c : Thread nD τ) (spec0_0.stage ((cfgM m hG).slots t (0 : Fin 10))) fullShare (Qm m) ∗ owns (c : Thread nD τ) (spec0_1.stage ((cfgM m hG).slots t (1 : Fin 10))) fullShare (Pm m (grid0.coords t) 0) ∗ owns (c : Thread nD τ) (spec0_2.stage ((cfgM m hG).slots t (2 : Fin 10))) fullShare (Pm m (grid0.coords t) 1) ∗ owns (c : Thread nD τ) (spec0_3.stage ((cfgM m hG).slots t (3 : Fin 10))) fullShare (Pm m (grid0.coords t) 2) ∗ owns (c : Thread nD τ) (spec0_4.stage ((cfgM m hG).slots t (4 : Fin 10))) fullShare (Pm m (grid0.coords t) 3) ∗ owns (c : Thread nD τ) (spec0_5.stage ((cfgM m hG).slots t (5 : Fin 10))) fullShare (Sm m (grid0.coords t) 0) ∗ owns (c : Thread nD τ) (spec0_6.stage ((cfgM m hG).slots t (6 : Fin 10))) fullShare (Sm m (grid0.coords t) 1) ∗ owns (c : Thread nD τ) (spec0_7.stage ((cfgM m hG).slots t (7 : Fin 10))) fullShare (Sm m (grid0.coords t) 2) ∗ owns (c : Thread nD τ) (spec0_8.stage ((cfgM m hG).slots t (8 : Fin 10))) fullShare (Sm m (grid0.coords t) 3) ∗ ∃ X, ⌜∃ W S, X = outM m (grid0.coords t) W S Y9⌝ ∗ owns (c : Thread nD τ) (spec0_9.stage ((cfgM m hG).slots t (9 : Fin 10))) fullShare X)) := by
  have hn1 : 1 ≤ (cntAt (cntT m) (grid0.coords t)).toNat := hG.cnt1 _
  have hn6 : (cntAt (cntT m) (grid0.coords t)).toNat ≤ 6 := hG.cnt6 _
  unfold bodyAtM defs₀
  rw [Defs.onTc_tc, PhiA0_eq, PhiT0_eq]
  iintro ⟨⟨⟨⟨⟨%W, HW⟩, %S, HS⟩, Hg⟩, HT1, HT2, HT3, HT4⟩, HO, H0, H1, H2, H3, H4, H5, H6, H7, H8, H9⟩
  have hfr : ∀ {α : Type} (κ : Prog (TpuEff nD τ sig (Elt F) Λ₀ .tc) α) (A B : sProp 𝕄) (R : α → sProp 𝕄), (A ⊢ wp frame (wpE (defs₀ (F := F)) 𝒱₀ (c : Thread nD τ) none) Set.univ κ R) → iprop(A ∗ B) ⊢ wp frame (wpE (defs₀ (F := F)) 𝒱₀ (c : Thread nD τ) none) Set.univ κ (fun x => iprop(R x ∗ B)) :=
    fun κ A B R h => (sep_mono h .rfl).trans (wp_frame_r _ _ _)
  have hb := body_spec c (grid0.coords t) (Memref.whole main_v11) (Memref.isWhole_whole _) (Memref.whole main_v19) (Memref.isWhole_whole _) (Memref.whole main_v4) (Memref.isWhole_whole _) (Memref.whole main_arg3) (Memref.isWhole_whole _)
    (spec0_0.stage ((cfgM m hG).slots t (0 : Fin 10))) (hstage0_0 (((cfgM m hG).slots t (0 : Fin 10)).cast nbuf0_0)) (spec0_1.stage ((cfgM m hG).slots t (1 : Fin 10))) (hstage0_1 (((cfgM m hG).slots t (1 : Fin 10)).cast nbuf0_1)) (spec0_2.stage ((cfgM m hG).slots t (2 : Fin 10))) (hstage0_2 (((cfgM m hG).slots t (2 : Fin 10)).cast nbuf0_2)) (spec0_3.stage ((cfgM m hG).slots t (3 : Fin 10))) (hstage0_3 (((cfgM m hG).slots t (3 : Fin 10)).cast nbuf0_3)) (spec0_4.stage ((cfgM m hG).slots t (4 : Fin 10))) (hstage0_4 (((cfgM m hG).slots t (4 : Fin 10)).cast nbuf0_4)) (spec0_5.stage ((cfgM m hG).slots t (5 : Fin 10))) (hstage0_5 (((cfgM m hG).slots t (5 : Fin 10)).cast nbuf0_5)) (spec0_6.stage ((cfgM m hG).slots t (6 : Fin 10))) (hstage0_6 (((cfgM m hG).slots t (6 : Fin 10)).cast nbuf0_6)) (spec0_7.stage ((cfgM m hG).slots t (7 : Fin 10))) (hstage0_7 (((cfgM m hG).slots t (7 : Fin 10)).cast nbuf0_7)) (spec0_8.stage ((cfgM m hG).slots t (8 : Fin 10))) (hstage0_8 (((cfgM m hG).slots t (8 : Fin 10)).cast nbuf0_8)) (spec0_9.stage ((cfgM m hG).slots t (9 : Fin 10))) (hstage0_9 (((cfgM m hG).slots t (9 : Fin 10)).cast nbuf0_9))
    (Memref.whole cc0_scratch0) (Memref.isWhole_whole _) (Memref.whole cc0_scratch1) (Memref.isWhole_whole _)
    fullShare.right fullShare.right fullShare.right fullShare.right fullShare (fun _ => fullShare) (ordT m) (lenT m) (cntT m) (nrT m) (Qm m) (Pm m (grid0.coords t)) (Sm m (grid0.coords t)) W S Y9 hG.ord hG.nr hn1 hn6
  iapply ((hfr _ _ iprop((∃ r, prngReg c r) ∗ (rdat m hG c).owesAt () t.castSucc) _ hb).trans (wp_mono _ _ _ fun _ => ?_))
  swap
  · isplitr [Hg HO]
    · unfold sRes
      rw [Nat.min_zero, if_neg (by omega)]
      isplitl [HT1 HT4 H1 H2 H3 H4 H5 H6 H7 H8 HW HS]
      · unfold blkRes
        isplitl [HT1]; · iapply (owns_ptR c _ _ _); iexact HT1
        isplitl [HT4]; · iapply (owns_ptR c _ _ _); iexact HT4
        isplitl [H1]; · iapply (owns_ptR c _ _ _); iexact H1
        isplitl [H2]; · iapply (owns_ptR c _ _ _); iexact H2
        isplitl [H3]; · iapply (owns_ptR c _ _ _); iexact H3
        isplitl [H4]; · iapply (owns_ptR c _ _ _); iexact H4
        isplitl [H5]; · iapply (owns_ptR c _ _ _); iexact H5
        isplitl [H6]; · iapply (owns_ptR c _ _ _); iexact H6
        isplitl [H7]; · iapply (owns_ptR c _ _ _); iexact H7
        isplitl [H8]; · iapply (owns_ptR c _ _ _); iexact H8
        isplitl [HW]; · iapply (owns_ptR c _ _ _); iexact HW
        iapply (owns_ptR c _ _ _); iexact HS
      isplitl [HT2]; · iapply (owns_ptR c _ _ _); iexact HT2
      isplitl [HT3]; · iapply (owns_ptR c _ _ _); iexact HT3
      isplitl [H0]; · iapply (owns_ptR c _ _ _); iexact H0
      iapply (owns_ptR c _ _ _); iexact H9
    · isplitl [Hg]; · iexact Hg
      iexact HO
  · unfold sRes
    rw [if_pos (by omega)]
    unfold blkRes
    iintro ⟨⟨⟨HT1, HT4, H1, H2, H3, H4, H5, H6, H7, H8, HW, HS⟩, HT2, HT3, H0, H9⟩, Hg, HO⟩
    isplitr [HO H0 H1 H2 H3 H4 H5 H6 H7 H8 H9]
    · isplitl [HW HS Hg]
      · isplitr [Hg]
        · isplitl [HW]
          · iexists _; iapply (ptR_owns c _ _ _); iexact HW
          · iexists _; iapply (ptR_owns c _ _ _); iexact HS
        · iexact Hg
      · isplitl [HT1]; · iapply (ptR_owns c _ _ _); iexact HT1
        isplitl [HT2]; · iapply (ptR_owns c _ _ _); iexact HT2
        isplitl [HT3]; · iapply (ptR_owns c _ _ _); iexact HT3
        iapply (ptR_owns c _ _ _); iexact HT4
    isplitl [HO]; · iexact HO
    isplitl [H0]; · iapply (ptR_owns c _ _ _); iexact H0
    isplitl [H1]; · iapply (ptR_owns c _ _ _); iexact H1
    isplitl [H2]; · iapply (ptR_owns c _ _ _); iexact H2
    isplitl [H3]; · iapply (ptR_owns c _ _ _); iexact H3
    isplitl [H4]; · iapply (ptR_owns c _ _ _); iexact H4
    isplitl [H5]; · iapply (ptR_owns c _ _ _); iexact H5
    isplitl [H6]; · iapply (ptR_owns c _ _ _); iexact H6
    isplitl [H7]; · iapply (ptR_owns c _ _ _); iexact H7
    isplitl [H8]; · iapply (ptR_owns c _ _ _); iexact H8
    iexists (outM m (grid0.coords t) W S Y9)
    isplitr
    · ipureintro; exact ⟨W, S, rfl⟩
    iapply (ptR_owns c _ _ _); iexact H9

theorem obligation (c : Dev nD) : (rdat m hG c).BodyObligation (defs₀ (F := F)) 𝒱₀ () Set.univ := fun t Y hY => by
  rw [bigSep_W0, bigSep_W0]
  have e0 : Y (0 : Fin 10) = Qm m := by
    obtain ⟨d, h⟩ := finds_in m hG c 0 rfl t _ (hY (0 : Fin 10)) (fun _ _ _ h => h)
    exact h.trans (fetched_0 m hG c t d)
  have e1 : Y (1 : Fin 10) = Pm m (grid0.coords t) 0 := by
    obtain ⟨d, h⟩ := finds_in m hG c 1 rfl t _ (hY (1 : Fin 10)) (fun _ _ _ h => h)
    exact h.trans (fetched_1 m hG c t d)
  have e2 : Y (2 : Fin 10) = Pm m (grid0.coords t) 1 := by
    obtain ⟨d, h⟩ := finds_in m hG c 2 rfl t _ (hY (2 : Fin 10)) (fun _ _ _ h => h)
    exact h.trans (fetched_2 m hG c t d)
  have e3 : Y (3 : Fin 10) = Pm m (grid0.coords t) 2 := by
    obtain ⟨d, h⟩ := finds_in m hG c 3 rfl t _ (hY (3 : Fin 10)) (fun _ _ _ h => h)
    exact h.trans (fetched_3 m hG c t d)
  have e4 : Y (4 : Fin 10) = Pm m (grid0.coords t) 3 := by
    obtain ⟨d, h⟩ := finds_in m hG c 4 rfl t _ (hY (4 : Fin 10)) (fun _ _ _ h => h)
    exact h.trans (fetched_4 m hG c t d)
  have e5 : Y (5 : Fin 10) = Sm m (grid0.coords t) 0 := by
    obtain ⟨d, h⟩ := finds_in m hG c 5 rfl t _ (hY (5 : Fin 10)) (fun _ _ _ h => h)
    exact h.trans (fetched_5 m hG c t d)
  have e6 : Y (6 : Fin 10) = Sm m (grid0.coords t) 1 := by
    obtain ⟨d, h⟩ := finds_in m hG c 6 rfl t _ (hY (6 : Fin 10)) (fun _ _ _ h => h)
    exact h.trans (fetched_6 m hG c t d)
  have e7 : Y (7 : Fin 10) = Sm m (grid0.coords t) 2 := by
    obtain ⟨d, h⟩ := finds_in m hG c 7 rfl t _ (hY (7 : Fin 10)) (fun _ _ _ h => h)
    exact h.trans (fetched_7 m hG c t d)
  have e8 : Y (8 : Fin 10) = Sm m (grid0.coords t) 3 := by
    obtain ⟨d, h⟩ := finds_in m hG c 8 rfl t _ (hY (8 : Fin 10)) (fun _ _ _ h => h)
    exact h.trans (fetched_8 m hG c t d)
  rw [e0, e1, e2, e3, e4, e5, e6, e7, e8]
  refine triple_restated (body_ok m hG c t (Y (9 : Fin 10))) rfl .rfl fun _ => ?_
  rw [show (rdat m hG c).Φ t.succ = iprop(Pipeline.ΦA spec0 c ∗ Pipeline.ΦT pre0 (tbl m) c) from rfl, show (rdat m hG c).owesAt () t.succ = (rdat m hG c).owesAt () t.castSucc from rfl]
  iintro ⟨HA, HO, H0, H1, H2, H3, H4, H5, H6, H7, H8, H9⟩
  isplitl [HA]; · iexact HA
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  iexact H9

set_option maxHeartbeats 2000000 in
set_option backward.isDefEq.respectTransparency.types false in
/-- Every run ends: the arrays hold what their relations allow, the other buffers what the call found, no semaphore is up. -/
theorem run_main (g : Dev nD → PrngReg) :
    θ_run (defs (F := F)) (onTc (τ := τ) (main (F := F))) (s₀ m g)
      (fun r => RDat.FramePost (cfgM m hG) (rdat m hG) (V m) r ∧ r.2.sem = fun _ => 0) :=
  Pipeline.RDat.θ_run_frameP_track_shared (Q' := _) (pcfgs (F := F)) (adm m hG) 0 launch₀0 defs₀ 𝒱₀ (rdat m hG) m g main
    (hbody := fun c => obligation m hG c) (hq := fun _ _ _ => rfl) (howed := fun _ _ => rfl) (V := V m) (hmain := hmain m) (hA := fun _ _ => rfl)
    (hpf := fun c k => V_pre m c k) (hin := fun _ => .rfl) (hout := fun _ => sep_elim_left) (hQ' := fun _ h => h)

end

end Cert.KernelIdeal.Body
-- ==== Proof.KI.Frame.lean ====
module
public import proofs.«01_k».proof.Proof.Pre
public import proofs.«01_k».proof.Proof.KI.Host
public import proofs.«01_k».proof.Proof.KI.Obl

@[expose] public section
set_option maxRecDepth 16384
noncomputable section

namespace Cert.KernelIdeal.Body
open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ)

/-- The lengths are in range. -/
structure InRange : Prop where
  len : ∀ j, 1 ≤ (lenA m j).toNat ∧ (lenA m j).toNat ≤ 768
  qlen : ∀ j, (qlenA m j).toNat ≤ 32

theorem chunkN_le {n : ℕ} (h1 : 1 ≤ n) (h : n ≤ 768) : 1 ≤ chunkN n ∧ chunkN n ≤ 6 := by unfold chunkN; omega

variable {m}

theorem InRange.chunks (h : InRange m) (j) : chunksOf (lenA m) j = BitVec.ofNat 32 (chunkN (lenA m j).toNat) := chunksOf_apply _ _ (h.len j).2

theorem InRange.chunks_toNat (h : InRange m) (j) : (chunksOf (lenA m) j).toNat = chunkN (lenA m j).toNat := by
  have := chunkN_le (h.len j).1 (h.len j).2
  rw [h.chunks, BitVec.toNat_ofNat]; omega

/-- The page at a place of the order. -/
abbrev pageAt (m : (ℓ : Loc nD τ sig) → Buf (Elt F) ℓ) : Fin 2048 → Fin 2048 := perm (chunksOf (lenA m))

theorem ordT_apply (j : Fin 2048) : ordT m (ix1 j) = BitVec.ofNat 32 (pageAt m j).val := by rw [ordT_eq, orderOf_apply]

theorem ordT_toNat (j : Fin 2048) : (ordT m (ix1 j)).toNat = (pageAt m j).val := by
  have := (pageAt m j).isLt
  rw [ordT_apply, BitVec.toNat_ofNat]; omega

theorem InRange.cnt (h : InRange m) (i : Fin 512) : (cntT m (ix1 i)).toNat = chunkN (lenA m (ix1 (pageAt m ⟨4 * i.val, by have := i.isLt; omega⟩))).toNat := by
  rw [cntT_eq, countOf_apply, h.chunks_toNat]

theorem InRange.nrows (h : InRange m) : (nrT m (ix1 0)).toNat = (total (qlenA m) + 255) / 256 := by
  have := total_le _ h.qlen
  rw [nrT_eq, nr_apply _ h.qlen, BitVec.toNat_ofNat]; omega

theorem ix1_eta {n : ℕ} (j : (⟨1, ![n]⟩ : Shape).Idx) : j = ix1 (j 0) := by
  funext a; obtain rfl : a = 0 := Subsingleton.elim _ _; rfl

/-- The tables are good when the lengths are in range. -/
theorem InRange.good (h : InRange m) : Good m where
  ord j := by rw [ix1_eta j]; exact (ordT_toNat (j 0)).trans_lt (pageAt m _).isLt
  cnt1 j := by rw [ix1_eta j]; exact (chunkN_le (h.len _).1 (h.len _).2).1.trans (h.cnt (j 0)).ge
  cnt6 j := by rw [ix1_eta j]; exact (h.cnt (j 0)).le.trans (chunkN_le (h.len _).1 (h.len _).2).2
  nr := by have := total_le _ h.qlen; rw [h.nrows]; omega

variable (m)

theorem inRange_of_pre (h : Cert.Pre_lengths.fn (F := F) (m ((0 : Dev nD), (main_arg0 : DevRef τ sig))) (m ((0 : Dev nD), (main_arg1 : DevRef τ sig))) (m ((0 : Dev nD), (main_arg2 : DevRef τ sig))) (m ((0 : Dev nD), (main_arg3 : DevRef τ sig))) (m ((0 : Dev nD), (main_arg4 : DevRef τ sig))) = fun _ => 1#1) : InRange m :=
  ⟨(Cert.Pre_lengths.bounds _ _ _ _ _ h).1, (Cert.Pre_lengths.bounds _ _ _ _ _ h).2⟩

theorem arr_ne2 : ∀ w : Fin 10, (spec0 w).arr.view.ref ≠ main_arg2 := by decide
theorem arr_ne3 : ∀ w : Fin 10, (spec0 w).arr.view.ref ≠ main_arg3 := by decide
theorem arr_ne4 : ∀ w : Fin 10, (spec0 w).arr.view.ref ≠ main_arg4 := by decide

/-- Under the precondition every run ends, leaves the arguments as they were and every semaphore at zero. -/
theorem frame (hp : ∀ c : Dev nD, Cert.Pre_lengths.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1)
    (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  have hG := (inRange_of_pre m (hp 0)).good
  refine (θ_run (defs (F := F)) _ _).mono (fun r h => ⟨fun c => ?_, h.2⟩) (run_main m hG g)
  have h1 := h.1
  exact ⟨(Pipeline.RDat.FramePost.arr_in h1 c (0 : Fin 10) rfl).trans (V_arg0 m c), (Pipeline.RDat.FramePost.arr_in h1 c (1 : Fin 10) rfl).trans (V_arg1 m c),
    ((h1 c).2 main_arg2 (Pipeline.mem_restRefs_of main_arg2 (by decide) arr_ne2)).trans (V_arg2 m c),
    ((h1 c).2 main_arg3 (Pipeline.mem_restRefs_of main_arg3 (by decide) arr_ne3)).trans (V_arg3 m c),
    ((h1 c).2 main_arg4 (Pipeline.mem_restRefs_of main_arg4 (by decide) arr_ne4)).trans (V_arg4 m c)⟩

end Cert.KernelIdeal.Body
-- ==== Proof.KI.Bytes.lean ====
/- The decoding read at one byte: sixteen times the signed nibble, of column 0 beyond the page's end. -/
module
public import proofs.«01_k».proof.Proof.KI.Decode

@[expose] public section
set_option maxRecDepth 16384
noncomputable section

namespace Cert.KernelIdeal.Body
open Cert.KernelIdeal Cert.KernelIdeal.Gen
open Idealize.ShloMosaic Idealize.ShloMosaic.TcCoe Idealize.SL.Sem

/-- The signed value of a byte's low (0) or high (1) nibble. -/
def nib (b : BitVec 8) (h : ℕ) : ℤ := ((((b.setWidth 32).sshiftRight (4 * h) &&& 15#32) ^^^ 8#32) - 8#32).toInt

theorem nib_lo_fin : ∀ n : Fin 256, ((BitVec.ofNat 8 n.val <<< 4) &&& 240#8).toInt = 16 * nib (BitVec.ofNat 8 n.val) 0 := by decide +kernel
theorem nib_hi_fin : ∀ n : Fin 256, (BitVec.ofNat 8 n.val &&& 240#8).toInt = 16 * nib (BitVec.ofNat 8 n.val) 1 := by decide +kernel

theorem nib_lo (b : BitVec 8) : ((b <<< 4) &&& 240#8).toInt = 16 * nib b 0 := by
  have := nib_lo_fin ⟨b.toNat, b.isLt⟩
  simpa only [BitVec.ofNat_toNat, BitVec.setWidth_eq] using this
theorem nib_hi (b : BitVec 8) : (b &&& 240#8).toInt = 16 * nib b 1 := by
  have := nib_hi_fin ⟨b.toNat, b.isLt⟩
  simpa only [BitVec.ofNat_toNat, BitVec.setWidth_eq] using this

/-- Words read as bytes: bit `q` of byte row `p` is bit `8 (p mod 4) + q` of word row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ValueIdx.ix2 p l)).getLsbD q = (x (ValueIdx.ix2 a l)).getLsbD (8 * (p.val % 4) + q) := by
  rw [bitcast_getLsbD x h _ q hq (by decide)]
  have hr : (⟨2, ![R, n]⟩ : Shape).row (ValueIdx.ix2 p l) = p.val := rfl
  have ep : ((⟨2, ![R, n]⟩ : Shape).row (ValueIdx.ix2 p l) * 8 + q) / 32 = p.val / 4 := by rw [hr]; omega
  have eq : ((⟨2, ![R, n]⟩ : Shape).row (ValueIdx.ix2 p l) * 8 + q) % 32 = 8 * (p.val % 4) + q := by rw [hr]; omega
  rw [eq]
  congr 2
  funext c
  match c with
  | ⟨0, _⟩ => exact Fin.ext ((h.srcIdx_row _ _ _ ⟨0, Nat.zero_lt_two⟩ rfl).trans (ep.trans ha.symm))
  | ⟨1, _⟩ => exact Fin.ext (h.srcIdx_other _ _ _ ⟨1, Nat.one_lt_two⟩ (by show ¬ 1 + 2 = 2; omega))

theorem mask_bit : ∀ i : Fin 32, (4042322160#32 : BitVec 32).getLsbD i.val = decide (4 ≤ i.val % 8) := by decide
theorem mask8_bit : ∀ i : Fin 8, (240#8 : BitVec 8).getLsbD i.val = decide (4 ≤ i.val) := by decide

/-- The byte that row `d` reads of the four bytes of its word. -/
theorem words_bit {F : FTy → Type} [FloatOps F] (b : Vec F S1x64x128 .i8) (d : Fin 64) (l : Fin 128) (q : ℕ) (hq : q < 8) :
    (wordsC (F := F) b (ix2 ⟨d.val / 4, by have := d.isLt; omega⟩ l)).getLsbD (8 * (d.val % 4) + q) = (b (ix3 0 d l) : BitVec 8).getLsbD q := by
  have hd := d.isLt
  unfold wordsC
  refine (bitcast_8_32_getLsbD_ix2 _ _ _ _ (8 * (d.val % 4) + q) (by omega) d (by show d.val = 4 * (d.val / 4) + (8 * (d.val % 4) + q) / 8; omega)).trans ?_
  have e : (8 * (d.val % 4) + q) % 8 = q := by omega
  rw [e]
  have : (shapeCast S64x128 b shapeCasts_S1x64x128_S64x128 : IVec S64x128 8) (ValueIdx.ix2 d l) = b (ix3 0 d l) := by pointwise
  rw [this]

section
variable {F : FTy → Type} [FloatOps F] (m : IVec S1x128 1) (first b : Vec F S1x64x128 .i8) (d : Fin 64) (l : Fin 128)

/-- The byte selected at row `d`, lane `l`. -/
def byteC : BitVec 8 := if m (ix2 0 l) = 1#1 then b (ix3 0 d l) else first (ix3 0 d 0)

theorem selC_bit (q : ℕ) (hq : q < 8) :
    (selC (F := F) m first b (ix2 ⟨d.val / 4, by have := d.isLt; omega⟩ l)).getLsbD (8 * (d.val % 4) + q) = (byteC m first b d l).getLsbD q := by
  have e : selC (F := F) m first b (ix2 ⟨d.val / 4, by have := d.isLt; omega⟩ l)
      = if m (ix2 0 l) = 1#1 then wordsC (F := F) b (ix2 ⟨d.val / 4, by have := d.isLt; omega⟩ l) else wordsC (F := F) first (ix2 ⟨d.val / 4, by have := d.isLt; omega⟩ 0) := by
    pointwise [selC]; rfl
  rw [e]; unfold byteC
  split
  · exact words_bit b d l q hq
  · exact words_bit first d 0 q hq

/-- The low nibble's byte. -/
theorem lo_byte : (bitcast S64x128 8 (andi (shli (selC (F := F) m first b) (broadcast S16x128 4#32)) (broadcast S16x128 4042322160#32))
    bitcasts_S16x128_w32_S64x128_w8 (ix2 d l)) = ((byteC m first b d l) <<< 4) &&& 240#8 := by
  have hd := d.isLt
  apply BitVec.eq_of_getLsbD_eq
  intro q hq
  refine (bitcast_32_8_getLsbD_ix2 _ _ d l q hq ⟨d.val / 4, by omega⟩ rfl).trans ?_
  show (((selC (F := F) m first b (ix2 ⟨d.val / 4, _⟩ l)) <<< 4) &&& 4042322160#32 : BitVec 32).getLsbD _ = _
  rw [BitVec.getLsbD_and, BitVec.getLsbD_and, BitVec.getLsbD_shiftLeft, BitVec.getLsbD_shiftLeft, mask_bit ⟨8 * (d.val % 4) + q, by omega⟩, mask8_bit ⟨q, hq⟩]
  have e : (8 * (d.val % 4) + q) % 8 = q := by omega
  simp only [e]
  by_cases h : 4 ≤ q
  · have e2 : 8 * (d.val % 4) + q - 4 = 8 * (d.val % 4) + (q - 4) := by omega
    rw [e2, selC_bit m first b d l (q - 4) (by omega)]
    have h1 : 8 * (d.val % 4) + q < 32 := by omega
    have h2 : ¬ 8 * (d.val % 4) + q < 4 := by omega
    have h3 : ¬ q < 4 := by omega
    simp [h, h1, h2, h3, hq]
  · simp [h]

/-- The high nibble's byte. -/
theorem hi_byte : (bitcast S64x128 8 (andi (selC (F := F) m first b) (broadcast S16x128 4042322160#32))
    bitcasts_S16x128_w32_S64x128_w8 (ix2 d l)) = (byteC m first b d l) &&& 240#8 := by
  have hd := d.isLt
  apply BitVec.eq_of_getLsbD_eq
  intro q hq
  refine (bitcast_32_8_getLsbD_ix2 _ _ d l q hq ⟨d.val / 4, by omega⟩ rfl).trans ?_
  show ((selC (F := F) m first b (ix2 ⟨d.val / 4, _⟩ l)) &&& 4042322160#32 : BitVec 32).getLsbD _ = _
  rw [BitVec.getLsbD_and, BitVec.getLsbD_and, mask_bit ⟨8 * (d.val % 4) + q, by omega⟩, mask8_bit ⟨q, hq⟩, selC_bit m first b d l q hq]
  have e : (8 * (d.val % 4) + q) % 8 = q := by omega
  simp only [e]
end

section
variable (m : IVec S1x128 1) (first b : Vec Ideal S1x64x128 .i8) (d : Fin 64) (l : Fin 128)

theorem loC_apply : (loC (F := Ideal) m first b (ix3 0 d l) : EReal) = (((16 * nib (byteC (F := Ideal) m first b d l) 0 : ℤ) : ℝ) : EReal) := by
  rw [← nib_lo, ← lo_byte]
  pointwise [loC]
  rfl

theorem hiC_apply : (hiC (F := Ideal) m first b (ix3 0 d l) : EReal) = (((16 * nib (byteC (F := Ideal) m first b d l) 1 : ℤ) : ℝ) : EReal) := by
  rw [← nib_hi, ← hi_byte]
  pointwise [hiC]
  rfl

theorem scC_apply (s : Vec Ideal S1x1x128 .f32) (f : Vec Ideal S1x1x1 .f32) : (scC (F := Ideal) m s f (ix3 0 0 l) : EReal) = if m (ix2 0 l) = 1#1 then s (ix3 0 0 l) else f (ix3 0 0 0) := by
  pointwise [scC]
  rfl

/-- Whether patch `128 c + l` lies before the page's end. -/
theorem maskC_apply (c : ℕ) (hc : c < 6) (len : BitVec 32) (hl : len.toNat ≤ 768) : maskC (BitVec.ofNat 32 (128 * c)) len (ix2 0 l) = 1#1 ↔ 128 * c + l.val < len.toNat := by
  have hl' := l.isLt
  have e : maskC (BitVec.ofNat 32 (128 * c)) len (ix2 0 l) = IntOp.cmpi .slt (BitVec.ofNat 32 l.val + BitVec.ofNat 32 (128 * c)) len := by
    pointwise [maskC]; rfl
  rw [e]
  have e1 : (BitVec.ofNat 32 l.val + BitVec.ofNat 32 (128 * c) : BitVec 32).toNat = 128 * c + l.val := by
    rw [BitVec.toNat_add, BitVec.toNat_ofNat, BitVec.toNat_ofNat]; omega
  generalize BitVec.ofNat 32 l.val + BitVec.ofNat 32 (128 * c) = x at e1
  have e2 : IntOp.cmpi .slt x len = BitVec.ofBool (x.slt len) := rfl
  have e3 : x.slt len = decide (x.toNat < len.toNat) := by
    rw [BitVec.slt, BitVec.toInt_eq_toNat_of_lt (by omega), BitVec.toInt_eq_toNat_of_lt (by omega)]
    simp
  rw [e2, e3, e1]
  by_cases h : 128 * c + l.val < len.toNat <;> simp [h]
end

end Cert.KernelIdeal.Body
-- ==== Proof.KI.Score.lean ====
/- The scores of one grid point as maxima over all 768 patches of a page. -/
module
public import proofs.«01_k».proof.Proof.KI.Bytes
public import proofs.«01_k».proof.Proof.KI.Body

@[expose] public section
set_option maxRecDepth 16384
noncomputable section

namespace Cert.KernelIdeal.Body
open Cert.KernelIdeal Cert.KernelIdeal.Gen
open Idealize.ShloMosaic Idealize.ShloMosaic.TcCoe Idealize.SL.Sem

/-- Patch `j`, or patch 0 if `j` lies beyond the page's end. -/
def eff (n : ℕ) (j : Fin 768) : Fin 768 := if j.val < n then j else 0

/-- The score of one query row against patch `j` of a page of `n` patches. -/
def term (Qr : Fin 128 → EReal) (P : Fin 64 → Fin 768 → BitVec 8) (sg : Fin 768 → EReal) (n : ℕ) (j : Fin 768) : EReal :=
  (∑ d : Fin 128, Qr d * (((16 * nib (P ⟨d.val % 64, Nat.mod_lt _ (by decide)⟩ (eff n j)) (d.val / 64) : ℤ) : ℝ) : EReal)) * sg (eff n j)

/-- The page's score: the maximum over its patches. -/
def best768 (Qr : Fin 128 → EReal) (P : Fin 64 → Fin 768 → BitVec 8) (sg : Fin 768 → EReal) (n : ℕ) : EReal :=
  Finset.univ.sup (term Qr P sg n)

/-- Lane `l` of page `k` of the group. -/
def colIx (k : Fin 4) (l : Fin 128) : Fin 512 := ⟨128 * k.val + l.val, by have := k.isLt; have := l.isLt; omega⟩

theorem col_div (k : Fin 4) (l : Fin 128) : (colIx k l).val / 128 = k.val := by have := l.isLt; show (128 * k.val + l.val) / 128 = _; omega
theorem col_mod (k : Fin 4) (l : Fin 128) : (colIx k l).val % 128 = l.val := by have := l.isLt; show (128 * k.val + l.val) % 128 = _; omega

/-! ## The decoded chunks -/

theorem pagePut_apply (c k : ℕ) (lo hi : FVec Ideal S1x64x128 .bf16) (X : S6x128x512.Idx → Elt Ideal .bf16) (c' : Fin 6) (d : Fin 128) (k' : Fin 4) (l : Fin 128) :
    pagePut (F := Ideal) c k lo hi X (ix3 c' d (colIx k' l)) = if c'.val = c ∧ k'.val = k then
      if d.val < 64 then lo (ix3 0 ⟨d.val % 64, Nat.mod_lt _ (by decide)⟩ l) else hi (ix3 0 ⟨d.val % 64, Nat.mod_lt _ (by decide)⟩ l)
      else X (ix3 c' d (colIx k' l)) := by
  have e : (⟨(colIx k' l).val % 128, Nat.mod_lt _ (by decide)⟩ : Fin 128) = l := Fin.ext (col_mod k' l)
  show (if c'.val = c ∧ (colIx k' l).val / 128 = k then
      if d.val < 64 then lo (ix3 0 ⟨d.val % 64, _⟩ ⟨(colIx k' l).val % 128, _⟩) else hi (ix3 0 ⟨d.val % 64, _⟩ ⟨(colIx k' l).val % 128, _⟩)
      else X (ix3 c' d (colIx k' l))) = _
  rw [col_div, e]

theorem scalePut_apply (c k : ℕ) (sc : FVec Ideal S1x1x128 .f32) (X : S6x1x512.Idx → Elt Ideal .f32) (c' : Fin 6) (k' : Fin 4) (l : Fin 128) :
    scalePut (F := Ideal) c k sc X (ix3 c' 0 (colIx k' l)) = if c'.val = c ∧ k'.val = k then sc (ix3 0 0 l) else X (ix3 c' 0 (colIx k' l)) := by
  have e : (⟨(colIx k' l).val % 128, Nat.mod_lt _ (by decide)⟩ : Fin 128) = l := Fin.ext (col_mod k' l)
  show (if c'.val = c ∧ (colIx k' l).val / 128 = k then sc (ix3 0 0 ⟨(colIx k' l).val % 128, _⟩) else X (ix3 c' 0 (colIx k' l))) = _
  rw [col_div, e]

/-- Four writes, one for each page of the group: page `k`'s lanes hold what the write of page `k` put there. -/
theorem four_if {α : Type} (A : Fin 4 → α) (x : α) (p : Prop) [Decidable p] (k : Fin 4) :
    (if p ∧ k.val = 3 then A 3 else if p ∧ k.val = 2 then A 2 else if p ∧ k.val = 1 then A 1 else if p ∧ k.val = 0 then A 0 else x) = if p then A k else x := by
  by_cases h : p
  · match k with
    | 0 => simp [h]
    | 1 => simp [h]
    | 2 => simp [h]
    | 3 => simp [h]
  · simp [h]

section
variable (P : Fin 4 → S1x64x768.Idx → BitVec 8) (Sc : Fin 4 → S1x1x768.Idx → EReal) (len : Fin 4 → BitVec 32)

theorem eff_chunk {α : Type} (c : ℕ) (hc : c < 6) (l : Fin 128) (n : BitVec 32) (hn : n.toNat ≤ 768) (f : Fin 768 → α) :
    (if maskC (BitVec.ofNat 32 (128 * c)) n (ix2 0 l) = 1#1 then f ⟨128 * c + l.val, by have := l.isLt; omega⟩ else f 0)
      = f (eff n.toNat ⟨128 * c + l.val, by have := l.isLt; omega⟩) := by
  unfold eff
  by_cases h : 128 * c + l.val < n.toNat
  · rw [if_pos ((maskC_apply l c hc n hn).mpr h), if_pos h]
  · rw [if_neg (fun h' => h ((maskC_apply l c hc n hn).mp h')), if_neg h]

theorem blockP_apply (X : S1x64x768.Idx → BitVec 8) (c : ℕ) (hc : c < 6) (d : Fin 64) (l : Fin 128) :
    blockP (F := Ideal) X c (ix3 0 d l) = X (ix3 0 d ⟨128 * c + l.val, by have := l.isLt; omega⟩) :=
  congrArg (fun z => X (ix3 0 d z)) (Fin.ext (Nat.mod_eq_of_lt (by have := l.isLt; show 128 * c + l.val < 768; omega)))

theorem byte_block (X : S1x64x768.Idx → BitVec 8) (c : ℕ) (hc : c < 6) (n : BitVec 32) (hn : n.toNat ≤ 768) (d : Fin 64) (l : Fin 128) :
    byteC (F := Ideal) (maskC (BitVec.ofNat 32 (128 * c)) n) (blockP (F := Ideal) X 0) (blockP (F := Ideal) X c) d l
      = X (ix3 0 d (eff n.toNat ⟨128 * c + l.val, by have := l.isLt; omega⟩)) := by
  refine Eq.trans ?_ (eff_chunk c hc l n hn (fun j => X (ix3 0 d j)))
  unfold byteC
  rw [blockP_apply X c hc, blockP_apply X 0 (by decide)]
  rfl

variable (hlen : ∀ k, (len k).toNat ≤ 768)
include hlen

/-- The code of row `d` of the decoded chunk. -/
def codeV (P : Fin 4 → S1x64x768.Idx → BitVec 8) (len : Fin 4 → BitVec 32) (k : Fin 4) (d : Fin 128) (j : Fin 768) : EReal :=
  (((16 * nib (P k (ix3 0 ⟨d.val % 64, Nat.mod_lt _ (by decide)⟩ (eff (len k).toNat j))) (d.val / 64) : ℤ) : ℝ) : EReal)

theorem chunkPut_apply (c : ℕ) (hc : c < 6) (X : S6x128x512.Idx → Elt Ideal .bf16) (c' : Fin 6) (d : Fin 128) (k : Fin 4) (l : Fin 128) :
    (chunkPut (F := Ideal) c P len X (ix3 c' d (colIx k l)) : EReal)
      = if c'.val = c then codeV P len k d ⟨128 * c + l.val, by have := l.isLt; omega⟩ else X (ix3 c' d (colIx k l)) := by
  unfold chunkPut
  simp only [pagePut_apply]
  refine (four_if (fun k : Fin 4 => (if d.val < 64 then loC (F := Ideal) (maskC (BitVec.ofNat 32 (128 * c)) (len k)) (blockP (P k) 0) (blockP (P k) c) (ix3 0 ⟨d.val % 64, Nat.mod_lt _ (by decide)⟩ l)
    else hiC (F := Ideal) (maskC (BitVec.ofNat 32 (128 * c)) (len k)) (blockP (P k) 0) (blockP (P k) c) (ix3 0 ⟨d.val % 64, Nat.mod_lt _ (by decide)⟩ l) : EReal)) _ (c'.val = c) k).trans ?_
  refine if_congr Iff.rfl ?_ rfl
  have hd := d.isLt
  unfold codeV
  split
  · rw [loC_apply, byte_block (P k) c hc _ (hlen k)]
    have : d.val / 64 = 0 := by omega
    rw [this]
  · rw [hiC_apply, byte_block (P k) c hc _ (hlen k)]
    have : d.val / 64 = 1 := by omega
    rw [this]

theorem chunkPutS_apply (c : ℕ) (hc : c < 6) (X : S6x1x512.Idx → Elt Ideal .f32) (c' : Fin 6) (k : Fin 4) (l : Fin 128) :
    (chunkPutS (F := Ideal) c Sc len X (ix3 c' 0 (colIx k l)) : EReal)
      = if c'.val = c then Sc k (ix3 0 0 (eff (len k).toNat ⟨128 * c + l.val, by have := l.isLt; omega⟩)) else X (ix3 c' 0 (colIx k l)) := by
  unfold chunkPutS
  simp only [scalePut_apply]
  refine (four_if (fun k : Fin 4 => (scC (F := Ideal) (maskC (BitVec.ofNat 32 (128 * c)) (len k)) (blockS (Sc k) c) (firstS (Sc k)) (ix3 0 0 l) : EReal)) _ (c'.val = c) k).trans ?_
  refine if_congr Iff.rfl ?_ rfl
  rw [scC_apply]
  refine Eq.trans ?_ (eff_chunk c hc l (len k) (hlen k) (fun j => Sc k (ix3 0 0 j)))
  refine if_congr Iff.rfl ?_ rfl
  exact congrArg (fun z => Sc k (ix3 0 0 z)) (Fin.ext (Nat.mod_eq_of_lt (by have := l.isLt; show 128 * c + l.val < 768; omega)))

/-- The decoded codes, whatever the scratch held before. -/
theorem decW_apply (W : S6x128x512.Idx → Elt Ideal .bf16) (m : ℕ) (hm : m ≤ 6) (c : Fin 6) (hc : c.val < m) (d : Fin 128) (k : Fin 4) (l : Fin 128) :
    (decW (F := Ideal) P len W m (ix3 c d (colIx k l)) : EReal) = codeV P len k d ⟨128 * c.val + l.val, by have := l.isLt; have := c.isLt; omega⟩ := by
  induction m with
  | zero => omega
  | succ m ih =>
    refine (chunkPut_apply P len hlen m (by omega) _ c d k l).trans ?_
    by_cases h : c.val = m
    · subst h; rw [if_pos rfl]
    · rw [if_neg h]; exact ih (by omega) (by omega)

/-- The scales, whatever the scratch held before. -/
theorem decS_apply (S : S6x1x512.Idx → Elt Ideal .f32) (m : ℕ) (hm : m ≤ 6) (c : Fin 6) (hc : c.val < m) (k : Fin 4) (l : Fin 128) :
    (decS (F := Ideal) Sc len S m (ix3 c 0 (colIx k l)) : EReal) = Sc k (ix3 0 0 (eff (len k).toNat ⟨128 * c.val + l.val, by have := l.isLt; have := c.isLt; omega⟩)) := by
  induction m with
  | zero => omega
  | succ m ih =>
    refine (chunkPutS_apply Sc len hlen m (by omega) _ c k l).trans ?_
    by_cases h : c.val = m
    · subst h; rw [if_pos rfl]
    · rw [if_neg h]; exact ih (by omega) (by omega)
end

/-! ## The scores -/

theorem neg_inf : Ideal.ofBits .f32 0xFF800000#32 = ⊥ := by simp [Ideal.ofBits, Ideal.ieee]

theorem scoreV_apply (q : Vec Ideal S256x128 .bf16) (w : Vec Ideal S1x128x512 .bf16) (s : Vec Ideal S1x1x512 .f32) (r : Fin 256) (x : Fin 512) :
    (scoreV (F := Ideal) q w s (ix2 r x) : EReal) = (∑ d : Fin 128, (q (ix2 r d) : EReal) * (w (ix3 0 d x) : EReal)) * (s (ix3 0 0 x) : EReal) := by
  pointwise [scoreV]

theorem best_apply (q : Vec Ideal S256x128 .bf16) (w : ℕ → Vec Ideal S1x128x512 .bf16) (s : ℕ → Vec Ideal S1x1x512 .f32) (n : ℕ) (y) :
    (best (F := Ideal) q w s n y : EReal) = (Finset.range (n + 1)).sup fun c => (scoreV (F := Ideal) q (w c) (s c) y : EReal) := by
  induction n with
  | zero => simp [best]
  | succ n ih =>
    rw [Finset.range_add_one, Finset.sup_insert, ← ih, sup_comm]
    rfl

theorem fold_max_eq_sup {ι : Type} (s : Finset ι) (f : ι → EReal) : s.fold max ⊥ f = s.sup f := rfl

theorem lane_max (b : FVec Ideal S256x512 .f32) (k : Fin 4) (x : FVec Ideal S256x128 .f32) (hx : ∀ r l, x (ix2 r l) = b (ix2 r (colIx k l))) (r : Fin 256) :
    (multiReduction (F := Ideal) .maximumf [1] S256 x 0xFF800000#32 reduces_S256x128_S256 (.inl rfl) rfl (ix1 r) : EReal)
      = Finset.univ.sup fun l : Fin 128 => (b (ix2 r (colIx k l)) : EReal) := by
  refine (Ideal.multiReduction_maximumf_single x 0xFF800000#32 reduces_S256x128_S256 (.inl rfl) rfl (ix1 r)).trans ?_
  have e : (FloatOps.ofBits .f32 0xFF800000#32 : Ideal .f32) = (⊥ : EReal) := neg_inf
  rw [e]
  refine (fold_max_eq_sup _ _).trans (Finset.sup_congr rfl fun l _ => ?_)
  refine Eq.trans (congrArg x ?_) (hx r l)
  funext a
  match a with
  | ⟨0, _⟩ => rfl
  | ⟨1, _⟩ => rfl

theorem topK_apply (b : FVec Ideal S256x512 .f32) (k : Fin 4) (r : Fin 256) :
    (topK (F := Ideal) b k (ix1 r) : EReal) = Finset.univ.sup fun l : Fin 128 => (b (ix2 r (colIx k l)) : EReal) := by
  match k with
  | 0 => exact lane_max b 0 _ (fun r l => by pointwise; exact congrArg (fun z => b (ix2 r z)) (Fin.ext (by show l.val = 128 * 0 + l.val; omega))) r
  | 1 => exact lane_max b 1 _ (fun r l => by pointwise; rfl) r
  | 2 => exact lane_max b 2 _ (fun r l => by pointwise; rfl) r
  | 3 => exact lane_max b 3 _ (fun r l => by pointwise; rfl) r

/-- The scores of a grid point: page `k` of the group, of query row `r`, is the maximum over the page's patches. -/
theorem group_score (P : Fin 4 → S1x64x768.Idx → BitVec 8) (Sc : Fin 4 → S1x1x768.Idx → EReal) (len : Fin 4 → BitVec 32) (hlen : ∀ k, (len k).toNat ≤ 768)
    (q : Vec Ideal S256x128 .bf16) (W : S6x128x512.Idx → Elt Ideal .bf16) (S : S6x1x512.Idx → Elt Ideal .f32) (n : ℕ) (hn1 : 1 ≤ n) (hn : n ≤ 6)
    (k : Fin 4) (hcov : (len k).toNat ≤ 128 * n) (r : Fin 256) :
    (topK (F := Ideal) (best q (chunkW (decW (F := Ideal) P len W n)) (chunkS (decS (F := Ideal) Sc len S n)) (n - 1)) k (ix1 r) : EReal)
      = best768 (fun d => q (ix2 r d)) (fun d j => P k (ix3 0 d j)) (fun j => Sc k (ix3 0 0 j)) (len k).toNat := by
  have key : ∀ (c : ℕ) (hc : c < n) (l : Fin 128),
      (scoreV (F := Ideal) q (chunkW (decW (F := Ideal) P len W n) c) (chunkS (decS (F := Ideal) Sc len S n) c) (ix2 r (colIx k l)) : EReal)
        = term (fun d => q (ix2 r d)) (fun d j => P k (ix3 0 d j)) (fun j => Sc k (ix3 0 0 j)) (len k).toNat ⟨128 * c + l.val, by have := l.isLt; omega⟩ := by
    intro c hc l
    have hc6 : (⟨c % 6, Nat.mod_lt _ (by decide)⟩ : Fin 6) = ⟨c, by omega⟩ := Fin.ext (Nat.mod_eq_of_lt (by omega))
    refine (scoreV_apply _ _ _ _ _).trans ?_
    unfold term
    have hs : (chunkS (decS (F := Ideal) Sc len S n) c (ix3 0 0 (colIx k l)) : EReal) = Sc k (ix3 0 0 (eff (len k).toNat ⟨128 * c + l.val, by have := l.isLt; omega⟩)) := by
      refine Eq.trans ?_ (decS_apply Sc len hlen S n hn ⟨c, by omega⟩ hc k l)
      exact congrArg (fun z => decS (F := Ideal) Sc len S n (ix3 z 0 (colIx k l))) hc6
    rw [hs]
    refine congrArg (· * _) (Finset.sum_congr rfl fun d _ => congrArg (_ * ·) ?_)
    refine Eq.trans ?_ (decW_apply P len hlen W n hn ⟨c, by omega⟩ hc d k l)
    exact congrArg (fun z => decW (F := Ideal) P len W n (ix3 z d (colIx k l))) hc6
  rw [topK_apply]
  simp only [best_apply]
  rw [Nat.sub_add_cancel hn1]
  apply le_antisymm
  · refine Finset.sup_le fun l _ => Finset.sup_le fun c hc => ?_
    rw [key c (Finset.mem_range.mp hc) l]
    exact Finset.le_sup (f := term _ _ _ _) (Finset.mem_univ _)
  · have low : ∀ j : Fin 768, j.val < 128 * n → term (fun d => q (ix2 r d)) (fun d j => P k (ix3 0 d j)) (fun j => Sc k (ix3 0 0 j)) (len k).toNat j
        ≤ Finset.univ.sup fun l : Fin 128 => (Finset.range n).sup fun c =>
          (scoreV (F := Ideal) q (chunkW (decW (F := Ideal) P len W n) c) (chunkS (decS (F := Ideal) Sc len S n) c) (ix2 r (colIx k l)) : EReal) := by
      intro j hj
      have h1 : j.val / 128 < n := by omega
      have h2 : j.val % 128 < 128 := Nat.mod_lt _ (by decide)
      have e : j = ⟨128 * (j.val / 128) + (⟨j.val % 128, h2⟩ : Fin 128).val, by show 128 * (j.val / 128) + j.val % 128 < 768; omega⟩ := Fin.ext (by show j.val = 128 * (j.val / 128) + j.val % 128; omega)
      refine le_trans (le_of_eq ?_) (le_trans (Finset.le_sup (f := fun c => (scoreV (F := Ideal) q (chunkW (decW (F := Ideal) P len W n) c) (chunkS (decS (F := Ideal) Sc len S n) c) (ix2 r (colIx k ⟨j.val % 128, h2⟩)) : EReal)) (Finset.mem_range.mpr h1))
        (Finset.le_sup (f := fun l : Fin 128 => (Finset.range n).sup fun c => (scoreV (F := Ideal) q (chunkW (decW (F := Ideal) P len W n) c) (chunkS (decS (F := Ideal) Sc len S n) c) (ix2 r (colIx k l)) : EReal)) (Finset.mem_univ _)))
      rw [key _ h1, ← e]
    refine Finset.sup_le fun j _ => ?_
    by_cases h : j.val < 128 * n
    · exact low j h
    · have e0 : eff (len k).toNat j = eff (len k).toNat 0 := by
        unfold eff; rw [if_neg (by omega)]; split <;> rfl
      refine le_trans (le_of_eq ?_) (low 0 (by show 0 < 128 * n; omega))
      unfold term; rw [e0]

end Cert.KernelIdeal.Body
-- ==== Proof.KI.Out.lean ====
/- What one grid point leaves in the result: the scores of its four pages, the other pages' cells as they were found. -/
module
public import proofs.«01_k».proof.Proof.KI.Score
public import proofs.«01_k».proof.Proof.KI.Frame

@[expose] public section
set_option maxRecDepth 16384
noncomputable section

namespace Cert.KernelIdeal.Body
open Cert.KernelIdeal Cert.KernelIdeal.Gen
open Idealize.ShloMosaic Idealize.ShloMosaic.TcCoe Idealize.SL.Sem

/-- The cell of the result which holds page `p`'s score of row `r`. -/
def cell (p : Fin 2048) (r : Fin 3072) : S16x3072x128.Idx :=
  ix3 ⟨p.val / 128, by have := p.isLt; omega⟩ r ⟨p.val % 128, Nat.mod_lt _ (by decide)⟩

/-- A row's place in its block of 256. -/
def inBlock (r : Fin 3072) : Fin 256 := ⟨r.val % 256, Nat.mod_lt _ (by decide)⟩

section
variable {F : FTy → Type} [FloatOps F]

/-- Setting page word `w`'s column changes the cells of that page and that block of rows only. -/
theorem pageStep_cell (top : FVec F S256 .f32) (w : BitVec 32) (a : ℕ) (O : S16x3072x128.Idx → Elt F .f32) (p : Fin 2048) (r : Fin 3072) :
    pageStep top w a O (cell p r) = if w.toNat = p.val ∧ r.val / 256 = a then top (ix1 (inBlock r)) else O (cell p r) := by
  by_cases h : w.toNat = p.val ∧ r.val / 256 = a
  · rw [if_pos h]
    refine (pageStep_of top w a O _ _ _ ⟨?_, ?_, ?_⟩).trans (congrArg (fun x => top (ix1 x)) (Fin.ext ?_))
    · show p.val / 128 = _; rw [h.1]
    · omega
    · show p.val % 128 = _; rw [h.1]
    · show r.val - 256 * a = r.val % 256; omega
  · rw [if_neg h]
    refine pageStep_else top w a O _ _ _ fun hh => h ?_
    have h0 : p.val / 128 = w.toNat / 128 := hh.1
    have h2 : p.val % 128 = w.toNat % 128 := hh.2.2
    omega

/-- One block of rows, at a cell of the group's page `k`. -/
theorem tripStep_hit (b : FVec F S256x512 .f32) (ws : Fin 4 → BitVec 32) (a : ℕ) (O : S16x3072x128.Idx → Elt F .f32) (p : Fin 2048) (r : Fin 3072) (k : Fin 4)
    (hk : ∀ k', (ws k').toNat = p.val ↔ k' = k) :
    tripStep b ws a O (cell p r) = if r.val / 256 = a then topK b k (ix1 (inBlock r)) else O (cell p r) := by
  unfold tripStep
  rw [pageStep_cell, pageStep_cell, pageStep_cell, pageStep_cell]
  simp only [hk]
  fin_cases k <;> by_cases h : r.val / 256 = a <;> simp [h]

/-- One block of rows, at a cell of a page not of the group. -/
theorem tripStep_miss (b : FVec F S256x512 .f32) (ws : Fin 4 → BitVec 32) (a : ℕ) (O : S16x3072x128.Idx → Elt F .f32) (p : Fin 2048) (r : Fin 3072)
    (hk : ∀ k', (ws k').toNat ≠ p.val) : tripStep b ws a O (cell p r) = O (cell p r) := by
  unfold tripStep
  rw [pageStep_cell, pageStep_cell, pageStep_cell, pageStep_cell]
  simp [hk]

theorem loopOut_hit (n : ℕ) (Q : S3072x128.Idx → Elt F .bf16) (w : ℕ → Vec F S1x128x512 .bf16) (s : ℕ → Vec F S1x1x512 .f32) (ws : Fin 4 → BitVec 32)
    (O : S16x3072x128.Idx → Elt F .f32) (p : Fin 2048) (r : Fin 3072) (k : Fin 4) (hk : ∀ k', (ws k').toNat = p.val ↔ k' = k) (K : ℕ) :
    loopOut n Q w s ws O K (cell p r) = if r.val / 256 < K then topK (best (rowsAt Q (r.val / 256)) w s n) k (ix1 (inBlock r)) else O (cell p r) := by
  induction K with
  | zero => rw [if_neg (by omega)]; rfl
  | succ K ih =>
    show tripStep _ ws K _ (cell p r) = _
    rw [tripStep_hit _ _ _ _ _ _ k hk, ih]
    by_cases h : r.val / 256 = K
    · rw [if_pos h, if_pos (by omega), h]
    · rw [if_neg h]
      exact if_congr (by omega) rfl rfl

theorem loopOut_miss (n : ℕ) (Q : S3072x128.Idx → Elt F .bf16) (w : ℕ → Vec F S1x128x512 .bf16) (s : ℕ → Vec F S1x1x512 .f32) (ws : Fin 4 → BitVec 32)
    (O : S16x3072x128.Idx → Elt F .f32) (p : Fin 2048) (r : Fin 3072) (hk : ∀ k', (ws k').toNat ≠ p.val) (K : ℕ) :
    loopOut n Q w s ws O K (cell p r) = O (cell p r) := by
  induction K with
  | zero => rfl
  | succ K ih => exact (tripStep_miss _ _ _ _ _ _ hk).trans ih

/-- A row of the block it lies in. -/
theorem rowsAt_row (Q : S3072x128.Idx → Elt F .bf16) (r : Fin 3072) (d : Fin 128) : rowsAt Q (r.val / 256) (ix2 (inBlock r) d) = Q (ix2 r d) := by
  have := r.isLt
  refine congrArg (fun x => Q (ix2 x d)) (Fin.ext ?_)
  show (256 * (r.val / 256) + r.val % 256) % 3072 = r.val
  omega

theorem pageP_at (X : S2048x64x768.Idx → Elt F .i8) (w : BitVec 32) (p : Fin 2048) (h : w.toNat = p.val) (d : Fin 64) (j : Fin 768) :
    pageP X w (ix3 0 d j) = X (ix3 p d j) := by
  have := p.isLt
  exact congrArg (fun x => X (ix3 x d j)) (Fin.ext (by show w.toNat % 2048 = p.val; omega))

theorem pageS_at (X : S2048x1x768.Idx → Elt F .f32) (w : BitVec 32) (p : Fin 2048) (h : w.toNat = p.val) (j : Fin 768) :
    pageS X w (ix3 0 0 j) = X (ix3 p 0 j) := by
  have := p.isLt
  exact congrArg (fun x => X (ix3 x 0 j)) (Fin.ext (by show w.toNat % 2048 = p.val; omega))

end

section
variable (m : (ℓ : Loc nD τ sig) → Buf (Elt Ideal) ℓ)

/-- The score of row `r` against page `p`, from the arguments. -/
def scoreM (p : Fin 2048) (r : Fin 3072) : EReal :=
  best768 (fun d => Qm m (ix2 r d)) (fun d j => pagesM m (ix3 p d j)) (fun j => scalesM m (ix3 p 0 j)) (lenA m (ix1 p)).toNat

/-- The place in the order of page `k` of group `i`. -/
def place (i : Fin 512) (k : Fin 4) : Fin 2048 := ⟨4 * i.val + k.val, by have := i.isLt; have := k.isLt; omega⟩

theorem ordAt_place (i : grid0.Coords) (k : Fin 4) : (ordAt (ordT m) i k).toNat = (pageAt m (place (i 0) k)).val := ordT_toNat (m := m) (place (i 0) k)

theorem group_word (i : grid0.Coords) (k k' : Fin 4) : (ordAt (ordT m) i k').toNat = (pageAt m (place (i 0) k)).val ↔ k' = k := by
  rw [ordAt_place]
  constructor
  · intro h
    have := congrArg Fin.val ((perm_bij _).1 (Fin.ext h) : place (i 0) k' = place (i 0) k)
    exact Fin.ext (by simpa [place] using this)
  · rintro rfl; rfl

variable {m}

/-- The pages of a group are covered by the group's number of chunks. -/
theorem InRange.cover (h : InRange m) (i : Fin 512) (k : Fin 4) :
    (lenA m (ix1 (pageAt m (place i k)))).toNat ≤ 128 * (cntT m (ix1 i)).toNat := by
  rw [h.cnt i]
  have hs := perm_sorted (chunksOf (lenA m)) (fun j => by rw [h.chunks_toNat]; have := (chunkN_le (h.len j).1 (h.len j).2).2; omega) (place i 0) (place i k)
    (Fin.le_def.mpr (by simp [place]))
  rw [h.chunks_toNat, h.chunks_toNat] at hs
  have hs' : chunkN (lenA m (ix1 (pageAt m (place i k)))).toNat ≤ chunkN (lenA m (ix1 (pageAt m ⟨4 * i.val, by have := i.isLt; omega⟩))).toNat := hs
  refine le_trans ?_ (Nat.mul_le_mul_left 128 hs')
  unfold chunkN
  omega

/-- A group's pages get their scores, in the rows that are run. -/
theorem outM_hit (h : InRange m) (i : grid0.Coords) (W S Y) (k : Fin 4) (r : Fin 3072) (hr : r.val / 256 < (nrT m (ix1 0)).toNat) :
    outM m i W S Y (cell (pageAt m (place (i 0) k)) r) = scoreM m (pageAt m (place (i 0) k)) r := by
  have hw : ∀ k', (ordAt (ordT m) i k').toNat = (pageAt m (place (i 0) k')).val := ordAt_place m i
  have hlen : ∀ k', lens i (ordT m) (lenT m) k' = lenA m (ix1 (pageAt m (place (i 0) k'))) := fun k' => by
    rw [lenT_eq]
    refine congrArg (fun x => lenA m (ix1 x)) (Fin.ext ?_)
    show (ordAt (ordT m) i k').toNat % 2048 = _
    rw [hw, Nat.mod_eq_of_lt (pageAt m _).isLt]
  unfold outM finalOut
  rw [loopOut_hit _ _ _ _ _ _ _ _ k (group_word m i k), if_pos hr]
  refine (group_score (Pm m i) (Sm m i) (lens i (ordT m) (lenT m)) (fun k' => by rw [hlen]; exact (h.len _).2) _ W S (cntAt (cntT m) i).toNat (h.good.cnt1 _) (h.good.cnt6 _) k
      (by rw [hlen]; exact h.cover (i 0) k) (inBlock r)).trans ?_
  unfold scoreM
  have eq : (fun d => rowsAt (Qm m) (r.val / 256) (ix2 (inBlock r) d)) = fun d => Qm m (ix2 r d) := funext fun d => rowsAt_row _ r d
  have ep : (fun d j => Pm m i k (ix3 0 d j)) = fun d j => pagesM m (ix3 (pageAt m (place (i 0) k)) d j) := funext fun d => funext fun j => pageP_at _ _ _ (hw k) d j
  have es : (fun j => Sm m i k (ix3 0 0 j)) = fun j => scalesM m (ix3 (pageAt m (place (i 0) k)) 0 j) := funext fun j => pageS_at _ _ _ (hw k) j
  rw [hlen, eq, ep, es]

/-- The other pages' cells stay. -/
theorem outM_miss (i : grid0.Coords) (W S Y) (j : Fin 2048) (hj : j.val / 4 ≠ (i 0).val) (r : Fin 3072) :
    outM m i W S Y (cell (pageAt m j) r) = Y (cell (pageAt m j) r) := by
  unfold outM finalOut
  refine loopOut_miss _ _ _ _ _ _ _ _ (fun k' hk => hj ?_) _
  rw [ordAt_place] at hk
  have := congrArg Fin.val ((perm_bij _).1 (Fin.ext hk) : place (i 0) k' = j)
  have hk' := k'.isLt
  have : 4 * (i 0).val + k'.val = j.val := this
  omega

end

end Cert.KernelIdeal.Body
-- ==== Proof.KI.Value.lean ====
/- The result of the whole run: every page's score in every row that is run. -/
module
public import proofs.«01_k».proof.Proof.KI.Out
public import Idealize.ShloMosaic.Lib.Pipeline.ArrRel

@[expose] public section
set_option maxRecDepth 16384
noncomputable section

namespace Cert.KernelIdeal.Body
open Cert.KernelIdeal Cert.KernelIdeal.Gen
open Idealize.ShloMosaic Idealize.ShloMosaic.TcCoe Idealize.SL.Sem
open Idealize.ShloMosaic.Pipeline (RDat)

variable {m : (ℓ : Loc nD τ sig) → Buf (Elt Ideal) ℓ} (h : InRange m)

theorem index9 (t t' : Fin grid0.N) : ((cfgM m h.good).win (9 : Fin 10)).index t = ((cfgM m h.good).win (9 : Fin 10)).index t' := rfl

/-- The result is written back after the last grid point only. -/
theorem flush9 (t : Fin grid0.N) : ((cfgM m h.good).win (9 : Fin 10)).flush t = true ↔ t.val + 1 = 512 := by
  unfold Pipeline.Window.flush
  have hn : ¬ ∃ h' : t.val + 1 < grid0.N, ((cfgM m h.good).win (9 : Fin 10)).index ⟨t.val + 1, h'⟩ ≠ ((cfgM m h.good).win (9 : Fin 10)).index t :=
    fun ⟨_, hx⟩ => hx (index9 h _ _)
  rw [decide_eq_false hn, Bool.or_false]
  show (true && decide (t.val + 1 = grid0.N)) = true ↔ _
  rw [Bool.true_and, decide_eq_true_iff]
  exact Iff.rfl

theorem fetch9 (t : Fin grid0.N) : ((cfgM m h.good).win (9 : Fin 10)).fetch t = false := rfl

theorem coords0 (t : Fin grid0.N) : (grid0.coords t 0).val = t.val := by
  have := Pipeline.Grid.coords_val (G := grid0) t 0 (S := 1) (B := 512) (by decide) rfl
  have ht : t.val < 512 := t.isLt
  omega

/-- After grid point `t` the pages at the first `4 t + 4` places of the order have their scores. -/
theorem leaves9 (c : Dev nD) (n : ℕ) : ∀ (t : Fin grid0.N), t.val = n → ∀ X : S16x3072x128.Idx → EReal, (rdat m h.good c).Leaves (9 : Fin 10) t X →
    ∀ (j : Fin 2048), j.val / 4 ≤ n → ∀ r : Fin 3072, r.val / 256 < (nrT m (ix1 0)).toNat → X (cell (pageAt m j) r) = scoreM m (pageAt m j) r := by
  induction n with
  | zero =>
    intro t ht X hX j hj r hr
    obtain ⟨Y, hY, W, S, rfl⟩ := hX
    have hi := coords0 t
    have e : j = place (grid0.coords t 0) ⟨j.val % 4, Nat.mod_lt _ (by decide)⟩ := Fin.ext (by show j.val = 4 * (grid0.coords t 0).val + j.val % 4; omega)
    rw [e]
    exact outM_hit h _ W S Y _ r hr
  | succ n ih =>
    intro t ht X hX j hj r hr
    obtain ⟨Y, hY, W, S, rfl⟩ := hX
    have hi := coords0 t
    by_cases hjt : j.val / 4 = n + 1
    · have e : j = place (grid0.coords t 0) ⟨j.val % 4, Nat.mod_lt _ (by decide)⟩ := Fin.ext (by show j.val = 4 * (grid0.coords t 0).val + j.val % 4; omega)
      rw [e]
      exact outM_hit h _ W S Y _ r hr
    · refine (outM_miss _ W S Y j (by omega) r).trans ?_
      have ht' : t.val < 512 := t.isLt
      rcases (RDat.finds_of_pos (rdat m h.good c) (w := (9 : Fin 10)) (t := t) (fetch9 h t) (by omega) Y).mp hY with hf | hl
      · have := (flush9 h _).mp hf
        have : t.val - 1 + 1 = 512 := this
        omega
      · exact ih ⟨t.val - 1, by have : grid0.N = 512 := rfl; omega⟩ (by show t.val - 1 = n; omega) Y hl j (by omega) r hr

/-- The last grid point. -/
def lastT : Fin grid0.N := ⟨511, by decide⟩

theorem whole9 : ((cfgM m h.good).win (9 : Fin 10)).WholeAt lastT := by
  refine ⟨(flush9 h _).mpr rfl, fun t ht => Fin.ext ?_, fun a => ?_⟩
  · have := (flush9 h t).mp ht
    have e : lastT.val = 511 := rfl
    omega
  · match a with
    | ⟨0, _⟩ => exact ⟨rfl, rfl⟩
    | ⟨1, _⟩ => exact ⟨rfl, rfl⟩
    | ⟨2, _⟩ => exact ⟨rfl, rfl⟩

include h in
/-- The result's array after the last grid point. -/
theorem arr9 (c : Dev nD) (G : S16x3072x128.Idx → EReal) (hA : (rdat m h.good c).ArrAt (9 : Fin 10) grid0.N G)
    (p : Fin 2048) (x : Fin 3072) (hx : x.val / 256 < (nrT m (ix1 0)).toNat) : G (cell p x) = scoreM m p x := by
  obtain ⟨X, hX, hG⟩ := RDat.ArrAt.emb_eq_of_wholeAt (rd := rdat m h.good c) hA (whole9 h)
  obtain ⟨j, hj⟩ := (perm_bij (chunksOf (lenA m))).2 p
  have e := leaves9 h c 511 lastT rfl X hX j (by have := j.isLt; omega) x hx
  have hp : pageAt m j = p := hj
  rw [hp] at e
  exact (hG (cell p x)).trans e

include h in
/-- Every run leaves the scores of all pages in the rows that are run, and the arguments as they were. -/
theorem value (g : Dev nD → PrngReg) :
    θ_run (defs (F := Ideal)) (onTc (τ := τ) (main (F := Ideal))) ⟨m, fun _ => 0, g⟩ (fun r => ∀ c : Dev nD,
      (∀ (p : Fin 2048) (x : Fin 3072), x.val / 256 < (nrT m (ix1 0)).toNat → r.2.mem ((c.tc : Thread nD τ).loc main_v21) (cell p x) = scoreM m p x)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r hr c => ⟨fun p x hx => arr9 h c _ ((hr.1 c).1 (9 : Fin 10)) p x hx, ?_⟩) (run_main m h.good g)
  have h1 := hr.1
  exact ⟨(RDat.FramePost.arr_in h1 c (0 : Fin 10) rfl).trans (V_arg0 m c), (RDat.FramePost.arr_in h1 c (1 : Fin 10) rfl).trans (V_arg1 m c),
    ((h1 c).2 main_arg2 (Pipeline.mem_restRefs_of main_arg2 (by decide) arr_ne2)).trans (V_arg2 m c),
    ((h1 c).2 main_arg3 (Pipeline.mem_restRefs_of main_arg3 (by decide) arr_ne3)).trans (V_arg3 m c),
    ((h1 c).2 main_arg4 (Pipeline.mem_restRefs_of main_arg4 (by decide) arr_ne4)).trans (V_arg4 m c)⟩

end Cert.KernelIdeal.Body
-- ==== Proof.Ref.lean ====
/- The reference read at one element: the maximum over a page's patches of the product with the patch's codes, times its scale. -/
module
public import proofs.«01_k».proof.Proof.Gen.ReferenceIdeal.Run
public import proofs.«01_k».proof.Proof.KI.Out

@[expose] public section
set_option maxRecDepth 16384
noncomputable section

namespace Cert.ReferenceIdeal.Read
open Cert.ReferenceIdeal Cert.ReferenceIdeal.Gen
open Idealize.ShloMosaic Idealize.ShloMosaic.TcCoe Idealize.ShloMosaic.Tactic Idealize.SL.Sem
open Cert.KernelIdeal.Body (nib eff term best768)

/-- Which patches lie before the page's end. -/
def validV (l : S2048.Idx → BitVec 32) : IVec S2048x768 1 :=
  cmpi .slt (broadcastInDim S2048x768 ![0, 1] bcast_S1x768_S2048x768_0_1 (broadcastInDim S1x768 ![1] bcast_S768_S1x768_1 (iotaInDim S768 32 0)))
    (broadcastInDim S2048x768 ![0, 1] bcast_S2048x1_S2048x768_0_1 (broadcastInDim S2048x1 ![0] bcast_S2048_S2048x1_0 l))

/-- The patches' packed codes, patch 0 in place of what lies beyond the end. -/
def packedV (a : S2048x64x768.Idx → BitVec 8) (l : S2048.Idx → BitVec 32) : S2048x64x768.Idx → BitVec 8 :=
  select (broadcastInDim S2048x64x768 ![0, 1, 2] bcast_S2048x1x768_S2048x64x768_0_1_2 (broadcastInDim S2048x1x768 ![0, 2] bcast_S2048x768_S2048x1x768_0_2 (validV l)))
    a (broadcastInDim S2048x64x768 ![0, 1, 2] bcast_S2048x64x1_S2048x64x768_0_1_2 (extractStridedSlice S2048x64x1 ![0, 0, 0] a slices_S2048x64x768_S2048x64x1_0_0_0))

/-- The patches' scales, likewise. -/
def scaleV (s : S2048x768.Idx → EReal) (l : S2048.Idx → BitVec 32) : S2048x768.Idx → EReal :=
  select (validV l) s (broadcastInDim S2048x768 ![0, 1] bcast_S2048x1_S2048x768_0_1 (extractStridedSlice S2048x1 ![0, 0] s slices_S2048x768_S2048x1_0_0))

/-- The two codes of every byte, as integers. -/
def nibV (b : S2048x64x768.Idx → BitVec 8) : IVec S2048x2x64x768 32 :=
  subi (xori (andi (Host.shrsi (broadcastInDim S2048x2x64x768 ![0, 1, 2, 3] bcast_S2048x1x64x768_S2048x2x64x768_0_1_2_3 (broadcastInDim S2048x1x64x768 ![0, 2, 3] bcast_S2048x64x768_S2048x1x64x768_0_2_3 (extui 32 b natLt_8_32)))
      (broadcastInDim S2048x2x64x768 ![0, 1, 2, 3] bcast_S1x2x1x1_S2048x2x64x768_0_1_2_3 (broadcastInDim S1x2x1x1 ![1] bcast_S2_S1x2x1x1_1 (muli (broadcastInDim S2 ![] bcast_S_S2 (constantI S_ 32 4#32)) (iotaInDim S2 32 0)))))
    (broadcastInDim S2048x2x64x768 ![] bcast_S_S2048x2x64x768 (constantI S_ 32 15#32))) (broadcastInDim S2048x2x64x768 ![] bcast_S_S2048x2x64x768 (constantI S_ 32 8#32)))
    (broadcastInDim S2048x2x64x768 ![] bcast_S_S2048x2x64x768 (constantI S_ 32 8#32))

/-- The codes of the pages. -/
def codeV (b : S2048x64x768.Idx → BitVec 8) : FVec Ideal S2048x128x768 .bf16 :=
  shapeCast _ (sitofp (F := Ideal) .bf16 (nibV b)) shapeCasts_S2048x2x64x768_S2048x128x768

/-- The products' scores. -/
def scoreV (q : FVec Ideal S3072x128 .bf16) (c : FVec Ideal S2048x128x768 .bf16) (s : FVec Ideal S2048x768 .f32) : FVec Ideal S3072x2048x768 .f32 :=
  mulf (Host.dotGeneral dot_S3072x128_S2048x128x768_S3072x2048x768_1_1_0_02_n_n none (mulf q (broadcastInDim S3072x128 ![] bcast_S_S3072x128 (constant S_ .bf16 0x4180#16))) c)
    (broadcastInDim S3072x2048x768 ![0, 1, 2] bcast_S1x2048x768_S3072x2048x768_0_1_2 (broadcastInDim S1x2048x768 ![1, 2] bcast_S2048x768_S1x2048x768_1_2 s))

theorem slt_iff (j : ℕ) (hj : j < 768) (n : BitVec 32) (hn : n.toNat ≤ 768) : IntOp.cmpi CmpIPredicate.slt (BitVec.ofNat 32 j) n = 1#1 ↔ j < n.toNat := by
  have hJ : (BitVec.ofNat 32 j).toInt = (j : ℤ) := by rw [BitVec.toInt_eq_toNat_cond, BitVec.toNat_ofNat]; omega
  have hN : n.toInt = (n.toNat : ℤ) := by rw [BitVec.toInt_eq_toNat_cond]; omega
  show BitVec.ofBool ((BitVec.ofNat 32 j).slt n) = 1#1 ↔ _
  rw [BitVec.slt, hJ, hN]
  by_cases h : j < n.toNat
  · simp [h]
  · simp [h]

theorem validV_apply (l : S2048.Idx → BitVec 32) (hl : ∀ i, (l i).toNat ≤ 768) (p : Fin 2048) (j : Fin 768) : validV l (ix2 p j) = 1#1 ↔ j.val < (l (ix1 p)).toNat := by
  pointwise [validV]
  exact slt_iff j.val j.isLt _ (hl _)

theorem packedV_apply (a : S2048x64x768.Idx → BitVec 8) (l : S2048.Idx → BitVec 32) (hl : ∀ i, (l i).toNat ≤ 768) (p : Fin 2048) (d : Fin 64) (j : Fin 768) :
    packedV a l (ix3 p d j) = a (ix3 p d (eff (l (ix1 p)).toNat j)) := by
  have hv := validV_apply l hl p j
  pointwise [packedV]
  unfold eff
  by_cases h : j.val < (l (ix1 p)).toNat
  · rw [if_pos h]; exact if_pos (hv.mpr h)
  · rw [if_neg h]; exact if_neg (fun hh => h (hv.mp hh))

theorem scaleV_apply (s : S2048x768.Idx → EReal) (l : S2048.Idx → BitVec 32) (hl : ∀ i, (l i).toNat ≤ 768) (p : Fin 2048) (j : Fin 768) :
    scaleV s l (ix2 p j) = s (ix2 p (eff (l (ix1 p)).toNat j)) := by
  have hv := validV_apply l hl p j
  pointwise [scaleV]
  unfold eff
  by_cases h : j.val < (l (ix1 p)).toNat
  · rw [if_pos h]; exact if_pos (hv.mpr h)
  · rw [if_neg h]; exact if_neg (fun hh => h (hv.mp hh))

theorem nibV_apply (b : S2048x64x768.Idx → BitVec 8) (p : Fin 2048) (h : Fin 2) (d : Fin 64) (j : Fin 768) : (nibV b (ix4 p h d j)).toInt = nib (b (ix3 p d j)) h.val := by
  pointwise [nibV]
  have hs : IntOp.shrsi ArithUnit.host (BitVec.setWidth 32 (b (ix3 p d j))) (IntOp.muli (4#32) (BitVec.ofNat 32 h.val))
      = (BitVec.setWidth 32 (b (ix3 p d j))).sshiftRight (4 * h.val) := by
    have hm : (IntOp.muli (4#32) (BitVec.ofNat 32 h.val)).toNat = 4 * h.val := by
      show (4#32 * BitVec.ofNat 32 h.val).toNat = _
      rw [BitVec.toNat_mul, BitVec.toNat_ofNat, BitVec.toNat_ofNat]; omega
    unfold IntOp.shrsi
    rw [if_pos (by omega)]
    show BitVec.sshiftRight _ (BitVec.toNat _) = _
    rw [hm]
  rw [hs]
  rfl

theorem codeV_apply (b : S2048x64x768.Idx → BitVec 8) (p : Fin 2048) (d : Fin 128) (j : Fin 768) :
    codeV b (ix3 p d j) = (((nib (b (ix3 p ⟨d.val % 64, Nat.mod_lt _ (by decide)⟩ j)) (d.val / 64) : ℤ) : ℝ) : EReal) := by
  unfold codeV
  pointwise []
  show (((nibV b (ix4 p _ _ j)).toInt : ℝ) : EReal) = _
  rw [nibV_apply]

/-- The bf16 pattern `0x4180` is the real sixteen. -/
theorem ofBits_sixteen_bf16 : Ideal.ofBits .bf16 0x4180#16 = ((16 : ℝ) : EReal) := by
  simp [Ideal.ofBits, Ideal.ieee, -EReal.coe_mul]; norm_num

theorem scoreV_apply (q : FVec Ideal S3072x128 .bf16) (c : FVec Ideal S2048x128x768 .bf16) (s : FVec Ideal S2048x768 .f32) (r : Fin 3072) (p : Fin 2048) (j : Fin 768) :
    scoreV q c s (ix3 r p j) = (∑ d : Fin 128, (q (ix2 r d) * ((16 : ℝ) : EReal)) * c (ix3 p d j)) * s (ix2 p j) := by
  pointwise [scoreV]
  rw [ofBits_sixteen_bf16]

theorem reduce_apply (x : FVec Ideal S3072x2048x768 .f32) (r : Fin 3072) (p : Fin 2048) :
    Host.reduce FloatOps.maximumf x (constant S_ .f32 0xFF800000#32) reducesTo_S3072x2048x768_S3072x2048_d2 h_S_ (ix2 r p) = Finset.univ.sup fun j : Fin 768 => x (ix3 r p j) := by
  pointwise []
  rw [Cert.KernelIdeal.Body.neg_inf]
  rfl

/-- The reference's result. -/
def refV (q : FVec Ideal S3072x128 .bf16) (a : S2048x64x768.Idx → BitVec 8) (s : S2048x768.Idx → EReal) (l : S2048.Idx → BitVec 32) : FVec Ideal S16x3072x128 .f32 :=
  transpose S16x3072x128 [1, 0, 2] (shapeCast S3072x16x128 (Host.reduce FloatOps.maximumf (scoreV q (codeV (packedV a l)) (scaleV s l)) (constant (F := Ideal) S_ .f32 0xFF800000#32) reducesTo_S3072x2048x768_S3072x2048_d2 h_S_)
    shapeCasts_S3072x2048_S3072x16x128) transposes_S3072x16x128_S16x3072x128_1_0_2

theorem layout_apply {α : Type} (x : S3072x2048.Idx → α) (p : Fin 2048) (r : Fin 3072) :
    transpose S16x3072x128 [1, 0, 2] (shapeCast S3072x16x128 x shapeCasts_S3072x2048_S3072x16x128) transposes_S3072x16x128_S16x3072x128_1_0_2 (Cert.KernelIdeal.Body.cell p r) = x (ix2 r p) := by
  unfold Cert.KernelIdeal.Body.cell
  pointwise []

/-- The reference's result at page `128 y0 + y2` and row `r`. -/
theorem refV_apply (q : FVec Ideal S3072x128 .bf16) (a : S2048x64x768.Idx → BitVec 8) (s : S2048x768.Idx → EReal) (l : S2048.Idx → BitVec 32) (hl : ∀ i, (l i).toNat ≤ 768)
    (p : Fin 2048) (r : Fin 3072) :
    refV q a s l (Cert.KernelIdeal.Body.cell p r) = best768 (fun d => q (ix2 r d)) (fun d j => a (ix3 p d j)) (fun j => s (ix2 p j)) (l (ix1 p)).toNat := by
  refine (layout_apply _ p r).trans ?_
  rw [reduce_apply]
  unfold best768
  refine Finset.sup_congr rfl fun j _ => ?_
  rw [scoreV_apply, scaleV_apply s l hl]
  unfold term
  congr 1
  refine Finset.sum_congr rfl fun d _ => ?_
  rw [codeV_apply, packedV_apply a l hl, mul_assoc, ← EReal.coe_mul]
  push_cast
  rfl

/-- What the printed reference leaves in its result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = refV (m ((c.tc : Thread nD τ).loc main_arg0)) (m ((c.tc : Thread nD τ).loc main_arg1)) (m ((c.tc : Thread nD τ).loc main_arg2)) (m ((c.tc : Thread nD τ).loc main_arg3)) :=
  (θ_run defs _ _).mono (fun r h c => (h c).1) (Cert.ReferenceIdeal.Value.run m ρ)

end Cert.ReferenceIdeal.Read
-- ==== Proof.Mask.lean ====
/- The mask: the rows which hold a query vector. -/
module
public import proofs.«01_k».proof.On_packed_rows
public import proofs.«01_k».proof.Proof.KI.Value
public import proofs.«01_k».proof.Proof.Ref

@[expose] public section
set_option maxRecDepth 16384
noncomputable section

namespace Cert.On_packed_rows

open Idealize.ShloMosaic Idealize.SL.Sem

/-- The function's facts. -/
instance facts : Cert.On_packed_rows.Facts where
  reducesTo_S96_S_d0 := by decide
  h_S_ := by decide
  bcast_S_S16x3072x128 := by decide

/-- The mask is set only at rows below the sum of the queries' lengths. -/
theorem row_lt (a0 : FVec Ideal S3072x128 .bf16) (a1 a2 a3) (q : S96.Idx → BitVec 32) (hq : ∀ j, (q j).toNat ≤ 32) (p : Fin 2048) (r : Fin 3072)
    (h : fn (F := Ideal) a0 a1 a2 a3 q (Cert.KernelIdeal.Body.cell p r) = 1#1) : r.val < Cert.KernelIdeal.Body.total q := by
  have ht := Cert.KernelIdeal.Body.total_le q hq
  have e : fn (F := Ideal) a0 a1 a2 a3 q (Cert.KernelIdeal.Body.cell p r) = IntOp.cmpi .slt (BitVec.ofNat 32 r.val) (BitVec.ofNat 32 (Cert.KernelIdeal.Body.total q)) :=
    congrArg (IntOp.cmpi .slt (BitVec.ofNat 32 r.val)) ((congrArg (Host.reduce IntOp.addi q (constantI S_ 32 0#32) Facts.reducesTo_S96_S_d0 Facts.h_S_) (funext fun a => a.elim0)).trans
      (Cert.KernelIdeal.Body.sum_eq q _ _))
  rw [e] at h
  have hr := r.isLt
  have h1 : (BitVec.ofNat 32 r.val).toInt = (r.val : ℤ) := by rw [BitVec.toInt_eq_toNat_cond, BitVec.toNat_ofNat]; omega
  have h2 : (BitVec.ofNat 32 (Cert.KernelIdeal.Body.total q)).toInt = (Cert.KernelIdeal.Body.total q : ℤ) := by rw [BitVec.toInt_eq_toNat_cond, BitVec.toNat_ofNat]; omega
  have h' : BitVec.ofBool ((BitVec.ofNat 32 r.val).slt (BitVec.ofNat 32 (Cert.KernelIdeal.Body.total q))) = 1#1 := h
  rw [BitVec.slt, h1, h2] at h'
  by_contra hn
  rw [decide_eq_false (by omega)] at h'
  exact absurd h' (by decide)

end Cert.On_packed_rows

namespace Cert.KernelIdeal.Body
open Cert.KernelIdeal Cert.KernelIdeal.Gen
open Idealize.ShloMosaic Idealize.ShloMosaic.TcCoe Idealize.ShloMosaic.Tactic Idealize.SL.Sem

/-- Every index of the result is a page's cell. -/
theorem exists_cell (y : S16x3072x128.Idx) : ∃ p r, y = cell p r := by
  idx_vars y
  have h2 := y2.isLt
  have h0 := y0.isLt
  refine ⟨⟨128 * y0.val + y2.val, by omega⟩, y1, ?_⟩
  funext a
  apply Fin.ext
  match a with
  | ⟨0, _⟩ => show y0.val = (128 * y0.val + y2.val) / 128; omega
  | ⟨1, _⟩ => rfl
  | ⟨2, _⟩ => show y2.val = (128 * y0.val + y2.val) % 128; omega

variable (m : (ℓ : Loc nD τ sig) → Buf (Elt Ideal) ℓ)

/-- The scales as a column of pages. -/
theorem scalesM_apply (p : Fin 2048) (j : Fin 768) : scalesM m (ix3 p 0 j) = m ((0 : Dev nD), (main_arg2 : DevRef τ sig)) (ix2 p j) := by
  show V m 0 main_v20 (ix3 p 0 j) = _
  rw [scales_eq]
  generalize (m ((0 : Dev nD), (main_arg2 : DevRef τ sig)) : S2048x768.Idx → Elt Ideal .f32) = x
  pointwise []

/-- A page's score in the reference. -/
theorem ref_score (hl : ∀ i, (lenA m i).toNat ≤ 768) (p : Fin 2048) (r : Fin 3072) :
    Cert.ReferenceIdeal.Read.refV (m ((0 : Dev nD), (main_arg0 : DevRef τ sig))) (m ((0 : Dev nD), (main_arg1 : DevRef τ sig))) (m ((0 : Dev nD), (main_arg2 : DevRef τ sig))) (m ((0 : Dev nD), (main_arg3 : DevRef τ sig))) (cell p r)
      = scoreM m p r := by
  refine (Cert.ReferenceIdeal.Read.refV_apply _ _ _ _ hl p r).trans ?_
  unfold scoreM
  have e0 : Qm m = m ((0 : Dev nD), (main_arg0 : DevRef τ sig)) := V_arg0 m 0
  have e1 : pagesM m = m ((0 : Dev nD), (main_arg1 : DevRef τ sig)) := V_arg1 m 0
  have e2 : (fun j => scalesM m (ix3 p 0 j)) = fun j => m ((0 : Dev nD), (main_arg2 : DevRef τ sig)) (ix2 p j) := funext fun j => scalesM_apply m p j
  rw [e0, e1, e2]

end Cert.KernelIdeal.Body
-- ==== Proof.P.Run.lean ====
/- The projection's body: what it leaves in the results' buffers, from the inputs' blocks. -/
module
public import proofs.«01_k».proof.Proof.Gen.ProjectIdeal.Launch
public import proofs.«01_k».proof.Proof.Gen.ProjectIdeal.Skeleton
public import Idealize.ShloMosaic.Lib.Pipeline.Frame
public import Idealize.ShloMosaic.Lib.Pipeline.FrameBody
public import Idealize.ShloMosaic.Lib.Pipeline.Value
public import Idealize.ShloMosaic.Lib.Tactic

@[expose] public section
set_option maxRecDepth 16384
noncomputable section

namespace Cert.ProjectIdeal.Hand
open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

abbrev rX : Rect S256x3584 := Rect.unit (s := S256x3584) ![0, 0] S256x3584.size inb_S256x3584_S256x3584_0_0
abbrev rG : Rect S1x3584 := Rect.unit (s := S1x3584) ![0, 0] S1x3584.size inb_S1x3584_S1x3584_0_0
abbrev rW : Rect S3584x128 := Rect.unit (s := S3584x128) ![0, 0] S3584x128.size inb_S3584x128_S3584x128_0_0
abbrev rB : Rect S1x128 := Rect.unit (s := S1x128) ![0, 0] S1x128.size inb_S1x128_S1x128_0_0
abbrev rS : Rect S256x1 := Rect.unit (s := S256x1) ![0, 0] S256x1.size inb_S256x1_S256x1_0_0
abbrev rY : Rect S256x128 := Rect.unit (s := S256x128) ![0, 0] S256x128.size inb_S256x128_S256x128_0_0

theorem z2 : (![0, 0] : Fin 2 → ℕ) = fun _ => 0 := by decide

/-- One value of the projection applied to the loaded blocks. -/
abbrev atB {α : Type} (f : FVec F S256x1 .f32 → FVec F S256x3584 .f32 → Vec F S3584x128 .i8 → Vec F S1x128 .f32 → Vec F S1x128 .f32 → α) (x0 : Vec F S256x3584 .bf16) (x1 : Vec F S1x3584 .f32) (x2 : Vec F S3584x128 .i8) (x3 : Vec F S1x128 .f32) (x4 : Vec F S1x128 .f32) : α :=
  f (k0_pay4 x0 x1) (k0_pay5 x0 x1) x2 x3 x4

/-- The codes of the rows, -/
def outXc (x0 : Vec F S256x3584 .bf16) (x1 : Vec F S1x3584 .f32) (x2 : Vec F S3584x128 .i8) (x3 : Vec F S1x128 .f32) (x4 : Vec F S1x128 .f32) : Vec F S256x3584 .i8 := k0_pay6 x0 x1
/-- their scales, -/
def outXs (x0 : Vec F S256x3584 .bf16) (x1 : Vec F S1x3584 .f32) (x2 : Vec F S3584x128 .i8) (x3 : Vec F S1x128 .f32) (x4 : Vec F S1x128 .f32) : Vec F S256x1 .f32 := k0_pay4 x0 x1
/-- their projections, -/
def outY (x0 : Vec F S256x3584 .bf16) (x1 : Vec F S1x3584 .f32) (x2 : Vec F S3584x128 .i8) (x3 : Vec F S1x128 .f32) (x4 : Vec F S1x128 .f32) : Vec F S256x128 .f32 := atB k0_pay7 x0 x1 x2 x3 x4
/-- the projections at length one, -/
def outE (x0 : Vec F S256x3584 .bf16) (x1 : Vec F S1x3584 .f32) (x2 : Vec F S3584x128 .i8) (x3 : Vec F S1x128 .f32) (x4 : Vec F S1x128 .f32) : Vec F S256x128 .f32 := atB k0_pay8 x0 x1 x2 x3 x4
/-- the codes of these -/
def outQc (x0 : Vec F S256x3584 .bf16) (x1 : Vec F S1x3584 .f32) (x2 : Vec F S3584x128 .i8) (x3 : Vec F S1x128 .f32) (x4 : Vec F S1x128 .f32) : Vec F S256x128 .i8 := atB k0_pay11 x0 x1 x2 x3 x4
/-- and their scales. -/
def outQs (x0 : Vec F S256x3584 .bf16) (x1 : Vec F S1x3584 .f32) (x2 : Vec F S3584x128 .i8) (x3 : Vec F S1x128 .f32) (x4 : Vec F S1x128 .f32) : Vec F S256x1 .f32 := atB k0_pay9 x0 x1 x2 x3 x4

/-- A buffer written over whole holds what was written. -/
theorem whole_store {sp : Space} {S : Shape} {e : EltTy} (v : View sig .tc sp S e) (f) (off : Fin S.rank → ℕ) (h : off = fun _ => 0) (inb) (p : Vec F S e) :
    v.read (Elt F) (v.writes (Elt F) f [⟨Rect.unit (s := S) off S.size inb, p⟩]) = p := by
  have hc : ∀ y : S.Idx, ∃ q ∈ [(⟨Rect.unit (s := S) off S.size inb, p⟩ : View.Piece (Elt F) S e)], y ∈ q.1.set :=
    fun y => ⟨_, List.mem_singleton_self _, View.mem_set_unit_zero h inb y⟩
  exact (View.read_writes_eq_canon _ _ _ hc).trans (View.canon_unit_zero h inb p)

/-- Loading whole buffers reads what they hold. -/
theorem loads {α : Type} (f : Vec F S256x3584 .bf16 → Vec F S1x3584 .f32 → Vec F S3584x128 .i8 → Vec F S1x128 .f32 → Vec F S1x128 .f32 → α)
    (x0 : Vec F S256x3584 .bf16) (x1 : Vec F S1x3584 .f32) (x2 : Vec F S3584x128 .i8) (x3 : Vec F S1x128 .f32) (x4 : Vec F S1x128 .f32) :
    f (View.ld x0 rX) (View.ld x1 rG) (View.ld x2 rW) (View.ld x3 rB) (View.ld x4 rB) = f x0 x1 x2 x3 x4 := by
  rw [View.ld_unit_zero z2 _ x0, View.ld_unit_zero z2 _ x1, View.ld_unit_zero z2 _ x2, View.ld_unit_zero z2 _ x3, View.ld_unit_zero z2 _ x4]

theorem word_le (v : View sig .tc .smem S96 .i32) (f) (h : ∀ j, (v.read (Elt F) f j : BitVec 32).toNat ≤ 3040) (r : LoadRect S96) (y) :
    (v.readAt (Elt F) r f y : BitVec 32).toNat ≤ 3040 := h _

theorem off_in (n : ℕ) (h : n ≤ 3040) : ∀ a, (![n, 0] : Fin 2 → ℕ) a + S32x128.size a ≤ S3072x128.size a := fun a => by
  match a with
  | ⟨0, _⟩ => show n + 32 ≤ 3072; omega
  | ⟨1, _⟩ => show 0 + 128 ≤ 128; omega

set_option maxHeartbeats 4000000 in
/-- The body on whole buffers: the inputs stay, each result becomes its value of the inputs' blocks. -/
theorem kernelRun (c : Dev nD) (E : Set ℕ) (i : grid0.Coords) (arg1 : Memref sig .tc .smem S96 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x128 .i8) (harg4 : arg4.IsWhole) (arg5 : Memref sig .tc .vmem S1x128 .f32) (harg5 : arg5.IsWhole) (arg6 : Memref sig .tc .vmem S1x128 .f32) (harg6 : arg6.IsWhole) (arg7 : Memref sig .tc .vmem S256x3584 .i8) (harg7 : arg7.IsWhole) (arg8 : Memref sig .tc .vmem S256x1 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .i8) (harg11 : arg11.IsWhole) (arg12 : Memref sig .tc .vmem S256x1 .f32) (harg12 : arg12.IsWhole) (arg13 : Memref sig .tc .vmem S3072x128 .bf16) (harg13 : arg13.IsWhole) (arg14 : Memref sig .tc .vmem S3072x128 .f32) (harg14 : arg14.IsWhole)
    (q : PosShare TreeShare) (tb : S96.Idx → BitVec 32) (htb : ∀ j, (tb j).toNat ≤ 3040) (x0 : Vec F S256x3584 .bf16) (x1 : Vec F S1x3584 .f32) (x2 : Vec F S3584x128 .i8) (x3 : Vec F S1x128 .f32) (x4 : Vec F S1x128 .f32) (K : PUnit → sProp 𝕄) :
    iprop(owns (c : Thread nD τ) arg1 q tb ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 q tb ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outXc x0 x1 x2 x3 x4) ∗ owns (c : Thread nD τ) arg8 fullShare (outXs x0 x1 x2 x3 x4) ∗ owns (c : Thread nD τ) arg9 fullShare (outY x0 x1 x2 x3 x4) ∗ owns (c : Thread nD τ) arg10 fullShare (outE x0 x1 x2 x3 x4) ∗ owns (c : Thread nD τ) arg11 fullShare (outQc x0 x1 x2 x3 x4) ∗ owns (c : Thread nD τ) arg12 fullShare (outQs x0 x1 x2 x3 x4) ∗ (∃ d, owns (c : Thread nD τ) arg13 fullShare d) ∗ (∃ d, owns (c : Thread nD τ) arg14 fullShare d)) -∗ K ⟨⟩))
      ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_project_eq_skeleton]; unfold cc0_project_skel
  simp only [k0_part1_eq_skeleton, k0_part2_eq_skeleton, k0_part3_eq_skeleton, k0_part4_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hft hf0 hf1 hf2 hf3 hf4
  sl_exec (disch := exact off_in _ (word_le _ _ htb _ _))
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (whole_store arg7.view _ _ z2 _ _).trans ?_
    exact loads outXc (arg2.view.read (Elt F) f0) (arg3.view.read (Elt F) f1) (arg4.view.read (Elt F) f2) (arg5.view.read (Elt F) f3) (arg6.view.read (Elt F) f4)
  isplitl [H8]
  · iexists _; isplitr
    swap; · iexact H8
    ipureintro
    refine (whole_store arg8.view _ _ z2 _ _).trans ?_
    exact loads outXs (arg2.view.read (Elt F) f0) (arg3.view.read (Elt F) f1) (arg4.view.read (Elt F) f2) (arg5.view.read (Elt F) f3) (arg6.view.read (Elt F) f4)
  isplitl [H9]
  · iexists _; isplitr
    swap; · iexact H9
    ipureintro
    refine (whole_store arg9.view _ _ z2 _ _).trans ?_
    exact loads outY (arg2.view.read (Elt F) f0) (arg3.view.read (Elt F) f1) (arg4.view.read (Elt F) f2) (arg5.view.read (Elt F) f3) (arg6.view.read (Elt F) f4)
  isplitl [H10]
  · iexists _; isplitr
    swap; · iexact H10
    ipureintro
    refine (whole_store arg10.view _ _ z2 _ _).trans ?_
    exact loads outE (arg2.view.read (Elt F) f0) (arg3.view.read (Elt F) f1) (arg4.view.read (Elt F) f2) (arg5.view.read (Elt F) f3) (arg6.view.read (Elt F) f4)
  isplitl [H11]
  · iexists _; isplitr
    swap; · iexact H11
    ipureintro
    refine (whole_store arg11.view _ _ z2 _ _).trans ?_
    exact loads outQc (arg2.view.read (Elt F) f0) (arg3.view.read (Elt F) f1) (arg4.view.read (Elt F) f2) (arg5.view.read (Elt F) f3) (arg6.view.read (Elt F) f4)
  isplitl [H12]
  · iexists _; isplitr
    swap; · iexact H12
    ipureintro
    refine (whole_store arg12.view _ _ z2 _ _).trans ?_
    exact loads outQs (arg2.view.read (Elt F) f0) (arg3.view.read (Elt F) f1) (arg4.view.read (Elt F) f2) (arg5.view.read (Elt F) f3) (arg6.view.read (Elt F) f4)
  isplitl [H13]
  · iexists _, _; isplitr; swap; · iexact H13
    ipureintro; rfl
  iexists _, _; isplitr; swap; · iexact H14
  ipureintro; rfl

end Cert.ProjectIdeal.Hand
-- ==== Proof.P.Frame.lean ====
/- The run of the whole projection call: every window's array at the end, and the arguments kept. -/
module
public import proofs.«01_k».proof.Proof.P.Run

@[expose] public section
set_option maxRecDepth 16384
noncomputable section

namespace Cert.ProjectIdeal.Hand
open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]
local notation "𝕄" => MT nD τ sig Unit (Elt F) ℕ (UR sig nD τ) ℕ

variable (m : (ℓ : Loc nD τ sig) → Buf (Elt F) ℓ) (ρ : Dev nD → PrngReg)

/-! ## The memory at the call, and the table of offsets -/

/-- The memory when the call starts: no host operation precedes it. -/
def V (c : Dev nD) (b : Ref sig .tc) : Buf (Elt F) ((c.tc : Thread nD τ).loc b) := m ((c.tc : Thread nD τ).loc b)

/-- The table of offsets. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl

/-- The windows' places do not depend on the table, so every table will do. -/
def adm (_ : Fin 1) : (pcfg0 (F := F)).Adm := ⟨tbl m, trivial⟩
/-- The call with its table. -/
abbrev cfgM : Pipeline.Cfg sig Λ₀ := Pipeline.pin (pcfgs (F := F)) (adm m) 0

/-- What window `w` reads of its array at grid point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Nothing is said of the packed rows. -/
def forgets0 : Fin 12 → Bool := fun w => w == 11

/-- The data of the run: inputs stay, outputs get the body's values of the inputs' blocks. -/
def dats (_ : Fin 1) (c : Dev nD) : Dat τ (Elt F) Unit ℕ (UR sig nD τ) ℕ (cfgM m) c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => outXc (iblk m c 0 t) (iblk m c 1 t) (iblk m c 2 t) (iblk m c 3 t) (iblk m c 4 t)
    | 6 => fun t => outXs (iblk m c 0 t) (iblk m c 1 t) (iblk m c 2 t) (iblk m c 3 t) (iblk m c 4 t)
    | 7 => fun t => outY (iblk m c 0 t) (iblk m c 1 t) (iblk m c 2 t) (iblk m c 3 t) (iblk m c 4 t)
    | 8 => fun t => outE (iblk m c 0 t) (iblk m c 1 t) (iblk m c 2 t) (iblk m c 3 t) (iblk m c 4 t)
    | 9 => fun t => outQc (iblk m c 0 t) (iblk m c 1 t) (iblk m c 2 t) (iblk m c 3 t) (iblk m c 4 t)
    | 10 => fun t => outQs (iblk m c 0 t) (iblk m c 1 t) (iblk m c 2 t) (iblk m c 3 t) (iblk m c 4 t)
    | 11 => fun t => Pipeline.Dat.unnamed (cfg := cfgM m) (11 : Fin 12) t
    | ⟨_ + 12, h⟩ => absurd h (Nat.not_lt.2 (Nat.le_add_left _ _))
  Φ _ := iprop(Pipeline.ΦA spec0 c ∗ Pipeline.ΦT pre0 (tbl m) c)
  q _ := fullShare
  owed _ := 0

theorem A_eq (c : Dev nD) (w : Fin 12) : (dats m 0 c).A w = V m c (Pipeline.arrRef spec0 w) := by dsimp only [dats]; try rfl
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = outXc (iblk m c 0 t) (iblk m c 1 t) (iblk m c 2 t) (iblk m c 3 t) (iblk m c 4 t) := by dsimp only [dats]; try rfl
theorem after0_6 (c : Dev nD) (t : Fin (cfgM m).N) : (dats m 0 c).after 6 t = outXs (iblk m c 0 t) (iblk m c 1 t) (iblk m c 2 t) (iblk m c 3 t) (iblk m c 4 t) := by dsimp only [dats]; try rfl
theorem after0_7 (c : Dev nD) (t : Fin (cfgM m).N) : (dats m 0 c).after 7 t = outY (iblk m c 0 t) (iblk m c 1 t) (iblk m c 2 t) (iblk m c 3 t) (iblk m c 4 t) := by dsimp only [dats]; try rfl
theorem after0_8 (c : Dev nD) (t : Fin (cfgM m).N) : (dats m 0 c).after 8 t = outE (iblk m c 0 t) (iblk m c 1 t) (iblk m c 2 t) (iblk m c 3 t) (iblk m c 4 t) := by dsimp only [dats]; try rfl
theorem after0_9 (c : Dev nD) (t : Fin (cfgM m).N) : (dats m 0 c).after 9 t = outQc (iblk m c 0 t) (iblk m c 1 t) (iblk m c 2 t) (iblk m c 3 t) (iblk m c 4 t) := by dsimp only [dats]; try rfl
theorem after0_10 (c : Dev nD) (t : Fin (cfgM m).N) : (dats m 0 c).after 10 t = outQs (iblk m c 0 t) (iblk m c 1 t) (iblk m c 2 t) (iblk m c 3 t) (iblk m c 4 t) := by dsimp only [dats]; try rfl

/-! An input's buffer holds its block at every grid point, fetched there or not. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at a grid point -/

theorem PhiT0_eq (c : Dev nD) (v : pre0.Contents (Elt F)) : (Pipeline.ΦT pre0 v c : sProp 𝕄) =
    owns (c : Thread nD τ) (Memref.whole main_arg5) fullShare.right (v (0 : Fin 1)) := by
  unfold Pipeline.ΦT Pipeline.prefHeld
  rw [show (Finset.univ : Finset (Fin 1)) = {0} from by decide, bigSep_singleton]
  exact (owns_whole (c : Thread nD τ) main_arg5 _ _).symm

theorem PhiA0_eq (c : Dev nD) : (Pipeline.ΦA spec0 c : sProp 𝕄) =
    iprop((∃ f, owns (c : Thread nD τ) (Memref.whole cc0_scratch0) fullShare f) ∗ ∃ r, prngReg c r) := by
  unfold Pipeline.ΦA
  rw [scopedRest0_eq]
  simp only [owns_whole]

/-- The body at a grid point, on the windows' current buffers. -/
abbrev bodyAtM (t : Fin grid0.N) : Prog (TpuEff nD τ sig (Elt F) Λ₀ .tc) PUnit :=
  defs₀ (F := F) .tc (cfgM m).body ((cfgM m).bodyArgs t ((cfgM m).slots t))

def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t (0 : Fin 12))) fullShare ((dats m 0 c).before 0 t d))
    ∗ (∃ d, owns (c : Thread nD τ) (spec0_1.stage ((cfgM m).slots t (1 : Fin 12))) fullShare ((dats m 0 c).before 1 t d))
    ∗ (∃ d, owns (c : Thread nD τ) (spec0_2.stage ((cfgM m).slots t (2 : Fin 12))) fullShare ((dats m 0 c).before 2 t d))
    ∗ (∃ d, owns (c : Thread nD τ) (spec0_3.stage ((cfgM m).slots t (3 : Fin 12))) fullShare ((dats m 0 c).before 3 t d))
    ∗ (∃ d, owns (c : Thread nD τ) (spec0_4.stage ((cfgM m).slots t (4 : Fin 12))) fullShare ((dats m 0 c).before 4 t d))
    ∗ (∃ d, owns (c : Thread nD τ) (spec0_5.stage ((cfgM m).slots t (5 : Fin 12))) fullShare ((dats m 0 c).before 5 t d))
    ∗ (∃ d, owns (c : Thread nD τ) (spec0_6.stage ((cfgM m).slots t (6 : Fin 12))) fullShare ((dats m 0 c).before 6 t d))
    ∗ (∃ d, owns (c : Thread nD τ) (spec0_7.stage ((cfgM m).slots t (7 : Fin 12))) fullShare ((dats m 0 c).before 7 t d))
    ∗ (∃ d, owns (c : Thread nD τ) (spec0_8.stage ((cfgM m).slots t (8 : Fin 12))) fullShare ((dats m 0 c).before 8 t d))
    ∗ (∃ d, owns (c : Thread nD τ) (spec0_9.stage ((cfgM m).slots t (9 : Fin 12))) fullShare ((dats m 0 c).before 9 t d))
    ∗ (∃ d, owns (c : Thread nD τ) (spec0_10.stage ((cfgM m).slots t (10 : Fin 12))) fullShare ((dats m 0 c).before 10 t d))
    ∗ (∃ d, owns (c : Thread nD τ) (spec0_11.stage ((cfgM m).slots t (11 : Fin 12))) fullShare d))

def bodyPost (c : Dev nD) (t : Fin (cfgM m).N) : sProp 𝕄 :=
  iprop((dats m 0 c).Φ t.succ ∗ (dats m 0 c).owesAt () t.succ
    ∗ owns (c : Thread nD τ) (spec0_0.stage ((cfgM m).slots t (0 : Fin 12))) fullShare ((dats m 0 c).after 0 t)
    ∗ owns (c : Thread nD τ) (spec0_1.stage ((cfgM m).slots t (1 : Fin 12))) fullShare ((dats m 0 c).after 1 t)
    ∗ owns (c : Thread nD τ) (spec0_2.stage ((cfgM m).slots t (2 : Fin 12))) fullShare ((dats m 0 c).after 2 t)
    ∗ owns (c : Thread nD τ) (spec0_3.stage ((cfgM m).slots t (3 : Fin 12))) fullShare ((dats m 0 c).after 3 t)
    ∗ owns (c : Thread nD τ) (spec0_4.stage ((cfgM m).slots t (4 : Fin 12))) fullShare ((dats m 0 c).after 4 t)
    ∗ owns (c : Thread nD τ) (spec0_5.stage ((cfgM m).slots t (5 : Fin 12))) fullShare ((dats m 0 c).after 5 t)
    ∗ owns (c : Thread nD τ) (spec0_6.stage ((cfgM m).slots t (6 : Fin 12))) fullShare ((dats m 0 c).after 6 t)
    ∗ owns (c : Thread nD τ) (spec0_7.stage ((cfgM m).slots t (7 : Fin 12))) fullShare ((dats m 0 c).after 7 t)
    ∗ owns (c : Thread nD τ) (spec0_8.stage ((cfgM m).slots t (8 : Fin 12))) fullShare ((dats m 0 c).after 8 t)
    ∗ owns (c : Thread nD τ) (spec0_9.stage ((cfgM m).slots t (9 : Fin 12))) fullShare ((dats m 0 c).after 9 t)
    ∗ owns (c : Thread nD τ) (spec0_10.stage ((cfgM m).slots t (10 : Fin 12))) fullShare ((dats m 0 c).after 10 t)
    ∗ (∃ d, owns (c : Thread nD τ) (spec0_11.stage ((cfgM m).slots t (11 : Fin 12))) fullShare d))

/-- The body at a grid point, if the offsets are in range. -/
theorem sound_body (htb : ∀ j, (tbl m (0 : Fin 1) j : BitVec 32).toNat ≤ 3040) (c : Dev nD) (t : Fin (cfgM m).N) :
    bodyPre m c t ⊢ wp frame (wpE (defs₀ (F := F)) Variants.none c none) Set.univ (bodyAtM m t) (fun _ => bodyPost m c t) := by
  unfold bodyPre bodyPost bodyAtM defs₀
  rw [Defs.onTc_tc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.ΦA spec0 c ∗ Pipeline.ΦT pre0 (tbl m) c) from rfl, PhiA0_eq, PhiT0_eq,
    after0_0, after0_1, after0_2, after0_3, after0_4, after0_5, after0_6, after0_7, after0_8, after0_9, after0_10]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c Set.univ (grid0.coords t) (Memref.whole main_arg5) (Memref.isWhole_whole _) (spec0_0.stage ((cfgM m).slots t (0 : Fin 12))) (hstage0_0 (((cfgM m).slots t (0 : Fin 12)).cast nbuf0_0)) (spec0_1.stage ((cfgM m).slots t (1 : Fin 12))) (hstage0_1 (((cfgM m).slots t (1 : Fin 12)).cast nbuf0_1)) (spec0_2.stage ((cfgM m).slots t (2 : Fin 12))) (hstage0_2 (((cfgM m).slots t (2 : Fin 12)).cast nbuf0_2)) (spec0_3.stage ((cfgM m).slots t (3 : Fin 12))) (hstage0_3 (((cfgM m).slots t (3 : Fin 12)).cast nbuf0_3)) (spec0_4.stage ((cfgM m).slots t (4 : Fin 12))) (hstage0_4 (((cfgM m).slots t (4 : Fin 12)).cast nbuf0_4)) (spec0_5.stage ((cfgM m).slots t (5 : Fin 12))) (hstage0_5 (((cfgM m).slots t (5 : Fin 12)).cast nbuf0_5)) (spec0_6.stage ((cfgM m).slots t (6 : Fin 12))) (hstage0_6 (((cfgM m).slots t (6 : Fin 12)).cast nbuf0_6)) (spec0_7.stage ((cfgM m).slots t (7 : Fin 12))) (hstage0_7 (((cfgM m).slots t (7 : Fin 12)).cast nbuf0_7)) (spec0_8.stage ((cfgM m).slots t (8 : Fin 12))) (hstage0_8 (((cfgM m).slots t (8 : Fin 12)).cast nbuf0_8)) (spec0_9.stage ((cfgM m).slots t (9 : Fin 12))) (hstage0_9 (((cfgM m).slots t (9 : Fin 12)).cast nbuf0_9)) (spec0_10.stage ((cfgM m).slots t (10 : Fin 12))) (hstage0_10 (((cfgM m).slots t (10 : Fin 12)).cast nbuf0_10)) (spec0_11.stage ((cfgM m).slots t (11 : Fin 12))) (hstage0_11 (((cfgM m).slots t (11 : Fin 12)).cast nbuf0_11)) (Memref.whole cc0_scratch0) (Memref.isWhole_whole _) fullShare.right (tbl m (0 : Fin 1)) htb (iblk m c 0 t) (iblk m c 1 t) (iblk m c 2 t) (iblk m c 3 t) (iblk m c 4 t) _)
  isplitl [HT]; · iexact HT
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  iintro ⟨HT, H0, H1, H2, H3, H4, H5, H6, H7, H8, H9, H10, H11, HS⟩
  isplitl [HS Hg HT]
  · isplitr [HT]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (htb : ∀ j, (tbl m (0 : Fin 1) j : BitVec 32).toNat ≤ 3040) (c : Dev nD) :
    BodyObligation (dats (F := F) m 0 c) (defs₀ (F := F)) Variants.none () Set.univ forgets0 := fun t => by
  rw [bigSep_W0, bigSep_W0]
  exact triple_restated (sound_body m htb c t) rfl .rfl fun _ => .rfl

/-! ## The whole call -/

theorem hmain : Pipeline.HMainP (Ix := Unit) (Name := ℕ) (U := UR sig nD τ) (Lvl := ℕ) (pcfgs (F := F)) 0 defs₀ Variants.none m main (V m) :=
  Pipeline.hmainP_region pcfgs 0 defs₀ Variants.none m main fun c => (main_chain c).trans rfl

set_option backward.isDefEq.respectTransparency.types false in
set_option maxHeartbeats 800000 in
/-- Every run of the call ends, with every window's array as the data says, every other buffer kept, and every counter at zero. -/
theorem run_main (htb : ∀ j, (tbl m (0 : Fin 1) j : BitVec 32).toNat ≤ 3040) :
    θ_run defs (onTc (τ := τ) (main (F := F))) (s₀ m ρ)
      (fun r => RDat.FramePost (cfgM m) (fun c => (dats m 0 c).toRForget forgets0) (V m) r ∧ r.2.sem = fun _ => 0) :=
  Pipeline.θ_run_frameP_forget (Q' := _) pcfgs (adm m) (dats m) (0 : Fin 1) launch0 defs₀ Variants.none forgets0 m ρ main
    (hbody := fun c => (body_obligation m htb c).loose) (hshare := fun c => (dats m 0 c).share_full fun _ => rfl)
    (howed := fun _ _ => rfl) (V := V m) (hmain := hmain m) (hA := A_eq m) (hpf := V_pre m) (hΦ := fun _ _ => rfl)

variable {m ρ}
/-- The arguments at the end. -/
theorem args_kept {r : PUnit × MemSt nD τ sig (Elt F)} (h : RDat.FramePost (cfgM m) (fun c => (dats (F := F) m 0 c).toRForget forgets0) (V m) r) (c : Dev nD) :
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine ⟨?_, ?_, ?_, ?_, ?_, (h c).2 main_arg5 (Pipeline.mem_restRefs_of main_arg5 (by decide) (show ∀ w : Fin 12, (spec0 w).arr.view.ref ≠ main_arg5 by decide))⟩
  · exact RDat.FramePost.arr_in h c 0 rfl
  · exact RDat.FramePost.arr_in h c 1 rfl
  · exact RDat.FramePost.arr_in h c 2 rfl
  · exact RDat.FramePost.arr_in h c 3 rfl
  · exact RDat.FramePost.arr_in h c 4 rfl

/-- An output's array at the end. -/
theorem arr_out {r : PUnit × MemSt nD τ sig (Elt F)} (h : RDat.FramePost (cfgM m) (fun c => (dats (F := F) m 0 c).toRForget forgets0) (V m) r) (c : Dev nD)
    (w : Fin 12) (hw : forgets0 w = false) : r.2.mem ((((cfgM m).win w).arr.view).loc (c.tc : Thread nD τ)) = (dats m 0 c).arrAt w (cfgM m).N :=
  ((dats m 0 c).toRForget_arrAt_iff hw _ _).1 ((h c).1 w)

end Cert.ProjectIdeal.Hand
-- ==== Proof.P.Row.lean ====
/- Every value of the projection's body is computed row by row: a row of a block of the kernel's is the row of the reference's at the same place. -/
module
public import proofs.«01_k».proof.Proof.P.Run
public import proofs.«01_k».proof.Proof.Gen.ProjectReferenceIdeal.Value
public import Idealize.ShloMosaic.Lib.Pointwise
public import Idealize.ShloMosaic.PureOps.Ideal.Laws

@[expose] public section
set_option maxRecDepth 16384
noncomputable section

namespace Cert.ProjectIdeal.Hand
open Cert.ProjectIdeal Cert.ProjectIdeal.Gen
open Idealize.ShloMosaic Idealize.ShloMosaic.TcCoe Idealize.ShloMosaic.Tactic
open Idealize.SL.Sem

/-- Row `r` of `a` is row `R` of `A`. -/
def Row {α : Type} {n N p : ℕ} (r : Fin n) (R : Fin N) (a : (⟨2, ![n, p]⟩ : Shape).Idx → α) (A : (⟨2, ![N, p]⟩ : Shape).Idx → α) : Prop :=
  ∀ j : Fin p, a (ix2 r j) = A (ix2 R j)

section
variable {n N p : ℕ} {r : Fin n} {R : Fin N} {φ ψ : FTy}
  {a b : FVec Ideal ⟨2, ![n, p]⟩ φ} {A B : FVec Ideal ⟨2, ![N, p]⟩ φ}

theorem Row.mulf (ha : Row r R a A) (hb : Row r R b B) : Row r R (mulf a b) (mulf A B) :=
  fun j => congrArg₂ (fun u v : EReal => (FloatOps.mulf (F := Ideal) (φ := φ) u v : EReal)) (ha j) (hb j)
theorem Row.addf (ha : Row r R a A) (hb : Row r R b B) : Row r R (addf a b) (addf A B) :=
  fun j => congrArg₂ (fun u v : EReal => (FloatOps.addf (F := Ideal) (φ := φ) u v : EReal)) (ha j) (hb j)
theorem Row.divf (ha : Row r R a A) (hb : Row r R b B) : Row r R (divf a b) (divf A B) := fun j => by
  simp only [Idealize.ShloMosaic.divf, ha j, hb j]
theorem Row.max (ha : Row r R a A) (hb : Row r R b B) : Row r R (maximumf a b) (maximumf A B) := fun j => by
  simp only [Idealize.ShloMosaic.maximumf, ha j, hb j]
theorem Row.min (ha : Row r R a A) (hb : Row r R b B) : Row r R (minimumf a b) (minimumf A B) := fun j => by
  simp only [Idealize.ShloMosaic.minimumf, ha j, hb j]
theorem Row.sqrt (ha : Row r R a A) : Row r R (sqrt a) (sqrt A) := fun j => by simp only [Idealize.ShloMosaic.sqrt, ha j]
theorem Row.abs (ha : Row r R a A) : Row r R (absf a) (absf A) := fun j => by simp only [Idealize.ShloMosaic.absf, ha j]
theorem Row.round (ha : Row r R a A) : Row r R (roundeven a) (roundeven A) := fun j => by simp only [Idealize.ShloMosaic.roundeven, ha j]
theorem Row.ext (h) (ha : Row r R a A) : Row r R (extf ψ a h) (extf ψ A h) := fun j => by simp only [Idealize.ShloMosaic.extf, ha j]
theorem Row.trunc (h) (ha : Row r R a A) : Row r R (truncf ψ a h) (truncf ψ A h) := fun j => by simp only [Idealize.ShloMosaic.truncf, ha j]
theorem Row.toInt (ha : Row r R a A) : Row r R (fptosi 8 a) (fptosi 8 A) := fun j => by simp only [Idealize.ShloMosaic.fptosi, ha j]
theorem Row.const {α : Type} (c : α) : Row (p := p) r R (broadcast _ c) (broadcast _ c) := fun _ => rfl
theorem Row.eq (ha : Row r R a A) (hb : Row r R b B) : Row r R (cmpf .oeq a b) (cmpf .oeq A B) := fun j => by
  simp only [cmpf, ha j, hb j]
theorem Row.select {c : IVec ⟨2, ![n, p]⟩ 1} {C : IVec ⟨2, ![N, p]⟩ 1} (hc : Row r R c C) (ha : Row r R a A) (hb : Row r R b B) : Row r R (select c a b) (select C A B) := fun j => by
  simp only [Idealize.ShloMosaic.select, hc j, ha j, hb j]

/-! ## Columns, rows and reductions along a row -/

theorem bcol_apply (h : Shape.Broadcasts ⟨2, ![n, 1]⟩ ⟨2, ![n, p]⟩) (v : FVec Ideal ⟨2, ![n, 1]⟩ φ) (r : Fin n) (j : Fin p) :
    broadcastTo ⟨2, ![n, p]⟩ v h (ix2 r j) = v (ix2 r 0) := by
  refine congrArg v (funext fun a => ?_)
  match a with
  | ⟨0, _⟩ =>
    show (dite _ _ _ : Fin n) = r
    by_cases h1 : n = 1
    · exact (dif_pos h1).trans (Fin.ext (by have := r.isLt; show 0 = r.val; omega))
    · exact (dif_neg h1).trans rfl
  | ⟨1, _⟩ => rfl
theorem brow_apply (h : Shape.Broadcasts ⟨2, ![1, p]⟩ ⟨2, ![n, p]⟩) (v : FVec Ideal ⟨2, ![1, p]⟩ φ) (r : Fin n) (j : Fin p) :
    broadcastTo ⟨2, ![n, p]⟩ v h (ix2 r j) = v (ix2 0 j) := by
  refine congrArg v (funext fun a => ?_)
  match a with
  | ⟨0, _⟩ => rfl
  | ⟨1, _⟩ =>
    show (dite _ _ _ : Fin p) = j
    by_cases h1 : p = 1
    · exact (dif_pos h1).trans (Fin.ext (by have := j.isLt; show 0 = j.val; omega))
    · exact (dif_neg h1).trans rfl

theorem Row.bcol {q : ℕ} {v : FVec Ideal ⟨2, ![n, 1]⟩ φ} {V : FVec Ideal ⟨2, ![N, 1]⟩ φ} (h H) (hv : Row r R v V) :
    Row (p := q) r R (broadcastTo ⟨2, ![n, q]⟩ v h) (broadcastTo ⟨2, ![N, q]⟩ V H) := fun j => by
  rw [bcol_apply, bcol_apply]; exact hv 0
theorem Row.brow (v : FVec Ideal ⟨2, ![1, p]⟩ φ) (h H) : Row r R (broadcastTo ⟨2, ![n, p]⟩ v h) (broadcastTo ⟨2, ![N, p]⟩ v H) := fun j => by
  rw [brow_apply, brow_apply]

theorem lift_row (h : Shape.Reduces ⟨2, ![n, p]⟩ [1] ⟨1, ![n]⟩) (r : Fin n) (k : Fin p) : h.lift (ix1 r) k = ix2 r k := by
  funext a
  match a with
  | ⟨0, _⟩ => rfl
  | ⟨1, _⟩ => rfl

theorem sum_row {x : FVec Ideal ⟨2, ![n, p]⟩ .f32} {X : FVec Ideal ⟨2, ![N, p]⟩ .f32} (hx : Row r R x X) (acc : BitVec 32) (h H h1 h2) :
    multiReduction .add [1] ⟨1, ![n]⟩ x acc h h1 h2 (ix1 r) = multiReduction .add [1] ⟨1, ![N]⟩ X acc H h1 h2 (ix1 R) :=
  (Ideal.multiReduction_add_single x acc h h1 h2 (ix1 r)).trans (Eq.trans (Finset.sum_congr rfl fun k _ => by
    exact (congrArg x (lift_row h r k)).trans ((hx k).trans (congrArg X (lift_row H R k)).symm)) (Ideal.multiReduction_add_single X acc H h1 h2 (ix1 R)).symm)
theorem max_row {x : FVec Ideal ⟨2, ![n, p]⟩ .f32} {X : FVec Ideal ⟨2, ![N, p]⟩ .f32} (hx : Row r R x X) (acc : BitVec 32) (h H h1 h2) :
    multiReduction .maximumf [1] ⟨1, ![n]⟩ x acc h h1 h2 (ix1 r) = multiReduction .maximumf [1] ⟨1, ![N]⟩ X acc H h1 h2 (ix1 R) :=
  (Ideal.multiReduction_maximumf_single x acc h h1 h2 (ix1 r)).trans (Eq.trans (congrArg (Finset.fold _ _ · _) (funext fun k => by
    exact (congrArg x (lift_row h r k)).trans ((hx k).trans (congrArg X (lift_row H R k)).symm))) (Ideal.multiReduction_maximumf_single X acc H h1 h2 (ix1 R)).symm)
end

/-! ## The two heights: 256 rows of a block, 3072 rows of all -/

variable {r : Fin 256} {R : Fin 3072}

theorem col_block (v : FVec Ideal S256 .f32) (r : Fin 256) : shapeCast S256x1 v shapeCasts_S256_S256x1 (ix2 r 0) = v (ix1 r) := by
  pointwise
theorem col_all (v : FVec Ideal ⟨1, ![3072]⟩ .f32) (R : Fin 3072) : shapeCast ⟨2, ![3072, 1]⟩ v Cert.ProjectReferenceIdeal.Facts₀.shapeCasts_S3072_S3072x1 (ix2 R 0) = v (ix1 R) := by
  pointwise

theorem Row.col {v : FVec Ideal S256 .f32} {V : FVec Ideal ⟨1, ![3072]⟩ .f32} (hv : v (ix1 r) = V (ix1 R)) :
    Row r R (shapeCast S256x1 v shapeCasts_S256_S256x1) (shapeCast ⟨2, ![3072, 1]⟩ V Cert.ProjectReferenceIdeal.Facts₀.shapeCasts_S3072_S3072x1) := fun j => by
  obtain rfl : j = 0 := Subsingleton.elim _ _
  rw [col_block, col_all]; exact hv

/-- A row of the product is the row times the matrix. -/
theorem Row.matmul {a : FVec Ideal S256x3584 .bf16} {A : FVec Ideal ⟨2, ![3072, 3584]⟩ .bf16} (ha : Row r R a A) (b : FVec Ideal S3584x128 .bf16) :
    Row r R (matmul (F := Ideal) dot_S256x3584_S3584x128_S256x128_1_0_0_1_n_n none a b (constant S256x128 .f32 0x00000000#32))
      (matmul (F := Ideal) Cert.ProjectReferenceIdeal.dot_S3072x3584_S3584x128_S3072x128_1_0_0_1_n_n none A b (constant ⟨2, ![3072, 128]⟩ .f32 0x00000000#32)) := fun j => by
  refine (Ideal.matmul_constant_zero_apply _ none a b (ix2 r j)).trans (Eq.trans ?_ (Ideal.matmul_constant_zero_apply _ none A b (ix2 R j)).symm)
  refine Finset.sum_congr rfl fun k _ => ?_
  refine congrArg₂ (fun u v : EReal => u * v) ?_ ?_
  · refine Eq.trans (congrArg a ?_) ((ha (k ⟨0, by decide⟩)).trans (congrArg A ?_))
    · funext d
      match d with
      | ⟨0, _⟩ => rfl
      | ⟨1, _⟩ => rfl
    · funext d
      match d with
      | ⟨0, _⟩ => rfl
      | ⟨1, _⟩ => rfl
  · refine congrArg b ?_
    funext d
    match d with
    | ⟨0, _⟩ => rfl
    | ⟨1, _⟩ => rfl

/-! ## The body's values -/

variable {x : Vec Ideal S256x3584 .bf16} {X : Vec Ideal ⟨2, ![3072, 3584]⟩ .bf16} (hx : Row r R x X)
  (g : Vec Ideal S1x3584 .f32) (w : Vec Ideal S3584x128 .i8) (s b : Vec Ideal S1x128 .f32)

namespace Ref
export Cert.ProjectReferenceIdeal.Gen (k0_pay1 k0_pay2 k0_pay3 k0_pay4 k0_pay5 k0_pay6 k0_pay7 k0_pay8 k0_pay9)
end Ref

include hx in
/-- The normalised rows. -/
theorem row_norm : Row r R (k0_pay3 x g) (Ref.k0_pay6 X g) := by
  unfold k0_pay3 Ref.k0_pay6
  exact Row.divf (Row.mulf (Row.ext _ hx) (Row.brow _ _ _))
    (Row.bcol _ _ (Row.sqrt (Row.addf (Row.divf (Row.col (sum_row (Row.mulf (Row.ext _ hx) (Row.ext _ hx)) _ _ _ _ _)) (Row.const _)) (Row.const _))))

include hx in
/-- The rows' scales. -/
theorem row_scale : Row r R (k0_pay4 x g) (Ref.k0_pay7 X g) := by
  have hm := Row.col (max_row (Row.abs (row_norm hx g)) _ reduces_S256x3584_S256 Cert.ProjectReferenceIdeal.Facts₀.reduces_S3072x3584_S3072 (.inl rfl) rfl)
  unfold k0_pay4 Ref.k0_pay7
  exact Row.select (Row.eq hm (Row.const _)) (Row.const _) (Row.divf hm (Row.const _))

include hx in
/-- The rounded rows. -/
theorem row_round : Row r R (k0_pay5 x g) (Ref.k0_pay8 X g) := by
  unfold k0_pay5 Ref.k0_pay8
  exact Row.min (Row.const _) (Row.max (Row.const _) (Row.round (Row.divf (row_norm hx g) (Row.bcol _ _ (row_scale hx g)))))

include hx in
/-- The codes. -/
theorem row_xc : Row r R (outXc x g w s b) (Ref.k0_pay4 (Ref.k0_pay8 X g)) := Row.toInt (row_round hx g)

include hx in
/-- The projected rows. -/
theorem row_y : Row r R (outY x g w s b) (Ref.k0_pay1 (Ref.k0_pay9 X g w s) b) := by
  unfold outY atB k0_pay7 Ref.k0_pay1 Ref.k0_pay9
  exact Row.addf (Row.mulf (Row.mulf (Row.matmul (Row.trunc _ (row_round hx g)) _) (Row.bcol _ _ (row_scale hx g))) (Row.brow _ _ _)) (Row.brow _ _ _)

include hx in
/-- The unit rows. -/
theorem row_e : Row r R (outE x g w s b) (Ref.k0_pay2 (Ref.k0_pay9 X g w s) b) := by
  have hy := row_y hx g w s b
  unfold outE atB k0_pay8 Ref.k0_pay2
  exact Row.divf hy (Row.bcol _ _ (Row.sqrt (Row.col (sum_row (Row.mulf hy hy) _ _ _ _ _))))

include hx in
/-- Their scales. -/
theorem row_qs : Row r R (outQs x g w s b) (Ref.k0_pay3 (Ref.k0_pay9 X g w s) b) := by
  have hm := Row.col (max_row (Row.abs (row_e hx g w s b)) _ reduces_S256x128_S256 Cert.ProjectReferenceIdeal.Facts₀.reduces_S3072x128_S3072 (.inl rfl) rfl)
  unfold outQs atB k0_pay9 Ref.k0_pay3
  exact Row.select (Row.eq hm (Row.const _)) (Row.const _) (Row.divf hm (Row.const _))

include hx in
/-- Their codes. -/
theorem row_qc : Row r R (outQc x g w s b) (Ref.k0_pay5 (Ref.k0_pay9 X g w s) b) := by
  have hs := row_qs hx g w s b
  unfold outQc atB k0_pay11 k0_pay10 Ref.k0_pay5
  exact Row.toInt (Row.min (Row.const _) (Row.max (Row.const _) (Row.round (Row.divf (row_e hx g w s b) (Row.bcol _ _ hs)))))

end Cert.ProjectIdeal.Hand

end
-- ==== Proof.P.Value.lean ====
/- What the projection call leaves in its result arrays: the rows of one result depend on the same rows of the embeddings alone,
   so the blocks of 256 rows put together are the reference's whole arrays. -/
module
public import proofs.«01_k».proof.Proof.P.Frame
public import proofs.«01_k».proof.Proof.P.Row
public import proofs.«01_k».proof.Proof.Gen.ProjectReferenceIdeal.Value
public import Idealize.ShloMosaic.Lib.Pipeline.Value

@[expose] public section
set_option maxRecDepth 16384
noncomputable section

namespace Cert.ProjectIdeal.Hand
open Cert.ProjectIdeal Cert.ProjectIdeal.Gen
open Idealize.ShloMosaic Idealize.ShloMosaic.TcCoe Idealize.ShloMosaic.Tactic
open Idealize.ShloMosaic.Pipeline (Dat RDat)

variable (m : (ℓ : Loc nD τ sig) → Buf (Elt Ideal) ℓ) (c : Dev nD)

theorem coords0 (t : Fin grid0.N) : (grid0.coords t 0).val = t.val := by
  have := Pipeline.Grid.coords_val (G := grid0) t 0 (S := 1) (B := 12) (by decide) rfl
  have ht : t.val < 12 := t.isLt
  omega

/-- The block's place along the grid, as a number. -/
theorem place_nat (t : Fin grid0.N) : (BitVec.ofNat 32 (grid0.coords t 0).val).toNat = t.val := by
  rw [coords0, BitVec.toNat_ofNat]
  have ht : t.val < 12 := t.isLt
  omega

/-- Row `r` of the block at grid point `t`, as a row of the whole array. -/
def rowAt (t : Fin grid0.N) (r : Fin 256) : Fin 3072 := ⟨256 * t.val + r.val, by have h : t.val < 12 := t.isLt; have := r.isLt; omega⟩

/-- Row `r` of the block of embeddings at grid point `t`. -/
theorem row_block (t : Fin grid0.N) (r : Fin 256) : Row r (rowAt t r) (iblk m c 0 t) (V m c main_arg0) := by
  intro j
  refine congrArg (V m c main_arg0) (funext fun a => Fin.ext ?_)
  match a with
  | ⟨0, _⟩ => show (BitVec.ofNat 32 (grid0.coords t 0).val).toNat * 256 + 1 * r.val = 256 * t.val + r.val; rw [place_nat]; omega
  | ⟨1, _⟩ => show 0 * 3584 + 1 * j.val = j.val; omega

/-- The other arguments are read whole. -/
theorem whole_1 (t : Fin grid0.N) : iblk m c 1 t = V m c main_arg1 := by
  refine funext fun (y : S1x3584.Idx) => congrArg (V m c main_arg1) (funext fun a => Fin.ext ?_)
  match a with
  | ⟨0, _⟩ => show 0 * 1 + 1 * (y 0).val = (y 0).val; omega
  | ⟨1, _⟩ => show 0 * 3584 + 1 * (y 1).val = (y 1).val; omega
theorem whole_2 (t : Fin grid0.N) : iblk m c 2 t = V m c main_arg2 := by
  refine funext fun (y : S3584x128.Idx) => congrArg (V m c main_arg2) (funext fun a => Fin.ext ?_)
  match a with
  | ⟨0, _⟩ => show 0 * 3584 + 1 * (y 0).val = (y 0).val; omega
  | ⟨1, _⟩ => show 0 * 128 + 1 * (y 1).val = (y 1).val; omega
theorem whole_3 (t : Fin grid0.N) : iblk m c 3 t = V m c main_arg3 := by
  refine funext fun (y : S1x128.Idx) => congrArg (V m c main_arg3) (funext fun a => Fin.ext ?_)
  match a with
  | ⟨0, _⟩ => show 0 * 1 + 1 * (y 0).val = (y 0).val; omega
  | ⟨1, _⟩ => show 0 * 128 + 1 * (y 1).val = (y 1).val; omega
theorem whole_4 (t : Fin grid0.N) : iblk m c 4 t = V m c main_arg4 := by
  refine funext fun (y : S1x128.Idx) => congrArg (V m c main_arg4) (funext fun a => Fin.ext ?_)
  match a with
  | ⟨0, _⟩ => show 0 * 1 + 1 * (y 0).val = (y 0).val; omega
  | ⟨1, _⟩ => show 0 * 128 + 1 * (y 1).val = (y 1).val; omega

/-- A place that follows the grid changes at every point. -/
theorem flush_of (w : Fin 12) (hw : ((cfgM m).win w).isOut = true)
    (hi : ∀ t t' : Fin grid0.N, ((cfgM m).win w).index t = ((cfgM m).win w).index t' → t.val = t'.val) (t : Fin grid0.N) :
    ((cfgM m).win w).flush t = true := by
  unfold Pipeline.Window.flush
  rw [hw, Bool.true_and, Bool.or_eq_true]
  by_cases h : t.val + 1 < grid0.N
  · exact .inr (decide_eq_true ⟨h, fun e => by have := hi _ _ e; simp at this⟩)
  · have ht : t.val < grid0.N := t.isLt
    exact .inl (decide_eq_true (show t.val + 1 = grid0.N by omega))

theorem exists_cell {p q : ℕ} (i : (⟨2, ![p, q]⟩ : Shape).Idx) : ∃ (r : Fin p) (j : Fin q), i = ix2 r j :=
  ⟨i 0, i 1, funext fun a => by match a with | ⟨0, _⟩ => rfl | ⟨1, _⟩ => rfl⟩

/-- The grid point that writes row `x`, and the row's place in its block. -/
def pointOf (x : Fin 3072) : Fin grid0.N := ⟨x.val / 256, by have := x.isLt; show x.val / 256 < 12; omega⟩
theorem rowAt_pointOf (x : Fin 3072) : rowAt (pointOf x) ⟨x.val % 256, Nat.mod_lt _ (by decide)⟩ = x :=
  Fin.ext (by show 256 * (x.val / 256) + x.val % 256 = x.val; omega)

/-! Every block written is written back, and the blocks cover the array: if every row written is that row of `G`, the array is `G`. -/
theorem index_5 (t : Fin grid0.N) : ((cfgM m).win 5).index t = ![t.val, 0] := by
  show cc0_transform_5 (grid0.coords t) = _
  unfold cc0_transform_5
  simp only [place_nat]
  rfl
theorem flush_5 (t : Fin grid0.N) : ((cfgM m).win 5).flush t = true :=
  flush_of m 5 rfl (fun t t' e => by rw [index_5, index_5] at e; exact congrFun e (0 : Fin 2)) t
theorem cover_5 (G : S3072x3584.Idx → Elt Ideal ((cfgM m).win 5).elt)
    (h : ∀ (t : Fin grid0.N) (r : Fin 256), Row r (rowAt t r) ((dats m 0 c).after 5 t) G) : (dats m 0 c).arrAt 5 (cfgM m).N = G := by
  have he : ∀ (t : Fin grid0.N) (r : Fin 256) (j : Fin 3584), (((cfgM m).win 5).blk t).view.emb (ix2 r j) = ix2 (rowAt t r) j := fun t r j => funext fun a => Fin.ext (by
    match a with
    | ⟨0, _⟩ => show (BitVec.ofNat 32 (grid0.coords t 0).val).toNat * 256 + 1 * r.val = 256 * t.val + r.val; rw [place_nat]; omega
    | ⟨1, _⟩ => show 0 * 3584 + 1 * j.val = j.val; omega)
  refine (dats m 0 c).arrAt_eq_of_cover 5 G (fun t _ => funext fun y => ?_) (fun i => ?_)
  · obtain ⟨r, j, rfl⟩ := exists_cell (p := 256) (q := 3584) y
    exact (h t r j).trans (congrArg G (he t r j).symm)
  · obtain ⟨x, j, rfl⟩ := exists_cell (p := 3072) (q := 3584) i
    exact ⟨pointOf x, flush_5 m _, ((he (pointOf x) _ j).trans (congrArg (fun x => ix2 x j) (rowAt_pointOf x))) ▸ View.emb_mem_set _ _⟩
theorem index_6 (t : Fin grid0.N) : ((cfgM m).win 6).index t = ![t.val, 0] := by
  show cc0_transform_6 (grid0.coords t) = _
  unfold cc0_transform_6
  simp only [place_nat]
  rfl
theorem flush_6 (t : Fin grid0.N) : ((cfgM m).win 6).flush t = true :=
  flush_of m 6 rfl (fun t t' e => by rw [index_6, index_6] at e; exact congrFun e (0 : Fin 2)) t
theorem cover_6 (G : S3072x1.Idx → Elt Ideal ((cfgM m).win 6).elt)
    (h : ∀ (t : Fin grid0.N) (r : Fin 256), Row r (rowAt t r) ((dats m 0 c).after 6 t) G) : (dats m 0 c).arrAt 6 (cfgM m).N = G := by
  have he : ∀ (t : Fin grid0.N) (r : Fin 256) (j : Fin 1), (((cfgM m).win 6).blk t).view.emb (ix2 r j) = ix2 (rowAt t r) j := fun t r j => funext fun a => Fin.ext (by
    match a with
    | ⟨0, _⟩ => show (BitVec.ofNat 32 (grid0.coords t 0).val).toNat * 256 + 1 * r.val = 256 * t.val + r.val; rw [place_nat]; omega
    | ⟨1, _⟩ => show 0 * 1 + 1 * j.val = j.val; omega)
  refine (dats m 0 c).arrAt_eq_of_cover 6 G (fun t _ => funext fun y => ?_) (fun i => ?_)
  · obtain ⟨r, j, rfl⟩ := exists_cell (p := 256) (q := 1) y
    exact (h t r j).trans (congrArg G (he t r j).symm)
  · obtain ⟨x, j, rfl⟩ := exists_cell (p := 3072) (q := 1) i
    exact ⟨pointOf x, flush_6 m _, ((he (pointOf x) _ j).trans (congrArg (fun x => ix2 x j) (rowAt_pointOf x))) ▸ View.emb_mem_set _ _⟩
theorem index_10 (t : Fin grid0.N) : ((cfgM m).win 10).index t = ![t.val, 0] := by
  show cc0_transform_10 (grid0.coords t) = _
  unfold cc0_transform_10
  simp only [place_nat]
  rfl
theorem flush_10 (t : Fin grid0.N) : ((cfgM m).win 10).flush t = true :=
  flush_of m 10 rfl (fun t t' e => by rw [index_10, index_10] at e; exact congrFun e (0 : Fin 2)) t
theorem cover_10 (G : S3072x1.Idx → Elt Ideal ((cfgM m).win 10).elt)
    (h : ∀ (t : Fin grid0.N) (r : Fin 256), Row r (rowAt t r) ((dats m 0 c).after 10 t) G) : (dats m 0 c).arrAt 10 (cfgM m).N = G := by
  have he : ∀ (t : Fin grid0.N) (r : Fin 256) (j : Fin 1), (((cfgM m).win 10).blk t).view.emb (ix2 r j) = ix2 (rowAt t r) j := fun t r j => funext fun a => Fin.ext (by
    match a with
    | ⟨0, _⟩ => show (BitVec.ofNat 32 (grid0.coords t 0).val).toNat * 256 + 1 * r.val = 256 * t.val + r.val; rw [place_nat]; omega
    | ⟨1, _⟩ => show 0 * 1 + 1 * j.val = j.val; omega)
  refine (dats m 0 c).arrAt_eq_of_cover 10 G (fun t _ => funext fun y => ?_) (fun i => ?_)
  · obtain ⟨r, j, rfl⟩ := exists_cell (p := 256) (q := 1) y
    exact (h t r j).trans (congrArg G (he t r j).symm)
  · obtain ⟨x, j, rfl⟩ := exists_cell (p := 3072) (q := 1) i
    exact ⟨pointOf x, flush_10 m _, ((he (pointOf x) _ j).trans (congrArg (fun x => ix2 x j) (rowAt_pointOf x))) ▸ View.emb_mem_set _ _⟩
theorem index_7 (t : Fin grid0.N) : ((cfgM m).win 7).index t = ![t.val, 0] := by
  show cc0_transform_7 (grid0.coords t) = _
  unfold cc0_transform_7
  simp only [place_nat]
  rfl
theorem flush_7 (t : Fin grid0.N) : ((cfgM m).win 7).flush t = true :=
  flush_of m 7 rfl (fun t t' e => by rw [index_7, index_7] at e; exact congrFun e (0 : Fin 2)) t
theorem cover_7 (G : S3072x128.Idx → Elt Ideal ((cfgM m).win 7).elt)
    (h : ∀ (t : Fin grid0.N) (r : Fin 256), Row r (rowAt t r) ((dats m 0 c).after 7 t) G) : (dats m 0 c).arrAt 7 (cfgM m).N = G := by
  have he : ∀ (t : Fin grid0.N) (r : Fin 256) (j : Fin 128), (((cfgM m).win 7).blk t).view.emb (ix2 r j) = ix2 (rowAt t r) j := fun t r j => funext fun a => Fin.ext (by
    match a with
    | ⟨0, _⟩ => show (BitVec.ofNat 32 (grid0.coords t 0).val).toNat * 256 + 1 * r.val = 256 * t.val + r.val; rw [place_nat]; omega
    | ⟨1, _⟩ => show 0 * 128 + 1 * j.val = j.val; omega)
  refine (dats m 0 c).arrAt_eq_of_cover 7 G (fun t _ => funext fun y => ?_) (fun i => ?_)
  · obtain ⟨r, j, rfl⟩ := exists_cell (p := 256) (q := 128) y
    exact (h t r j).trans (congrArg G (he t r j).symm)
  · obtain ⟨x, j, rfl⟩ := exists_cell (p := 3072) (q := 128) i
    exact ⟨pointOf x, flush_7 m _, ((he (pointOf x) _ j).trans (congrArg (fun x => ix2 x j) (rowAt_pointOf x))) ▸ View.emb_mem_set _ _⟩
theorem index_8 (t : Fin grid0.N) : ((cfgM m).win 8).index t = ![t.val, 0] := by
  show cc0_transform_8 (grid0.coords t) = _
  unfold cc0_transform_8
  simp only [place_nat]
  rfl
theorem flush_8 (t : Fin grid0.N) : ((cfgM m).win 8).flush t = true :=
  flush_of m 8 rfl (fun t t' e => by rw [index_8, index_8] at e; exact congrFun e (0 : Fin 2)) t
theorem cover_8 (G : S3072x128.Idx → Elt Ideal ((cfgM m).win 8).elt)
    (h : ∀ (t : Fin grid0.N) (r : Fin 256), Row r (rowAt t r) ((dats m 0 c).after 8 t) G) : (dats m 0 c).arrAt 8 (cfgM m).N = G := by
  have he : ∀ (t : Fin grid0.N) (r : Fin 256) (j : Fin 128), (((cfgM m).win 8).blk t).view.emb (ix2 r j) = ix2 (rowAt t r) j := fun t r j => funext fun a => Fin.ext (by
    match a with
    | ⟨0, _⟩ => show (BitVec.ofNat 32 (grid0.coords t 0).val).toNat * 256 + 1 * r.val = 256 * t.val + r.val; rw [place_nat]; omega
    | ⟨1, _⟩ => show 0 * 128 + 1 * j.val = j.val; omega)
  refine (dats m 0 c).arrAt_eq_of_cover 8 G (fun t _ => funext fun y => ?_) (fun i => ?_)
  · obtain ⟨r, j, rfl⟩ := exists_cell (p := 256) (q := 128) y
    exact (h t r j).trans (congrArg G (he t r j).symm)
  · obtain ⟨x, j, rfl⟩ := exists_cell (p := 3072) (q := 128) i
    exact ⟨pointOf x, flush_8 m _, ((he (pointOf x) _ j).trans (congrArg (fun x => ix2 x j) (rowAt_pointOf x))) ▸ View.emb_mem_set _ _⟩
theorem index_9 (t : Fin grid0.N) : ((cfgM m).win 9).index t = ![t.val, 0] := by
  show cc0_transform_9 (grid0.coords t) = _
  unfold cc0_transform_9
  simp only [place_nat]
  rfl
theorem flush_9 (t : Fin grid0.N) : ((cfgM m).win 9).flush t = true :=
  flush_of m 9 rfl (fun t t' e => by rw [index_9, index_9] at e; exact congrFun e (0 : Fin 2)) t
theorem cover_9 (G : S3072x128.Idx → Elt Ideal ((cfgM m).win 9).elt)
    (h : ∀ (t : Fin grid0.N) (r : Fin 256), Row r (rowAt t r) ((dats m 0 c).after 9 t) G) : (dats m 0 c).arrAt 9 (cfgM m).N = G := by
  have he : ∀ (t : Fin grid0.N) (r : Fin 256) (j : Fin 128), (((cfgM m).win 9).blk t).view.emb (ix2 r j) = ix2 (rowAt t r) j := fun t r j => funext fun a => Fin.ext (by
    match a with
    | ⟨0, _⟩ => show (BitVec.ofNat 32 (grid0.coords t 0).val).toNat * 256 + 1 * r.val = 256 * t.val + r.val; rw [place_nat]; omega
    | ⟨1, _⟩ => show 0 * 128 + 1 * j.val = j.val; omega)
  refine (dats m 0 c).arrAt_eq_of_cover 9 G (fun t _ => funext fun y => ?_) (fun i => ?_)
  · obtain ⟨r, j, rfl⟩ := exists_cell (p := 256) (q := 128) y
    exact (h t r j).trans (congrArg G (he t r j).symm)
  · obtain ⟨x, j, rfl⟩ := exists_cell (p := 3072) (q := 128) i
    exact ⟨pointOf x, flush_9 m _, ((he (pointOf x) _ j).trans (congrArg (fun x => ix2 x j) (rowAt_pointOf x))) ▸ View.emb_mem_set _ _⟩

/-! ## The results -/

/-- The codes of the embeddings. -/
theorem arr_5 : (dats m 0 c).arrAt 5 (cfgM m).N = Ref.k0_pay4 (Ref.k0_pay8 (V m c main_arg0) (V m c main_arg1)) :=
  cover_5 m c _ (fun t r j => by
    rw [after0_5, whole_1, whole_2, whole_3, whole_4]
    exact (row_xc (row_block m c t r) _ _ _ _ j))
/-- Their scales. -/
theorem arr_6 : (dats m 0 c).arrAt 6 (cfgM m).N = Ref.k0_pay7 (V m c main_arg0) (V m c main_arg1) :=
  cover_6 m c _ (fun t r j => by
    rw [after0_6, whole_1, whole_2, whole_3, whole_4]
    exact (row_scale (row_block m c t r) _ j))
/-- The projected rows. -/
theorem arr_7 : (dats m 0 c).arrAt 7 (cfgM m).N = Ref.k0_pay1 (Ref.k0_pay9 (V m c main_arg0) (V m c main_arg1) (V m c main_arg2) (V m c main_arg3)) (V m c main_arg4) :=
  cover_7 m c _ (fun t r j => by
    rw [after0_7, whole_1, whole_2, whole_3, whole_4]
    exact (row_y (row_block m c t r) _ _ _ _ j))
/-- The unit rows. -/
theorem arr_8 : (dats m 0 c).arrAt 8 (cfgM m).N = Ref.k0_pay2 (Ref.k0_pay9 (V m c main_arg0) (V m c main_arg1) (V m c main_arg2) (V m c main_arg3)) (V m c main_arg4) :=
  cover_8 m c _ (fun t r j => by
    rw [after0_8, whole_1, whole_2, whole_3, whole_4]
    exact (row_e (row_block m c t r) _ _ _ _ j))
/-- The codes of the unit rows. -/
theorem arr_9 : (dats m 0 c).arrAt 9 (cfgM m).N = Ref.k0_pay5 (Ref.k0_pay9 (V m c main_arg0) (V m c main_arg1) (V m c main_arg2) (V m c main_arg3)) (V m c main_arg4) :=
  cover_9 m c _ (fun t r j => by
    rw [after0_9, whole_1, whole_2, whole_3, whole_4]
    exact (row_qc (row_block m c t r) _ _ _ _ j))
/-- The scales of the unit rows. -/
theorem arr_10 : (dats m 0 c).arrAt 10 (cfgM m).N = Ref.k0_pay3 (Ref.k0_pay9 (V m c main_arg0) (V m c main_arg1) (V m c main_arg2) (V m c main_arg3)) (V m c main_arg4) :=
  cover_10 m c _ (fun t r j => by
    rw [after0_10, whole_1, whole_2, whole_3, whole_4]
    exact (row_qs (row_block m c t r) _ _ _ _ j))

end Cert.ProjectIdeal.Hand

end
-- ==== Proof.P.Pre.lean ====
/- What the projection's precondition says of the offsets. -/
module
public import proofs.«01_k».proof.Pre_offsets
public import proofs.«01_k».proof.Proof.Gen.Pre_offsets
public import proofs.«01_k».proof.Proof.Pre

@[expose] public section
set_option maxRecDepth 16384
noncomputable section

namespace Cert.Pre_offsets
open Idealize.ShloMosaic Cert.Pre_lengths

variable {F : FTy → Type} [FloatOps F]

/-- What the precondition says: every offset is at most 3040. -/
theorem bounds [Facts] (a0 : FVec F S3072x3584 .bf16) (a1 : FVec F S1x3584 .f32) (a2 : IVec S3584x128 8) (a3 : FVec F S1x128 .f32) (a4 : FVec F S1x128 .f32) (o : IVec S96 32)
    (h : fn a0 a1 a2 a3 a4 o = fun _ => 1#1) (j) : (o j).toNat ≤ 3040 := by
  obtain ⟨ha, hb⟩ := one_of_andi _ _ (Host.reduce_andi_all _ _ _ _ _ (congrFun h (fun i => i.elim0)) j)
  have hg := ge_of_sge (n := 0) (by decide) ha
  exact le_of_sle (by decide) (by omega) hb

end Cert.Pre_offsets
-- ==== Proof.P.Claims.lean ====
/- The run of the projection call under its precondition: it ends, keeps its arguments, and leaves the reference's arrays. -/
module
public import proofs.«01_k».proof.Proof.P.Value
public import proofs.«01_k».proof.Proof.P.Pre

@[expose] public section
set_option maxRecDepth 16384
noncomputable section

namespace Cert.ProjectIdeal.Hand
open Cert.ProjectIdeal Cert.ProjectIdeal.Gen
open Idealize.ShloMosaic Idealize.ShloMosaic.TcCoe Idealize.SL.Sem

section
variable {F : FTy → Type} [FloatOps F] [∀ e, Nonempty (Elt F e)] (m : (ℓ : Loc nD τ sig) → Buf (Elt F) ℓ)

/-- The precondition bounds the table the call reads. -/
theorem table_le (hp : ∀ c : Dev nD, Cert.Pre_offsets.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    ∀ j, (tbl m (0 : Fin 1) j : BitVec 32).toNat ≤ 3040 :=
  fun j => Cert.Pre_offsets.bounds _ _ _ _ _ _ (hp 0) j

/-- Every run ends, leaves the arguments as they were and every semaphore at zero. -/
theorem frame (hp : ∀ c : Dev nD, Cert.Pre_offsets.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun _ h => ⟨fun c => args_kept h.1 c, h.2⟩) (run_main m g (table_le m hp))
end

/-- Over the reals it leaves the reference's arrays. -/
theorem value (m : (ℓ : Loc nD τ sig) → Buf (Elt Ideal) ℓ) (hp : ∀ c : Dev nD, Cert.Pre_offsets.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = Ref.k0_pay4 (Ref.k0_pay8 (m ((c.tc : Thread nD τ).loc main_arg0)) (m ((c.tc : Thread nD τ).loc main_arg1)))
      ∧ r.2.mem ((c.tc : Thread nD τ).loc main_v0_1) = Ref.k0_pay7 (m ((c.tc : Thread nD τ).loc main_arg0)) (m ((c.tc : Thread nD τ).loc main_arg1))
      ∧ r.2.mem ((c.tc : Thread nD τ).loc main_v0_2) = Ref.k0_pay1 (Ref.k0_pay9 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_v0_3) = Ref.k0_pay2 (Ref.k0_pay9 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_v0_4) = Ref.k0_pay5 (Ref.k0_pay9 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_v0_5) = Ref.k0_pay3 (Ref.k0_pay9 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨(arr_out h.1 c 5 rfl).trans (arr_5 m c), (arr_out h.1 c 6 rfl).trans (arr_6 m c), (arr_out h.1 c 7 rfl).trans (arr_7 m c),
    (arr_out h.1 c 8 rfl).trans (arr_8 m c), (arr_out h.1 c 9 rfl).trans (arr_9 m c), (arr_out h.1 c 10 rfl).trans (arr_10 m c), args_kept h.1 c⟩) (run_main m g (table_le m hp))

end Cert.ProjectIdeal.Hand

namespace Cert.ProjectReferenceIdeal
open Cert.ProjectReferenceIdeal.Gen Cert.ProjectReferenceIdeal.Value
open Idealize.ShloMosaic

/-- The reference's product, of the arrays read whole. -/
theorem product_eq (x : Vec Ideal S3072x3584 .bf16) (g : Vec Ideal S1x3584 .f32) (w : Vec Ideal S3584x128 .i8) (s b : Vec Ideal S1x128 .f32) :
    k0_pay10 x g w s b = k0_pay9 x g w s := by
  unfold k0_pay10
  rw [View.ld_unit_zero (S := S3072x3584) hz0 _ x, View.ld_unit_zero (S := S1x3584) hz1 _ g, View.ld_unit_zero (S := S3584x128) hz2 _ w, View.ld_unit_zero (S := S1x128) hz3 _ s]

end Cert.ProjectReferenceIdeal

end
-- ==== Proof.Same.Main.lean ====
/- No operation of the maxsim call is replaced: the host program of the kernel is that of its idealization. -/
module
public import proofs.«01_k».proof.Defs
public import proofs.«01_k».proof.Proof.Gen.Kernel
public import proofs.«01_k».proof.Proof.Gen.KernelIdeal

@[expose] public section
set_option maxRecDepth 65536
set_option maxHeartbeats 40000000
noncomputable section

namespace Cert.Same
open Idealize.ShloMosaic

theorem main_k : (Cert.Kernel.main (F := Bits)) = (Cert.KernelIdeal.main (F := Bits)) := rfl

end Cert.Same

end
-- ==== Proof.Same.Body.lean ====
/- The body of the maxsim call is that of its idealization. -/
module
public import proofs.«01_k».proof.Defs
public import proofs.«01_k».proof.Proof.Gen.Kernel
public import proofs.«01_k».proof.Proof.Gen.KernelIdeal

@[expose] public section
set_option maxRecDepth 65536
set_option maxHeartbeats 40000000
noncomputable section

namespace Cert.Same
open Idealize.ShloMosaic

theorem body_k : (Cert.Kernel.cc0_maxsim (F := Bits)) = (Cert.KernelIdeal.cc0_maxsim (F := Bits)) := rfl

end Cert.Same

end
-- ==== Proof.Same.Defs.lean ====
/- The programs that the maxsim call and its idealization are run in are the same. -/
module
public import proofs.«01_k».proof.Proof.Same.Body

@[expose] public section
set_option maxRecDepth 65536
set_option maxHeartbeats 40000000
noncomputable section

namespace Cert.Same
open Idealize.ShloMosaic

theorem defs_k : (Cert.Kernel.defs (F := Bits)) = (Cert.KernelIdeal.defs (F := Bits)) := by
  have h : (Cert.Kernel.defs₀ (F := Bits)) = (Cert.KernelIdeal.defs₀ (F := Bits)) := by
    unfold Cert.Kernel.defs₀ Cert.KernelIdeal.defs₀
    refine congrArg Defs.onTc (funext fun l => funext fun a => ?_)
    match l, a with
    | 0, (t, s) =>
      dsimp only
      rw [body_k]
      rfl
    | ⟨_ + 1, h⟩, _ => exact absurd h (Nat.not_lt.2 (Nat.le_add_left _ _))
  unfold Cert.Kernel.defs
  rw [h]
  rfl
end Cert.Same

end
-- ==== Proof.Same.Project.lean ====
/- The projection call is that of its idealization. -/
module
public import proofs.«01_k».proof.Defs
public import proofs.«01_k».proof.Proof.Gen.Project
public import proofs.«01_k».proof.Proof.Gen.ProjectIdeal

@[expose] public section
set_option maxRecDepth 65536
set_option maxHeartbeats 40000000
noncomputable section

namespace Cert.Same
open Idealize.ShloMosaic

theorem main_p : (Cert.Project.main (F := Bits)) = (Cert.ProjectIdeal.main (F := Bits)) := rfl

theorem body_p : (Cert.Project.cc0_project (F := Bits)) = (Cert.ProjectIdeal.cc0_project (F := Bits)) := rfl

theorem defs_p : (Cert.Project.defs (F := Bits)) = (Cert.ProjectIdeal.defs (F := Bits)) := by
  have h : (Cert.Project.defs₀ (F := Bits)) = (Cert.ProjectIdeal.defs₀ (F := Bits)) := by
    unfold Cert.Project.defs₀ Cert.ProjectIdeal.defs₀
    refine congrArg Defs.onTc (funext fun l => funext fun a => ?_)
    match l, a with
    | 0, (t, s) =>
      dsimp only
      rw [body_p]
      rfl
    | ⟨_ + 1, h⟩, _ => exact absurd h (Nat.not_lt.2 (Nat.le_add_left _ _))
  unfold Cert.Project.defs
  rw [h]
  rfl

end Cert.Same

end
-- ==== Proof.lean ====
module

public import proofs.«01_k».proof.Defs
public import proofs.«01_k».proof.Proof.Gen.ReferenceIdeal.Run
public import proofs.«01_k».proof.Proof.Gen.ProjectReferenceIdeal.Frame
public import proofs.«01_k».proof.Proof.KI.Frame
public import proofs.«01_k».proof.Proof.Mask
public import proofs.«01_k».proof.Proof.P.Claims
public import proofs.«01_k».proof.Proof.Same.Main
public import proofs.«01_k».proof.Proof.Same.Defs
public import proofs.«01_k».proof.Proof.Same.Project
public import Idealize.ShloMosaic.Lib.Quiescent

@[expose] public section

noncomputable section

namespace Cert.Proof

open Idealize.ShloMosaic Idealize.ShloMosaic.TcCoe Idealize.SL.Sem

/-- The kernel runs, leaves its arguments as they were and every semaphore at zero. -/
theorem frame_k : Cert.quiescent_Kernel := fun m g hp => by
  rw [Cert.Same.defs_k, Cert.Same.main_k]
  exact Cert.KernelIdeal.Body.frame (F := Bits) m hp g

/-- So does its idealization. -/
theorem frame_ki : Cert.quiescent_KernelIdeal := fun m g hp => Cert.KernelIdeal.Body.frame m hp g

/-- So does the reference, a straight line of host operations; it declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- In particular where the lengths are in range. -/
theorem frame_r_pre : Cert.quiescent_ReferenceIdeal_pre_lengths := fun m g _ =>
  (θ_run Cert.ReferenceIdeal.defs _ _).mono (fun r h => ⟨fun c => (h c).2, sem_eq_zero_of_no_sems (by decide) r.2⟩)
    (Cert.ReferenceIdeal.Value.run m g)

/-- Over the reals the kernel and the reference leave the same score for every page and every row that holds a query vector. -/
theorem algebraic : Cert.algebraic_KernelIdeal_ReferenceIdeal_on_packed_rows := by
  intro m g m' g' hp hm
  have hR := Cert.KernelIdeal.Body.inRange_of_pre m (hp 0)
  obtain ⟨h0, h1, h2, h3, h4⟩ := hm 0
  refine ⟨fun c => Cert.ReferenceIdeal.Read.refV (m' ((0 : Dev Cert.ReferenceIdeal.nD), (Cert.ReferenceIdeal.main_arg0 : DevRef Cert.ReferenceIdeal.τ Cert.ReferenceIdeal.sig))) (m' ((0 : Dev Cert.ReferenceIdeal.nD), (Cert.ReferenceIdeal.main_arg1 : DevRef Cert.ReferenceIdeal.τ Cert.ReferenceIdeal.sig)))
    (m' ((0 : Dev Cert.ReferenceIdeal.nD), (Cert.ReferenceIdeal.main_arg2 : DevRef Cert.ReferenceIdeal.τ Cert.ReferenceIdeal.sig))) (m' ((0 : Dev Cert.ReferenceIdeal.nD), (Cert.ReferenceIdeal.main_arg3 : DevRef Cert.ReferenceIdeal.τ Cert.ReferenceIdeal.sig))), ?_, ?_⟩
  · refine (θ_run _ _ _).mono (fun r h c => ⟨fun i hi => ?_, (h c).2⟩) (Cert.KernelIdeal.Body.value hR g)
    obtain rfl : c = 0 := Subsingleton.elim _ _
    obtain ⟨p, x, rfl⟩ := Cert.KernelIdeal.Body.exists_cell i
    have hx := Cert.On_packed_rows.row_lt _ _ _ _ (Cert.KernelIdeal.Body.qlenA m) hR.qlen p x hi
    have e := Cert.KernelIdeal.Body.ref_score m (fun i => (hR.len i).2) p x
    refine ((h 0).1 p x (by rw [hR.nrows]; omega)).trans (e.symm.trans ?_)
    exact (congrFun (congr (congr (congr (congrArg Cert.ReferenceIdeal.Read.refV h0) h1) h2) h3) _).symm
  · refine (θ_run _ _ _).mono (fun r h c => ⟨fun i _ => ?_, (h c).2⟩) (Cert.ReferenceIdeal.Value.run m' g')
    obtain rfl : c = 0 := Subsingleton.elim _ _
    exact congrFun (h 0).1 i

/-- The projection call runs, leaves its arguments as they were and every semaphore at zero. -/
theorem frame_p : Cert.quiescent_Project := fun m g hp => by
  rw [Cert.Same.defs_p, Cert.Same.main_p]
  exact Cert.ProjectIdeal.Hand.frame (F := Bits) m hp g

/-- So does its idealization. -/
theorem frame_pi : Cert.quiescent_ProjectIdeal := fun m g hp => Cert.ProjectIdeal.Hand.frame m hp g

/-- So does its reference. -/
theorem frame_s : Cert.quiescent_ProjectReferenceIdeal := fun m g _ => Cert.ProjectReferenceIdeal.Gen.frame m g

/-- In particular where the offsets are in range. -/
theorem frame_s_pre : Cert.quiescent_ProjectReferenceIdeal_pre_offsets := fun m g _ => frame_s m g trivial

section
open Cert.ProjectReferenceIdeal Cert.ProjectReferenceIdeal.Gen Cert.ProjectReferenceIdeal.Value

/-- The reference's six arrays as functions of its arguments. -/
theorem results {x x' : Vec Ideal S3072x3584 .bf16} {g g' : Vec Ideal S1x3584 .f32} {w w' : Vec Ideal S3584x128 .i8} {s s' b b' : Vec Ideal S1x128 .f32}
    (h0 : x' = x) (h1 : g' = g) (h2 : w' = w) (h3 : s' = s) (h4 : b' = b) :
    G5 x' g' w' s' b' = k0_pay4 (k0_pay8 x g) ∧ G6 x' g' w' s' b' = k0_pay7 x g ∧ G7 x' g' w' s' b' = k0_pay1 (k0_pay9 x g w s) b
      ∧ G8 x' g' w' s' b' = k0_pay2 (k0_pay9 x g w s) b ∧ G9 x' g' w' s' b' = k0_pay5 (k0_pay9 x g w s) b ∧ G10 x' g' w' s' b' = k0_pay3 (k0_pay9 x g w s) b := by
  subst h0 h1 h2 h3 h4
  have e := product_eq x' g' w' s' b'
  exact ⟨rfl, rfl, congrArg (k0_pay1 · b') e, congrArg (k0_pay2 · b') e, congrArg (k0_pay5 · b') e, congrArg (k0_pay3 · b') e⟩
end

/-- Over the reals the projection call and its reference leave the same six arrays. -/
theorem algebraic_p : Cert.algebraic_ProjectIdeal_ProjectReferenceIdeal := by
  intro m g m' g' hp hm
  refine ⟨_, _, _, _, _, _, Cert.ProjectIdeal.Hand.value m hp g, ?_⟩
  refine (θ_run _ _ _).mono (fun r h c => ?_) (Cert.ProjectReferenceIdeal.Value.run m' g')
  obtain ⟨h0, h1, h2, h3, h4, _⟩ := hm c
  obtain ⟨e0, e1, e2, e3, e4, e5⟩ := results h0 h1 h2 h3 h4
  obtain ⟨r0, r1, r2, r3, r4, r5, hk⟩ := h c
  exact ⟨r0.trans e0, r1.trans e1, r2.trans e2, r3.trans e3, r4.trans e4, r5.trans e5, hk⟩

theorem claim : Cert.Claim :=
  ⟨Cert.Kernel.Gen.facts, Cert.KernelIdeal.Gen.facts, Cert.ReferenceIdeal.Gen.facts, Cert.Project.Gen.facts, Cert.ProjectIdeal.Gen.facts, Cert.ProjectReferenceIdeal.Gen.facts,
    Cert.Pre_lengths.Gen.facts, Cert.Pre_offsets.Gen.facts, Cert.On_packed_rows.facts, frame_k, frame_ki, frame_r, frame_r_pre, frame_p, frame_pi, frame_s, frame_s_pre,
    trivial, algebraic, trivial, algebraic_p⟩

end Cert.Proof

end
